-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def Pre_Kernel35 (m : (ℓ : Loc Cert.Kernel35.nD Cert.Kernel35.τ Cert.Kernel35.sig) → Buf (Elt Bits) ℓ) : Prop :=
  True

def Pre_Kernel35Ideal (m : (ℓ : Loc Cert.Kernel35Ideal.nD Cert.Kernel35Ideal.τ Cert.Kernel35Ideal.sig) → Buf (Elt Ideal) ℓ) : Prop :=
  True

def Pre_Reference35Ideal (m : (ℓ : Loc Cert.Reference35Ideal.nD Cert.Reference35Ideal.τ Cert.Reference35Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3)
      ∧ r.2.mem ((c.tc : Thread Cert.Kernel22.nD Cert.Kernel22.τ).loc Cert.Kernel22.main_arg4) = m ((c.tc : Thread Cert.Kernel22.nD Cert.Kernel22.τ).loc Cert.Kernel22.main_arg4)
      ∧ r.2.mem ((c.tc : Thread Cert.Kernel22.nD Cert.Kernel22.τ).loc Cert.Kernel22.main_arg5) = m ((c.tc : Thread Cert.Kernel22.nD Cert.Kernel22.τ).loc Cert.Kernel22.main_arg5)
      ∧ r.2.mem ((c.tc : Thread Cert.Kernel22.nD Cert.Kernel22.τ).loc Cert.Kernel22.main_arg6) = m ((c.tc : Thread Cert.Kernel22.nD Cert.Kernel22.τ).loc Cert.Kernel22.main_arg6))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
      ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
      ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5)
      ∧ r.2.mem ((c.tc : Thread Cert.Kernel22Ideal.nD Cert.Kernel22Ideal.τ).loc Cert.Kernel22Ideal.main_arg6) = m ((c.tc : Thread Cert.Kernel22Ideal.nD Cert.Kernel22Ideal.τ).loc Cert.Kernel22Ideal.main_arg6))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3)
      ∧ r.2.mem ((c.tc : Thread Cert.Reference22Ideal.nD Cert.Reference22Ideal.τ).loc Cert.Reference22Ideal.main_arg4) = m ((c.tc : Thread Cert.Reference22Ideal.nD Cert.Reference22Ideal.τ).loc Cert.Reference22Ideal.main_arg4)
      ∧ r.2.mem ((c.tc : Thread Cert.Reference22Ideal.nD Cert.Reference22Ideal.τ).loc Cert.Reference22Ideal.main_arg5) = m ((c.tc : Thread Cert.Reference22Ideal.nD Cert.Reference22Ideal.τ).loc Cert.Reference22Ideal.main_arg5)
      ∧ r.2.mem ((c.tc : Thread Cert.Reference22Ideal.nD Cert.Reference22Ideal.τ).loc Cert.Reference22Ideal.main_arg6) = m ((c.tc : Thread Cert.Reference22Ideal.nD Cert.Reference22Ideal.τ).loc Cert.Reference22Ideal.main_arg6))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3)
      ∧ r.2.mem ((c.tc : Thread Cert.Kernel24.nD Cert.Kernel24.τ).loc Cert.Kernel24.main_arg4) = m ((c.tc : Thread Cert.Kernel24.nD Cert.Kernel24.τ).loc Cert.Kernel24.main_arg4)
      ∧ r.2.mem ((c.tc : Thread Cert.Kernel24.nD Cert.Kernel24.τ).loc Cert.Kernel24.main_arg5) = m ((c.tc : Thread Cert.Kernel24.nD Cert.Kernel24.τ).loc Cert.Kernel24.main_arg5))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
      ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4)
      ∧ r.2.mem ((c.tc : Thread Cert.Kernel24Ideal.nD Cert.Kernel24Ideal.τ).loc Cert.Kernel24Ideal.main_arg5) = m ((c.tc : Thread Cert.Kernel24Ideal.nD Cert.Kernel24Ideal.τ).loc Cert.Kernel24Ideal.main_arg5))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3)
      ∧ r.2.mem ((c.tc : Thread Cert.Reference24Ideal.nD Cert.Reference24Ideal.τ).loc Cert.Reference24Ideal.main_arg4) = m ((c.tc : Thread Cert.Reference24Ideal.nD Cert.Reference24Ideal.τ).loc Cert.Reference24Ideal.main_arg4)
      ∧ r.2.mem ((c.tc : Thread Cert.Reference24Ideal.nD Cert.Reference24Ideal.τ).loc Cert.Reference24Ideal.main_arg5) = m ((c.tc : Thread Cert.Reference24Ideal.nD Cert.Reference24Ideal.τ).loc Cert.Reference24Ideal.main_arg5))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3)
      ∧ r.2.mem ((c.tc : Thread Cert.Kernel25.nD Cert.Kernel25.τ).loc Cert.Kernel25.main_arg4) = m ((c.tc : Thread Cert.Kernel25.nD Cert.Kernel25.τ).loc Cert.Kernel25.main_arg4)
      ∧ r.2.mem ((c.tc : Thread Cert.Kernel25.nD Cert.Kernel25.τ).loc Cert.Kernel25.main_arg5) = m ((c.tc : Thread Cert.Kernel25.nD Cert.Kernel25.τ).loc Cert.Kernel25.main_arg5)
      ∧ r.2.mem ((c.tc : Thread Cert.Kernel25.nD Cert.Kernel25.τ).loc Cert.Kernel25.main_arg6) = m ((c.tc : Thread Cert.Kernel25.nD Cert.Kernel25.τ).loc Cert.Kernel25.main_arg6))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
      ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4)
      ∧ r.2.mem ((c.tc : Thread Cert.Kernel25Ideal.nD Cert.Kernel25Ideal.τ).loc Cert.Kernel25Ideal.main_arg5) = m ((c.tc : Thread Cert.Kernel25Ideal.nD Cert.Kernel25Ideal.τ).loc Cert.Kernel25Ideal.main_arg5)
      ∧ r.2.mem ((c.tc : Thread Cert.Kernel25Ideal.nD Cert.Kernel25Ideal.τ).loc Cert.Kernel25Ideal.main_arg6) = m ((c.tc : Thread Cert.Kernel25Ideal.nD Cert.Kernel25Ideal.τ).loc Cert.Kernel25Ideal.main_arg6))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3)
      ∧ r.2.mem ((c.tc : Thread Cert.Reference25Ideal.nD Cert.Reference25Ideal.τ).loc Cert.Reference25Ideal.main_arg4) = m ((c.tc : Thread Cert.Reference25Ideal.nD Cert.Reference25Ideal.τ).loc Cert.Reference25Ideal.main_arg4)
      ∧ r.2.mem ((c.tc : Thread Cert.Reference25Ideal.nD Cert.Reference25Ideal.τ).loc Cert.Reference25Ideal.main_arg5) = m ((c.tc : Thread Cert.Reference25Ideal.nD Cert.Reference25Ideal.τ).loc Cert.Reference25Ideal.main_arg5)
      ∧ r.2.mem ((c.tc : Thread Cert.Reference25Ideal.nD Cert.Reference25Ideal.τ).loc Cert.Reference25Ideal.main_arg6) = m ((c.tc : Thread Cert.Reference25Ideal.nD Cert.Reference25Ideal.τ).loc Cert.Reference25Ideal.main_arg6))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3)
      ∧ r.2.mem ((c.tc : Thread Cert.Kernel26.nD Cert.Kernel26.τ).loc Cert.Kernel26.main_arg4) = m ((c.tc : Thread Cert.Kernel26.nD Cert.Kernel26.τ).loc Cert.Kernel26.main_arg4))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3)
      ∧ r.2.mem ((c.tc : Thread Cert.Kernel26Ideal.nD Cert.Kernel26Ideal.τ).loc Cert.Kernel26Ideal.main_arg4) = m ((c.tc : Thread Cert.Kernel26Ideal.nD Cert.Kernel26Ideal.τ).loc Cert.Kernel26Ideal.main_arg4))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3)
      ∧ r.2.mem ((c.tc : Thread Cert.Reference26Ideal.nD Cert.Reference26Ideal.τ).loc Cert.Reference26Ideal.main_arg4) = m ((c.tc : Thread Cert.Reference26Ideal.nD Cert.Reference26Ideal.τ).loc Cert.Reference26Ideal.main_arg4))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3)
      ∧ r.2.mem ((c.tc : Thread Cert.Kernel28.nD Cert.Kernel28.τ).loc Cert.Kernel28.main_arg4) = m ((c.tc : Thread Cert.Kernel28.nD Cert.Kernel28.τ).loc Cert.Kernel28.main_arg4))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3)
      ∧ r.2.mem ((c.tc : Thread Cert.Kernel28Ideal.nD Cert.Kernel28Ideal.τ).loc Cert.Kernel28Ideal.main_arg4) = m ((c.tc : Thread Cert.Kernel28Ideal.nD Cert.Kernel28Ideal.τ).loc Cert.Kernel28Ideal.main_arg4))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3)
      ∧ r.2.mem ((c.tc : Thread Cert.Reference28Ideal.nD Cert.Reference28Ideal.τ).loc Cert.Reference28Ideal.main_arg4) = m ((c.tc : Thread Cert.Reference28Ideal.nD Cert.Reference28Ideal.τ).loc Cert.Reference28Ideal.main_arg4))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2)
      ∧ r.2.mem ((c.tc : Thread Cert.Kernel30.nD Cert.Kernel30.τ).loc Cert.Kernel30.main_arg3) = m ((c.tc : Thread Cert.Kernel30.nD Cert.Kernel30.τ).loc Cert.Kernel30.main_arg3)
      ∧ r.2.mem ((c.tc : Thread Cert.Kernel30.nD Cert.Kernel30.τ).loc Cert.Kernel30.main_arg4) = m ((c.tc : Thread Cert.Kernel30.nD Cert.Kernel30.τ).loc Cert.Kernel30.main_arg4)
      ∧ r.2.mem ((c.tc : Thread Cert.Kernel30.nD Cert.Kernel30.τ).loc Cert.Kernel30.main_arg5) = m ((c.tc : Thread Cert.Kernel30.nD Cert.Kernel30.τ).loc Cert.Kernel30.main_arg5))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
      ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3)
      ∧ r.2.mem ((c.tc : Thread Cert.Kernel30Ideal.nD Cert.Kernel30Ideal.τ).loc Cert.Kernel30Ideal.main_arg4) = m ((c.tc : Thread Cert.Kernel30Ideal.nD Cert.Kernel30Ideal.τ).loc Cert.Kernel30Ideal.main_arg4)
      ∧ r.2.mem ((c.tc : Thread Cert.Kernel30Ideal.nD Cert.Kernel30Ideal.τ).loc Cert.Kernel30Ideal.main_arg5) = m ((c.tc : Thread Cert.Kernel30Ideal.nD Cert.Kernel30Ideal.τ).loc Cert.Kernel30Ideal.main_arg5))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2)
      ∧ r.2.mem ((c.tc : Thread Cert.Reference30Ideal.nD Cert.Reference30Ideal.τ).loc Cert.Reference30Ideal.main_arg3) = m ((c.tc : Thread Cert.Reference30Ideal.nD Cert.Reference30Ideal.τ).loc Cert.Reference30Ideal.main_arg3)
      ∧ r.2.mem ((c.tc : Thread Cert.Reference30Ideal.nD Cert.Reference30Ideal.τ).loc Cert.Reference30Ideal.main_arg4) = m ((c.tc : Thread Cert.Reference30Ideal.nD Cert.Reference30Ideal.τ).loc Cert.Reference30Ideal.main_arg4)
      ∧ r.2.mem ((c.tc : Thread Cert.Reference30Ideal.nD Cert.Reference30Ideal.τ).loc Cert.Reference30Ideal.main_arg5) = m ((c.tc : Thread Cert.Reference30Ideal.nD Cert.Reference30Ideal.τ).loc Cert.Reference30Ideal.main_arg5))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2)
      ∧ r.2.mem ((c.tc : Thread Cert.Kernel31.nD Cert.Kernel31.τ).loc Cert.Kernel31.main_arg3) = m ((c.tc : Thread Cert.Kernel31.nD Cert.Kernel31.τ).loc Cert.Kernel31.main_arg3))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
      ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2)
      ∧ r.2.mem ((c.tc : Thread Cert.Reference31Ideal.nD Cert.Reference31Ideal.τ).loc Cert.Reference31Ideal.main_arg3) = m ((c.tc : Thread Cert.Reference31Ideal.nD Cert.Reference31Ideal.τ).loc Cert.Reference31Ideal.main_arg3))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1)
      ∧ r.2.mem ((c.tc : Thread Cert.Kernel32.nD Cert.Kernel32.τ).loc Cert.Kernel32.main_arg2) = m ((c.tc : Thread Cert.Kernel32.nD Cert.Kernel32.τ).loc Cert.Kernel32.main_arg2))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1)
      ∧ r.2.mem ((c.tc : Thread Cert.Kernel34.nD Cert.Kernel34.τ).loc Cert.Kernel34.main_arg2) = m ((c.tc : Thread Cert.Kernel34.nD Cert.Kernel34.τ).loc Cert.Kernel34.main_arg2)
      ∧ r.2.mem ((c.tc : Thread Cert.Kernel34.nD Cert.Kernel34.τ).loc Cert.Kernel34.main_arg3) = m ((c.tc : Thread Cert.Kernel34.nD Cert.Kernel34.τ).loc Cert.Kernel34.main_arg3)
      ∧ r.2.mem ((c.tc : Thread Cert.Kernel34.nD Cert.Kernel34.τ).loc Cert.Kernel34.main_arg4) = m ((c.tc : Thread Cert.Kernel34.nD Cert.Kernel34.τ).loc Cert.Kernel34.main_arg4)
      ∧ r.2.mem ((c.tc : Thread Cert.Kernel34.nD Cert.Kernel34.τ).loc Cert.Kernel34.main_arg5) = m ((c.tc : Thread Cert.Kernel34.nD Cert.Kernel34.τ).loc Cert.Kernel34.main_arg5)
      ∧ r.2.mem ((c.tc : Thread Cert.Kernel34.nD Cert.Kernel34.τ).loc Cert.Kernel34.main_arg6) = m ((c.tc : Thread Cert.Kernel34.nD Cert.Kernel34.τ).loc Cert.Kernel34.main_arg6))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
      ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
      ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3)
      ∧ r.2.mem ((c.tc : Thread Cert.Kernel34Ideal.nD Cert.Kernel34Ideal.τ).loc Cert.Kernel34Ideal.main_arg4) = m ((c.tc : Thread Cert.Kernel34Ideal.nD Cert.Kernel34Ideal.τ).loc Cert.Kernel34Ideal.main_arg4)
      ∧ r.2.mem ((c.tc : Thread Cert.Kernel34Ideal.nD Cert.Kernel34Ideal.τ).loc Cert.Kernel34Ideal.main_arg5) = m ((c.tc : Thread Cert.Kernel34Ideal.nD Cert.Kernel34Ideal.τ).loc Cert.Kernel34Ideal.main_arg5)
      ∧ r.2.mem ((c.tc : Thread Cert.Kernel34Ideal.nD Cert.Kernel34Ideal.τ).loc Cert.Kernel34Ideal.main_arg6) = m ((c.tc : Thread Cert.Kernel34Ideal.nD Cert.Kernel34Ideal.τ).loc Cert.Kernel34Ideal.main_arg6))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1)
      ∧ r.2.mem ((c.tc : Thread Cert.Reference34Ideal.nD Cert.Reference34Ideal.τ).loc Cert.Reference34Ideal.main_arg2) = m ((c.tc : Thread Cert.Reference34Ideal.nD Cert.Reference34Ideal.τ).loc Cert.Reference34Ideal.main_arg2)
      ∧ r.2.mem ((c.tc : Thread Cert.Reference34Ideal.nD Cert.Reference34Ideal.τ).loc Cert.Reference34Ideal.main_arg3) = m ((c.tc : Thread Cert.Reference34Ideal.nD Cert.Reference34Ideal.τ).loc Cert.Reference34Ideal.main_arg3)
      ∧ r.2.mem ((c.tc : Thread Cert.Reference34Ideal.nD Cert.Reference34Ideal.τ).loc Cert.Reference34Ideal.main_arg4) = m ((c.tc : Thread Cert.Reference34Ideal.nD Cert.Reference34Ideal.τ).loc Cert.Reference34Ideal.main_arg4)
      ∧ r.2.mem ((c.tc : Thread Cert.Reference34Ideal.nD Cert.Reference34Ideal.τ).loc Cert.Reference34Ideal.main_arg5) = m ((c.tc : Thread Cert.Reference34Ideal.nD Cert.Reference34Ideal.τ).loc Cert.Reference34Ideal.main_arg5)
      ∧ r.2.mem ((c.tc : Thread Cert.Reference34Ideal.nD Cert.Reference34Ideal.τ).loc Cert.Reference34Ideal.main_arg6) = m ((c.tc : Thread Cert.Reference34Ideal.nD Cert.Reference34Ideal.τ).loc Cert.Reference34Ideal.main_arg6))
      ∧ r.2.sem = fun _ => 0)

def quiescent_Kernel35 [hKernel35 : Cert.Kernel35.Facts] : Prop :=
  ∀ (m : (ℓ : Loc Cert.Kernel35.nD Cert.Kernel35.τ Cert.Kernel35.sig) → Buf (Elt Bits) ℓ) (g : Dev Cert.Kernel35.nD → PrngReg), Pre_Kernel35 m →
    θ_run (Cert.Kernel35.defs (F := Bits)) (onTc (τ := Cert.Kernel35.τ) (Cert.Kernel35.main (F := Bits))) ⟨m, fun _ => 0, g⟩ (fun r => (∀ c : Dev Cert.Kernel35.nD,
      r.2.mem ((c.tc : Thread Cert.Kernel35.nD Cert.Kernel35.τ).loc Cert.Kernel35.main_arg0) = m ((c.tc : Thread Cert.Kernel35.nD Cert.Kernel35.τ).loc Cert.Kernel35.main_arg0)
      ∧ r.2.mem ((c.tc : Thread Cert.Kernel35.nD Cert.Kernel35.τ).loc Cert.Kernel35.main_arg1) = m ((c.tc : Thread Cert.Kernel35.nD Cert.Kernel35.τ).loc Cert.Kernel35.main_arg1)
      ∧ r.2.mem ((c.tc : Thread Cert.Kernel35.nD Cert.Kernel35.τ).loc Cert.Kernel35.main_arg2) = m ((c.tc : Thread Cert.Kernel35.nD Cert.Kernel35.τ).loc Cert.Kernel35.main_arg2)
      ∧ r.2.mem ((c.tc : Thread Cert.Kernel35.nD Cert.Kernel35.τ).loc Cert.Kernel35.main_arg3) = m ((c.tc : Thread Cert.Kernel35.nD Cert.Kernel35.τ).loc Cert.Kernel35.main_arg3)
      ∧ r.2.mem ((c.tc : Thread Cert.Kernel35.nD Cert.Kernel35.τ).loc Cert.Kernel35.main_arg4) = m ((c.tc : Thread Cert.Kernel35.nD Cert.Kernel35.τ).loc Cert.Kernel35.main_arg4)
      ∧ r.2.mem ((c.tc : Thread Cert.Kernel35.nD Cert.Kernel35.τ).loc Cert.Kernel35.main_arg5) = m ((c.tc : Thread Cert.Kernel35.nD Cert.Kernel35.τ).loc Cert.Kernel35.main_arg5))
      ∧ r.2.sem = fun _ => 0)

def quiescent_Kernel35Ideal [hKernel35Ideal : Cert.Kernel35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg), Pre_Kernel35Ideal m →
    θ_run (Cert.Kernel35Ideal.defs (F := Ideal)) (onTc (τ := Cert.Kernel35Ideal.τ) (Cert.Kernel35Ideal.main (F := Ideal))) ⟨m, fun _ => 0, g⟩ (fun r => (∀ c : Dev Cert.Kernel35Ideal.nD,
      r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
      ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
      ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2)
      ∧ r.2.mem ((c.tc : Thread Cert.Kernel35Ideal.nD Cert.Kernel35Ideal.τ).loc Cert.Kernel35Ideal.main_arg3) = m ((c.tc : Thread Cert.Kernel35Ideal.nD Cert.Kernel35Ideal.τ).loc Cert.Kernel35Ideal.main_arg3)
      ∧ r.2.mem ((c.tc : Thread Cert.Kernel35Ideal.nD Cert.Kernel35Ideal.τ).loc Cert.Kernel35Ideal.main_arg4) = m ((c.tc : Thread Cert.Kernel35Ideal.nD Cert.Kernel35Ideal.τ).loc Cert.Kernel35Ideal.main_arg4)
      ∧ r.2.mem ((c.tc : Thread Cert.Kernel35Ideal.nD Cert.Kernel35Ideal.τ).loc Cert.Kernel35Ideal.main_arg5) = m ((c.tc : Thread Cert.Kernel35Ideal.nD Cert.Kernel35Ideal.τ).loc Cert.Kernel35Ideal.main_arg5))
      ∧ r.2.sem = fun _ => 0)

def quiescent_Reference35Ideal [hReference35Ideal : Cert.Reference35Ideal.Facts] : Prop :=
  ∀ (m : (ℓ : Loc Cert.Reference35Ideal.nD Cert.Reference35Ideal.τ Cert.Reference35Ideal.sig) → Buf (Elt Ideal) ℓ) (g : Dev Cert.Reference35Ideal.nD → PrngReg), Pre_Reference35Ideal m →
    θ_run (Cert.Reference35Ideal.defs (F := Ideal)) (onTc (τ := Cert.Reference35Ideal.τ) (Cert.Reference35Ideal.main (F := Ideal))) ⟨m, fun _ => 0, g⟩ (fun r => (∀ c : Dev Cert.Reference35Ideal.nD,
      r.2.mem ((c.tc : Thread Cert.Reference35Ideal.nD Cert.Reference35Ideal.τ).loc Cert.Reference35Ideal.main_arg0) = m ((c.tc : Thread Cert.Reference35Ideal.nD Cert.Reference35Ideal.τ).loc Cert.Reference35Ideal.main_arg0)
      ∧ r.2.mem ((c.tc : Thread Cert.Reference35Ideal.nD Cert.Reference35Ideal.τ).loc Cert.Reference35Ideal.main_arg1) = m ((c.tc : Thread Cert.Reference35Ideal.nD Cert.Reference35Ideal.τ).loc Cert.Reference35Ideal.main_arg1)
      ∧ r.2.mem ((c.tc : Thread Cert.Reference35Ideal.nD Cert.Reference35Ideal.τ).loc Cert.Reference35Ideal.main_arg2) = m ((c.tc : Thread Cert.Reference35Ideal.nD Cert.Reference35Ideal.τ).loc Cert.Reference35Ideal.main_arg2)
      ∧ r.2.mem ((c.tc : Thread Cert.Reference35Ideal.nD Cert.Reference35Ideal.τ).loc Cert.Reference35Ideal.main_arg3) = m ((c.tc : Thread Cert.Reference35Ideal.nD Cert.Reference35Ideal.τ).loc Cert.Reference35Ideal.main_arg3)
      ∧ r.2.mem ((c.tc : Thread Cert.Reference35Ideal.nD Cert.Reference35Ideal.τ).loc Cert.Reference35Ideal.main_arg4) = m ((c.tc : Thread Cert.Reference35Ideal.nD Cert.Reference35Ideal.τ).loc Cert.Reference35Ideal.main_arg4)
      ∧ r.2.mem ((c.tc : Thread Cert.Reference35Ideal.nD Cert.Reference35Ideal.τ).loc Cert.Reference35Ideal.main_arg5) = m ((c.tc : Thread Cert.Reference35Ideal.nD Cert.Reference35Ideal.τ).loc Cert.Reference35Ideal.main_arg5))
      ∧ r.2.sem = fun _ => 0)

def preserves_Kernel_KernelIdeal : Prop :=
  True

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v3) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v7) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v16) = v0 c
          ∧ r.2.mem ((c.tc : Thread Cert.Reference10Ideal.nD Cert.Reference10Ideal.τ).loc Cert.Reference10Ideal.main_v19) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v6) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v4) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v3) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v3) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v2) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v1) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v5) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v7) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v2) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v2) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v6) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v2) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)
      ∧ m' ((c.tc : Thread Cert.Reference22Ideal.nD Cert.Reference22Ideal.τ).loc Cert.Reference22Ideal.main_arg4) = m ((c.tc : Thread Cert.Kernel22Ideal.nD Cert.Kernel22Ideal.τ).loc Cert.Kernel22Ideal.main_arg4)
      ∧ m' ((c.tc : Thread Cert.Reference22Ideal.nD Cert.Reference22Ideal.τ).loc Cert.Reference22Ideal.main_arg5) = m ((c.tc : Thread Cert.Kernel22Ideal.nD Cert.Kernel22Ideal.τ).loc Cert.Kernel22Ideal.main_arg5)
      ∧ m' ((c.tc : Thread Cert.Reference22Ideal.nD Cert.Reference22Ideal.τ).loc Cert.Reference22Ideal.main_arg6) = m ((c.tc : Thread Cert.Kernel22Ideal.nD Cert.Kernel22Ideal.τ).loc Cert.Kernel22Ideal.main_arg6)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
          ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
          ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5)
          ∧ r.2.mem ((c.tc : Thread Cert.Kernel22Ideal.nD Cert.Kernel22Ideal.τ).loc Cert.Kernel22Ideal.main_arg6) = m ((c.tc : Thread Cert.Kernel22Ideal.nD Cert.Kernel22Ideal.τ).loc Cert.Kernel22Ideal.main_arg6))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v12) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3)
          ∧ r.2.mem ((c.tc : Thread Cert.Reference22Ideal.nD Cert.Reference22Ideal.τ).loc Cert.Reference22Ideal.main_arg4) = m' ((c.tc : Thread Cert.Reference22Ideal.nD Cert.Reference22Ideal.τ).loc Cert.Reference22Ideal.main_arg4)
          ∧ r.2.mem ((c.tc : Thread Cert.Reference22Ideal.nD Cert.Reference22Ideal.τ).loc Cert.Reference22Ideal.main_arg5) = m' ((c.tc : Thread Cert.Reference22Ideal.nD Cert.Reference22Ideal.τ).loc Cert.Reference22Ideal.main_arg5)
          ∧ r.2.mem ((c.tc : Thread Cert.Reference22Ideal.nD Cert.Reference22Ideal.τ).loc Cert.Reference22Ideal.main_arg6) = m' ((c.tc : Thread Cert.Reference22Ideal.nD Cert.Reference22Ideal.τ).loc Cert.Reference22Ideal.main_arg6))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v10) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)
      ∧ m' ((c.tc : Thread Cert.Reference24Ideal.nD Cert.Reference24Ideal.τ).loc Cert.Reference24Ideal.main_arg4) = m ((c.tc : Thread Cert.Kernel24Ideal.nD Cert.Kernel24Ideal.τ).loc Cert.Kernel24Ideal.main_arg4)
      ∧ m' ((c.tc : Thread Cert.Reference24Ideal.nD Cert.Reference24Ideal.τ).loc Cert.Reference24Ideal.main_arg5) = m ((c.tc : Thread Cert.Kernel24Ideal.nD Cert.Kernel24Ideal.τ).loc Cert.Kernel24Ideal.main_arg5)) →
    ∃ (v0 : (c : Dev Cert.Kernel24Ideal.nD) → Buf (Elt Ideal) ((c.tc : Thread Cert.Kernel24Ideal.nD Cert.Kernel24Ideal.τ).loc Cert.Kernel24Ideal.main_v0)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
          ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4)
          ∧ r.2.mem ((c.tc : Thread Cert.Kernel24Ideal.nD Cert.Kernel24Ideal.τ).loc Cert.Kernel24Ideal.main_arg5) = m ((c.tc : Thread Cert.Kernel24Ideal.nD Cert.Kernel24Ideal.τ).loc Cert.Kernel24Ideal.main_arg5))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v23) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3)
          ∧ r.2.mem ((c.tc : Thread Cert.Reference24Ideal.nD Cert.Reference24Ideal.τ).loc Cert.Reference24Ideal.main_arg4) = m' ((c.tc : Thread Cert.Reference24Ideal.nD Cert.Reference24Ideal.τ).loc Cert.Reference24Ideal.main_arg4)
          ∧ r.2.mem ((c.tc : Thread Cert.Reference24Ideal.nD Cert.Reference24Ideal.τ).loc Cert.Reference24Ideal.main_arg5) = m' ((c.tc : Thread Cert.Reference24Ideal.nD Cert.Reference24Ideal.τ).loc Cert.Reference24Ideal.main_arg5))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)
      ∧ m' ((c.tc : Thread Cert.Reference25Ideal.nD Cert.Reference25Ideal.τ).loc Cert.Reference25Ideal.main_arg4) = m ((c.tc : Thread Cert.Kernel25Ideal.nD Cert.Kernel25Ideal.τ).loc Cert.Kernel25Ideal.main_arg4)
      ∧ m' ((c.tc : Thread Cert.Reference25Ideal.nD Cert.Reference25Ideal.τ).loc Cert.Reference25Ideal.main_arg5) = m ((c.tc : Thread Cert.Kernel25Ideal.nD Cert.Kernel25Ideal.τ).loc Cert.Kernel25Ideal.main_arg5)
      ∧ m' ((c.tc : Thread Cert.Reference25Ideal.nD Cert.Reference25Ideal.τ).loc Cert.Reference25Ideal.main_arg6) = m ((c.tc : Thread Cert.Kernel25Ideal.nD Cert.Kernel25Ideal.τ).loc Cert.Kernel25Ideal.main_arg6)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)) (v2 : (c : Dev Cert.Kernel25Ideal.nD) → Buf (Elt Ideal) ((c.tc : Thread Cert.Kernel25Ideal.nD Cert.Kernel25Ideal.τ).loc Cert.Kernel25Ideal.main_v0_2)) (v3 : (c : Dev Cert.Kernel25Ideal.nD) → Buf (Elt Ideal) ((c.tc : Thread Cert.Kernel25Ideal.nD Cert.Kernel25Ideal.τ).loc Cert.Kernel25Ideal.main_v0_3)) (v4 : (c : Dev Cert.Kernel25Ideal.nD) → Buf (Elt Ideal) ((c.tc : Thread Cert.Kernel25Ideal.nD Cert.Kernel25Ideal.τ).loc Cert.Kernel25Ideal.main_v0_4)) (v5 : (c : Dev Cert.Kernel25Ideal.nD) → Buf (Elt Ideal) ((c.tc : Thread Cert.Kernel25Ideal.nD Cert.Kernel25Ideal.τ).loc Cert.Kernel25Ideal.main_v0_5)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_v0_2) = v2 c
          ∧ r.2.mem ((c.tc : Thread Cert.Kernel25Ideal.nD Cert.Kernel25Ideal.τ).loc Cert.Kernel25Ideal.main_v0_3) = v3 c
          ∧ r.2.mem ((c.tc : Thread Cert.Kernel25Ideal.nD Cert.Kernel25Ideal.τ).loc Cert.Kernel25Ideal.main_v0_4) = v4 c
          ∧ r.2.mem ((c.tc : Thread Cert.Kernel25Ideal.nD Cert.Kernel25Ideal.τ).loc Cert.Kernel25Ideal.main_v0_5) = v5 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
          ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4)
          ∧ r.2.mem ((c.tc : Thread Cert.Kernel25Ideal.nD Cert.Kernel25Ideal.τ).loc Cert.Kernel25Ideal.main_arg5) = m ((c.tc : Thread Cert.Kernel25Ideal.nD Cert.Kernel25Ideal.τ).loc Cert.Kernel25Ideal.main_arg5)
          ∧ r.2.mem ((c.tc : Thread Cert.Kernel25Ideal.nD Cert.Kernel25Ideal.τ).loc Cert.Kernel25Ideal.main_arg6) = m ((c.tc : Thread Cert.Kernel25Ideal.nD Cert.Kernel25Ideal.τ).loc Cert.Kernel25Ideal.main_arg6))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v32) = v0 c
          ∧ r.2.mem ((c.tc : Thread Cert.Reference25Ideal.nD Cert.Reference25Ideal.τ).loc Cert.Reference25Ideal.main_v34) = v1 c
          ∧ r.2.mem ((c.tc : Thread Cert.Reference25Ideal.nD Cert.Reference25Ideal.τ).loc Cert.Reference25Ideal.main_v35) = v2 c
          ∧ r.2.mem ((c.tc : Thread Cert.Reference25Ideal.nD Cert.Reference25Ideal.τ).loc Cert.Reference25Ideal.main_v36) = v3 c
          ∧ r.2.mem ((c.tc : Thread Cert.Reference25Ideal.nD Cert.Reference25Ideal.τ).loc Cert.Reference25Ideal.main_v38) = v4 c
          ∧ r.2.mem ((c.tc : Thread Cert.Reference25Ideal.nD Cert.Reference25Ideal.τ).loc Cert.Reference25Ideal.main_v40) = v5 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3)
          ∧ r.2.mem ((c.tc : Thread Cert.Reference25Ideal.nD Cert.Reference25Ideal.τ).loc Cert.Reference25Ideal.main_arg4) = m' ((c.tc : Thread Cert.Reference25Ideal.nD Cert.Reference25Ideal.τ).loc Cert.Reference25Ideal.main_arg4)
          ∧ r.2.mem ((c.tc : Thread Cert.Reference25Ideal.nD Cert.Reference25Ideal.τ).loc Cert.Reference25Ideal.main_arg5) = m' ((c.tc : Thread Cert.Reference25Ideal.nD Cert.Reference25Ideal.τ).loc Cert.Reference25Ideal.main_arg5)
          ∧ r.2.mem ((c.tc : Thread Cert.Reference25Ideal.nD Cert.Reference25Ideal.τ).loc Cert.Reference25Ideal.main_arg6) = m' ((c.tc : Thread Cert.Reference25Ideal.nD Cert.Reference25Ideal.τ).loc Cert.Reference25Ideal.main_arg6))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)
      ∧ m' ((c.tc : Thread Cert.Reference26Ideal.nD Cert.Reference26Ideal.τ).loc Cert.Reference26Ideal.main_arg4) = m ((c.tc : Thread Cert.Kernel26Ideal.nD Cert.Kernel26Ideal.τ).loc Cert.Kernel26Ideal.main_arg4)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)) (v2 : (c : Dev Cert.Kernel26Ideal.nD) → Buf (Elt Ideal) ((c.tc : Thread Cert.Kernel26Ideal.nD Cert.Kernel26Ideal.τ).loc Cert.Kernel26Ideal.main_v0_2)) (v3 : (c : Dev Cert.Kernel26Ideal.nD) → Buf (Elt Ideal) ((c.tc : Thread Cert.Kernel26Ideal.nD Cert.Kernel26Ideal.τ).loc Cert.Kernel26Ideal.main_v0_3)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_v0_2) = v2 c
          ∧ r.2.mem ((c.tc : Thread Cert.Kernel26Ideal.nD Cert.Kernel26Ideal.τ).loc Cert.Kernel26Ideal.main_v0_3) = v3 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3)
          ∧ r.2.mem ((c.tc : Thread Cert.Kernel26Ideal.nD Cert.Kernel26Ideal.τ).loc Cert.Kernel26Ideal.main_arg4) = m ((c.tc : Thread Cert.Kernel26Ideal.nD Cert.Kernel26Ideal.τ).loc Cert.Kernel26Ideal.main_arg4))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v26) = v0 c
          ∧ r.2.mem ((c.tc : Thread Cert.Reference26Ideal.nD Cert.Reference26Ideal.τ).loc Cert.Reference26Ideal.main_v28) = v1 c
          ∧ r.2.mem ((c.tc : Thread Cert.Reference26Ideal.nD Cert.Reference26Ideal.τ).loc Cert.Reference26Ideal.main_v33) = v2 c
          ∧ r.2.mem ((c.tc : Thread Cert.Reference26Ideal.nD Cert.Reference26Ideal.τ).loc Cert.Reference26Ideal.main_v40) = v3 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3)
          ∧ r.2.mem ((c.tc : Thread Cert.Reference26Ideal.nD Cert.Reference26Ideal.τ).loc Cert.Reference26Ideal.main_arg4) = m' ((c.tc : Thread Cert.Reference26Ideal.nD Cert.Reference26Ideal.τ).loc Cert.Reference26Ideal.main_arg4))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)) →
    ∃ (v0 : (c : Dev Cert.Kernel27Ideal.nD) → Buf (Elt Ideal) ((c.tc : Thread Cert.Kernel27Ideal.nD Cert.Kernel27Ideal.τ).loc Cert.Kernel27Ideal.main_v0_0)) (v1 : (c : Dev Cert.Kernel27Ideal.nD) → Buf (Elt Ideal) ((c.tc : Thread Cert.Kernel27Ideal.nD Cert.Kernel27Ideal.τ).loc Cert.Kernel27Ideal.main_v0_1)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0_0) = v0 c
          ∧ r.2.mem ((c.tc : Thread Cert.Kernel27Ideal.nD Cert.Kernel27Ideal.τ).loc Cert.Kernel27Ideal.main_v0_1) = v1 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v2) = v0 c
          ∧ r.2.mem ((c.tc : Thread Cert.Reference27Ideal.nD Cert.Reference27Ideal.τ).loc Cert.Reference27Ideal.main_v5) = v1 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)
      ∧ m' ((c.tc : Thread Cert.Reference28Ideal.nD Cert.Reference28Ideal.τ).loc Cert.Reference28Ideal.main_arg4) = m ((c.tc : Thread Cert.Kernel28Ideal.nD Cert.Kernel28Ideal.τ).loc Cert.Kernel28Ideal.main_arg4)) →
    ∃ (v0 : (c : Dev Cert.Kernel28Ideal.nD) → Buf (Elt Ideal) ((c.tc : Thread Cert.Kernel28Ideal.nD Cert.Kernel28Ideal.τ).loc Cert.Kernel28Ideal.main_v0_0)) (v1 : (c : Dev Cert.Kernel28Ideal.nD) → Buf (Elt Ideal) ((c.tc : Thread Cert.Kernel28Ideal.nD Cert.Kernel28Ideal.τ).loc Cert.Kernel28Ideal.main_v0_1)) (v2 : (c : Dev Cert.Kernel28Ideal.nD) → Buf (Elt Ideal) ((c.tc : Thread Cert.Kernel28Ideal.nD Cert.Kernel28Ideal.τ).loc Cert.Kernel28Ideal.main_v0_2)) (v3 : (c : Dev Cert.Kernel28Ideal.nD) → Buf (Elt Ideal) ((c.tc : Thread Cert.Kernel28Ideal.nD Cert.Kernel28Ideal.τ).loc Cert.Kernel28Ideal.main_v0_3)) (v4 : (c : Dev Cert.Kernel28Ideal.nD) → Buf (Elt Ideal) ((c.tc : Thread Cert.Kernel28Ideal.nD Cert.Kernel28Ideal.τ).loc Cert.Kernel28Ideal.main_v0_4)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0_0) = v0 c
          ∧ r.2.mem ((c.tc : Thread Cert.Kernel28Ideal.nD Cert.Kernel28Ideal.τ).loc Cert.Kernel28Ideal.main_v0_1) = v1 c
          ∧ r.2.mem ((c.tc : Thread Cert.Kernel28Ideal.nD Cert.Kernel28Ideal.τ).loc Cert.Kernel28Ideal.main_v0_2) = v2 c
          ∧ r.2.mem ((c.tc : Thread Cert.Kernel28Ideal.nD Cert.Kernel28Ideal.τ).loc Cert.Kernel28Ideal.main_v0_3) = v3 c
          ∧ r.2.mem ((c.tc : Thread Cert.Kernel28Ideal.nD Cert.Kernel28Ideal.τ).loc Cert.Kernel28Ideal.main_v0_4) = v4 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3)
          ∧ r.2.mem ((c.tc : Thread Cert.Kernel28Ideal.nD Cert.Kernel28Ideal.τ).loc Cert.Kernel28Ideal.main_arg4) = m ((c.tc : Thread Cert.Kernel28Ideal.nD Cert.Kernel28Ideal.τ).loc Cert.Kernel28Ideal.main_arg4))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v29) = v0 c
          ∧ r.2.mem ((c.tc : Thread Cert.Reference28Ideal.nD Cert.Reference28Ideal.τ).loc Cert.Reference28Ideal.main_v32) = v1 c
          ∧ r.2.mem ((c.tc : Thread Cert.Reference28Ideal.nD Cert.Reference28Ideal.τ).loc Cert.Reference28Ideal.main_v35) = v2 c
          ∧ r.2.mem ((c.tc : Thread Cert.Reference28Ideal.nD Cert.Reference28Ideal.τ).loc Cert.Reference28Ideal.main_v38) = v3 c
          ∧ r.2.mem ((c.tc : Thread Cert.Reference28Ideal.nD Cert.Reference28Ideal.τ).loc Cert.Reference28Ideal.main_v41) = v4 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3)
          ∧ r.2.mem ((c.tc : Thread Cert.Reference28Ideal.nD Cert.Reference28Ideal.τ).loc Cert.Reference28Ideal.main_arg4) = m' ((c.tc : Thread Cert.Reference28Ideal.nD Cert.Reference28Ideal.τ).loc Cert.Reference28Ideal.main_arg4))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)) →
    ∃ (v0 : (c : Dev Cert.Kernel29Ideal.nD) → Buf (Elt Ideal) ((c.tc : Thread Cert.Kernel29Ideal.nD Cert.Kernel29Ideal.τ).loc Cert.Kernel29Ideal.main_v0)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0) = v0 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v18) = v0 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)
      ∧ m' ((c.tc : Thread Cert.Reference30Ideal.nD Cert.Reference30Ideal.τ).loc Cert.Reference30Ideal.main_arg3) = m ((c.tc : Thread Cert.Kernel30Ideal.nD Cert.Kernel30Ideal.τ).loc Cert.Kernel30Ideal.main_arg3)
      ∧ m' ((c.tc : Thread Cert.Reference30Ideal.nD Cert.Reference30Ideal.τ).loc Cert.Reference30Ideal.main_arg4) = m ((c.tc : Thread Cert.Kernel30Ideal.nD Cert.Kernel30Ideal.τ).loc Cert.Kernel30Ideal.main_arg4)
      ∧ m' ((c.tc : Thread Cert.Reference30Ideal.nD Cert.Reference30Ideal.τ).loc Cert.Reference30Ideal.main_arg5) = m ((c.tc : Thread Cert.Kernel30Ideal.nD Cert.Kernel30Ideal.τ).loc Cert.Kernel30Ideal.main_arg5)) →
    ∃ (v0 : (c : Dev Cert.Kernel30Ideal.nD) → Buf (Elt Ideal) ((c.tc : Thread Cert.Kernel30Ideal.nD Cert.Kernel30Ideal.τ).loc Cert.Kernel30Ideal.main_v0_0)) (v1 : (c : Dev Cert.Kernel30Ideal.nD) → Buf (Elt Ideal) ((c.tc : Thread Cert.Kernel30Ideal.nD Cert.Kernel30Ideal.τ).loc Cert.Kernel30Ideal.main_v0_1)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0_0) = v0 c
          ∧ r.2.mem ((c.tc : Thread Cert.Kernel30Ideal.nD Cert.Kernel30Ideal.τ).loc Cert.Kernel30Ideal.main_v0_1) = v1 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
          ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3)
          ∧ r.2.mem ((c.tc : Thread Cert.Kernel30Ideal.nD Cert.Kernel30Ideal.τ).loc Cert.Kernel30Ideal.main_arg4) = m ((c.tc : Thread Cert.Kernel30Ideal.nD Cert.Kernel30Ideal.τ).loc Cert.Kernel30Ideal.main_arg4)
          ∧ r.2.mem ((c.tc : Thread Cert.Kernel30Ideal.nD Cert.Kernel30Ideal.τ).loc Cert.Kernel30Ideal.main_arg5) = m ((c.tc : Thread Cert.Kernel30Ideal.nD Cert.Kernel30Ideal.τ).loc Cert.Kernel30Ideal.main_arg5))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v2) = v0 c
          ∧ r.2.mem ((c.tc : Thread Cert.Reference30Ideal.nD Cert.Reference30Ideal.τ).loc Cert.Reference30Ideal.main_v21) = v1 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2)
          ∧ r.2.mem ((c.tc : Thread Cert.Reference30Ideal.nD Cert.Reference30Ideal.τ).loc Cert.Reference30Ideal.main_arg3) = m' ((c.tc : Thread Cert.Reference30Ideal.nD Cert.Reference30Ideal.τ).loc Cert.Reference30Ideal.main_arg3)
          ∧ r.2.mem ((c.tc : Thread Cert.Reference30Ideal.nD Cert.Reference30Ideal.τ).loc Cert.Reference30Ideal.main_arg4) = m' ((c.tc : Thread Cert.Reference30Ideal.nD Cert.Reference30Ideal.τ).loc Cert.Reference30Ideal.main_arg4)
          ∧ r.2.mem ((c.tc : Thread Cert.Reference30Ideal.nD Cert.Reference30Ideal.τ).loc Cert.Reference30Ideal.main_arg5) = m' ((c.tc : Thread Cert.Reference30Ideal.nD Cert.Reference30Ideal.τ).loc Cert.Reference30Ideal.main_arg5))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)
      ∧ m' ((c.tc : Thread Cert.Reference31Ideal.nD Cert.Reference31Ideal.τ).loc Cert.Reference31Ideal.main_arg3) = m ((c.tc : Thread Cert.Kernel31Ideal.nD Cert.Kernel31Ideal.τ).loc Cert.Kernel31Ideal.main_arg3)) →
    ∃ (v0 : (c : Dev Cert.Kernel31Ideal.nD) → Buf (Elt Ideal) ((c.tc : Thread Cert.Kernel31Ideal.nD Cert.Kernel31Ideal.τ).loc Cert.Kernel31Ideal.main_v0_0)) (v1 : (c : Dev Cert.Kernel31Ideal.nD) → Buf (Elt Ideal) ((c.tc : Thread Cert.Kernel31Ideal.nD Cert.Kernel31Ideal.τ).loc Cert.Kernel31Ideal.main_v0_1)) (v2 : (c : Dev Cert.Kernel31Ideal.nD) → Buf (Elt Ideal) ((c.tc : Thread Cert.Kernel31Ideal.nD Cert.Kernel31Ideal.τ).loc Cert.Kernel31Ideal.main_v0_2)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0_0) = v0 c
          ∧ r.2.mem ((c.tc : Thread Cert.Kernel31Ideal.nD Cert.Kernel31Ideal.τ).loc Cert.Kernel31Ideal.main_v0_1) = v1 c
          ∧ r.2.mem ((c.tc : Thread Cert.Kernel31Ideal.nD Cert.Kernel31Ideal.τ).loc Cert.Kernel31Ideal.main_v0_2) = v2 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
          ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v23) = v0 c
          ∧ r.2.mem ((c.tc : Thread Cert.Reference31Ideal.nD Cert.Reference31Ideal.τ).loc Cert.Reference31Ideal.main_v4) = v1 c
          ∧ r.2.mem ((c.tc : Thread Cert.Reference31Ideal.nD Cert.Reference31Ideal.τ).loc Cert.Reference31Ideal.main_v10) = v2 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2)
          ∧ r.2.mem ((c.tc : Thread Cert.Reference31Ideal.nD Cert.Reference31Ideal.τ).loc Cert.Reference31Ideal.main_arg3) = m' ((c.tc : Thread Cert.Reference31Ideal.nD Cert.Reference31Ideal.τ).loc Cert.Reference31Ideal.main_arg3))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)
      ∧ m' ((c.tc : Thread Cert.Reference32Ideal.nD Cert.Reference32Ideal.τ).loc Cert.Reference32Ideal.main_arg2) = m ((c.tc : Thread Cert.Kernel32Ideal.nD Cert.Kernel32Ideal.τ).loc Cert.Kernel32Ideal.main_arg2)) →
    ∃ (v0 : (c : Dev Cert.Kernel32Ideal.nD) → Buf (Elt Ideal) ((c.tc : Thread Cert.Kernel32Ideal.nD Cert.Kernel32Ideal.τ).loc Cert.Kernel32Ideal.main_v0_0)) (v1 : (c : Dev Cert.Kernel32Ideal.nD) → Buf (Elt Ideal) ((c.tc : Thread Cert.Kernel32Ideal.nD Cert.Kernel32Ideal.τ).loc Cert.Kernel32Ideal.main_v0_1)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0_0) = v0 c
          ∧ r.2.mem ((c.tc : Thread Cert.Kernel32Ideal.nD Cert.Kernel32Ideal.τ).loc Cert.Kernel32Ideal.main_v0_1) = v1 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
          ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v34) = v0 c
          ∧ r.2.mem ((c.tc : Thread Cert.Reference32Ideal.nD Cert.Reference32Ideal.τ).loc Cert.Reference32Ideal.main_v37) = v1 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1)
          ∧ r.2.mem ((c.tc : Thread Cert.Reference32Ideal.nD Cert.Reference32Ideal.τ).loc Cert.Reference32Ideal.main_arg2) = m' ((c.tc : Thread Cert.Reference32Ideal.nD Cert.Reference32Ideal.τ).loc Cert.Reference32Ideal.main_arg2))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)) →
    ∃ (v0 : (c : Dev Cert.Kernel33Ideal.nD) → Buf (Elt Ideal) ((c.tc : Thread Cert.Kernel33Ideal.nD Cert.Kernel33Ideal.τ).loc Cert.Kernel33Ideal.main_v0)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v0) = v0 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v15) = v0 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1))

def preserves_Kernel34_Kernel34Ideal : Prop :=
  True

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)
      ∧ m' ((c.tc : Thread Cert.Reference34Ideal.nD Cert.Reference34Ideal.τ).loc Cert.Reference34Ideal.main_arg2) = m ((c.tc : Thread Cert.Kernel34Ideal.nD Cert.Kernel34Ideal.τ).loc Cert.Kernel34Ideal.main_arg2)
      ∧ m' ((c.tc : Thread Cert.Reference34Ideal.nD Cert.Reference34Ideal.τ).loc Cert.Reference34Ideal.main_arg3) = m ((c.tc : Thread Cert.Kernel34Ideal.nD Cert.Kernel34Ideal.τ).loc Cert.Kernel34Ideal.main_arg3)
      ∧ m' ((c.tc : Thread Cert.Reference34Ideal.nD Cert.Reference34Ideal.τ).loc Cert.Reference34Ideal.main_arg4) = m ((c.tc : Thread Cert.Kernel34Ideal.nD Cert.Kernel34Ideal.τ).loc Cert.Kernel34Ideal.main_arg4)
      ∧ m' ((c.tc : Thread Cert.Reference34Ideal.nD Cert.Reference34Ideal.τ).loc Cert.Reference34Ideal.main_arg5) = m ((c.tc : Thread Cert.Kernel34Ideal.nD Cert.Kernel34Ideal.τ).loc Cert.Kernel34Ideal.main_arg5)
      ∧ m' ((c.tc : Thread Cert.Reference34Ideal.nD Cert.Reference34Ideal.τ).loc Cert.Reference34Ideal.main_arg6) = m ((c.tc : Thread Cert.Kernel34Ideal.nD Cert.Kernel34Ideal.τ).loc Cert.Kernel34Ideal.main_arg6)) →
    ∃ (v0 : (c : Dev Cert.Kernel34Ideal.nD) → Buf (Elt Ideal) ((c.tc : Thread Cert.Kernel34Ideal.nD Cert.Kernel34Ideal.τ).loc Cert.Kernel34Ideal.main_v0_0)) (v1 : (c : Dev Cert.Kernel34Ideal.nD) → Buf (Elt Ideal) ((c.tc : Thread Cert.Kernel34Ideal.nD Cert.Kernel34Ideal.τ).loc Cert.Kernel34Ideal.main_v0_1)) (v2 : (c : Dev Cert.Kernel34Ideal.nD) → Buf (Elt Ideal) ((c.tc : Thread Cert.Kernel34Ideal.nD Cert.Kernel34Ideal.τ).loc Cert.Kernel34Ideal.main_v0_2)) (v3 : (c : Dev Cert.Kernel34Ideal.nD) → Buf (Elt Ideal) ((c.tc : Thread Cert.Kernel34Ideal.nD Cert.Kernel34Ideal.τ).loc Cert.Kernel34Ideal.main_v0_3)) (v4 : (c : Dev Cert.Kernel34Ideal.nD) → Buf (Elt Ideal) ((c.tc : Thread Cert.Kernel34Ideal.nD Cert.Kernel34Ideal.τ).loc Cert.Kernel34Ideal.main_v0_4)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v0_0) = v0 c
          ∧ r.2.mem ((c.tc : Thread Cert.Kernel34Ideal.nD Cert.Kernel34Ideal.τ).loc Cert.Kernel34Ideal.main_v0_1) = v1 c
          ∧ r.2.mem ((c.tc : Thread Cert.Kernel34Ideal.nD Cert.Kernel34Ideal.τ).loc Cert.Kernel34Ideal.main_v0_2) = v2 c
          ∧ r.2.mem ((c.tc : Thread Cert.Kernel34Ideal.nD Cert.Kernel34Ideal.τ).loc Cert.Kernel34Ideal.main_v0_3) = v3 c
          ∧ r.2.mem ((c.tc : Thread Cert.Kernel34Ideal.nD Cert.Kernel34Ideal.τ).loc Cert.Kernel34Ideal.main_v0_4) = v4 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
          ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
          ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3)
          ∧ r.2.mem ((c.tc : Thread Cert.Kernel34Ideal.nD Cert.Kernel34Ideal.τ).loc Cert.Kernel34Ideal.main_arg4) = m ((c.tc : Thread Cert.Kernel34Ideal.nD Cert.Kernel34Ideal.τ).loc Cert.Kernel34Ideal.main_arg4)
          ∧ r.2.mem ((c.tc : Thread Cert.Kernel34Ideal.nD Cert.Kernel34Ideal.τ).loc Cert.Kernel34Ideal.main_arg5) = m ((c.tc : Thread Cert.Kernel34Ideal.nD Cert.Kernel34Ideal.τ).loc Cert.Kernel34Ideal.main_arg5)
          ∧ r.2.mem ((c.tc : Thread Cert.Kernel34Ideal.nD Cert.Kernel34Ideal.τ).loc Cert.Kernel34Ideal.main_arg6) = m ((c.tc : Thread Cert.Kernel34Ideal.nD Cert.Kernel34Ideal.τ).loc Cert.Kernel34Ideal.main_arg6))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v38) = v0 c
          ∧ r.2.mem ((c.tc : Thread Cert.Reference34Ideal.nD Cert.Reference34Ideal.τ).loc Cert.Reference34Ideal.main_v46) = v1 c
          ∧ r.2.mem ((c.tc : Thread Cert.Reference34Ideal.nD Cert.Reference34Ideal.τ).loc Cert.Reference34Ideal.main_v48) = v2 c
          ∧ r.2.mem ((c.tc : Thread Cert.Reference34Ideal.nD Cert.Reference34Ideal.τ).loc Cert.Reference34Ideal.main_v51) = v3 c
          ∧ r.2.mem ((c.tc : Thread Cert.Reference34Ideal.nD Cert.Reference34Ideal.τ).loc Cert.Reference34Ideal.main_v54) = v4 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1)
          ∧ r.2.mem ((c.tc : Thread Cert.Reference34Ideal.nD Cert.Reference34Ideal.τ).loc Cert.Reference34Ideal.main_arg2) = m' ((c.tc : Thread Cert.Reference34Ideal.nD Cert.Reference34Ideal.τ).loc Cert.Reference34Ideal.main_arg2)
          ∧ r.2.mem ((c.tc : Thread Cert.Reference34Ideal.nD Cert.Reference34Ideal.τ).loc Cert.Reference34Ideal.main_arg3) = m' ((c.tc : Thread Cert.Reference34Ideal.nD Cert.Reference34Ideal.τ).loc Cert.Reference34Ideal.main_arg3)
          ∧ r.2.mem ((c.tc : Thread Cert.Reference34Ideal.nD Cert.Reference34Ideal.τ).loc Cert.Reference34Ideal.main_arg4) = m' ((c.tc : Thread Cert.Reference34Ideal.nD Cert.Reference34Ideal.τ).loc Cert.Reference34Ideal.main_arg4)
          ∧ r.2.mem ((c.tc : Thread Cert.Reference34Ideal.nD Cert.Reference34Ideal.τ).loc Cert.Reference34Ideal.main_arg5) = m' ((c.tc : Thread Cert.Reference34Ideal.nD Cert.Reference34Ideal.τ).loc Cert.Reference34Ideal.main_arg5)
          ∧ r.2.mem ((c.tc : Thread Cert.Reference34Ideal.nD Cert.Reference34Ideal.τ).loc Cert.Reference34Ideal.main_arg6) = m' ((c.tc : Thread Cert.Reference34Ideal.nD Cert.Reference34Ideal.τ).loc Cert.Reference34Ideal.main_arg6))

def preserves_Kernel35_Kernel35Ideal : Prop :=
  True

def algebraic_Kernel35Ideal_Reference35Ideal [hKernel35Ideal : Cert.Kernel35Ideal.Facts] [hReference35Ideal : Cert.Reference35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg)
    (m' : (ℓ : Loc Cert.Reference35Ideal.nD Cert.Reference35Ideal.τ Cert.Reference35Ideal.sig) → Buf (Elt Ideal) ℓ) (g' : Dev Cert.Reference35Ideal.nD → PrngReg), Pre_Kernel35Ideal m →
    (∀ c : Dev Cert.Kernel35Ideal.nD,
      m' ((c.tc : Thread Cert.Reference35Ideal.nD Cert.Reference35Ideal.τ).loc Cert.Reference35Ideal.main_arg0) = m ((c.tc : Thread Cert.Kernel35Ideal.nD Cert.Kernel35Ideal.τ).loc Cert.Kernel35Ideal.main_arg0)
      ∧ m' ((c.tc : Thread Cert.Reference35Ideal.nD Cert.Reference35Ideal.τ).loc Cert.Reference35Ideal.main_arg1) = m ((c.tc : Thread Cert.Kernel35Ideal.nD Cert.Kernel35Ideal.τ).loc Cert.Kernel35Ideal.main_arg1)
      ∧ m' ((c.tc : Thread Cert.Reference35Ideal.nD Cert.Reference35Ideal.τ).loc Cert.Reference35Ideal.main_arg2) = m ((c.tc : Thread Cert.Kernel35Ideal.nD Cert.Kernel35Ideal.τ).loc Cert.Kernel35Ideal.main_arg2)
      ∧ m' ((c.tc : Thread Cert.Reference35Ideal.nD Cert.Reference35Ideal.τ).loc Cert.Reference35Ideal.main_arg3) = m ((c.tc : Thread Cert.Kernel35Ideal.nD Cert.Kernel35Ideal.τ).loc Cert.Kernel35Ideal.main_arg3)
      ∧ m' ((c.tc : Thread Cert.Reference35Ideal.nD Cert.Reference35Ideal.τ).loc Cert.Reference35Ideal.main_arg4) = m ((c.tc : Thread Cert.Kernel35Ideal.nD Cert.Kernel35Ideal.τ).loc Cert.Kernel35Ideal.main_arg4)
      ∧ m' ((c.tc : Thread Cert.Reference35Ideal.nD Cert.Reference35Ideal.τ).loc Cert.Reference35Ideal.main_arg5) = m ((c.tc : Thread Cert.Kernel35Ideal.nD Cert.Kernel35Ideal.τ).loc Cert.Kernel35Ideal.main_arg5)) →
    ∃ (v0 : (c : Dev Cert.Kernel35Ideal.nD) → Buf (Elt Ideal) ((c.tc : Thread Cert.Kernel35Ideal.nD Cert.Kernel35Ideal.τ).loc Cert.Kernel35Ideal.main_v0)),
      θ_run (Cert.Kernel35Ideal.defs (F := Ideal)) (onTc (τ := Cert.Kernel35Ideal.τ) (Cert.Kernel35Ideal.main (F := Ideal))) ⟨m, fun _ => 0, g⟩ (fun r => ∀ c : Dev Cert.Kernel35Ideal.nD,
          r.2.mem ((c.tc : Thread Cert.Kernel35Ideal.nD Cert.Kernel35Ideal.τ).loc Cert.Kernel35Ideal.main_v0) = v0 c
          ∧ r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
          ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
          ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2)
          ∧ r.2.mem ((c.tc : Thread Cert.Kernel35Ideal.nD Cert.Kernel35Ideal.τ).loc Cert.Kernel35Ideal.main_arg3) = m ((c.tc : Thread Cert.Kernel35Ideal.nD Cert.Kernel35Ideal.τ).loc Cert.Kernel35Ideal.main_arg3)
          ∧ r.2.mem ((c.tc : Thread Cert.Kernel35Ideal.nD Cert.Kernel35Ideal.τ).loc Cert.Kernel35Ideal.main_arg4) = m ((c.tc : Thread Cert.Kernel35Ideal.nD Cert.Kernel35Ideal.τ).loc Cert.Kernel35Ideal.main_arg4)
          ∧ r.2.mem ((c.tc : Thread Cert.Kernel35Ideal.nD Cert.Kernel35Ideal.τ).loc Cert.Kernel35Ideal.main_arg5) = m ((c.tc : Thread Cert.Kernel35Ideal.nD Cert.Kernel35Ideal.τ).loc Cert.Kernel35Ideal.main_arg5))
      ∧ θ_run (Cert.Reference35Ideal.defs (F := Ideal)) (onTc (τ := Cert.Reference35Ideal.τ) (Cert.Reference35Ideal.main (F := Ideal))) ⟨m', fun _ => 0, g'⟩ (fun r => ∀ c : Dev Cert.Reference35Ideal.nD,
          r.2.mem ((c.tc : Thread Cert.Reference35Ideal.nD Cert.Reference35Ideal.τ).loc Cert.Reference35Ideal.main_v26) = v0 c
          ∧ r.2.mem ((c.tc : Thread Cert.Reference35Ideal.nD Cert.Reference35Ideal.τ).loc Cert.Reference35Ideal.main_arg0) = m' ((c.tc : Thread Cert.Reference35Ideal.nD Cert.Reference35Ideal.τ).loc Cert.Reference35Ideal.main_arg0)
          ∧ r.2.mem ((c.tc : Thread Cert.Reference35Ideal.nD Cert.Reference35Ideal.τ).loc Cert.Reference35Ideal.main_arg1) = m' ((c.tc : Thread Cert.Reference35Ideal.nD Cert.Reference35Ideal.τ).loc Cert.Reference35Ideal.main_arg1)
          ∧ r.2.mem ((c.tc : Thread Cert.Reference35Ideal.nD Cert.Reference35Ideal.τ).loc Cert.Reference35Ideal.main_arg2) = m' ((c.tc : Thread Cert.Reference35Ideal.nD Cert.Reference35Ideal.τ).loc Cert.Reference35Ideal.main_arg2)
          ∧ r.2.mem ((c.tc : Thread Cert.Reference35Ideal.nD Cert.Reference35Ideal.τ).loc Cert.Reference35Ideal.main_arg3) = m' ((c.tc : Thread Cert.Reference35Ideal.nD Cert.Reference35Ideal.τ).loc Cert.Reference35Ideal.main_arg3)
          ∧ r.2.mem ((c.tc : Thread Cert.Reference35Ideal.nD Cert.Reference35Ideal.τ).loc Cert.Reference35Ideal.main_arg4) = m' ((c.tc : Thread Cert.Reference35Ideal.nD Cert.Reference35Ideal.τ).loc Cert.Reference35Ideal.main_arg4)
          ∧ r.2.mem ((c.tc : Thread Cert.Reference35Ideal.nD Cert.Reference35Ideal.τ).loc Cert.Reference35Ideal.main_arg5) = m' ((c.tc : Thread Cert.Reference35Ideal.nD Cert.Reference35Ideal.τ).loc Cert.Reference35Ideal.main_arg5))

def Claim : Prop :=
  ∃ (hKernel : Cert.Kernel.Facts) (hKernelIdeal : Cert.KernelIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hKernel35 : Cert.Kernel35.Facts) (hKernel35Ideal : Cert.Kernel35Ideal.Facts) (hReference35Ideal : Cert.Reference35Ideal.Facts),
    quiescent_Kernel (hKernel := hKernel)
    ∧ quiescent_KernelIdeal (hKernelIdeal := hKernelIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel34 (hKernel34 := hKernel34)
    ∧ quiescent_Kernel34Ideal (hKernel34Ideal := hKernel34Ideal)
    ∧ quiescent_Reference34Ideal (hReference34Ideal := hReference34Ideal)
    ∧ quiescent_Kernel35 (hKernel35 := hKernel35)
    ∧ quiescent_Kernel35Ideal (hKernel35Ideal := hKernel35Ideal)
    ∧ quiescent_Reference35Ideal (hReference35Ideal := hReference35Ideal)
    ∧ preserves_Kernel_KernelIdeal
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
    ∧ preserves_Kernel34_Kernel34Ideal
    ∧ algebraic_Kernel34Ideal_Reference34Ideal (hKernel34Ideal := hKernel34Ideal) (hReference34Ideal := hReference34Ideal)
    ∧ preserves_Kernel35_Kernel35Ideal
    ∧ algebraic_Kernel35Ideal_Reference35Ideal (hKernel35Ideal := hKernel35Ideal) (hReference35Ideal := hReference35Ideal)
-- ==== Kernel.lean ====
abbrev S256x2048 : Shape := ⟨2, ![256, 2048]⟩
abbrev S16x128x128 : Shape := ⟨3, ![16, 128, 128]⟩
abbrev S1x2048 : Shape := ⟨2, ![1, 2048]⟩
abbrev S128x2048 : Shape := ⟨2, ![128, 2048]⟩
abbrev S8x2048 : Shape := ⟨2, ![8, 2048]⟩
abbrev S128x128 : Shape := ⟨2, ![128, 128]⟩
abbrev S1x128x128 : Shape := ⟨3, ![1, 128, 128]⟩
abbrev S1x128 : Shape := ⟨2, ![1, 128]⟩
abbrev S8x128 : Shape := ⟨2, ![8, 128]⟩
abbrev S136x128 : Shape := ⟨2, ![136, 128]⟩
abbrev S128 : Shape := ⟨1, ![128]⟩

abbrev nBuf : Space → Nat
  | .hbm => 18
  | .vmem => 43
  | .smem => 0
  | _ => 0

abbrev bufTy : (tb : Table) → Fin (tcTables nBuf tb) → BufTy
  | .hbm, ⟨0, _⟩ => ⟨S256x2048, .f32⟩
  | .hbm, ⟨1, _⟩ => ⟨S16x128x128, .f32⟩
  | .hbm, ⟨2, _⟩ => ⟨S16x128x128, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S256x2048, .f32⟩
  | .hbm, ⟨8, _⟩ => ⟨S1x2048, .f32⟩
  | .hbm, ⟨9, _⟩ => ⟨S256x2048, .f32⟩
  | .hbm, ⟨10, _⟩ => ⟨S1x2048, .f32⟩
  | .hbm, ⟨11, _⟩ => ⟨S256x2048, .f32⟩
  | .hbm, ⟨12, _⟩ => ⟨S16x128x128, .f32⟩
  | .hbm, ⟨13, _⟩ => ⟨S16x128x128, .f32⟩
  | .hbm, ⟨14, _⟩ => ⟨S1x2048, .f32⟩
  | .hbm, ⟨15, _⟩ => ⟨S1x2048, .f32⟩
  | .hbm, ⟨16, _⟩ => ⟨S1x2048, .f32⟩
  | .hbm, ⟨17, _⟩ => ⟨S1x2048, .f32⟩
  | .local _ .vmem, ⟨0, _⟩ => ⟨S128x2048, .f32⟩
  | .local _ .vmem, ⟨1, _⟩ => ⟨S128x2048, .f32⟩
  | .local _ .vmem, ⟨2, _⟩ => ⟨S16x128x128, .f32⟩
  | .local _ .vmem, ⟨3, _⟩ => ⟨S16x128x128, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | .local _ .vmem, ⟨8, _⟩ => ⟨S128x2048, .f32⟩
  | .local _ .vmem, ⟨9, _⟩ => ⟨S128x2048, .f32⟩
  | .local _ .vmem, ⟨10, _⟩ => ⟨S1x2048, .f32⟩
  | .local _ .vmem, ⟨11, _⟩ => ⟨S128x2048, .f32⟩
  | .local _ .vmem, ⟨12, _⟩ => ⟨S128x2048, .f32⟩
  | .local _ .vmem, ⟨13, _⟩ => ⟨S8x2048, .f32⟩
  | .local _ .vmem, ⟨14, _⟩ => ⟨S128x2048, .f32⟩
  | .local _ .vmem, ⟨15, _⟩ => ⟨S128x2048, .f32⟩
  | .local _ .vmem, ⟨16, _⟩ => ⟨S16x128x128, .f32⟩
  | .local _ .vmem, ⟨17, _⟩ => ⟨S16x128x128, .f32⟩
  | .local _ .vmem, ⟨18, _⟩ => ⟨S1x2048, .f32⟩
  | .local _ .vmem, ⟨19, _⟩ => ⟨S1x2048, .f32⟩
  | .local _ .vmem, ⟨20, _⟩ => ⟨S1x2048, .f32⟩
  | .local _ .vmem, ⟨21, _⟩ => ⟨S1x2048, .f32⟩
  | .local _ .vmem, ⟨22, _⟩ => ⟨S128x2048, .f32⟩
  | .local _ .vmem, ⟨23, _⟩ => ⟨S128x2048, .f32⟩
  | .local _ .vmem, ⟨24, _⟩ => ⟨S8x2048, .f32⟩
  | .local _ .vmem, ⟨25, _⟩ => ⟨S8x2048, .f32⟩
  | .local _ .vmem, ⟨26, _⟩ => ⟨S128x2048, .f32⟩
  | .local _ .vmem, ⟨27, _⟩ => ⟨S128x2048, .f32⟩
  | .local _ .vmem, ⟨28, _⟩ => ⟨S1x2048, .f32⟩
  | .local _ .vmem, ⟨29, _⟩ => ⟨S128x2048, .f32⟩
  | .local _ .vmem, ⟨30, _⟩ => ⟨S128x2048, .f32⟩
  | .local _ .vmem, ⟨31, _⟩ => ⟨S16x128x128, .f32⟩
  | .local _ .vmem, ⟨32, _⟩ => ⟨S16x128x128, .f32⟩
  | .local _ .vmem, ⟨33, _⟩ => ⟨S1x2048, .f32⟩
  | .local _ .vmem, ⟨34, _⟩ => ⟨S1x2048, .f32⟩
  | .local _ .vmem, ⟨35, _⟩ => ⟨S1x2048, .f32⟩
  | .local _ .vmem, ⟨36, _⟩ => ⟨S1x2048, .f32⟩
  | .local _ .vmem, ⟨37, _⟩ => ⟨S128x2048, .f32⟩
  | .local _ .vmem, ⟨38, _⟩ => ⟨S128x2048, .f32⟩
  | .local _ .vmem, ⟨39, _⟩ => ⟨S128x2048, .f32⟩
  | .local _ .vmem, ⟨40, _⟩ => ⟨S128x2048, .f32⟩
  | .local _ .vmem, ⟨41, _⟩ => ⟨S128x2048, .f32⟩
  | .local _ .vmem, ⟨42, _⟩ => ⟨S8x2048, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v1_0 : Ref sig .tc := ⟨.hbm, 11, rfl⟩
abbrev main_v1_1 : Ref sig .tc := ⟨.hbm, 12, rfl⟩
abbrev main_v1_2 : Ref sig .tc := ⟨.hbm, 13, rfl⟩
abbrev main_v1_3 : Ref sig .tc := ⟨.hbm, 14, rfl⟩
abbrev main_v1_4 : Ref sig .tc := ⟨.hbm, 15, rfl⟩
abbrev main_v1_5 : Ref sig .tc := ⟨.hbm, 16, rfl⟩
abbrev main_v1_6 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg7_1 : Ref sig .tc := ⟨.vmem, 23, rfl⟩
abbrev cc1_stg8_0 : Ref sig .tc := ⟨.vmem, 24, rfl⟩
abbrev cc1_stg8_1 : Ref sig .tc := ⟨.vmem, 25, rfl⟩
abbrev cc1_stg9_0 : Ref sig .tc := ⟨.vmem, 26, rfl⟩
abbrev cc1_stg9_1 : Ref sig .tc := ⟨.vmem, 27, rfl⟩
abbrev cc1_stg10_0 : Ref sig .tc := ⟨.vmem, 28, rfl⟩
abbrev cc1_stg11_0 : Ref sig .tc := ⟨.vmem, 29, rfl⟩
abbrev cc1_stg11_1 : Ref sig .tc := ⟨.vmem, 30, rfl⟩
abbrev cc1_stg12_0 : Ref sig .tc := ⟨.vmem, 31, rfl⟩
abbrev cc1_stg13_0 : Ref sig .tc := ⟨.vmem, 32, rfl⟩
abbrev cc1_stg14_0 : Ref sig .tc := ⟨.vmem, 33, rfl⟩
abbrev cc1_stg15_0 : Ref sig .tc := ⟨.vmem, 34, rfl⟩
abbrev cc1_stg16_0 : Ref sig .tc := ⟨.vmem, 35, rfl⟩
abbrev cc1_stg17_0 : Ref sig .tc := ⟨.vmem, 36, rfl⟩
abbrev cc1_scratch0 : Ref sig .tc := ⟨.vmem, 37, rfl⟩
abbrev cc1_scratch1 : Ref sig .tc := ⟨.vmem, 38, rfl⟩
abbrev cc1_scratch2 : Ref sig .tc := ⟨.vmem, 39, rfl⟩
abbrev cc1_scratch3 : Ref sig .tc := ⟨.vmem, 40, rfl⟩
abbrev cc1_scratch4 : Ref sig .tc := ⟨.vmem, 41, rfl⟩
abbrev cc1_scratch5 : Ref sig .tc := ⟨.vmem, 42, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem7_1 : DmaSem sig := 20
abbrev cc1_sem8_0 : DmaSem sig := 21
abbrev cc1_sem8_1 : DmaSem sig := 22
abbrev cc1_sem9_0 : DmaSem sig := 23
abbrev cc1_sem9_1 : DmaSem sig := 24
abbrev cc1_sem10_0 : DmaSem sig := 25
abbrev cc1_sem11_0 : DmaSem sig := 26
abbrev cc1_sem11_1 : DmaSem sig := 27
abbrev cc1_sem12_0 : DmaSem sig := 28
abbrev cc1_sem13_0 : DmaSem sig := 29
abbrev cc1_sem14_0 : DmaSem sig := 30
abbrev cc1_sem15_0 : DmaSem sig := 31
abbrev cc1_sem16_0 : DmaSem sig := 32
abbrev cc1_sem17_0 : DmaSem sig := 33

abbrev nD : Nat := 1
abbrev τ : Topo := Topo.v7x

variable {F : FTy → Type} [FloatOps F]

abbrev grid0 : Pipeline.Grid := ⟨1, ![2], ![false]⟩

@[reducible] def k0_t1_loop : Scf.Loop 32 :=
  let c0_i32_481 : BitVec 32 := 0#32
  let c16_i32 : BitVec 32 := 16#32
  let v980 : BitVec 32 := Scalar.addi c0_i32_481 c16_i32
  let c1_i32 : BitVec 32 := 1#32
  ⟨c0_i32_481, v980, c1_i32⟩
def k0_mult1 (k0_t1 : Fin k0_t1_loop.trips) : BitVec 32 :=
  let c0_i32_481 : BitVec 32 := 0#32
  let c1_i32 : BitVec 32 := 1#32
  let arg13 : BitVec 32 := Scf.iv c0_i32_481 c1_i32 k0_t1
  let c8_i32 : BitVec 32 := 8#32
  let v983 : BitVec 32 := Scalar.muli arg13 c8_i32
  v983
def k0_off1 (k0_t1 : Fin k0_t1_loop.trips) : Fin 2 → Nat :=
  let c0_i32_481 : BitVec 32 := 0#32
  let c1_i32 : BitVec 32 := 1#32
  let arg13 : BitVec 32 := Scf.iv c0_i32_481 c1_i32 k0_t1
  let c8_i32 : BitVec 32 := 8#32
  let v983 : BitVec 32 := Scalar.muli arg13 c8_i32
  let v984 : BitVec 32 := v983
  let v985 : Index := Scalar.indexCast v984
  let c0_487 : Index := 0#32
  ![v985.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := ⟨1, ![2], ![false]⟩

@[reducible] def k1_t1_loop : Scf.Loop 32 :=
  let c0_i32_563 : BitVec 32 := 0#32
  let c16_i32 : BitVec 32 := 16#32
  let v1013 : BitVec 32 := Scalar.addi c0_i32_563 c16_i32
  let c1_i32 : BitVec 32 := 1#32
  ⟨c0_i32_563, v1013, c1_i32⟩
def k1_mult1 (k1_t1 : Fin k1_t1_loop.trips) : BitVec 32 :=
  let c15_i32 : BitVec 32 := 15#32
  let c0_i32_563 : BitVec 32 := 0#32
  let c1_i32 : BitVec 32 := 1#32
  let arg25 : BitVec 32 := Scf.iv c0_i32_563 c1_i32 k1_t1
  let v2800 : BitVec 32 := Scalar.subi c15_i32 arg25
  let c8_i32 : BitVec 32 := 8#32
  let v2801 : BitVec 32 := Scalar.muli v2800 c8_i32
  v2801
def k1_off1 (k1_t1 : Fin k1_t1_loop.trips) : Fin 2 → Nat :=
  let c15_i32 : BitVec 32 := 15#32
  let c0_i32_563 : BitVec 32 := 0#32
  let c1_i32 : BitVec 32 := 1#32
  let arg25 : BitVec 32 := Scf.iv c0_i32_563 c1_i32 k1_t1
  let v2800 : BitVec 32 := Scalar.subi c15_i32 arg25
  let c8_i32 : BitVec 32 := 8#32
  let v2801 : BitVec 32 := Scalar.muli v2800 c8_i32
  let v2802 : BitVec 32 := v2801
  let v2803 : Index := Scalar.indexCast v2802
  let c0_1630 : Index := 0#32
  ![v2803.toNat, 0]
def cc1_transform_0 (i : grid1.Coords) : Fin 2 → Nat :=
  let arg0 : BitVec 32 := BitVec.ofNat 32 (i 0).val
  let c1_i32 : BitVec 32 := 1#32
  let v0 : BitVec 32 := Scalar.subi c1_i32 arg0
  let c0_i32 : BitVec 32 := 0#32
  let c0_i32_0 : BitVec 32 := 0#32
  ![v0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c1_i32 : BitVec 32 := 1#32
  let v0 : BitVec 32 := Scalar.subi c1_i32 arg0
  let c0_i32 : BitVec 32 := 0#32
  let c0_i32_0 : BitVec 32 := 0#32
  ![v0.toNat, c0_i32.toNat]

def cc1_transform_8 (i : grid1.Coords) : Fin 2 → Nat :=
  let arg0 : BitVec 32 := BitVec.ofNat 32 (i 0).val
  let c1_i32 : BitVec 32 := 1#32
  let v0 : BitVec 32 := Scalar.subi c1_i32 arg0
  let c16_i32 : BitVec 32 := 16#32
  let v1 : BitVec 32 := Scalar.muli v0 c16_i32
  let c1_i32_0 : BitVec 32 := 1#32
  let v2 : BitVec 32 := Scalar.subi v1 c1_i32_0
  let c0_i32 : BitVec 32 := 0#32
  let v3 : BitVec 32 := Scalar.maxsi v2 c0_i32
  let c0_i32_1 : BitVec 32 := 0#32
  let c0_i32_2 : BitVec 32 := 0#32
  ![v3.toNat, c0_i32_1.toNat]

def cc1_transform_9 (i : grid1.Coords) : Fin 2 → Nat :=
  let arg0 : BitVec 32 := BitVec.ofNat 32 (i 0).val
  let c1_i32 : BitVec 32 := 1#32
  let v0 : BitVec 32 := Scalar.subi c1_i32 arg0
  let c0_i32 : BitVec 32 := 0#32
  let c0_i32_0 : BitVec 32 := 0#32
  ![v0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c1_i32 : BitVec 32 := 1#32
  let v0 : BitVec 32 := Scalar.subi c1_i32 arg0
  let c0_i32 : BitVec 32 := 0#32
  let c0_i32_0 : BitVec 32 := 0#32
  ![v0.toNat, c0_i32.toNat]

def cc1_transform_12 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_13 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_16 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_17 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S128x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S16x128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x2048 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x2048 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x2048 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x2048 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S128x2048 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S8x2048 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S128x2048 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 1 → Memref sig .tc .vmem S1x2048 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S128x2048 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 1 → Memref sig .tc .vmem S16x128x128 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S16x128x128 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S1x2048 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 1 → Memref sig .tc .vmem S1x2048 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false]

abbrev stage1_16 : Fin 1 → Memref sig .tc .vmem S1x2048 .f32 := fun | 0 => Memref.whole cc1_stg16_0 | ⟨_ + 1, h⟩ => absurd h (Nat.not_lt.2 (Nat.le_add_left _ _))
abbrev sem1_16 : Fin 1 → DmaSem sig := fun | 0 => cc1_sem16_0 | ⟨_ + 1, h⟩ => absurd h (Nat.not_lt.2 (Nat.le_add_left _ _))
abbrev reads1_16 : Fin grid1.rank → Bool := ![false]

abbrev stage1_17 : Fin 1 → Memref sig .tc .vmem S1x2048 .f32 := fun | 0 => Memref.whole cc1_stg17_0 | ⟨_ + 1, h⟩ => absurd h (Nat.not_lt.2 (Nat.le_add_left _ _))
abbrev sem1_17 : Fin 1 → DmaSem sig := fun | 0 => cc1_sem17_0 | ⟨_ + 1, h⟩ => absurd h (Nat.not_lt.2 (Nat.le_add_left _ _))
abbrev reads1_17 : Fin grid1.rank → Bool := ![false]
-- ==== Kernel2.lean ====
abbrev S8192x5632 : Shape := ⟨2, ![8192, 5632]⟩
abbrev S8192x2048 : Shape := ⟨2, ![8192, 2048]⟩
abbrev S5632x2048 : Shape := ⟨2, ![5632, 2048]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .bf16⟩
  | .hbm, ⟨2, _⟩ => ⟨S5632x2048, .f32⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 4], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c1_i32 : BitVec 32 := 1#32
  let v3 : BitVec 1 := Scalar.cmpi .sge arg2 c1_i32
  let c4_i32 : BitVec 32 := 4#32
  let v4 : BitVec 1 := Scalar.cmpi .slt arg2 c4_i32
  let v5 : BitVec 1 := Scalar.andi v3 v4
  let v6 : BitVec 32 := Scalar.extui v5
  let c0_i32_1 : BitVec 32 := 0#32
  let v7 : BitVec 1 := Scalar.cmpi .ne v6 c0_i32_1
  v7

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  ![v2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  ![v2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S8192x5632 : Shape := ⟨2, ![8192, 5632]⟩
abbrev S8192x2048 : Shape := ⟨2, ![8192, 2048]⟩
abbrev S5632x8192 : Shape := ⟨2, ![5632, 8192]⟩
abbrev S5632x2048 : Shape := ⟨2, ![5632, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .bf16⟩
  | .hbm, ⟨2, _⟩ => ⟨S5632x8192, .bf16⟩
  | .hbm, ⟨3, _⟩ => ⟨S5632x8192, .f32⟩
  | .hbm, ⟨4, _⟩ => ⟨S8192x2048, .f32⟩
  | .hbm, ⟨5, _⟩ => ⟨S5632x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel3.lean ====
abbrev S8192x2048 : Shape := ⟨2, ![8192, 2048]⟩
abbrev S5632x2048 : Shape := ⟨2, ![5632, 2048]⟩
abbrev S8192x5632 : Shape := ⟨2, ![8192, 5632]⟩
abbrev S1024x2048 : Shape := ⟨2, ![1024, 2048]⟩
abbrev S1408x2048 : Shape := ⟨2, ![1408, 2048]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S5632x2048, .bf16⟩
  | .hbm, ⟨2, _⟩ => ⟨S8192x5632, .bf16⟩
  | .local _ .vmem, ⟨0, _⟩ => ⟨S1024x2048, .bf16⟩
  | .local _ .vmem, ⟨1, _⟩ => ⟨S1024x2048, .bf16⟩
  | .local _ .vmem, ⟨2, _⟩ => ⟨S1408x2048, .bf16⟩
  | .local _ .vmem, ⟨3, _⟩ => ⟨S1408x2048, .bf16⟩
  | .local _ .vmem, ⟨4, _⟩ => ⟨S1024x1408, .bf16⟩
  | .local _ .vmem, ⟨5, _⟩ => ⟨S1024x1408, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x2048 : Shape := ⟨2, ![8192, 2048]⟩
abbrev S5632x2048 : Shape := ⟨2, ![5632, 2048]⟩
abbrev S2048x5632 : Shape := ⟨2, ![2048, 5632]⟩
abbrev S8192x5632 : Shape := ⟨2, ![8192, 5632]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S5632x2048, .bf16⟩
  | .hbm, ⟨2, _⟩ => ⟨S2048x5632, .bf16⟩
  | .hbm, ⟨3, _⟩ => ⟨S8192x2048, .f32⟩
  | .hbm, ⟨4, _⟩ => ⟨S2048x5632, .f32⟩
  | .hbm, ⟨5, _⟩ => ⟨S8192x5632, .f32⟩
  | .hbm, ⟨6, _⟩ => ⟨S8192x5632, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel4.lean ====
abbrev S8192x2048 : Shape := ⟨2, ![8192, 2048]⟩
abbrev S8192x5632 : Shape := ⟨2, ![8192, 5632]⟩
abbrev S8x2048x1408 : Shape := ⟨3, ![8, 2048, 1408]⟩
abbrev S2048x1024 : Shape := ⟨2, ![2048, 1024]⟩
abbrev S2048x1408 : Shape := ⟨2, ![2048, 1408]⟩
abbrev S1x1024x1408 : Shape := ⟨3, ![1, 1024, 1408]⟩
abbrev S1024x1408 : Shape := ⟨2, ![1024, 1408]⟩
abbrev S4x2048x1408 : Shape := ⟨3, ![4, 2048, 1408]⟩

abbrev nBuf : Space → Nat
  | .hbm => 4
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S8192x5632, .bf16⟩
  | .hbm, ⟨2, _⟩ => ⟨S8x2048x1408, .f32⟩
  | .hbm, ⟨3, _⟩ => ⟨S4x2048x1408, .f32⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1x1024x1408, .f32⟩
  | .local _ .vmem, ⟨5, _⟩ => ⟨S1x1024x1408, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 4], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c1_i32 : BitVec 32 := 1#32
  let v3 : BitVec 1 := Scalar.cmpi .sge arg2 c1_i32
  let c4_i32 : BitVec 32 := 4#32
  let v4 : BitVec 1 := Scalar.cmpi .slt arg2 c4_i32
  let v5 : BitVec 1 := Scalar.andi v3 v4
  let v6 : BitVec 32 := Scalar.extui v5
  let c0_i32_1 : BitVec 32 := 0#32
  let v7 : BitVec 1 := Scalar.cmpi .ne v6 c0_i32_1
  v7

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  ![v2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  ![v2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let c0_i32_1 : BitVec 32 := 0#32
  ![v0.toNat, arg0.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x2048 : Shape := ⟨2, ![8192, 2048]⟩
abbrev S8192x5632 : Shape := ⟨2, ![8192, 5632]⟩
abbrev S2048x8192 : Shape := ⟨2, ![2048, 8192]⟩
abbrev S2048x5632 : Shape := ⟨2, ![2048, 5632]⟩
abbrev S2048x4x1408 : Shape := ⟨3, ![2048, 4, 1408]⟩
abbrev S4x2048x1408 : Shape := ⟨3, ![4, 2048, 1408]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x5632, .bf16⟩
  | .hbm, ⟨2, _⟩ => ⟨S2048x8192, .bf16⟩
  | .hbm, ⟨3, _⟩ => ⟨S2048x8192, .f32⟩
  | .hbm, ⟨4, _⟩ => ⟨S8192x5632, .f32⟩
  | .hbm, ⟨5, _⟩ => ⟨S2048x5632, .f32⟩
  | .hbm, ⟨6, _⟩ => ⟨S2048x4x1408, .f32⟩
  | .hbm, ⟨7, _⟩ => ⟨S4x2048x1408, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel5.lean ====
abbrev S8192x2048 : Shape := ⟨2, ![8192, 2048]⟩
abbrev S8192x5632 : Shape := ⟨2, ![8192, 5632]⟩
abbrev S8x2048x1408 : Shape := ⟨3, ![8, 2048, 1408]⟩
abbrev S2048x1024 : Shape := ⟨2, ![2048, 1024]⟩
abbrev S2048x1408 : Shape := ⟨2, ![2048, 1408]⟩
abbrev S1x1024x1408 : Shape := ⟨3, ![1, 1024, 1408]⟩
abbrev S1024x1408 : Shape := ⟨2, ![1024, 1408]⟩

abbrev nBuf : Space → Nat
  | .hbm => 4
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S8192x5632, .bf16⟩
  | .hbm, ⟨2, _⟩ => ⟨S8x2048x1408, .f32⟩
  | .hbm, ⟨3, _⟩ => ⟨S8x2048x1408, .f32⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1x1024x1408, .f32⟩
  | .local _ .vmem, ⟨5, _⟩ => ⟨S1x1024x1408, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 4], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c1_i32 : BitVec 32 := 1#32
  let v3 : BitVec 1 := Scalar.cmpi .sge arg2 c1_i32
  let c4_i32 : BitVec 32 := 4#32
  let v4 : BitVec 1 := Scalar.cmpi .slt arg2 c4_i32
  let v5 : BitVec 1 := Scalar.andi v3 v4
  let v6 : BitVec 32 := Scalar.extui v5
  let c0_i32_1 : BitVec 32 := 0#32
  let v7 : BitVec 1 := Scalar.cmpi .ne v6 c0_i32_1
  v7

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  ![v2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  ![v2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi arg1 c4_i32
  let c0_i32 : BitVec 32 := 0#32
  let c0_i32_0 : BitVec 32 := 0#32
  ![v0.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8192x2048 : Shape := ⟨2, ![8192, 2048]⟩
abbrev S8192x5632 : Shape := ⟨2, ![8192, 5632]⟩
abbrev S8x2048x1408 : Shape := ⟨3, ![8, 2048, 1408]⟩
abbrev S4x2048x1408 : Shape := ⟨3, ![4, 2048, 1408]⟩
abbrev S2048x8192 : Shape := ⟨2, ![2048, 8192]⟩
abbrev S2048x5632 : Shape := ⟨2, ![2048, 5632]⟩
abbrev S2048x4x1408 : Shape := ⟨3, ![2048, 4, 1408]⟩

abbrev nBuf : Space → Nat
  | .hbm => 11
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x5632, .bf16⟩
  | .hbm, ⟨2, _⟩ => ⟨S8x2048x1408, .f32⟩
  | .hbm, ⟨3, _⟩ => ⟨S4x2048x1408, .f32⟩
  | .hbm, ⟨4, _⟩ => ⟨S2048x8192, .bf16⟩
  | .hbm, ⟨5, _⟩ => ⟨S2048x8192, .f32⟩
  | .hbm, ⟨6, _⟩ => ⟨S8192x5632, .f32⟩
  | .hbm, ⟨7, _⟩ => ⟨S2048x5632, .f32⟩
  | .hbm, ⟨8, _⟩ => ⟨S2048x4x1408, .f32⟩
  | .hbm, ⟨9, _⟩ => ⟨S4x2048x1408, .f32⟩
  | .hbm, ⟨10, _⟩ => ⟨S8x2048x1408, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel6.lean ====
abbrev S8192x5632 : Shape := ⟨2, ![8192, 5632]⟩
abbrev S2048x5632 : Shape := ⟨2, ![2048, 5632]⟩
abbrev S8192x2048 : Shape := ⟨2, ![8192, 2048]⟩
abbrev S1024x2816 : Shape := ⟨2, ![1024, 2816]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x5632, .bf16⟩
  | .hbm, ⟨1, _⟩ => ⟨S2048x5632, .bf16⟩
  | .hbm, ⟨2, _⟩ => ⟨S8192x2048, .f32⟩
  | .local _ .vmem, ⟨0, _⟩ => ⟨S1024x2816, .bf16⟩
  | .local _ .vmem, ⟨1, _⟩ => ⟨S1024x2816, .bf16⟩
  | .local _ .vmem, ⟨2, _⟩ => ⟨S1024x2816, .bf16⟩
  | .local _ .vmem, ⟨3, _⟩ => ⟨S1024x2816, .bf16⟩
  | .local _ .vmem, ⟨4, _⟩ => ⟨S1024x1024, .f32⟩
  | .local _ .vmem, ⟨5, _⟩ => ⟨S1024x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c1_i32 : BitVec 32 := 1#32
  let v3 : BitVec 1 := Scalar.cmpi .sge arg2 c1_i32
  let c2_i32 : BitVec 32 := 2#32
  let v4 : BitVec 1 := Scalar.cmpi .slt arg2 c2_i32
  let v5 : BitVec 1 := Scalar.andi v3 v4
  let v6 : BitVec 32 := Scalar.extui v5
  let c0_i32_1 : BitVec 32 := 0#32
  let v7 : BitVec 1 := Scalar.cmpi .ne v6 c0_i32_1
  v7

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![arg1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8192x5632 : Shape := ⟨2, ![8192, 5632]⟩
abbrev S2048x5632 : Shape := ⟨2, ![2048, 5632]⟩
abbrev S5632x2048 : Shape := ⟨2, ![5632, 2048]⟩
abbrev S8192x2048 : Shape := ⟨2, ![8192, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S2048x5632, .bf16⟩
  | .hbm, ⟨2, _⟩ => ⟨S5632x2048, .bf16⟩
  | .hbm, ⟨3, _⟩ => ⟨S8192x5632, .f32⟩
  | .hbm, ⟨4, _⟩ => ⟨S5632x2048, .f32⟩
  | .hbm, ⟨5, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel7.lean ====
abbrev S8192x5632 : Shape := ⟨2, ![8192, 5632]⟩
abbrev S2048x5632 : Shape := ⟨2, ![2048, 5632]⟩
abbrev S8192x2048 : Shape := ⟨2, ![8192, 2048]⟩
abbrev S1024x2816 : Shape := ⟨2, ![1024, 2816]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x5632, .bf16⟩
  | .hbm, ⟨1, _⟩ => ⟨S2048x5632, .bf16⟩
  | .hbm, ⟨2, _⟩ => ⟨S8192x2048, .f32⟩
  | .hbm, ⟨3, _⟩ => ⟨S8192x2048, .f32⟩
  | .local _ .vmem, ⟨0, _⟩ => ⟨S1024x2816, .bf16⟩
  | .local _ .vmem, ⟨1, _⟩ => ⟨S1024x2816, .bf16⟩
  | .local _ .vmem, ⟨2, _⟩ => ⟨S1024x2816, .bf16⟩
  | .local _ .vmem, ⟨3, _⟩ => ⟨S1024x2816, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 2], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c1_i32 : BitVec 32 := 1#32
  let v3 : BitVec 1 := Scalar.cmpi .sge arg2 c1_i32
  let c2_i32 : BitVec 32 := 2#32
  let v4 : BitVec 1 := Scalar.cmpi .slt arg2 c2_i32
  let v5 : BitVec 1 := Scalar.andi v3 v4
  let v6 : BitVec 32 := Scalar.extui v5
  let c0_i32_1 : BitVec 32 := 0#32
  let v7 : BitVec 1 := Scalar.cmpi .ne v6 c0_i32_1
  v7

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![arg1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference7Ideal.lean ====
abbrev S8192x5632 : Shape := ⟨2, ![8192, 5632]⟩
abbrev S2048x5632 : Shape := ⟨2, ![2048, 5632]⟩
abbrev S8192x2048 : Shape := ⟨2, ![8192, 2048]⟩
abbrev S5632x2048 : Shape := ⟨2, ![5632, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S2048x5632, .bf16⟩
  | .hbm, ⟨2, _⟩ => ⟨S8192x2048, .f32⟩
  | .hbm, ⟨3, _⟩ => ⟨S5632x2048, .bf16⟩
  | .hbm, ⟨4, _⟩ => ⟨S8192x5632, .f32⟩
  | .hbm, ⟨5, _⟩ => ⟨S5632x2048, .f32⟩
  | .hbm, ⟨6, _⟩ => ⟨S8192x2048, .f32⟩
  | .hbm, ⟨7, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel8.lean ====
abbrev S8192x2048 : Shape := ⟨2, ![8192, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2048x2048, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c1_i32 : BitVec 32 := 1#32
  let v3 : BitVec 1 := Scalar.cmpi .sge arg2 c1_i32
  let c4_i32 : BitVec 32 := 4#32
  let v4 : BitVec 1 := Scalar.cmpi .slt arg2 c4_i32
  let v5 : BitVec 1 := Scalar.andi v3 v4
  let v6 : BitVec 32 := Scalar.extui v5
  let c0_i32_1 : BitVec 32 := 0#32
  let v7 : BitVec 1 := Scalar.cmpi .ne v6 c0_i32_1
  v7

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  ![v2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  ![v2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S8192x2048 : Shape := ⟨2, ![8192, 2048]⟩
abbrev S2048x8192 : Shape := ⟨2, ![2048, 8192]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2048x8192, .bf16⟩
  | .hbm, ⟨3, _⟩ => ⟨S2048x8192, .f32⟩
  | .hbm, ⟨4, _⟩ => ⟨S8192x2048, .f32⟩
  | .hbm, ⟨5, _⟩ => ⟨S2048x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel9.lean ====
abbrev S8192x2048 : Shape := ⟨2, ![8192, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S8192x2048 : Shape := ⟨2, ![8192, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S2048x2048, .bf16⟩
  | .hbm, ⟨3, _⟩ => ⟨S8192x2048, .f32⟩
  | .hbm, ⟨4, _⟩ => ⟨S2048x2048, .f32⟩
  | .hbm, ⟨5, _⟩ => ⟨S8192x2048, .f32⟩
  | .hbm, ⟨6, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel10.lean ====
abbrev S8192x5632 : Shape := ⟨2, ![8192, 5632]⟩
abbrev S128x5632 : Shape := ⟨2, ![128, 5632]⟩

abbrev nBuf : Space → Nat
  | .hbm => 5
  | .vmem => 10
  | .smem => 0
  | _ => 0

abbrev bufTy : (tb : Table) → Fin (tcTables nBuf tb) → BufTy
  | .hbm, ⟨0, _⟩ => ⟨S8192x5632, .bf16⟩
  | .hbm, ⟨1, _⟩ => ⟨S8192x5632, .bf16⟩
  | .hbm, ⟨2, _⟩ => ⟨S8192x5632, .bf16⟩
  | .hbm, ⟨3, _⟩ => ⟨S8192x5632, .bf16⟩
  | .hbm, ⟨4, _⟩ => ⟨S8192x5632, .bf16⟩
  | .local _ .vmem, ⟨0, _⟩ => ⟨S128x5632, .bf16⟩
  | .local _ .vmem, ⟨1, _⟩ => ⟨S128x5632, .bf16⟩
  | .local _ .vmem, ⟨2, _⟩ => ⟨S128x5632, .bf16⟩
  | .local _ .vmem, ⟨3, _⟩ => ⟨S128x5632, .bf16⟩
  | .local _ .vmem, ⟨4, _⟩ => ⟨S128x5632, .bf16⟩
  | .local _ .vmem, ⟨5, _⟩ => ⟨S128x5632, .bf16⟩
  | .local _ .vmem, ⟨6, _⟩ => ⟨S128x5632, .bf16⟩
  | .local _ .vmem, ⟨7, _⟩ => ⟨S128x5632, .bf16⟩
  | .local _ .vmem, ⟨8, _⟩ => ⟨S128x5632, .bf16⟩
  | .local _ .vmem, ⟨9, _⟩ => ⟨S128x5632, .bf16⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x5632 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference10Ideal.lean ====
abbrev S8192x5632 : Shape := ⟨2, ![8192, 5632]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x5632, .bf16⟩
  | .hbm, ⟨2, _⟩ => ⟨S8192x5632, .bf16⟩
  | .hbm, ⟨3, _⟩ => ⟨S8192x5632, .f32⟩
  | .hbm, ⟨4, _⟩ => ⟨S8192x5632, .f32⟩
  | .hbm, ⟨5, _⟩ => ⟨S8192x5632, .f32⟩
  | .hbm, ⟨6, _⟩ => ⟨S8192x5632, .f32⟩
  | .hbm, ⟨7, _⟩ => ⟨S8192x5632, .f32⟩
  | .hbm, ⟨8, _⟩ => ⟨S_, .f32⟩
  | .hbm, ⟨9, _⟩ => ⟨S8192x5632, .f32⟩
  | .hbm, ⟨10, _⟩ => ⟨S8192x5632, .f32⟩
  | .hbm, ⟨11, _⟩ => ⟨S_, .f32⟩
  | .hbm, ⟨12, _⟩ => ⟨S8192x5632, .f32⟩
  | .hbm, ⟨13, _⟩ => ⟨S8192x5632, .f32⟩
  | .hbm, ⟨14, _⟩ => ⟨S8192x5632, .f32⟩
  | .hbm, ⟨15, _⟩ => ⟨S8192x5632, .f32⟩
  | .hbm, ⟨16, _⟩ => ⟨S_, .f32⟩
  | .hbm, ⟨17, _⟩ => ⟨S8192x5632, .f32⟩
  | .hbm, ⟨18, _⟩ => ⟨S8192x5632, .f32⟩
  | .hbm, ⟨19, _⟩ => ⟨S8192x5632, .f32⟩
  | .hbm, ⟨20, _⟩ => ⟨S8192x5632, .f32⟩
  | .hbm, ⟨21, _⟩ => ⟨S8192x5632, .f32⟩
  | .hbm, ⟨22, _⟩ => ⟨S8192x5632, .bf16⟩
  | .hbm, ⟨23, _⟩ => ⟨S8192x5632, .f32⟩
  | .hbm, ⟨24, _⟩ => ⟨S8192x5632, .f32⟩
  | .hbm, ⟨25, _⟩ => ⟨S8192x5632, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== Kernel11.lean ====
abbrev S8192x2048 : Shape := ⟨2, ![8192, 2048]⟩
abbrev S256x2048 : Shape := ⟨2, ![256, 2048]⟩
abbrev S8192x3072 : Shape := ⟨2, ![8192, 3072]⟩
abbrev S256x3072 : Shape := ⟨2, ![256, 3072]⟩
abbrev S2048x3072 : Shape := ⟨2, ![2048, 3072]⟩
abbrev S2048x1024 : Shape := ⟨2, ![2048, 1024]⟩
abbrev S256x1024 : Shape := ⟨2, ![256, 1024]⟩
abbrev S1024x1024 : Shape := ⟨2, ![1024, 1024]⟩

abbrev nBuf : Space → Nat
  | .hbm => 5
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S256x2048, .bf16⟩
  | .hbm, ⟨2, _⟩ => ⟨S8192x3072, .f32⟩
  | .hbm, ⟨3, _⟩ => ⟨S256x3072, .f32⟩
  | .hbm, ⟨4, _⟩ => ⟨S2048x3072, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S256x1024, .bf16⟩
  | .local _ .vmem, ⟨5, _⟩ => ⟨S256x1024, .bf16⟩
  | .local _ .vmem, ⟨6, _⟩ => ⟨S256x1024, .f32⟩
  | .local _ .vmem, ⟨7, _⟩ => ⟨S256x1024, .f32⟩
  | .local _ .vmem, ⟨8, _⟩ => ⟨S1024x1024, .f32⟩
  | .local _ .vmem, ⟨9, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 3, 5], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c1_i32 : BitVec 32 := 1#32
  let v3 : BitVec 1 := Scalar.cmpi .sge arg2 c1_i32
  let c4_i32 : BitVec 32 := 4#32
  let v4 : BitVec 1 := Scalar.cmpi .slt arg2 c4_i32
  let v5 : BitVec 1 := Scalar.andi v3 v4
  let v6 : BitVec 32 := Scalar.extui v5
  let c0_i32_1 : BitVec 32 := 0#32
  let v7 : BitVec 1 := Scalar.cmpi .ne v6 c0_i32_1
  v7

def k0_cond3 (i : grid0.Coords) : BitVec 1 :=
  let arg2 : BitVec 32 := BitVec.ofNat 32 (i 2).val
  let c4_i32_2 : BitVec 32 := 4#32
  let v8 : BitVec 1 := Scalar.cmpi .sge arg2 c4_i32_2
  let c5_i32 : BitVec 32 := 5#32
  let v9 : BitVec 1 := Scalar.cmpi .slt arg2 c5_i32
  let v10 : BitVec 1 := Scalar.andi v8 v9
  let v11 : BitVec 32 := Scalar.extui v10
  let c0_i32_3 : BitVec 32 := 0#32
  let v12 : BitVec 1 := Scalar.cmpi .ne v11 c0_i32_3
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  ![v2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  ![v2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.subi arg2 c4_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![v2.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.subi arg2 c4_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![v2.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference11Ideal.lean ====
abbrev S8192x2048 : Shape := ⟨2, ![8192, 2048]⟩
abbrev S256x2048 : Shape := ⟨2, ![256, 2048]⟩
abbrev S8192x3072 : Shape := ⟨2, ![8192, 3072]⟩
abbrev S256x3072 : Shape := ⟨2, ![256, 3072]⟩
abbrev S2048x8192 : Shape := ⟨2, ![2048, 8192]⟩
abbrev S2048x3072 : Shape := ⟨2, ![2048, 3072]⟩
abbrev S2048x256 : Shape := ⟨2, ![2048, 256]⟩

abbrev nBuf : Space → Nat
  | .hbm => 11
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S256x2048, .bf16⟩
  | .hbm, ⟨2, _⟩ => ⟨S8192x3072, .f32⟩
  | .hbm, ⟨3, _⟩ => ⟨S256x3072, .f32⟩
  | .hbm, ⟨4, _⟩ => ⟨S2048x8192, .bf16⟩
  | .hbm, ⟨5, _⟩ => ⟨S2048x8192, .f32⟩
  | .hbm, ⟨6, _⟩ => ⟨S2048x3072, .f32⟩
  | .hbm, ⟨7, _⟩ => ⟨S2048x256, .bf16⟩
  | .hbm, ⟨8, _⟩ => ⟨S2048x256, .f32⟩
  | .hbm, ⟨9, _⟩ => ⟨S2048x3072, .f32⟩
  | .hbm, ⟨10, _⟩ => ⟨S2048x3072, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel12.lean ====
abbrev S8192x2048 : Shape := ⟨2, ![8192, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference12Ideal.lean ====
abbrev S8192x2048 : Shape := ⟨2, ![8192, 2048]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S2048x2048, .bf16⟩
  | .hbm, ⟨4, _⟩ => ⟨S8192x2048, .f32⟩
  | .hbm, ⟨5, _⟩ => ⟨S2048x2048, .f32⟩
  | .hbm, ⟨6, _⟩ => ⟨S8192x2048, .f32⟩
  | .hbm, ⟨7, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel13.lean ====
abbrev S8192x2048 : Shape := ⟨2, ![8192, 2048]⟩
abbrev S2048x5632 : Shape := ⟨2, ![2048, 5632]⟩
abbrev S8192x5632 : Shape := ⟨2, ![8192, 5632]⟩
abbrev S1024x2048 : Shape := ⟨2, ![1024, 2048]⟩
abbrev S2048x1408 : Shape := ⟨2, ![2048, 1408]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x5632, .bf16⟩
  | .hbm, ⟨2, _⟩ => ⟨S8192x5632, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1408, .bf16⟩
  | .local _ .vmem, ⟨3, _⟩ => ⟨S2048x1408, .bf16⟩
  | .local _ .vmem, ⟨4, _⟩ => ⟨S1024x1408, .bf16⟩
  | .local _ .vmem, ⟨5, _⟩ => ⟨S1024x1408, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![v2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S8192x2048 : Shape := ⟨2, ![8192, 2048]⟩
abbrev S2048x5632 : Shape := ⟨2, ![2048, 5632]⟩
abbrev S8192x5632 : Shape := ⟨2, ![8192, 5632]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x5632, .bf16⟩
  | .hbm, ⟨2, _⟩ => ⟨S8192x2048, .f32⟩
  | .hbm, ⟨3, _⟩ => ⟨S2048x5632, .f32⟩
  | .hbm, ⟨4, _⟩ => ⟨S8192x5632, .f32⟩
  | .hbm, ⟨5, _⟩ => ⟨S8192x5632, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel14.lean ====
abbrev S8192x2048 : Shape := ⟨2, ![8192, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![v2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S8192x2048 : Shape := ⟨2, ![8192, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S2048x2048, .f32⟩
  | .hbm, ⟨4, _⟩ => ⟨S8192x2048, .f32⟩
  | .hbm, ⟨5, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel15.lean ====
abbrev S8192x5632 : Shape := ⟨2, ![8192, 5632]⟩
abbrev S5632x2048 : Shape := ⟨2, ![5632, 2048]⟩
abbrev S8192x2048 : Shape := ⟨2, ![8192, 2048]⟩
abbrev S1024x2816 : Shape := ⟨2, ![1024, 2816]⟩
abbrev S2816x1024 : Shape := ⟨2, ![2816, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .f32⟩
  | .local _ .vmem, ⟨5, _⟩ => ⟨S1024x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c1_i32 : BitVec 32 := 1#32
  let v3 : BitVec 1 := Scalar.cmpi .sge arg2 c1_i32
  let c2_i32 : BitVec 32 := 2#32
  let v4 : BitVec 1 := Scalar.cmpi .slt arg2 c2_i32
  let v5 : BitVec 1 := Scalar.andi v3 v4
  let v6 : BitVec 32 := Scalar.extui v5
  let c0_i32_1 : BitVec 32 := 0#32
  let v7 : BitVec 1 := Scalar.cmpi .ne v6 c0_i32_1
  v7

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![v2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S8192x5632 : Shape := ⟨2, ![8192, 5632]⟩
abbrev S5632x2048 : Shape := ⟨2, ![5632, 2048]⟩
abbrev S8192x2048 : Shape := ⟨2, ![8192, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x5632, .f32⟩
  | .hbm, ⟨3, _⟩ => ⟨S5632x2048, .f32⟩
  | .hbm, ⟨4, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel16.lean ====
abbrev S8192x2048 : Shape := ⟨2, ![8192, 2048]⟩
abbrev S8x2048x512 : Shape := ⟨3, ![8, 2048, 512]⟩
abbrev S2048x1024 : Shape := ⟨2, ![2048, 1024]⟩
abbrev S2048x512 : Shape := ⟨2, ![2048, 512]⟩
abbrev S1x1024x512 : Shape := ⟨3, ![1, 1024, 512]⟩
abbrev S1024x512 : Shape := ⟨2, ![1024, 512]⟩
abbrev S4x2048x512 : Shape := ⟨3, ![4, 2048, 512]⟩

abbrev nBuf : Space → Nat
  | .hbm => 4
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8x2048x512, .f32⟩
  | .hbm, ⟨3, _⟩ => ⟨S4x2048x512, .f32⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1x1024x512, .f32⟩
  | .local _ .vmem, ⟨5, _⟩ => ⟨S1x1024x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 4], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c1_i32 : BitVec 32 := 1#32
  let v3 : BitVec 1 := Scalar.cmpi .sge arg2 c1_i32
  let c4_i32 : BitVec 32 := 4#32
  let v4 : BitVec 1 := Scalar.cmpi .slt arg2 c4_i32
  let v5 : BitVec 1 := Scalar.andi v3 v4
  let v6 : BitVec 32 := Scalar.extui v5
  let c0_i32_1 : BitVec 32 := 0#32
  let v7 : BitVec 1 := Scalar.cmpi .ne v6 c0_i32_1
  v7

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  ![v2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  ![v2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let c0_i32_1 : BitVec 32 := 0#32
  ![v0.toNat, arg0.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S8192x2048 : Shape := ⟨2, ![8192, 2048]⟩
abbrev S2048x8192 : Shape := ⟨2, ![2048, 8192]⟩
abbrev S2048x2048 : Shape := ⟨2, ![2048, 2048]⟩
abbrev S2048x4x512 : Shape := ⟨3, ![2048, 4, 512]⟩
abbrev S4x2048x512 : Shape := ⟨3, ![4, 2048, 512]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2048x8192, .bf16⟩
  | .hbm, ⟨3, _⟩ => ⟨S2048x8192, .f32⟩
  | .hbm, ⟨4, _⟩ => ⟨S8192x2048, .f32⟩
  | .hbm, ⟨5, _⟩ => ⟨S2048x2048, .f32⟩
  | .hbm, ⟨6, _⟩ => ⟨S2048x4x512, .f32⟩
  | .hbm, ⟨7, _⟩ => ⟨S4x2048x512, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel17.lean ====
abbrev S8192x2048 : Shape := ⟨2, ![8192, 2048]⟩
abbrev S8x2048x512 : Shape := ⟨3, ![8, 2048, 512]⟩
abbrev S2048x1024 : Shape := ⟨2, ![2048, 1024]⟩
abbrev S2048x512 : Shape := ⟨2, ![2048, 512]⟩
abbrev S1x1024x512 : Shape := ⟨3, ![1, 1024, 512]⟩
abbrev S1024x512 : Shape := ⟨2, ![1024, 512]⟩

abbrev nBuf : Space → Nat
  | .hbm => 4
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8x2048x512, .f32⟩
  | .hbm, ⟨3, _⟩ => ⟨S8x2048x512, .f32⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1x1024x512, .f32⟩
  | .local _ .vmem, ⟨5, _⟩ => ⟨S1x1024x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 4], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c1_i32 : BitVec 32 := 1#32
  let v3 : BitVec 1 := Scalar.cmpi .sge arg2 c1_i32
  let c4_i32 : BitVec 32 := 4#32
  let v4 : BitVec 1 := Scalar.cmpi .slt arg2 c4_i32
  let v5 : BitVec 1 := Scalar.andi v3 v4
  let v6 : BitVec 32 := Scalar.extui v5
  let c0_i32_1 : BitVec 32 := 0#32
  let v7 : BitVec 1 := Scalar.cmpi .ne v6 c0_i32_1
  v7

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  ![v2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  ![v2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi arg1 c4_i32
  let c0_i32 : BitVec 32 := 0#32
  let c0_i32_0 : BitVec 32 := 0#32
  ![v0.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S8192x2048 : Shape := ⟨2, ![8192, 2048]⟩
abbrev S8x2048x512 : Shape := ⟨3, ![8, 2048, 512]⟩
abbrev S4x2048x512 : Shape := ⟨3, ![4, 2048, 512]⟩
abbrev S2048x8192 : Shape := ⟨2, ![2048, 8192]⟩
abbrev S2048x2048 : Shape := ⟨2, ![2048, 2048]⟩
abbrev S2048x4x512 : Shape := ⟨3, ![2048, 4, 512]⟩

abbrev nBuf : Space → Nat
  | .hbm => 11
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8x2048x512, .f32⟩
  | .hbm, ⟨3, _⟩ => ⟨S4x2048x512, .f32⟩
  | .hbm, ⟨4, _⟩ => ⟨S2048x8192, .bf16⟩
  | .hbm, ⟨5, _⟩ => ⟨S2048x8192, .f32⟩
  | .hbm, ⟨6, _⟩ => ⟨S8192x2048, .f32⟩
  | .hbm, ⟨7, _⟩ => ⟨S2048x2048, .f32⟩
  | .hbm, ⟨8, _⟩ => ⟨S2048x4x512, .f32⟩
  | .hbm, ⟨9, _⟩ => ⟨S4x2048x512, .f32⟩
  | .hbm, ⟨10, _⟩ => ⟨S8x2048x512, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel18.lean ====
abbrev S8192x2048 : Shape := ⟨2, ![8192, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![v2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S8192x2048 : Shape := ⟨2, ![8192, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S2048x2048, .f32⟩
  | .hbm, ⟨4, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel19.lean ====
abbrev S8192x2048 : Shape := ⟨2, ![8192, 2048]⟩
abbrev S2048x3072 : Shape := ⟨2, ![2048, 3072]⟩
abbrev S8192x3072 : Shape := ⟨2, ![8192, 3072]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x3072, .bf16⟩
  | .hbm, ⟨2, _⟩ => ⟨S8192x3072, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![v2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference19Ideal.lean ====
abbrev S8192x2048 : Shape := ⟨2, ![8192, 2048]⟩
abbrev S2048x3072 : Shape := ⟨2, ![2048, 3072]⟩
abbrev S8192x3072 : Shape := ⟨2, ![8192, 3072]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x3072, .bf16⟩
  | .hbm, ⟨2, _⟩ => ⟨S8192x2048, .f32⟩
  | .hbm, ⟨3, _⟩ => ⟨S2048x3072, .f32⟩
  | .hbm, ⟨4, _⟩ => ⟨S8192x3072, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel20.lean ====
abbrev S8192x2048 : Shape := ⟨2, ![8192, 2048]⟩
abbrev S256x2048 : Shape := ⟨2, ![256, 2048]⟩
abbrev S2048x2048 : Shape := ⟨2, ![2048, 2048]⟩
abbrev S2048x1024 : Shape := ⟨2, ![2048, 1024]⟩
abbrev S256x1024 : Shape := ⟨2, ![256, 1024]⟩
abbrev S1024x1024 : Shape := ⟨2, ![1024, 1024]⟩

abbrev nBuf : Space → Nat
  | .hbm => 5
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S256x2048, .bf16⟩
  | .hbm, ⟨2, _⟩ => ⟨S8192x2048, .f32⟩
  | .hbm, ⟨3, _⟩ => ⟨S256x2048, .f32⟩
  | .hbm, ⟨4, _⟩ => ⟨S2048x2048, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S256x1024, .bf16⟩
  | .local _ .vmem, ⟨5, _⟩ => ⟨S256x1024, .bf16⟩
  | .local _ .vmem, ⟨6, _⟩ => ⟨S256x1024, .f32⟩
  | .local _ .vmem, ⟨7, _⟩ => ⟨S256x1024, .f32⟩
  | .local _ .vmem, ⟨8, _⟩ => ⟨S1024x1024, .f32⟩
  | .local _ .vmem, ⟨9, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 2, 5], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c1_i32 : BitVec 32 := 1#32
  let v3 : BitVec 1 := Scalar.cmpi .sge arg2 c1_i32
  let c4_i32 : BitVec 32 := 4#32
  let v4 : BitVec 1 := Scalar.cmpi .slt arg2 c4_i32
  let v5 : BitVec 1 := Scalar.andi v3 v4
  let v6 : BitVec 32 := Scalar.extui v5
  let c0_i32_1 : BitVec 32 := 0#32
  let v7 : BitVec 1 := Scalar.cmpi .ne v6 c0_i32_1
  v7

def k0_cond3 (i : grid0.Coords) : BitVec 1 :=
  let arg2 : BitVec 32 := BitVec.ofNat 32 (i 2).val
  let c4_i32_2 : BitVec 32 := 4#32
  let v8 : BitVec 1 := Scalar.cmpi .sge arg2 c4_i32_2
  let c5_i32 : BitVec 32 := 5#32
  let v9 : BitVec 1 := Scalar.cmpi .slt arg2 c5_i32
  let v10 : BitVec 1 := Scalar.andi v8 v9
  let v11 : BitVec 32 := Scalar.extui v10
  let c0_i32_3 : BitVec 32 := 0#32
  let v12 : BitVec 1 := Scalar.cmpi .ne v11 c0_i32_3
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  ![v2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  ![v2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.subi arg2 c4_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![v2.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.subi arg2 c4_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![v2.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference20Ideal.lean ====
abbrev S8192x2048 : Shape := ⟨2, ![8192, 2048]⟩
abbrev S256x2048 : Shape := ⟨2, ![256, 2048]⟩
abbrev S2048x8192 : Shape := ⟨2, ![2048, 8192]⟩
abbrev S2048x2048 : Shape := ⟨2, ![2048, 2048]⟩
abbrev S2048x256 : Shape := ⟨2, ![2048, 256]⟩

abbrev nBuf : Space → Nat
  | .hbm => 11
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S256x2048, .bf16⟩
  | .hbm, ⟨2, _⟩ => ⟨S8192x2048, .f32⟩
  | .hbm, ⟨3, _⟩ => ⟨S256x2048, .f32⟩
  | .hbm, ⟨4, _⟩ => ⟨S2048x8192, .bf16⟩
  | .hbm, ⟨5, _⟩ => ⟨S2048x8192, .f32⟩
  | .hbm, ⟨6, _⟩ => ⟨S2048x2048, .f32⟩
  | .hbm, ⟨7, _⟩ => ⟨S2048x256, .bf16⟩
  | .hbm, ⟨8, _⟩ => ⟨S2048x256, .f32⟩
  | .hbm, ⟨9, _⟩ => ⟨S2048x2048, .f32⟩
  | .hbm, ⟨10, _⟩ => ⟨S2048x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel21.lean ====
abbrev S8192x2048 : Shape := ⟨2, ![8192, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x2048, .bf16⟩
  | .hbm, ⟨2, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference21Ideal.lean ====
abbrev S8192x2048 : Shape := ⟨2, ![8192, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .bf16⟩
  | .hbm, ⟨2, _⟩ => ⟨S2048x2048, .bf16⟩
  | .hbm, ⟨3, _⟩ => ⟨S2048x2048, .f32⟩
  | .hbm, ⟨4, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel22.lean ====
abbrev S8192x2048 : Shape := ⟨2, ![8192, 2048]⟩
abbrev S2048x2048 : Shape := ⟨2, ![2048, 2048]⟩
abbrev S8192x3072 : Shape := ⟨2, ![8192, 3072]⟩
abbrev S2048x3072 : Shape := ⟨2, ![2048, 3072]⟩
abbrev S8192x128 : Shape := ⟨2, ![8192, 128]⟩
abbrev S2048x128 : Shape := ⟨2, ![2048, 128]⟩
abbrev S1024x1024 : Shape := ⟨2, ![1024, 1024]⟩
abbrev S1024x1536 : Shape := ⟨2, ![1024, 1536]⟩
abbrev S1024x128 : Shape := ⟨2, ![1024, 128]⟩

abbrev nBuf : Space → Nat
  | .hbm => 8
  | .vmem => 16
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x3072, .f32⟩
  | .hbm, ⟨3, _⟩ => ⟨S2048x3072, .bf16⟩
  | .hbm, ⟨4, _⟩ => ⟨S8192x128, .f32⟩
  | .hbm, ⟨5, _⟩ => ⟨S2048x128, .bf16⟩
  | .hbm, ⟨6, _⟩ => ⟨S8192x2048, .f32⟩
  | .hbm, ⟨7, _⟩ => ⟨S8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1536, .f32⟩
  | .local _ .vmem, ⟨5, _⟩ => ⟨S1024x1536, .f32⟩
  | .local _ .vmem, ⟨6, _⟩ => ⟨S1024x1536, .bf16⟩
  | .local _ .vmem, ⟨7, _⟩ => ⟨S1024x1536, .bf16⟩
  | .local _ .vmem, ⟨8, _⟩ => ⟨S1024x128, .f32⟩
  | .local _ .vmem, ⟨9, _⟩ => ⟨S1024x128, .f32⟩
  | .local _ .vmem, ⟨10, _⟩ => ⟨S1024x128, .bf16⟩
  | .local _ .vmem, ⟨11, _⟩ => ⟨S1024x128, .bf16⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | .local _ .vmem, ⟨15, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![8, 2, 5], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c1_i32 : BitVec 32 := 1#32
  let v3 : BitVec 1 := Scalar.cmpi .sge arg2 c1_i32
  let c2_i32 : BitVec 32 := 2#32
  let v4 : BitVec 1 := Scalar.cmpi .slt arg2 c2_i32
  let v5 : BitVec 1 := Scalar.andi v3 v4
  let v6 : BitVec 32 := Scalar.extui v5
  let c0_i32_1 : BitVec 32 := 0#32
  let v7 : BitVec 1 := Scalar.cmpi .ne v6 c0_i32_1
  v7

def k0_cond3 (i : grid0.Coords) : BitVec 1 :=
  let arg2 : BitVec 32 := BitVec.ofNat 32 (i 2).val
  let c2_i32_2 : BitVec 32 := 2#32
  let v8 : BitVec 1 := Scalar.cmpi .sge arg2 c2_i32_2
  let c4_i32 : BitVec 32 := 4#32
  let v9 : BitVec 1 := Scalar.cmpi .slt arg2 c4_i32
  let v10 : BitVec 1 := Scalar.andi v8 v9
  let v11 : BitVec 32 := Scalar.extui v10
  let c0_i32_3 : BitVec 32 := 0#32
  let v12 : BitVec 1 := Scalar.cmpi .ne v11 c0_i32_3
  v12

def k0_cond4 (i : grid0.Coords) : BitVec 1 :=
  let arg2 : BitVec 32 := BitVec.ofNat 32 (i 2).val
  let c4_i32_4 : BitVec 32 := 4#32
  let v13 : BitVec 1 := Scalar.cmpi .sge arg2 c4_i32_4
  let c5_i32 : BitVec 32 := 5#32
  let v14 : BitVec 1 := Scalar.cmpi .slt arg2 c5_i32
  let v15 : BitVec 1 := Scalar.andi v13 v14
  let v16 : BitVec 32 := Scalar.extui v15
  let c0_i32_5 : BitVec 32 := 0#32
  let v17 : BitVec 1 := Scalar.cmpi .ne v16 c0_i32_5
  v17

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![arg1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.subi arg2 c2_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.subi arg2 c2_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg1.toNat, v2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.subi arg2 c4_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.subi arg2 c4_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg1.toNat, v2.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1024x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== Reference22Ideal.lean ====
abbrev S8192x2048 : Shape := ⟨2, ![8192, 2048]⟩
abbrev S2048x2048 : Shape := ⟨2, ![2048, 2048]⟩
abbrev S8192x3072 : Shape := ⟨2, ![8192, 3072]⟩
abbrev S2048x3072 : Shape := ⟨2, ![2048, 3072]⟩
abbrev S8192x128 : Shape := ⟨2, ![8192, 128]⟩
abbrev S2048x128 : Shape := ⟨2, ![2048, 128]⟩
abbrev S3072x2048 : Shape := ⟨2, ![3072, 2048]⟩
abbrev S128x2048 : Shape := ⟨2, ![128, 2048]⟩

abbrev nBuf : Space → Nat
  | .hbm => 20
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x3072, .f32⟩
  | .hbm, ⟨3, _⟩ => ⟨S2048x3072, .bf16⟩
  | .hbm, ⟨4, _⟩ => ⟨S8192x128, .f32⟩
  | .hbm, ⟨5, _⟩ => ⟨S2048x128, .bf16⟩
  | .hbm, ⟨6, _⟩ => ⟨S8192x2048, .f32⟩
  | .hbm, ⟨7, _⟩ => ⟨S2048x2048, .bf16⟩
  | .hbm, ⟨8, _⟩ => ⟨S8192x2048, .f32⟩
  | .hbm, ⟨9, _⟩ => ⟨S2048x2048, .f32⟩
  | .hbm, ⟨10, _⟩ => ⟨S8192x2048, .f32⟩
  | .hbm, ⟨11, _⟩ => ⟨S8192x2048, .f32⟩
  | .hbm, ⟨12, _⟩ => ⟨S3072x2048, .bf16⟩
  | .hbm, ⟨13, _⟩ => ⟨S3072x2048, .f32⟩
  | .hbm, ⟨14, _⟩ => ⟨S8192x2048, .f32⟩
  | .hbm, ⟨15, _⟩ => ⟨S8192x2048, .f32⟩
  | .hbm, ⟨16, _⟩ => ⟨S128x2048, .bf16⟩
  | .hbm, ⟨17, _⟩ => ⟨S128x2048, .f32⟩
  | .hbm, ⟨18, _⟩ => ⟨S8192x2048, .f32⟩
  | .hbm, ⟨19, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩

abbrev nD : Nat := 1
abbrev τ : Topo := Topo.v7x

variable {F : FTy → Type} [FloatOps F]
-- ==== Kernel23.lean ====
abbrev S8192x5632 : Shape := ⟨2, ![8192, 5632]⟩
abbrev S256x5632 : Shape := ⟨2, ![256, 5632]⟩

abbrev nBuf : Space → Nat
  | .hbm => 3
  | .vmem => 6
  | .smem => 0
  | _ => 0

abbrev bufTy : (tb : Table) → Fin (tcTables nBuf tb) → BufTy
  | .hbm, ⟨0, _⟩ => ⟨S8192x5632, .bf16⟩
  | .hbm, ⟨1, _⟩ => ⟨S8192x5632, .bf16⟩
  | .hbm, ⟨2, _⟩ => ⟨S8192x5632, .bf16⟩
  | .local _ .vmem, ⟨0, _⟩ => ⟨S256x5632, .bf16⟩
  | .local _ .vmem, ⟨1, _⟩ => ⟨S256x5632, .bf16⟩
  | .local _ .vmem, ⟨2, _⟩ => ⟨S256x5632, .bf16⟩
  | .local _ .vmem, ⟨3, _⟩ => ⟨S256x5632, .bf16⟩
  | .local _ .vmem, ⟨4, _⟩ => ⟨S256x5632, .bf16⟩
  | .local _ .vmem, ⟨5, _⟩ => ⟨S256x5632, .bf16⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference23Ideal.lean ====
abbrev S8192x5632 : Shape := ⟨2, ![8192, 5632]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x5632, .bf16⟩
  | .hbm, ⟨2, _⟩ => ⟨S8192x5632, .f32⟩
  | .hbm, ⟨3, _⟩ => ⟨S8192x5632, .f32⟩
  | .hbm, ⟨4, _⟩ => ⟨S8192x5632, .f32⟩
  | .hbm, ⟨5, _⟩ => ⟨S_, .f32⟩
  | .hbm, ⟨6, _⟩ => ⟨S8192x5632, .f32⟩
  | .hbm, ⟨7, _⟩ => ⟨S8192x5632, .f32⟩
  | .hbm, ⟨8, _⟩ => ⟨S_, .f32⟩
  | .hbm, ⟨9, _⟩ => ⟨S8192x5632, .f32⟩
  | .hbm, ⟨10, _⟩ => ⟨S8192x5632, .f32⟩
  | .hbm, ⟨11, _⟩ => ⟨S8192x5632, .f32⟩
  | .hbm, ⟨12, _⟩ => ⟨S8192x5632, .f32⟩
  | .hbm, ⟨13, _⟩ => ⟨S8192x5632, .f32⟩
  | .hbm, ⟨14, _⟩ => ⟨S8192x5632, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Kernel24.lean ====
abbrev S8192x2048 : Shape := ⟨2, ![8192, 2048]⟩
abbrev S1x2048 : Shape := ⟨2, ![1, 2048]⟩
abbrev S512x2048 : Shape := ⟨2, ![512, 2048]⟩

abbrev nBuf : Space → Nat
  | .hbm => 7
  | .vmem => 12
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x2048, .bf16⟩
  | .hbm, ⟨3, _⟩ => ⟨S8192x2048, .bf16⟩
  | .hbm, ⟨4, _⟩ => ⟨S1x2048, .f32⟩
  | .hbm, ⟨5, _⟩ => ⟨S1x2048, .f32⟩
  | .hbm, ⟨6, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S512x2048, .bf16⟩
  | .local _ .vmem, ⟨8, _⟩ => ⟨S1x2048, .f32⟩
  | .local _ .vmem, ⟨9, _⟩ => ⟨S1x2048, .f32⟩
  | .local _ .vmem, ⟨10, _⟩ => ⟨S512x2048, .bf16⟩
  | .local _ .vmem, ⟨11, _⟩ => ⟨S512x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference24Ideal.lean ====
abbrev S8192x2048 : Shape := ⟨2, ![8192, 2048]⟩
abbrev S1x2048 : Shape := ⟨2, ![1, 2048]⟩
abbrev S_ : Shape := ⟨0, ![]⟩

abbrev nBuf : Space → Nat
  | .hbm => 34
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x2048, .bf16⟩
  | .hbm, ⟨3, _⟩ => ⟨S8192x2048, .bf16⟩
  | .hbm, ⟨4, _⟩ => ⟨S1x2048, .f32⟩
  | .hbm, ⟨5, _⟩ => ⟨S1x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S_, .f32⟩
  | .hbm, ⟨12, _⟩ => ⟨S8192x2048, .f32⟩
  | .hbm, ⟨13, _⟩ => ⟨S8192x2048, .f32⟩
  | .hbm, ⟨14, _⟩ => ⟨S_, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S_, .f32⟩
  | .hbm, ⟨25, _⟩ => ⟨S8192x2048, .f32⟩
  | .hbm, ⟨26, _⟩ => ⟨S8192x2048, .f32⟩
  | .hbm, ⟨27, _⟩ => ⟨S_, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]
-- ==== Kernel25.lean ====
abbrev S8192x2048 : Shape := ⟨2, ![8192, 2048]⟩
abbrev S1x2048 : Shape := ⟨2, ![1, 2048]⟩
abbrev S256x2048 : Shape := ⟨2, ![256, 2048]⟩
abbrev S2048 : Shape := ⟨1, ![2048]⟩

abbrev nBuf : Space → Nat
  | .hbm => 13
  | .vmem => 22
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x2048, .bf16⟩
  | .hbm, ⟨3, _⟩ => ⟨S8192x2048, .bf16⟩
  | .hbm, ⟨4, _⟩ => ⟨S8192x2048, .bf16⟩
  | .hbm, ⟨5, _⟩ => ⟨S1x2048, .f32⟩
  | .hbm, ⟨6, _⟩ => ⟨S1x2048, .f32⟩
  | .hbm, ⟨7, _⟩ => ⟨S8192x2048, .bf16⟩
  | .hbm, ⟨8, _⟩ => ⟨S8192x2048, .bf16⟩
  | .hbm, ⟨9, _⟩ => ⟨S8192x2048, .bf16⟩
  | .hbm, ⟨10, _⟩ => ⟨S8192x2048, .bf16⟩
  | .hbm, ⟨11, _⟩ => ⟨S1x2048, .f32⟩
  | .hbm, ⟨12, _⟩ => ⟨S1x2048, .f32⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .bf16⟩
  | .local _ .vmem, ⟨9, _⟩ => ⟨S256x2048, .bf16⟩
  | .local _ .vmem, ⟨10, _⟩ => ⟨S1x2048, .f32⟩
  | .local _ .vmem, ⟨11, _⟩ => ⟨S1x2048, .f32⟩
  | .local _ .vmem, ⟨12, _⟩ => ⟨S256x2048, .bf16⟩
  | .local _ .vmem, ⟨13, _⟩ => ⟨S256x2048, .bf16⟩
  | .local _ .vmem, ⟨14, _⟩ => ⟨S256x2048, .bf16⟩
  | .local _ .vmem, ⟨15, _⟩ => ⟨S256x2048, .bf16⟩
  | .local _ .vmem, ⟨16, _⟩ => ⟨S256x2048, .bf16⟩
  | .local _ .vmem, ⟨17, _⟩ => ⟨S256x2048, .bf16⟩
  | .local _ .vmem, ⟨18, _⟩ => ⟨S256x2048, .bf16⟩
  | .local _ .vmem, ⟨19, _⟩ => ⟨S256x2048, .bf16⟩
  | .local _ .vmem, ⟨20, _⟩ => ⟨S1x2048, .f32⟩
  | .local _ .vmem, ⟨21, _⟩ => ⟨S1x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg12_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem12_0 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Reference25Ideal.lean ====
abbrev S8192x2048 : Shape := ⟨2, ![8192, 2048]⟩
abbrev S1x2048 : Shape := ⟨2, ![1, 2048]⟩
abbrev S_ : Shape := ⟨0, ![]⟩
abbrev S2048 : Shape := ⟨1, ![2048]⟩

abbrev nBuf : Space → Nat
  | .hbm => 56
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x2048, .bf16⟩
  | .hbm, ⟨3, _⟩ => ⟨S8192x2048, .bf16⟩
  | .hbm, ⟨4, _⟩ => ⟨S8192x2048, .bf16⟩
  | .hbm, ⟨5, _⟩ => ⟨S1x2048, .f32⟩
  | .hbm, ⟨6, _⟩ => ⟨S1x2048, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S_, .f32⟩
  | .hbm, ⟨16, _⟩ => ⟨S8192x2048, .f32⟩
  | .hbm, ⟨17, _⟩ => ⟨S8192x2048, .f32⟩
  | .hbm, ⟨18, _⟩ => ⟨S_, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S8192x2048, .f32⟩
  | .hbm, ⟨28, _⟩ => ⟨S8192x2048, .f32⟩
  | .hbm, ⟨29, _⟩ => ⟨S_, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S_, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S8192x2048, .f32⟩
  | .hbm, ⟨38, _⟩ => ⟨S8192x2048, .f32⟩
  | .hbm, ⟨39, _⟩ => ⟨S_, .f32⟩
  | .hbm, ⟨40, _⟩ => ⟨S8192x2048, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S8192x2048, .f32⟩
  | .hbm, ⟨45, _⟩ => ⟨S8192x2048, .bf16⟩
  | .hbm, ⟨46, _⟩ => ⟨S8192x2048, .f32⟩
  | .hbm, ⟨47, _⟩ => ⟨S8192x2048, .bf16⟩
  | .hbm, ⟨48, _⟩ => ⟨S8192x2048, .bf16⟩
  | .hbm, ⟨49, _⟩ => ⟨S8192x2048, .bf16⟩
  | .hbm, ⟨50, _⟩ => ⟨S_, .f32⟩
  | .hbm, ⟨51, _⟩ => ⟨S2048, .f32⟩
  | .hbm, ⟨52, _⟩ => ⟨S1x2048, .f32⟩
  | .hbm, ⟨53, _⟩ => ⟨S_, .f32⟩
  | .hbm, ⟨54, _⟩ => ⟨S2048, .f32⟩
  | .hbm, ⟨55, _⟩ => ⟨S1x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_5 : Ref sig .tc := ⟨.hbm, 50, rfl⟩
abbrev main_v37 : Ref sig .tc := ⟨.hbm, 51, rfl⟩
abbrev main_v38 : Ref sig .tc := ⟨.hbm, 52, rfl⟩
abbrev main_cst_6 : Ref sig .tc := ⟨.hbm, 53, rfl⟩
abbrev main_v39 : Ref sig .tc := ⟨.hbm, 54, rfl⟩
abbrev main_v40 : Ref sig .tc := ⟨.hbm, 55, rfl⟩

abbrev nD : Nat := 1
abbrev τ : Topo := Topo.v7x

variable {F : FTy → Type} [FloatOps F]
-- ==== Kernel26.lean ====
abbrev S8192x2048 : Shape := ⟨2, ![8192, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 9
  | .vmem => 13
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S1x2048, .f32⟩
  | .hbm, ⟨4, _⟩ => ⟨S1x2048, .f32⟩
  | .hbm, ⟨5, _⟩ => ⟨S8192x2048, .f32⟩
  | .hbm, ⟨6, _⟩ => ⟨S1x2048, .f32⟩
  | .hbm, ⟨7, _⟩ => ⟨S1x2048, .f32⟩
  | .hbm, ⟨8, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S1x2048, .f32⟩
  | .local _ .vmem, ⟨8, _⟩ => ⟨S256x2048, .f32⟩
  | .local _ .vmem, ⟨9, _⟩ => ⟨S256x2048, .f32⟩
  | .local _ .vmem, ⟨10, _⟩ => ⟨S1x2048, .f32⟩
  | .local _ .vmem, ⟨11, _⟩ => ⟨S1x2048, .f32⟩
  | .local _ .vmem, ⟨12, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference26Ideal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048 : Shape := ⟨1, ![2048]⟩

abbrev nBuf : Space → Nat
  | .hbm => 56
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S1x2048, .f32⟩
  | .hbm, ⟨4, _⟩ => ⟨S1x2048, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x2048, .f32⟩
  | .hbm, ⟨17, _⟩ => ⟨S8192x2048, .f32⟩
  | .hbm, ⟨18, _⟩ => ⟨S_, .f32⟩
  | .hbm, ⟨19, _⟩ => ⟨S1x2048, .f32⟩
  | .hbm, ⟨20, _⟩ => ⟨S1x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S8192, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S8192x2048, .f32⟩
  | .hbm, ⟨38, _⟩ => ⟨S_, .f32⟩
  | .hbm, ⟨39, _⟩ => ⟨S2048, .f32⟩
  | .hbm, ⟨40, _⟩ => ⟨S1x2048, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S_, .f32⟩
  | .hbm, ⟨45, _⟩ => ⟨S2048, .f32⟩
  | .hbm, ⟨46, _⟩ => ⟨S1x2048, .f32⟩
  | .hbm, ⟨47, _⟩ => ⟨S_, .f32⟩
  | .hbm, ⟨48, _⟩ => ⟨S1x2048, .f32⟩
  | .hbm, ⟨49, _⟩ => ⟨S1x2048, .f32⟩
  | .hbm, ⟨50, _⟩ => ⟨S8192x2048, .f32⟩
  | .hbm, ⟨51, _⟩ => ⟨S8192x2048, .f32⟩
  | .hbm, ⟨52, _⟩ => ⟨S8192x2048, .f32⟩
  | .hbm, ⟨53, _⟩ => ⟨S_, .f32⟩
  | .hbm, ⟨54, _⟩ => ⟨S2048, .f32⟩
  | .hbm, ⟨55, _⟩ => ⟨S1x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_8 : Ref sig .tc := ⟨.hbm, 53, rfl⟩
abbrev main_v39 : Ref sig .tc := ⟨.hbm, 54, rfl⟩
abbrev main_v40 : Ref sig .tc := ⟨.hbm, 55, rfl⟩

abbrev nD : Nat := 1
abbrev τ : Topo := Topo.v7x

variable {F : FTy → Type} [FloatOps F]
-- ==== Kernel27.lean ====
abbrev S8192x2048 : Shape := ⟨2, ![8192, 2048]⟩
abbrev S1x2048 : Shape := ⟨2, ![1, 2048]⟩
abbrev S512x2048 : Shape := ⟨2, ![512, 2048]⟩
abbrev S2048 : Shape := ⟨1, ![2048]⟩

abbrev nBuf : Space → Nat
  | .hbm => 5
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S8192x2048, .bf16⟩
  | .hbm, ⟨4, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S512x2048, .bf16⟩
  | .local _ .vmem, ⟨6, _⟩ => ⟨S512x2048, .bf16⟩
  | .local _ .vmem, ⟨7, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference27Ideal.lean ====
abbrev S8192x2048 : Shape := ⟨2, ![8192, 2048]⟩
abbrev S1x2048 : Shape := ⟨2, ![1, 2048]⟩
abbrev S_ : Shape := ⟨0, ![]⟩
abbrev S2048 : Shape := ⟨1, ![2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S8192x2048, .f32⟩
  | .hbm, ⟨4, _⟩ => ⟨S8192x2048, .f32⟩
  | .hbm, ⟨5, _⟩ => ⟨S8192x2048, .bf16⟩
  | .hbm, ⟨6, _⟩ => ⟨S8192x2048, .f32⟩
  | .hbm, ⟨7, _⟩ => ⟨S_, .f32⟩
  | .hbm, ⟨8, _⟩ => ⟨S2048, .f32⟩
  | .hbm, ⟨9, _⟩ => ⟨S1x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel28.lean ====
abbrev S8192x2048 : Shape := ⟨2, ![8192, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 10
  | .vmem => 15
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S1x2048, .f32⟩
  | .hbm, ⟨4, _⟩ => ⟨S1x2048, .f32⟩
  | .hbm, ⟨5, _⟩ => ⟨S8192x2048, .f32⟩
  | .hbm, ⟨6, _⟩ => ⟨S8192x2048, .bf16⟩
  | .hbm, ⟨7, _⟩ => ⟨S1x2048, .f32⟩
  | .hbm, ⟨8, _⟩ => ⟨S1x2048, .f32⟩
  | .hbm, ⟨9, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S1x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .bf16⟩
  | .local _ .vmem, ⟨11, _⟩ => ⟨S256x2048, .bf16⟩
  | .local _ .vmem, ⟨12, _⟩ => ⟨S1x2048, .f32⟩
  | .local _ .vmem, ⟨13, _⟩ => ⟨S1x2048, .f32⟩
  | .local _ .vmem, ⟨14, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference28Ideal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048 : Shape := ⟨1, ![2048]⟩

abbrev nBuf : Space → Nat
  | .hbm => 56
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S1x2048, .f32⟩
  | .hbm, ⟨4, _⟩ => ⟨S1x2048, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S_, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S_, .f32⟩
  | .hbm, ⟨31, _⟩ => ⟨S8192, .f32⟩
  | .hbm, ⟨32, _⟩ => ⟨S8192x1, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S8192x2048, .f32⟩
  | .hbm, ⟨37, _⟩ => ⟨S8192x2048, .f32⟩
  | .hbm, ⟨38, _⟩ => ⟨S8192x2048, .f32⟩
  | .hbm, ⟨39, _⟩ => ⟨S8192x2048, .f32⟩
  | .hbm, ⟨40, _⟩ => ⟨S8192x2048, .f32⟩
  | .hbm, ⟨41, _⟩ => ⟨S8192x2048, .f32⟩
  | .hbm, ⟨42, _⟩ => ⟨S8192x2048, .f32⟩
  | .hbm, ⟨43, _⟩ => ⟨S8192x2048, .bf16⟩
  | .hbm, ⟨44, _⟩ => ⟨S8192x2048, .f32⟩
  | .hbm, ⟨45, _⟩ => ⟨S_, .f32⟩
  | .hbm, ⟨46, _⟩ => ⟨S2048, .f32⟩
  | .hbm, ⟨47, _⟩ => ⟨S1x2048, .f32⟩
  | .hbm, ⟨48, _⟩ => ⟨S8192x2048, .f32⟩
  | .hbm, ⟨49, _⟩ => ⟨S_, .f32⟩
  | .hbm, ⟨50, _⟩ => ⟨S2048, .f32⟩
  | .hbm, ⟨51, _⟩ => ⟨S1x2048, .f32⟩
  | .hbm, ⟨52, _⟩ => ⟨S8192x2048, .f32⟩
  | .hbm, ⟨53, _⟩ => ⟨S_, .f32⟩
  | .hbm, ⟨54, _⟩ => ⟨S2048, .f32⟩
  | .hbm, ⟨55, _⟩ => ⟨S1x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_5 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_6 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_7 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== Kernel29.lean ====
abbrev S8192x2048 : Shape := ⟨2, ![8192, 2048]⟩
abbrev S1x2048 : Shape := ⟨2, ![1, 2048]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S8192x2048, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S1024x2048, .bf16⟩
  | .local _ .vmem, ⟨6, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference29Ideal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩

abbrev nBuf : Space → Nat
  | .hbm => 27
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S_, .f32⟩
  | .hbm, ⟨20, _⟩ => ⟨S1x2048, .f32⟩
  | .hbm, ⟨21, _⟩ => ⟨S1x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Kernel30.lean ====
abbrev S8192x2048 : Shape := ⟨2, ![8192, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 8
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S8192x2048, .f32⟩
  | .hbm, ⟨7, _⟩ => ⟨S8192x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .bf16⟩
  | .local _ .vmem, ⟨11, _⟩ => ⟨S256x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference30Ideal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩

abbrev nBuf : Space → Nat
  | .hbm => 32
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S_, .f32⟩
  | .hbm, ⟨25, _⟩ => ⟨S1x2048, .f32⟩
  | .hbm, ⟨26, _⟩ => ⟨S1x2048, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]
-- ==== Kernel31.lean ====
abbrev S256x2048 : Shape := ⟨2, ![256, 2048]⟩
abbrev S128x2048 : Shape := ⟨2, ![128, 2048]⟩

abbrev nBuf : Space → Nat
  | .hbm => 7
  | .vmem => 14
  | .smem => 0
  | _ => 0

abbrev bufTy : (tb : Table) → Fin (tcTables nBuf tb) → BufTy
  | .hbm, ⟨0, _⟩ => ⟨S256x2048, .f32⟩
  | .hbm, ⟨1, _⟩ => ⟨S256x2048, .f32⟩
  | .hbm, ⟨2, _⟩ => ⟨S256x2048, .f32⟩
  | .hbm, ⟨3, _⟩ => ⟨S256x2048, .f32⟩
  | .hbm, ⟨4, _⟩ => ⟨S256x2048, .f32⟩
  | .hbm, ⟨5, _⟩ => ⟨S256x2048, .f32⟩
  | .hbm, ⟨6, _⟩ => ⟨S256x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference31Ideal.lean ====
abbrev S256x2048 : Shape := ⟨2, ![256, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S256x2048, .f32⟩
  | .hbm, ⟨2, _⟩ => ⟨S256x2048, .f32⟩
  | .hbm, ⟨3, _⟩ => ⟨S256x2048, .f32⟩
  | .hbm, ⟨4, _⟩ => ⟨S_, .f32⟩
  | .hbm, ⟨5, _⟩ => ⟨S256x2048, .f32⟩
  | .hbm, ⟨6, _⟩ => ⟨S256x2048, .f32⟩
  | .hbm, ⟨7, _⟩ => ⟨S_, .f32⟩
  | .hbm, ⟨8, _⟩ => ⟨S256x2048, .f32⟩
  | .hbm, ⟨9, _⟩ => ⟨S256x2048, .f32⟩
  | .hbm, ⟨10, _⟩ => ⟨S256x2048, .f32⟩
  | .hbm, ⟨11, _⟩ => ⟨S_, .f32⟩
  | .hbm, ⟨12, _⟩ => ⟨S256x2048, .f32⟩
  | .hbm, ⟨13, _⟩ => ⟨S256x2048, .f32⟩
  | .hbm, ⟨14, _⟩ => ⟨S256x2048, .f32⟩
  | .hbm, ⟨15, _⟩ => ⟨S_, .f32⟩
  | .hbm, ⟨16, _⟩ => ⟨S256x2048, .f32⟩
  | .hbm, ⟨17, _⟩ => ⟨S256x2048, .f32⟩
  | .hbm, ⟨18, _⟩ => ⟨S256x2048, .f32⟩
  | .hbm, ⟨19, _⟩ => ⟨S_, .f32⟩
  | .hbm, ⟨20, _⟩ => ⟨S256x2048, .f32⟩
  | .hbm, ⟨21, _⟩ => ⟨S256x2048, .f32⟩
  | .hbm, ⟨22, _⟩ => ⟨S_, .f32⟩
  | .hbm, ⟨23, _⟩ => ⟨S256x2048, .f32⟩
  | .hbm, ⟨24, _⟩ => ⟨S256x2048, .f32⟩
  | .hbm, ⟨25, _⟩ => ⟨S256x2048, .f32⟩
  | .hbm, ⟨26, _⟩ => ⟨S_, .f32⟩
  | .hbm, ⟨27, _⟩ => ⟨S256x2048, .f32⟩
  | .hbm, ⟨28, _⟩ => ⟨S256x2048, .f32⟩
  | .hbm, ⟨29, _⟩ => ⟨S256x2048, .f32⟩
  | .hbm, ⟨30, _⟩ => ⟨S_, .f32⟩
  | .hbm, ⟨31, _⟩ => ⟨S256x2048, .f32⟩
  | .hbm, ⟨32, _⟩ => ⟨S256x2048, .f32⟩
  | .hbm, ⟨33, _⟩ => ⟨S256x2048, .f32⟩
  | .hbm, ⟨34, _⟩ => ⟨S_, .f32⟩
  | .hbm, ⟨35, _⟩ => ⟨S256x2048, .f32⟩
  | .hbm, ⟨36, _⟩ => ⟨S256x2048, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel32.lean ====
abbrev S8192x2048 : Shape := ⟨2, ![8192, 2048]⟩
abbrev S256x2048 : Shape := ⟨2, ![256, 2048]⟩

abbrev nBuf : Space → Nat
  | .hbm => 5
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S8192x2048, .bf16⟩
  | .hbm, ⟨3, _⟩ => ⟨S8192x2048, .f32⟩
  | .hbm, ⟨4, _⟩ => ⟨S8192x2048, .bf16⟩
  | .local _ .vmem, ⟨0, _⟩ => ⟨S256x2048, .bf16⟩
  | .local _ .vmem, ⟨1, _⟩ => ⟨S256x2048, .bf16⟩
  | .local _ .vmem, ⟨2, _⟩ => ⟨S256x2048, .f32⟩
  | .local _ .vmem, ⟨3, _⟩ => ⟨S256x2048, .f32⟩
  | .local _ .vmem, ⟨4, _⟩ => ⟨S256x2048, .bf16⟩
  | .local _ .vmem, ⟨5, _⟩ => ⟨S256x2048, .bf16⟩
  | .local _ .vmem, ⟨6, _⟩ => ⟨S256x2048, .f32⟩
  | .local _ .vmem, ⟨7, _⟩ => ⟨S256x2048, .f32⟩
  | .local _ .vmem, ⟨8, _⟩ => ⟨S256x2048, .bf16⟩
  | .local _ .vmem, ⟨9, _⟩ => ⟨S256x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference32Ideal.lean ====
abbrev S8192x2048 : Shape := ⟨2, ![8192, 2048]⟩
abbrev S_ : Shape := ⟨0, ![]⟩

abbrev nBuf : Space → Nat
  | .hbm => 52
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S8192x2048, .bf16⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S_, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S_, .f32⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S_, .f32⟩
  | .hbm, ⟨16, _⟩ => ⟨S8192x2048, .f32⟩
  | .hbm, ⟨17, _⟩ => ⟨S8192x2048, .f32⟩
  | .hbm, ⟨18, _⟩ => ⟨S_, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S_, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S_, .f32⟩
  | .hbm, ⟨30, _⟩ => ⟨S8192x2048, .f32⟩
  | .hbm, ⟨31, _⟩ => ⟨S8192x2048, .f32⟩
  | .hbm, ⟨32, _⟩ => ⟨S_, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S_, .f32⟩
  | .hbm, ⟨37, _⟩ => ⟨S8192x2048, .f32⟩
  | .hbm, ⟨38, _⟩ => ⟨S8192x2048, .f32⟩
  | .hbm, ⟨39, _⟩ => ⟨S_, .f32⟩
  | .hbm, ⟨40, _⟩ => ⟨S8192x2048, .f32⟩
  | .hbm, ⟨41, _⟩ => ⟨S8192x2048, .f32⟩
  | .hbm, ⟨42, _⟩ => ⟨S_, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_cst_4 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_v26 : Ref sig .tc := ⟨.hbm, 38, rfl⟩
abbrev main_cst_8 : Ref sig .tc := ⟨.hbm, 39, rfl⟩
abbrev main_v27 : Ref sig .tc := ⟨.hbm, 40, rfl⟩
abbrev main_v28 : Ref sig .tc := ⟨.hbm, 41, rfl⟩
abbrev main_cst_9 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩

abbrev nD : Nat := 1
abbrev τ : Topo := Topo.v7x

variable {F : FTy → Type} [FloatOps F]
-- ==== Kernel33.lean ====
abbrev S8192x2048 : Shape := ⟨2, ![8192, 2048]⟩
abbrev S512x2048 : Shape := ⟨2, ![512, 2048]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference33Ideal.lean ====
abbrev S8192x2048 : Shape := ⟨2, ![8192, 2048]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S_, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S_, .f32⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S_, .f32⟩
  | .hbm, ⟨14, _⟩ => ⟨S8192x2048, .f32⟩
  | .hbm, ⟨15, _⟩ => ⟨S8192x2048, .f32⟩
  | .hbm, ⟨16, _⟩ => ⟨S_, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel34.lean ====
abbrev S8192x2048 : Shape := ⟨2, ![8192, 2048]⟩
abbrev S8192x3072 : Shape := ⟨2, ![8192, 3072]⟩
abbrev S1x2048 : Shape := ⟨2, ![1, 2048]⟩
abbrev S128x2048 : Shape := ⟨2, ![128, 2048]⟩
abbrev S128x3072 : Shape := ⟨2, ![128, 3072]⟩
abbrev S128 : Shape := ⟨1, ![128]⟩
abbrev S128x1 : Shape := ⟨2, ![128, 1]⟩
abbrev S2048 : Shape := ⟨1, ![2048]⟩

abbrev nBuf : Space → Nat
  | .hbm => 12
  | .vmem => 20
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x3072, .f32⟩
  | .hbm, ⟨3, _⟩ => ⟨S8192x2048, .bf16⟩
  | .hbm, ⟨4, _⟩ => ⟨S8192x2048, .bf16⟩
  | .hbm, ⟨5, _⟩ => ⟨S1x2048, .f32⟩
  | .hbm, ⟨6, _⟩ => ⟨S1x2048, .f32⟩
  | .hbm, ⟨7, _⟩ => ⟨S8192x2048, .f32⟩
  | .hbm, ⟨8, _⟩ => ⟨S8192x2048, .bf16⟩
  | .hbm, ⟨9, _⟩ => ⟨S8192x2048, .f32⟩
  | .hbm, ⟨10, _⟩ => ⟨S1x2048, .f32⟩
  | .hbm, ⟨11, _⟩ => ⟨S1x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x3072, .f32⟩
  | .local _ .vmem, ⟨5, _⟩ => ⟨S128x3072, .f32⟩
  | .local _ .vmem, ⟨6, _⟩ => ⟨S128x2048, .bf16⟩
  | .local _ .vmem, ⟨7, _⟩ => ⟨S128x2048, .bf16⟩
  | .local _ .vmem, ⟨8, _⟩ => ⟨S128x2048, .bf16⟩
  | .local _ .vmem, ⟨9, _⟩ => ⟨S128x2048, .bf16⟩
  | .local _ .vmem, ⟨10, _⟩ => ⟨S1x2048, .f32⟩
  | .local _ .vmem, ⟨11, _⟩ => ⟨S1x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .bf16⟩
  | .local _ .vmem, ⟨15, _⟩ => ⟨S128x2048, .bf16⟩
  | .local _ .vmem, ⟨16, _⟩ => ⟨S128x2048, .f32⟩
  | .local _ .vmem, ⟨17, _⟩ => ⟨S128x2048, .f32⟩
  | .local _ .vmem, ⟨18, _⟩ => ⟨S1x2048, .f32⟩
  | .local _ .vmem, ⟨19, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem11_0 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference34Ideal.lean ====
abbrev S8192x2048 : Shape := ⟨2, ![8192, 2048]⟩
abbrev S8192x3072 : Shape := ⟨2, ![8192, 3072]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048 : Shape := ⟨1, ![2048]⟩

abbrev nBuf : Space → Nat
  | .hbm => 72
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x3072, .f32⟩
  | .hbm, ⟨3, _⟩ => ⟨S8192x2048, .bf16⟩
  | .hbm, ⟨4, _⟩ => ⟨S8192x2048, .bf16⟩
  | .hbm, ⟨5, _⟩ => ⟨S1x2048, .f32⟩
  | .hbm, ⟨6, _⟩ => ⟨S1x2048, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S_, .f32⟩
  | .hbm, ⟨13, _⟩ => ⟨S8192x2048, .f32⟩
  | .hbm, ⟨14, _⟩ => ⟨S8192x2048, .f32⟩
  | .hbm, ⟨15, _⟩ => ⟨S_, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S8192, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S8192x1, .f32⟩
  | .hbm, ⟨35, _⟩ => ⟨S8192x2048, .f32⟩
  | .hbm, ⟨36, _⟩ => ⟨S8192x2048, .f32⟩
  | .hbm, ⟨37, _⟩ => ⟨S8192x2048, .f32⟩
  | .hbm, ⟨38, _⟩ => ⟨S8192x2048, .f32⟩
  | .hbm, ⟨39, _⟩ => ⟨S8192x2048, .f32⟩
  | .hbm, ⟨40, _⟩ => ⟨S_, .f32⟩
  | .hbm, ⟨41, _⟩ => ⟨S8192, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S8192x2048, .f32⟩
  | .hbm, ⟨52, _⟩ => ⟨S8192x2048, .f32⟩
  | .hbm, ⟨53, _⟩ => ⟨S8192x2048, .f32⟩
  | .hbm, ⟨54, _⟩ => ⟨S8192x2048, .f32⟩
  | .hbm, ⟨55, _⟩ => ⟨S_, .f32⟩
  | .hbm, ⟨56, _⟩ => ⟨S8192x2048, .f32⟩
  | .hbm, ⟨57, _⟩ => ⟨S8192x2048, .f32⟩
  | .hbm, ⟨58, _⟩ => ⟨S8192x2048, .f32⟩
  | .hbm, ⟨59, _⟩ => ⟨S8192x2048, .f32⟩
  | .hbm, ⟨60, _⟩ => ⟨S8192x2048, .f32⟩
  | .hbm, ⟨61, _⟩ => ⟨S8192x2048, .bf16⟩
  | .hbm, ⟨62, _⟩ => ⟨S8192x2048, .f32⟩
  | .hbm, ⟨63, _⟩ => ⟨S8192x2048, .f32⟩
  | .hbm, ⟨64, _⟩ => ⟨S8192x2048, .f32⟩
  | .hbm, ⟨65, _⟩ => ⟨S_, .f32⟩
  | .hbm, ⟨66, _⟩ => ⟨S2048, .f32⟩
  | .hbm, ⟨67, _⟩ => ⟨S1x2048, .f32⟩
  | .hbm, ⟨68, _⟩ => ⟨S8192x2048, .f32⟩
  | .hbm, ⟨69, _⟩ => ⟨S_, .f32⟩
  | .hbm, ⟨70, _⟩ => ⟨S2048, .f32⟩
  | .hbm, ⟨71, _⟩ => ⟨S1x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_cst_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_6 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_7 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_8 : Ref sig .tc := ⟨.hbm, 69, rfl⟩
abbrev main_v53 : Ref sig .tc := ⟨.hbm, 70, rfl⟩
abbrev main_v54 : Ref sig .tc := ⟨.hbm, 71, rfl⟩

abbrev nD : Nat := 1
abbrev τ : Topo := Topo.v7x

variable {F : FTy → Type} [FloatOps F]
-- ==== Kernel35.lean ====
abbrev S8192x2048 : Shape := ⟨2, ![8192, 2048]⟩
abbrev S8192x3072 : Shape := ⟨2, ![8192, 3072]⟩
abbrev S1x2048 : Shape := ⟨2, ![1, 2048]⟩
abbrev S256x2048 : Shape := ⟨2, ![256, 2048]⟩
abbrev S256x3072 : Shape := ⟨2, ![256, 3072]⟩
abbrev S256 : Shape := ⟨1, ![256]⟩
abbrev S256x1 : Shape := ⟨2, ![256, 1]⟩

abbrev nBuf : Space → Nat
  | .hbm => 7
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x3072, .f32⟩
  | .hbm, ⟨3, _⟩ => ⟨S8192x2048, .bf16⟩
  | .hbm, ⟨4, _⟩ => ⟨S1x2048, .f32⟩
  | .hbm, ⟨5, _⟩ => ⟨S1x2048, .f32⟩
  | .hbm, ⟨6, _⟩ => ⟨S8192x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x3072, .f32⟩
  | .local _ .vmem, ⟨5, _⟩ => ⟨S256x3072, .f32⟩
  | .local _ .vmem, ⟨6, _⟩ => ⟨S256x2048, .bf16⟩
  | .local _ .vmem, ⟨7, _⟩ => ⟨S256x2048, .bf16⟩
  | .local _ .vmem, ⟨8, _⟩ => ⟨S1x2048, .f32⟩
  | .local _ .vmem, ⟨9, _⟩ => ⟨S1x2048, .f32⟩
  | .local _ .vmem, ⟨10, _⟩ => ⟨S256x2048, .bf16⟩
  | .local _ .vmem, ⟨11, _⟩ => ⟨S256x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference35Ideal.lean ====
abbrev S8192x2048 : Shape := ⟨2, ![8192, 2048]⟩
abbrev S8192x3072 : Shape := ⟨2, ![8192, 3072]⟩
abbrev S1x2048 : Shape := ⟨2, ![1, 2048]⟩
abbrev S_ : Shape := ⟨0, ![]⟩
abbrev S8192 : Shape := ⟨1, ![8192]⟩
abbrev S8192x1 : Shape := ⟨2, ![8192, 1]⟩

abbrev nBuf : Space → Nat
  | .hbm => 38
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x3072, .f32⟩
  | .hbm, ⟨3, _⟩ => ⟨S8192x2048, .bf16⟩
  | .hbm, ⟨4, _⟩ => ⟨S1x2048, .f32⟩
  | .hbm, ⟨5, _⟩ => ⟨S1x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S8192x2048, .f32⟩
  | .hbm, ⟨14, _⟩ => ⟨S_, .f32⟩
  | .hbm, ⟨15, _⟩ => ⟨S8192x2048, .f32⟩
  | .hbm, ⟨16, _⟩ => ⟨S8192x2048, .f32⟩
  | .hbm, ⟨17, _⟩ => ⟨S_, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S_, .f32⟩
  | .hbm, ⟨24, _⟩ => ⟨S8192, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]
-- ==== Proof.HeadOps.lean ====
module

public import proofs.«01_k».proof.Proof.Gen.KernelIdeal.Skeleton

@[expose] public section

set_option maxRecDepth 16384

noncomputable section

namespace Cert.KernelIdeal.Shape

open Idealize.ShloMosaic Idealize.SL.Sem
open Facts₀ Facts

variable {F : FTy → Type} [FloatOps F] [Facts]

/-- Two programs that ask for the same and go on alike are the same. -/
theorem op_congr.{v} {E : Type → Type v} {α β : Type} {e : E β} {k k' : β → Prog E α}
    (h : ∀ x, k x = k' x) : Prog.op e k = Prog.op e k' := by rw [funext h]

/-- Two programs that begin alike and go on alike are the same. -/
theorem bind_peel.{v} {E : Type → Type v} {α β γ δ : Type} {p : Prog E α} {k : α → Prog E β}
    {k' : β → Prog E γ} {k'' : γ → Prog E δ} {r : α → Prog E δ}
    (h : ∀ x, k x >>= k' >>= k'' = r x) : p >>= k >>= k' >>= k'' = p >>= r := by
  rw [bind_assoc, bind_assoc]
  exact congrArg _ (funext fun x => (bind_assoc _ _ _).symm.trans (h x))

/-- A step for each of the sixteen heads, in order. -/
def heads (f : Fin 16 → Prog (TpuEff nD τ sig (Elt F) Λ₀ .tc) PUnit) :
    Prog (TpuEff nD τ sig (Elt F) Λ₀ .tc) PUnit := do
  f 0; f 1; f 2; f 3; f 4; f 5; f 6; f 7; f 8; f 9; f 10; f 11; f 12; f 13; f 14; f 15

/-- The columns of a head lie in a block of rows. -/
theorem inb_cols (hd : Fin 16) :
    ∀ a, (![0, 128 * hd.1] : Fin 2 → ℕ) a + S128x128.size a ≤ S128x2048.size a := by
  have := hd.2
  intro a
  fin_cases a <;> simp [S128x128, S128x2048] <;> omega

/-- The columns of a head lie in a row. -/
theorem inb_row (hd : Fin 16) :
    ∀ a, (![0, 128 * hd.1] : Fin 2 → ℕ) a + S1x128.size a ≤ S1x2048.size a := by
  have := hd.2
  intro a
  fin_cases a <;> simp [S1x128, S1x2048] <;> omega

/-- The matrix of a head lies in the stack of matrices. -/
theorem inb_mat (hd : Fin 16) :
    ∀ a, (![hd.1, 0, 0] : Fin 3 → ℕ) a + S1x128x128.size a ≤ S16x128x128.size a := by
  have := hd.2
  intro a
  fin_cases a <;> simp [S1x128x128, S16x128x128] <;> omega

/-- A gate: half of one plus the hyperbolic tangent of half of `x · w + b`. -/
def gateV (x w : FVec F S128x128 .f32) (b : Vec F S1x128 .f32) : FVec F S128x128 .f32 :=
  addf (mulf (broadcast S128x128 (Scalar.ofBits .f32 0x3F000000#32))
    (tanh (mulf (broadcast S128x128 (Scalar.ofBits .f32 0x3F000000#32))
      (addf (matmul dot_S128x128_S128x128_S128x128_1_0_0_1_n_n none (truncf .bf16 x bitsLt_bf16_f32)
          (truncf .bf16 w bitsLt_bf16_f32) (constant S128x128 .f32 0x00000000#32))
        (broadcastTo S128x128 b broadcasts_S1x128_S128x128)))))
    (broadcast S128x128 (Scalar.ofBits .f32 0x3F000000#32))

/-- The logarithm of one plus `exp (−lam)`. -/
def spV (lam : Vec F S1x128 .f32) : FVec F S1x128 .f32 :=
  let z : FVec F S1x128 .f32 := broadcast S1x128 (Scalar.ofBits .f32 0x00000000#32)
  let y := subf z lam
  addf (maximumf y z)
    (log (addf (broadcast S1x128 (Scalar.ofBits .f32 0x3F800000#32)) (exp (subf z (absf y)))))

/-- The decay of the recurrence. -/
def decayV (r : FVec F S128x128 .f32) (sp : FVec F S1x128 .f32) : FVec F S128x128 .f32 :=
  exp (mulf (mulf (broadcast S128x128 (Scalar.ofBits .f32 0xC1000000#32)) r)
    (broadcastTo S128x128 sp broadcasts_S1x128_S128x128))

/-- What the recurrence adds at a row. -/
def inputV (a i x : FVec F S128x128 .f32) : FVec F S128x128 .f32 :=
  mulf (sqrt (subf (broadcast S128x128 (Scalar.ofBits .f32 0x3F800000#32)) (mulf a a))) (mulf i x)

/-- Loads the columns of a head from a block of rows. -/
def ldCols (m : Memref sig .tc .vmem S128x2048 .f32) (hd : Fin 16) :
    Prog (TpuEff nD τ sig (Elt F) Λ₀ .tc) (Vec F S128x128 .f32) :=
  Prog.lift (.load m (Rect.unit (s := S128x2048) ![0, 128 * hd.1] S128x128.size (inb_cols hd)).toLoadRect
    (View.loadsAt_vmem h_S128x128))

/-- Stores the columns of a head, after a load of them that nothing reads. -/
def stCols (m : Memref sig .tc .vmem S128x2048 .f32) (hd : Fin 16) (v : FVec F S128x128 .f32) :
    Prog (TpuEff nD τ sig (Elt F) Λ₀ .tc) PUnit := do
  let _ ← ldCols m hd
  Prog.lift (.store m (Rect.unit (s := S128x2048) ![0, 128 * hd.1] S128x128.size (inb_cols hd)) v
    Finset.univ (View.stores_vmem_bits_univ h_S128x128 rfl) (.inl rfl))

/-- Loads the entries of a head from a row. -/
def ldRow (m : Memref sig .tc .vmem S1x2048 .f32) (hd : Fin 16) :
    Prog (TpuEff nD τ sig (Elt F) Λ₀ .tc) (Vec F S1x128 .f32) :=
  Prog.lift (.load m (Rect.unit (s := S1x2048) ![0, 128 * hd.1] S1x128.size (inb_row hd)).toLoadRect
    (View.loadsAt_vmem h_S1x128))

/-- Stores the entries of a head, after a load of them that nothing reads. -/
def stRow (m : Memref sig .tc .vmem S1x2048 .f32) (hd : Fin 16) (v : FVec F S1x128 .f32) :
    Prog (TpuEff nD τ sig (Elt F) Λ₀ .tc) PUnit := do
  let _ ← ldRow m hd
  Prog.lift (.store m (Rect.unit (s := S1x2048) ![0, 128 * hd.1] S1x128.size (inb_row hd)) v
    Finset.univ (View.stores_vmem_bits_univ h_S1x128 rfl) (.inl rfl))

/-- Loads the matrix of a head. -/
def ldMat (m : Memref sig .tc .vmem S16x128x128 .f32) (hd : Fin 16) :
    Prog (TpuEff nD τ sig (Elt F) Λ₀ .tc) (Vec F S1x128x128 .f32) :=
  Prog.lift (.load m (Rect.unit (s := S16x128x128) ![hd.1, 0, 0] S1x128x128.size (inb_mat hd)).toLoadRect
    (View.loadsAt_vmem h_S1x128x128))

/-- Stores the matrix of a head, after a load of it that nothing reads. -/
def stMat (m : Memref sig .tc .vmem S16x128x128 .f32) (hd : Fin 16) (v : FVec F S1x128x128 .f32) :
    Prog (TpuEff nD τ sig (Elt F) Λ₀ .tc) PUnit := do
  let _ ← ldMat m hd
  Prog.lift (.store m (Rect.unit (s := S16x128x128) ![hd.1, 0, 0] S1x128x128.size (inb_mat hd)) v
    Finset.univ (View.stores_vmem_bits_univ h_S1x128x128 rfl) (.inl rfl))

/-- Loads a whole row. -/
def ldAllRow (m : Memref sig .tc .vmem S1x2048 .f32) :
    Prog (TpuEff nD τ sig (Elt F) Λ₀ .tc) (Vec F S1x2048 .f32) :=
  Prog.lift (.load m (Rect.unit (s := S1x2048) ![0, 0] S1x2048.size inb_S1x2048_S1x2048_0_0).toLoadRect
    (View.loadsAt_vmem h_S1x2048))

/-- Stores a whole row, after a load of it that nothing reads. -/
def stAllRow (m : Memref sig .tc .vmem S1x2048 .f32) (v : FVec F S1x2048 .f32) :
    Prog (TpuEff nD τ sig (Elt F) Λ₀ .tc) PUnit := do
  let _ ← ldAllRow m
  Prog.lift (.store m (Rect.unit (s := S1x2048) ![0, 0] S1x2048.size inb_S1x2048_S1x2048_0_0) v
    Finset.univ (View.stores_vmem_bits_univ h_S1x2048 rfl) (.inl rfl))

/-- Stores a whole stack of matrices, after a load of it that nothing reads. -/
def stAllMat (m : Memref sig .tc .vmem S16x128x128 .f32) (v : FVec F S16x128x128 .f32) :
    Prog (TpuEff nD τ sig (Elt F) Λ₀ .tc) PUnit := do
  let _ ← Prog.lift (.load m (Rect.unit (s := S16x128x128) ![0, 0, 0] S16x128x128.size inb_S16x128x128_S16x128x128_0_0_0).toLoadRect
    (View.loadsAt_vmem h_S16x128x128))
  Prog.lift (.store m (Rect.unit (s := S16x128x128) ![0, 0, 0] S16x128x128.size inb_S16x128x128_S16x128x128_0_0_0) v
    Finset.univ (View.stores_vmem_bits_univ h_S16x128x128 rfl) (.inl rfl))

/-- Loads the eight equal rows of the carry. -/
def ldTile (m : Memref sig .tc .vmem S8x2048 .f32) :
    Prog (TpuEff nD τ sig (Elt F) Λ₀ .tc) (Vec F S8x2048 .f32) :=
  Prog.lift (.load m (Rect.unit (s := S8x2048) ![0, 0] S8x2048.size inb_S8x2048_S8x2048_0_0).toLoadRect
    (View.loadsAt_vmem h_S8x2048))

/-- Eight copies of a row. -/
def rows8 (v : FVec F S1x2048 .f32) : FVec F S8x2048 .f32 :=
  broadcastTo S8x2048 (shapeCast S1x2048 v shapeCasts_S1x2048_S1x2048 : FVec F S1x2048 .f32) broadcasts_S1x2048_S8x2048

/-- Makes every row of the carry the given row, after a load of it that nothing reads. -/
def stTile (m : Memref sig .tc .vmem S8x2048 .f32) (v : FVec F S1x2048 .f32) :
    Prog (TpuEff nD τ sig (Elt F) Λ₀ .tc) PUnit := do
  let _ ← ldTile m
  Prog.lift (.store m (Rect.unit (s := S8x2048) ![0, 0] S8x2048.size inb_S8x2048_S8x2048_0_0)
    (shapeCast S8x2048 (rows8 v) shapeCasts_S8x2048_S8x2048 : FVec F S8x2048 .f32)
    Finset.univ (View.stores_vmem_bits_univ h_S8x2048 rfl) (.inl rfl))

/-- The same columns, in the form the kernel stores them. -/
abbrev same (v : FVec F S128x128 .f32) : FVec F S128x128 .f32 :=
  shapeCast S128x128 v shapeCasts_S128x128_S128x128

/-- The only matrix of a stack of one. -/
abbrev mat (v : Vec F S1x128x128 .f32) : FVec F S128x128 .f32 :=
  shapeCast S128x128 v shapeCasts_S1x128x128_S128x128

/-- The number everywhere. -/
abbrev numV (b : BitVec 32) : FVec F S128x128 .f32 := broadcast S128x128 (Scalar.ofBits .f32 b)

end Cert.KernelIdeal.Shape
-- ==== Proof.HeadRules.lean ====
module

public import proofs.«01_k».proof.Proof.Gen.KernelIdeal.Loops
public import proofs.«01_k».proof.Proof.HeadOps
public import Idealize.ShloMosaic.Lib.VecWindow

@[expose] public section

set_option maxRecDepth 16384

noncomputable section

namespace Cert.KernelIdeal.Shape

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Facts₀ Facts

variable {F : FTy → Type} [FloatOps F]

local notation "𝕄" => MT nD τ sig Unit (Elt F) ℕ (UR sig nD τ) ℕ

variable {𝒱 : Variants} {c : Dev nD} {bd : Option 𝒱.V} {E : Set ℕ}

local notation "WP" => wp (M := 𝕄) frame (wpE defs₀ 𝒱 (c : Thread nD τ) bd) E

/-- A family at equal places. -/
theorem app_congr {ι β γ : Type} (f : ι → β → γ) {i j : ι} {z y : β} (h : i = j) (h' : z = y) : f i z = f j y := by rw [h, h']

/-- A load reads a window of what its buffer holds. -/
theorem ld_rule {s : Shape} {e : EltTy} {m : Memref sig .tc .vmem s e} {off size : Fin s.rank → ℕ}
    {inb : ∀ a, off a + size a ≤ s.size a} {hl : m.view.LoadsAt (Rect.unit off size inb).toLoadRect}
    {q : PosShare TreeShare} {X : s.Idx → Elt F e} {Φ : ((Rect.unit off size inb).shape.Idx → Elt F e) → sProp 𝕄} :
    owns (c : Thread nD τ) m q X ⊢ iprop((owns (c : Thread nD τ) m q X -∗ Φ (VecWindow.window X off size inb))
      -∗ WP (Prog.lift (.load m (Rect.unit off size inb).toLoadRect hl)) Φ) := by
  unfold owns
  iintro ⟨%f, %hf, H⟩ Hk
  subst hf
  iapply (wp_load 𝒱 (c : Thread nD τ) bd E (Γ := .empty) (k := Prog.ret) (S := m.view.set) (View.setOn_subset_set _ _)) $$ H
  iintro H
  rw [wp_ret, View.readAt_unit m.view f inb rfl inb]
  imodintro
  iapply Hk
  iexists f
  isplitr
  · ipureintro; rfl
  · iexact H

/-- A store puts its payload over a window of what its buffer holds. -/
theorem st_rule {s : Shape} {e : EltTy} {m : Memref sig .tc .vmem s e} {off size : Fin s.rank → ℕ}
    {inb : ∀ a, off a + size a ≤ s.size a} {w : (Rect.unit off size inb).shape.Idx → Elt F e}
    {hx : (m.access (Rect.unit off size inb)).Stores Finset.univ}
    {hm : Finset.univ = Finset.univ ∨ ∀ a, (Rect.unit off size inb).stride a = 1}
    {X : s.Idx → Elt F e} {Φ : PUnit → sProp 𝕄} :
    owns (c : Thread nD τ) m fullShare X ⊢ iprop((owns (c : Thread nD τ) m fullShare (VecWindow.put X off size w) -∗ Φ ⟨⟩)
      -∗ WP (Prog.lift (.store m (Rect.unit off size inb) w Finset.univ hx hm)) Φ) := by
  unfold owns
  iintro ⟨%f, %hf, H⟩ Hk
  subst hf
  have h := wp_store (defs := defs₀ (F := F)) 𝒱 (c : Thread nD τ) bd E (Q := Φ) (Γ := .empty) (k := Prog.ret) (S := m.view.set) (f := f)
    (m := m) (r := Rect.unit off size inb) (w := w) (hx := hx) (hm := hm)
    ((View.setOn_subset_set _ _).trans (View.set_slice_subset _ _))
  change (m.view.loc (c : Thread nD τ) ↦[m.view.set]{fullShare} f) ⊢ _ at h
  iapply h $$ H
  iintro H
  rw [wp_ret]
  imodintro
  iapply Hk
  iexists _
  isplitr
  rotate_left
  · iexact H
  · ipureintro
    exact View.read_writes_cons_put m.view f inb w [] rfl

/-- Storing what a window already holds after loading and dropping it, at the head of a program. -/
theorem ld_bind {s : Shape} {e : EltTy} {m : Memref sig .tc .vmem s e} {off size : Fin s.rank → ℕ}
    {inb : ∀ a, off a + size a ≤ s.size a} {hl : m.view.LoadsAt (Rect.unit off size inb).toLoadRect} {β : Type}
    {q : PosShare TreeShare} {X : s.Idx → Elt F e} {k : ((Rect.unit off size inb).shape.Idx → Elt F e) → Prog (TpuEff nD τ sig (Elt F) Λ₀ .tc) β}
    {Φ : β → sProp 𝕄} :
    owns (c : Thread nD τ) m q X ⊢ iprop((owns (c : Thread nD τ) m q X -∗ WP (k (VecWindow.window X off size inb)) Φ)
      -∗ WP (Prog.lift (.load m (Rect.unit off size inb).toLoadRect hl) >>= k) Φ) := by
  rw [wp_bind]
  exact ld_rule (F := F) (Φ := fun a => WP (k a) Φ)

/-- A store at the head of a program. -/
theorem st_bind {s : Shape} {e : EltTy} {m : Memref sig .tc .vmem s e} {off size : Fin s.rank → ℕ}
    {inb : ∀ a, off a + size a ≤ s.size a} {w : (Rect.unit off size inb).shape.Idx → Elt F e}
    {hx : (m.access (Rect.unit off size inb)).Stores Finset.univ}
    {hm : Finset.univ = Finset.univ ∨ ∀ a, (Rect.unit off size inb).stride a = 1} {β : Type}
    {k : PUnit → Prog (TpuEff nD τ sig (Elt F) Λ₀ .tc) β}
    {X : s.Idx → Elt F e} {Φ : β → sProp 𝕄} :
    owns (c : Thread nD τ) m fullShare X ⊢ iprop((owns (c : Thread nD τ) m fullShare (VecWindow.put X off size w) -∗ WP (k ⟨⟩) Φ)
      -∗ WP (Prog.lift (.store m (Rect.unit off size inb) w Finset.univ hx hm) >>= k) Φ) := by
  rw [wp_bind]
  exact st_rule (F := F) (Φ := fun a => WP (k a) Φ)

/-- A load that nothing reads, and a store. -/
theorem ldst_rule {s : Shape} {e : EltTy} {m : Memref sig .tc .vmem s e} {off size : Fin s.rank → ℕ}
    {inb : ∀ a, off a + size a ≤ s.size a} {hl : m.view.LoadsAt (Rect.unit off size inb).toLoadRect}
    {w : (Rect.unit off size inb).shape.Idx → Elt F e}
    {hx : (m.access (Rect.unit off size inb)).Stores Finset.univ}
    {hm : Finset.univ = Finset.univ ∨ ∀ a, (Rect.unit off size inb).stride a = 1}
    {X : s.Idx → Elt F e} {Φ : PUnit → sProp 𝕄} :
    owns (c : Thread nD τ) m fullShare X ⊢ iprop((owns (c : Thread nD τ) m fullShare (VecWindow.put X off size w) -∗ Φ ⟨⟩)
      -∗ WP (Prog.lift (.load m (Rect.unit off size inb).toLoadRect hl) >>= fun _ =>
          Prog.lift (.store m (Rect.unit off size inb) w Finset.univ hx hm)) Φ) := by
  iintro H Hk
  iapply (ld_bind (F := F)) $$ H
  iintro H
  iapply (st_rule (F := F)) $$ H
  iexact Hk

/-- A load at the head of a program, of a window known by name. -/
theorem ld_bind_eq {s : Shape} {e : EltTy} {m : Memref sig .tc .vmem s e} {off size : Fin s.rank → ℕ}
    {inb : ∀ a, off a + size a ≤ s.size a} {hl : m.view.LoadsAt (Rect.unit off size inb).toLoadRect} {β : Type}
    {q : PosShare TreeShare} {X : s.Idx → Elt F e} {k : ((Rect.unit off size inb).shape.Idx → Elt F e) → Prog (TpuEff nD τ sig (Elt F) Λ₀ .tc) β}
    {Φ : β → sProp 𝕄} {w : (Rect.unit off size inb).shape.Idx → Elt F e} (hw : VecWindow.window X off size inb = w) :
    owns (c : Thread nD τ) m q X ⊢ iprop((owns (c : Thread nD τ) m q X -∗ WP (k w) Φ)
      -∗ WP (Prog.lift (.load m (Rect.unit off size inb).toLoadRect hl) >>= k) Φ) := by
  subst hw
  exact ld_bind (F := F)

/-- A store at the head of a program, whose result is known by name. -/
theorem st_bind_eq {s : Shape} {e : EltTy} {m : Memref sig .tc .vmem s e} {off size : Fin s.rank → ℕ}
    {inb : ∀ a, off a + size a ≤ s.size a} {w : (Rect.unit off size inb).shape.Idx → Elt F e}
    {hx : (m.access (Rect.unit off size inb)).Stores Finset.univ}
    {hm : Finset.univ = Finset.univ ∨ ∀ a, (Rect.unit off size inb).stride a = 1} {β : Type}
    {k : PUnit → Prog (TpuEff nD τ sig (Elt F) Λ₀ .tc) β}
    {X Y : s.Idx → Elt F e} {Φ : β → sProp 𝕄} (hY : VecWindow.put X off size w = Y) :
    owns (c : Thread nD τ) m fullShare X ⊢ iprop((owns (c : Thread nD τ) m fullShare Y -∗ WP (k ⟨⟩) Φ)
      -∗ WP (Prog.lift (.store m (Rect.unit off size inb) w Finset.univ hx hm) >>= k) Φ) := by
  subst hY
  exact st_bind (F := F)

/-- A load that nothing reads, and a store whose result is known by name. -/
theorem ldst_rule_eq {s : Shape} {e : EltTy} {m : Memref sig .tc .vmem s e} {off size : Fin s.rank → ℕ}
    {inb : ∀ a, off a + size a ≤ s.size a} {hl : m.view.LoadsAt (Rect.unit off size inb).toLoadRect}
    {w : (Rect.unit off size inb).shape.Idx → Elt F e}
    {hx : (m.access (Rect.unit off size inb)).Stores Finset.univ}
    {hm : Finset.univ = Finset.univ ∨ ∀ a, (Rect.unit off size inb).stride a = 1}
    {X Y : s.Idx → Elt F e} {Φ : PUnit → sProp 𝕄} (hY : VecWindow.put X off size w = Y) :
    owns (c : Thread nD τ) m fullShare X ⊢ iprop((owns (c : Thread nD τ) m fullShare Y -∗ Φ ⟨⟩)
      -∗ WP (Prog.lift (.load m (Rect.unit off size inb).toLoadRect hl) >>= fun _ =>
          Prog.lift (.store m (Rect.unit off size inb) w Finset.univ hx hm)) Φ) := by
  subst hY
  exact ldst_rule (F := F)

variable [Facts]

/-- The columns of a head. -/
def colsOf {α : Type} (X : S128x2048.Idx → α) (hd : Fin 16) : S128x128.Idx → α :=
  VecWindow.window X ![0, 128 * hd.1] S128x128.size (inb_cols hd)

/-- The entries of a head in a row. -/
def rowOf {α : Type} (X : S1x2048.Idx → α) (hd : Fin 16) : S1x128.Idx → α :=
  VecWindow.window X ![0, 128 * hd.1] S1x128.size (inb_row hd)

/-- The matrix of a head. -/
def matOf {α : Type} (X : S16x128x128.Idx → α) (hd : Fin 16) : S1x128x128.Idx → α :=
  VecWindow.window X ![hd.1, 0, 0] S1x128x128.size (inb_mat hd)

/-- The rows whose heads' columns are given. -/
def glueCols {α : Type} (f : Fin 16 → S128x128.Idx → α) : S128x2048.Idx → α :=
  fun y => f ⟨(y 1).val / 128, by have h : (y 1).val < 2048 := (y 1).isLt; omega⟩
    (fun a => match a with
      | 0 => ⟨(y 0).val, (y 0).isLt⟩
      | 1 => ⟨(y 1).val % 128, Nat.mod_lt _ (by decide)⟩)

/-- The row whose heads' entries are given. -/
def glueRow {α : Type} (f : Fin 16 → S1x128.Idx → α) : S1x2048.Idx → α :=
  fun y => f ⟨(y 1).val / 128, by have h : (y 1).val < 2048 := (y 1).isLt; omega⟩
    (fun a => match a with
      | 0 => ⟨(y 0).val, (y 0).isLt⟩
      | 1 => ⟨(y 1).val % 128, Nat.mod_lt _ (by decide)⟩)

/-- The stack whose heads' matrices are given. -/
def glueMat {α : Type} (f : Fin 16 → S1x128x128.Idx → α) : S16x128x128.Idx → α :=
  fun y => f ⟨(y 0).val, (y 0).isLt⟩
    (fun a => match a with
      | 0 => ⟨0, Nat.one_pos⟩
      | 1 => ⟨(y 1).val, (y 1).isLt⟩
      | 2 => ⟨(y 2).val, (y 2).isLt⟩)

theorem colsOf_glue {α : Type} (f : Fin 16 → S128x128.Idx → α) (hd : Fin 16) : colsOf (glueCols f) hd = f hd := by
  funext y
  have h1 : (y 1).val < 128 := (y 1).isLt
  show f _ _ = f hd y
  refine app_congr f (Fin.ext ?_) (funext fun a => ?_)
  · show (128 * hd.1 + 1 * (y 1).val) / 128 = hd.1
    omega
  · match a with
    | 0 => exact Fin.ext (show 0 + 1 * (y 0).val = (y 0).val by omega)
    | 1 => exact Fin.ext (show (128 * hd.1 + 1 * (y 1).val) % 128 = (y 1).val by omega)

theorem rowOf_glue {α : Type} (f : Fin 16 → S1x128.Idx → α) (hd : Fin 16) : rowOf (glueRow f) hd = f hd := by
  funext y
  have h1 : (y 1).val < 128 := (y 1).isLt
  show f _ _ = f hd y
  refine app_congr f (Fin.ext ?_) (funext fun a => ?_)
  · show (128 * hd.1 + 1 * (y 1).val) / 128 = hd.1
    omega
  · match a with
    | 0 => exact Fin.ext (show 0 + 1 * (y 0).val = (y 0).val by omega)
    | 1 => exact Fin.ext (show (128 * hd.1 + 1 * (y 1).val) % 128 = (y 1).val by omega)

theorem matOf_glue {α : Type} (f : Fin 16 → S1x128x128.Idx → α) (hd : Fin 16) : matOf (glueMat f) hd = f hd := by
  funext y
  have h0 : (y 0).val < 1 := (y 0).isLt
  show f _ _ = f hd y
  refine app_congr f (Fin.ext ?_) (funext fun a => ?_)
  · show hd.1 + 1 * (y 0).val = hd.1
    omega
  · match a with
    | 0 => exact Fin.ext (show 0 = (y 0).val by omega)
    | 1 => exact Fin.ext (show 0 + 1 * (y 1).val = (y 1).val by omega)
    | 2 => exact Fin.ext (show 0 + 1 * (y 2).val = (y 2).val by omega)

/-- `A` with the first `k` parts of `u` along an axis from `G`. -/
def fill {α : Type} {s : Shape} (a : Fin s.rank) (u : ℕ) (A G : s.Idx → α) (k : ℕ) : s.Idx → α :=
  fun y => if (y a).val < u * k then G y else A y

theorem fill_zero {α : Type} {s : Shape} (a : Fin s.rank) (u : ℕ) (A G : s.Idx → α) : fill a u A G 0 = A := by
  funext y; simp [fill]

theorem fill_full {α : Type} {s : Shape} (a : Fin s.rank) (u : ℕ) (A G : s.Idx → α) {k : ℕ} (h : s.size a ≤ u * k) : fill a u A G k = G := by
  funext y; have := (y a).isLt; simp only [fill]; rw [if_pos (by omega)]

theorem put_fill {α : Type} {s : Shape} (a : Fin s.rank) (u : ℕ) (A G : s.Idx → α) (k : ℕ) (off size : Fin s.rank → ℕ)
    (inb : ∀ a, off a + size a ≤ s.size a) (ha : off a = u * k) (hu : size a = u) (hb : ∀ b, b ≠ a → off b = 0 ∧ size b = s.size b) :
    VecWindow.put (fill a u A G k) off size (VecWindow.window G off size inb) = fill a u A G (k + 1) := by
  funext y
  unfold VecWindow.put fill
  have e : u * (k + 1) = u * k + u := Nat.mul_succ u k
  by_cases h : ∀ a, off a ≤ (y a).val ∧ (y a).val < off a + size a
  · rw [dif_pos h, if_pos (by have := h a; omega)]
    refine congrArg G (funext fun b => Fin.ext ?_)
    show off b + 1 * ((y b).val - off b) = (y b).val
    have := h b
    omega
  · rw [dif_neg h]
    have hn : ¬ (off a ≤ (y a).val ∧ (y a).val < off a + size a) := fun hh => h fun b => by
      by_cases hba : b = a
      · subst hba; exact hh
      · have := hb b hba; have := (y b).isLt; omega
    by_cases h1 : (y a).val < u * k
    · rw [if_pos h1, if_pos (by omega)]
    · rw [if_neg h1, if_neg (by omega)]

theorem window_fill {α : Type} {s : Shape} (a : Fin s.rank) (u : ℕ) (A G : s.Idx → α) (k : ℕ) (off size : Fin s.rank → ℕ)
    (inb : ∀ a, off a + size a ≤ s.size a) (ha : u * k ≤ off a) :
    VecWindow.window (fill a u A G k) off size inb = VecWindow.window A off size inb := by
  funext y
  show (if _ then _ else _) = _
  rw [if_neg]
  · rfl
  · have e : ((Rect.unit off size inb).emb y a).val = off a + 1 * (y a).val := rfl
    rw [e]; omega

/-- The first heads' columns from `G`, the others' from `A`. -/
abbrev fillCols {α : Type} (A G : S128x2048.Idx → α) (k : ℕ) : S128x2048.Idx → α := fill 1 128 A G k
/-- The first heads' entries from `G`, the others' from `A`. -/
abbrev fillRow {α : Type} (A G : S1x2048.Idx → α) (k : ℕ) : S1x2048.Idx → α := fill 1 128 A G k
/-- The first heads' matrices from `G`, the others' from `A`. -/
abbrev fillMat {α : Type} (A G : S16x128x128.Idx → α) (k : ℕ) : S16x128x128.Idx → α := fill 0 1 A G k

theorem ldCols_bind {m : Memref sig .tc .vmem S128x2048 .f32} {hd : Fin 16} {q : PosShare TreeShare} {X : S128x2048.Idx → Elt F .f32}
    {β : Type} {k : (Vec F S128x128 .f32) → Prog (TpuEff nD τ sig (Elt F) Λ₀ .tc) β} {Φ : β → sProp 𝕄} :
    owns (c : Thread nD τ) m q X ⊢ iprop((owns (c : Thread nD τ) m q X -∗ WP (k (colsOf X hd)) Φ) -∗ WP (ldCols m hd >>= k) Φ) := ld_bind

theorem ldRow_bind {m : Memref sig .tc .vmem S1x2048 .f32} {hd : Fin 16} {q : PosShare TreeShare} {X : S1x2048.Idx → Elt F .f32}
    {β : Type} {k : (Vec F S1x128 .f32) → Prog (TpuEff nD τ sig (Elt F) Λ₀ .tc) β} {Φ : β → sProp 𝕄} :
    owns (c : Thread nD τ) m q X ⊢ iprop((owns (c : Thread nD τ) m q X -∗ WP (k (rowOf X hd)) Φ) -∗ WP (ldRow m hd >>= k) Φ) := ld_bind

theorem ldMat_bind {m : Memref sig .tc .vmem S16x128x128 .f32} {hd : Fin 16} {q : PosShare TreeShare} {X : S16x128x128.Idx → Elt F .f32}
    {β : Type} {k : (Vec F S1x128x128 .f32) → Prog (TpuEff nD τ sig (Elt F) Λ₀ .tc) β} {Φ : β → sProp 𝕄} :
    owns (c : Thread nD τ) m q X ⊢ iprop((owns (c : Thread nD τ) m q X -∗ WP (k (matOf X hd)) Φ) -∗ WP (ldMat m hd >>= k) Φ) := ld_bind

/-- A window of a block's own sizes is the block. -/
theorem window_full {α : Type} {s : Shape} (X : s.Idx → α) {off : Fin s.rank → ℕ} (inb : ∀ a, off a + s.size a ≤ s.size a) :
    VecWindow.window X off s.size inb = X :=
  funext fun y => congrArg X (Rect.emb_unit_full inb y)

/-- A payload of a block's own sizes replaces the block. -/
theorem put_full {α : Type} {s : Shape} (X w : s.Idx → α) {off : Fin s.rank → ℕ} (inb : ∀ a, off a + s.size a ≤ s.size a) :
    VecWindow.put X off s.size w = w := by
  have h := VecWindow.window_put_same X off s.size inb w
  rwa [window_full] at h

theorem ldAllRow_bind {m : Memref sig .tc .vmem S1x2048 .f32} {q : PosShare TreeShare} {X : S1x2048.Idx → Elt F .f32}
    {β : Type} {k : (Vec F S1x2048 .f32) → Prog (TpuEff nD τ sig (Elt F) Λ₀ .tc) β} {Φ : β → sProp 𝕄} :
    owns (c : Thread nD τ) m q X ⊢ iprop((owns (c : Thread nD τ) m q X -∗ WP (k X) Φ) -∗ WP (ldAllRow m >>= k) Φ) :=
  ld_bind_eq (window_full X inb_S1x2048_S1x2048_0_0)

theorem ldTile_bind {m : Memref sig .tc .vmem S8x2048 .f32} {q : PosShare TreeShare} {X : S8x2048.Idx → Elt F .f32}
    {β : Type} {k : (Vec F S8x2048 .f32) → Prog (TpuEff nD τ sig (Elt F) Λ₀ .tc) β} {Φ : β → sProp 𝕄} :
    owns (c : Thread nD τ) m q X ⊢ iprop((owns (c : Thread nD τ) m q X -∗ WP (k X) Φ) -∗ WP (ldTile m >>= k) Φ) :=
  ld_bind_eq (window_full X inb_S8x2048_S8x2048_0_0)

/-- The columns of a head stored, after those of the heads before. -/
theorem stCols_rule {m : Memref sig .tc .vmem S128x2048 .f32} {hd : Fin 16} {v : FVec F S128x128 .f32} {A : S128x2048.Idx → Elt F .f32}
    {G : S128x2048.Idx → Elt F .f32} {Φ : PUnit → sProp 𝕄} (hv : v = colsOf G hd) :
    owns (c : Thread nD τ) m fullShare (fillCols A G hd.1) ⊢
      iprop((owns (c : Thread nD τ) m fullShare (fillCols A G (hd.1 + 1)) -∗ Φ ⟨⟩) -∗ WP (stCols m hd v) Φ) := by
  subst hv
  have h := put_fill (s := S128x2048) 1 128 A G hd.1 ![0, 128 * hd.1] S128x128.size (inb_cols hd) rfl rfl (by intro b hb; fin_cases b <;> simp_all [S128x128, S128x2048])
  exact ldst_rule_eq h

theorem stRow_rule {m : Memref sig .tc .vmem S1x2048 .f32} {hd : Fin 16} {v : FVec F S1x128 .f32} {A : S1x2048.Idx → Elt F .f32}
    {G : S1x2048.Idx → Elt F .f32} {Φ : PUnit → sProp 𝕄} (hv : v = rowOf G hd) :
    owns (c : Thread nD τ) m fullShare (fillRow A G hd.1) ⊢
      iprop((owns (c : Thread nD τ) m fullShare (fillRow A G (hd.1 + 1)) -∗ Φ ⟨⟩) -∗ WP (stRow m hd v) Φ) := by
  subst hv
  have h := put_fill (s := S1x2048) 1 128 A G hd.1 ![0, 128 * hd.1] S1x128.size (inb_row hd) rfl rfl (by intro b hb; fin_cases b <;> simp_all [S1x128, S1x2048])
  exact ldst_rule_eq h

theorem stMat_rule {m : Memref sig .tc .vmem S16x128x128 .f32} {hd : Fin 16} {v : FVec F S1x128x128 .f32} {A : S16x128x128.Idx → Elt F .f32}
    {G : S16x128x128.Idx → Elt F .f32} {Φ : PUnit → sProp 𝕄} (hv : v = matOf G hd) :
    owns (c : Thread nD τ) m fullShare (fillMat A G hd.1) ⊢
      iprop((owns (c : Thread nD τ) m fullShare (fillMat A G (hd.1 + 1)) -∗ Φ ⟨⟩) -∗ WP (stMat m hd v) Φ) := by
  subst hv
  have h := put_fill (s := S16x128x128) 0 1 A G hd.1 ![hd.1, 0, 0] S1x128x128.size (inb_mat hd) (by simp) rfl (by intro b hb; fin_cases b <;> simp_all [S1x128x128, S16x128x128])
  exact ldst_rule_eq h

theorem stCols_bind {m : Memref sig .tc .vmem S128x2048 .f32} {hd : Fin 16} {v : FVec F S128x128 .f32} {A : S128x2048.Idx → Elt F .f32}
    {G : S128x2048.Idx → Elt F .f32} {β : Type} {k : PUnit → Prog (TpuEff nD τ sig (Elt F) Λ₀ .tc) β} {Φ : β → sProp 𝕄} (hv : v = colsOf G hd) :
    owns (c : Thread nD τ) m fullShare (fillCols A G hd.1) ⊢
      iprop((owns (c : Thread nD τ) m fullShare (fillCols A G (hd.1 + 1)) -∗ WP (k ⟨⟩) Φ) -∗ WP (stCols m hd v >>= k) Φ) := by
  rw [wp_bind]; exact stCols_rule (Φ := fun a => WP (k a) Φ) hv

theorem stRow_bind {m : Memref sig .tc .vmem S1x2048 .f32} {hd : Fin 16} {v : FVec F S1x128 .f32} {A : S1x2048.Idx → Elt F .f32}
    {G : S1x2048.Idx → Elt F .f32} {β : Type} {k : PUnit → Prog (TpuEff nD τ sig (Elt F) Λ₀ .tc) β} {Φ : β → sProp 𝕄} (hv : v = rowOf G hd) :
    owns (c : Thread nD τ) m fullShare (fillRow A G hd.1) ⊢
      iprop((owns (c : Thread nD τ) m fullShare (fillRow A G (hd.1 + 1)) -∗ WP (k ⟨⟩) Φ) -∗ WP (stRow m hd v >>= k) Φ) := by
  rw [wp_bind]; exact stRow_rule (Φ := fun a => WP (k a) Φ) hv

theorem stMat_bind {m : Memref sig .tc .vmem S16x128x128 .f32} {hd : Fin 16} {v : FVec F S1x128x128 .f32} {A : S16x128x128.Idx → Elt F .f32}
    {G : S16x128x128.Idx → Elt F .f32} {β : Type} {k : PUnit → Prog (TpuEff nD τ sig (Elt F) Λ₀ .tc) β} {Φ : β → sProp 𝕄} (hv : v = matOf G hd) :
    owns (c : Thread nD τ) m fullShare (fillMat A G hd.1) ⊢
      iprop((owns (c : Thread nD τ) m fullShare (fillMat A G (hd.1 + 1)) -∗ WP (k ⟨⟩) Φ) -∗ WP (stMat m hd v >>= k) Φ) := by
  rw [wp_bind]; exact stMat_rule (Φ := fun a => WP (k a) Φ) hv

/-- The entries of a head are read as they were while those of the heads before were replaced. -/
theorem rowOf_fill {α : Type} (A G : S1x2048.Idx → α) (hd : Fin 16) : rowOf (fillRow A G hd.1) hd = rowOf A hd :=
  window_fill 1 128 A G hd.1 _ _ _ (le_refl _)

theorem matOf_fill {α : Type} (A G : S16x128x128.Idx → α) (hd : Fin 16) : matOf (fillMat A G hd.1) hd = matOf A hd :=
  window_fill 0 1 A G hd.1 _ _ _ (by simp)

/-- A row stored whole. -/
theorem stAllRow_rule {m : Memref sig .tc .vmem S1x2048 .f32} {v : FVec F S1x2048 .f32} {A : S1x2048.Idx → Elt F .f32}
    {Φ : PUnit → sProp 𝕄} :
    owns (c : Thread nD τ) m fullShare A ⊢ iprop((owns (c : Thread nD τ) m fullShare v -∗ Φ ⟨⟩) -∗ WP (stAllRow m v) Φ) :=
  ldst_rule_eq (put_full A v inb_S1x2048_S1x2048_0_0)

theorem stAllMat_rule {m : Memref sig .tc .vmem S16x128x128 .f32} {v : FVec F S16x128x128 .f32} {A : S16x128x128.Idx → Elt F .f32}
    {Φ : PUnit → sProp 𝕄} :
    owns (c : Thread nD τ) m fullShare A ⊢ iprop((owns (c : Thread nD τ) m fullShare v -∗ Φ ⟨⟩) -∗ WP (stAllMat m v) Φ) :=
  ldst_rule_eq (put_full A v inb_S16x128x128_S16x128x128_0_0_0)

/-- The carry with a row in every place. -/
def tileV (v : FVec F S1x2048 .f32) : FVec F S8x2048 .f32 :=
  (shapeCast S8x2048 (rows8 v) shapeCasts_S8x2048_S8x2048 : FVec F S8x2048 .f32)

theorem stTile_rule {m : Memref sig .tc .vmem S8x2048 .f32} {v : FVec F S1x2048 .f32} {A : S8x2048.Idx → Elt F .f32}
    {Φ : PUnit → sProp 𝕄} :
    owns (c : Thread nD τ) m fullShare A ⊢ iprop((owns (c : Thread nD τ) m fullShare (tileV v) -∗ Φ ⟨⟩) -∗ WP (stTile m v) Φ) :=
  ldst_rule_eq (put_full A (tileV v) inb_S8x2048_S8x2048_0_0)

theorem stAllRow_bind {m : Memref sig .tc .vmem S1x2048 .f32} {v : FVec F S1x2048 .f32} {A : S1x2048.Idx → Elt F .f32}
    {β : Type} {k : PUnit → Prog (TpuEff nD τ sig (Elt F) Λ₀ .tc) β} {Φ : β → sProp 𝕄} :
    owns (c : Thread nD τ) m fullShare A ⊢ iprop((owns (c : Thread nD τ) m fullShare v -∗ WP (k ⟨⟩) Φ) -∗ WP (stAllRow m v >>= k) Φ) := by
  rw [wp_bind]; exact stAllRow_rule (Φ := fun a => WP (k a) Φ)

theorem stAllMat_bind {m : Memref sig .tc .vmem S16x128x128 .f32} {v : FVec F S16x128x128 .f32} {A : S16x128x128.Idx → Elt F .f32}
    {β : Type} {k : PUnit → Prog (TpuEff nD τ sig (Elt F) Λ₀ .tc) β} {Φ : β → sProp 𝕄} :
    owns (c : Thread nD τ) m fullShare A ⊢ iprop((owns (c : Thread nD τ) m fullShare v -∗ WP (k ⟨⟩) Φ) -∗ WP (stAllMat m v >>= k) Φ) := by
  rw [wp_bind]; exact stAllMat_rule (Φ := fun a => WP (k a) Φ)

theorem stTile_bind {m : Memref sig .tc .vmem S8x2048 .f32} {v : FVec F S1x2048 .f32} {A : S8x2048.Idx → Elt F .f32}
    {β : Type} {k : PUnit → Prog (TpuEff nD τ sig (Elt F) Λ₀ .tc) β} {Φ : β → sProp 𝕄} :
    owns (c : Thread nD τ) m fullShare A ⊢ iprop((owns (c : Thread nD τ) m fullShare (tileV v) -∗ WP (k ⟨⟩) Φ) -∗ WP (stTile m v >>= k) Φ) := by
  rw [wp_bind]; exact stTile_rule (Φ := fun a => WP (k a) Φ)

/-- The sixteen steps, by what holds before each. -/
theorem heads_rule {f : Fin 16 → Prog (TpuEff nD τ sig (Elt F) Λ₀ .tc) PUnit} (I : ℕ → sProp 𝕄)
    (h : ∀ hd : Fin 16, I hd.1 ⊢ WP (f hd) (fun _ => I (hd.1 + 1))) : I 0 ⊢ WP (heads f) (fun _ => I 16) := by
  unfold heads
  have step : ∀ (hd : Fin 16) {k : PUnit → Prog (TpuEff nD τ sig (Elt F) Λ₀ .tc) PUnit} {Φ : PUnit → sProp 𝕄},
      (I (hd.1 + 1) ⊢ WP (k ⟨⟩) Φ) → (I hd.1 ⊢ WP (f hd >>= k) Φ) := fun hd k Φ hk => by
    rw [wp_bind]
    exact (h hd).trans (wp_mono _ _ _ fun _ => hk)
  exact step 0 (step 1 (step 2 (step 3 (step 4 (step 5 (step 6 (step 7 (step 8 (step 9 (step 10 (step 11 (step 12
    (step 13 (step 14 (h 15)))))))))))))))

end Cert.KernelIdeal.Shape
-- ==== Proof.FwdShape.lean ====
module

public import proofs.«01_k».proof.Proof.Gen.KernelIdeal.Skeleton
public import proofs.«01_k».proof.Proof.HeadOps

@[expose] public section

set_option maxRecDepth 16384

noncomputable section

namespace Cert.KernelIdeal.Shape

open Idealize.ShloMosaic Idealize.SL.Sem
open Facts₀ Facts

variable {F : FTy → Type} [FloatOps F] [Facts]

section

variable (i : grid0.Coords)
    (arg1 : Memref sig .tc .vmem S128x2048 .f32) (harg1 : arg1.IsWhole)
    (arg2 : Memref sig .tc .vmem S16x128x128 .f32) (harg2 : arg2.IsWhole)
    (arg3 : Memref sig .tc .vmem S16x128x128 .f32) (harg3 : arg3.IsWhole)
    (arg4 : Memref sig .tc .vmem S1x2048 .f32) (harg4 : arg4.IsWhole)
    (arg5 : Memref sig .tc .vmem S1x2048 .f32) (harg5 : arg5.IsWhole)
    (arg6 : Memref sig .tc .vmem S1x2048 .f32) (harg6 : arg6.IsWhole)
    (arg7 : Memref sig .tc .vmem S1x2048 .f32) (harg7 : arg7.IsWhole)
    (arg8 : Memref sig .tc .vmem S128x2048 .f32) (harg8 : arg8.IsWhole)
    (arg9 : Memref sig .tc .vmem S1x2048 .f32) (harg9 : arg9.IsWhole)
    (arg10 : Memref sig .tc .vmem S128x2048 .f32) (harg10 : arg10.IsWhole)
    (arg11 : Memref sig .tc .vmem S128x2048 .f32) (harg11 : arg11.IsWhole)
    (arg12 : Memref sig .tc .vmem S8x2048 .f32) (harg12 : arg12.IsWhole)

/-- The first step of a grid point of the forward kernel: at the first point, the carry takes the
state the recurrence starts from. -/
def fwdStart : Prog (TpuEff nD τ sig (Elt F) Λ₀ .tc) PUnit := do
  if Scalar.cmpi .ne (Scalar.extui (Scalar.cmpi .eq (BitVec.ofNat 32 (i 0).val) 0#32) : BitVec 32) 0#32 = 1#1 then do
    let v ← ldAllRow arg7
    stTile arg12 v
    pure ⟨⟩
  else do
    pure ⟨⟩

/-- What the forward kernel does for a head: the decays and the inputs of its columns. -/
def fwdHead (hd : Fin 16) : Prog (TpuEff nD τ sig (Elt F) Λ₀ .tc) PUnit := do
  let x ← ldCols arg1 hd
  let wa ← ldMat arg2 hd
  let wx ← ldMat arg3 hd
  let ba ← ldRow arg4 hd
  let bx ← ldRow arg5 hd
  let lam ← ldRow arg6 hd
  let a := decayV (gateV x (mat wa) ba) (spV lam)
  stCols arg10 hd (same a)
  stCols arg11 hd (same (inputV a (gateV x (mat wx) bx) x))

/-- The sweep down the tiles of eight rows. -/
def fwdSweep : Prog (TpuEff nD τ sig (Elt F) Λ₀ .tc) PUnit :=
  Scf.Loop.for k0_t1_loop k0_t1_ok ⟨⟩ fun t _ => do
    let ⟨_, u, a⟩ ← k0_part1 i arg1 harg1 arg2 harg2 arg3 harg3 arg4 harg4 arg5 harg5 arg6 harg6 arg7 harg7 arg8 harg8 arg9 harg9 arg10 harg10 arg11 harg11 arg12 harg12
      (iota .tc S8x2048 32 [0] iota_S8x2048_d0_w32) 0#32 1#32 t
    let c ← ldTile arg12
    let y : FVec F S8x2048 .f32 := addf (mulf a c) u
    let _ : Vec F S8x2048 .f32 ← Prog.lift (.load arg8 (Rect.unit (s := S128x2048) (k0_off1 t) S8x2048.size (k0_off1_inb t)).toLoadRect (View.loadsAt_vmem h_S8x2048))
    Prog.lift (.store arg8 (Rect.unit (s := S128x2048) (k0_off1 t) S8x2048.size (k0_off1_inb t)) y Finset.univ (View.stores_vmem_bits_univ h_S8x2048 rfl) (.inl rfl))
    stTile arg12 (extractStridedSlice S1x2048 ![7, 0] y slices_S8x2048_o7_0_S1x2048)
    pure ⟨⟩

/-- The last step: the carry's first row is the state after the rows so far. -/
def fwdEnd : Prog (TpuEff nD τ sig (Elt F) Λ₀ .tc) PUnit := do
  let v : Vec F S1x2048 .f32 ← Prog.lift (.load arg12 (Rect.unit (s := S8x2048) ![0, 0] S1x2048.size inb_S8x2048_S1x2048_0_0).toLoadRect (View.loadsAt_vmem h_S1x2048))
  stAllRow arg9 v
  pure ⟨⟩

/-- The first part: the start, and the gates of the first head up to a last sum. -/
theorem fwdFirst : k0_part2 (F := F) i arg1 harg1 arg2 harg2 arg3 harg3 arg4 harg4 arg5 harg5 arg6 harg6 arg7 harg7 arg8 harg8 arg9 harg9 arg10 harg10 arg11 harg11 arg12 harg12 = (do
    fwdStart i arg7 arg12
    let x ← ldCols arg1 0
    let wa ← ldMat arg2 0
    let wx ← ldMat arg3 0
    let ba ← ldRow arg4 0
    let bx ← ldRow arg5 0
    let lam ← ldRow arg6 0
    pure ⟨x, lam, gateV x (mat wa) ba, mulf (numV 0x3F000000#32)
      (tanh (mulf (numV 0x3F000000#32)
        (addf (matmul dot_S128x128_S128x128_S128x128_1_0_0_1_n_n none (truncf .bf16 x bitsLt_bf16_f32)
            (truncf .bf16 (mat wx) bitsLt_bf16_f32) (constant S128x128 .f32 0x00000000#32))
          (broadcastTo S128x128 bx broadcasts_S1x128_S128x128)))), numV 0x3F000000#32⟩) := by
  unfold k0_part2 fwdStart
  by_cases h : Scalar.cmpi .ne (Scalar.extui (Scalar.cmpi .eq (BitVec.ofNat 32 (i 0).val) 0#32) : BitVec 32) 0#32 = 1#1
  · rw [if_pos h]
    simp only [dif_pos h]
    rfl
  · rw [if_neg h]
    simp only [dif_neg h]
    rfl

/-- The forward kernel is: the start, the sixteen heads, the sweep and the end. -/
theorem fwd_eq : cc0_ctx_lru_fwd0 (F := F) i arg1 harg1 arg2 harg2 arg3 harg3 arg4 harg4 arg5 harg5 arg6 harg6 arg7 harg7 arg8 harg8 arg9 harg9 arg10 harg10 arg11 harg11 arg12 harg12 =
    (do fwdStart i arg7 arg12
        heads (fwdHead arg1 arg2 arg3 arg4 arg5 arg6 arg10 arg11)
        fwdSweep i arg1 harg1 arg2 harg2 arg3 harg3 arg4 harg4 arg5 harg5 arg6 harg6 arg7 harg7 arg8 harg8 arg9 harg9 arg10 harg10 arg11 harg11 arg12 harg12
        fwdEnd arg9 arg12) := by
  unfold cc0_ctx_lru_fwd0 k0_part27
  rw [fwdFirst]
  refine bind_peel (p := fwdStart (F := F) i arg7 arg12) fun _ => ?_
  repeat ((conv_lhs => whnf); (conv_rhs => whnf); refine op_congr fun _ => ?_)
  exact bind_assoc (fwdSweep (F := F) i arg1 harg1 arg2 harg2 arg3 harg3 arg4 harg4 arg5 harg5 arg6 harg6 arg7 harg7 arg8 harg8 arg9 harg9 arg10 harg10 arg11 harg11 arg12 harg12) (fun _ => pure PUnit.unit) (fun _ => fwdEnd arg9 arg12)

end

end Cert.KernelIdeal.Shape
-- ==== Proof.BwdShape.lean ====
module

public import proofs.«01_k».proof.Proof.Gen.KernelIdeal.Skeleton
public import proofs.«01_k».proof.Proof.HeadOps

@[expose] public section

set_option maxRecDepth 16384

noncomputable section

namespace Cert.KernelIdeal.Shape

open Idealize.ShloMosaic Idealize.SL.Sem
open Facts₀ Facts

variable {F : FTy → Type} [FloatOps F] [Facts]

/-- The columns of a head lie in the eight rows of a carry. -/
theorem slices_tile (hd : Fin 16) : S8x2048.Slices ![0, 128 * hd.1] S8x128 := by
  revert hd; decide

/-- The columns of a head of a carry. -/
def tileCols (c : FVec F S8x2048 .f32) (hd : Fin 16) : FVec F S8x128 .f32 :=
  extractStridedSlice S8x128 ![0, 128 * hd.1] c (slices_tile hd)

/-- Each row's successor: the rows of `m` after the first, and then a row of `c`. -/
def nextV (m : FVec F S128x128 .f32) (c : FVec F S8x128 .f32) : FVec F S128x128 .f32 :=
  extractStridedSlice S128x128 ![0, 0]
    (dynamicRotate 0 135#32 none
      (concatenate S136x128 0 [⟨S128x128, m⟩, ⟨S8x128, c⟩] concatenates_S128x128_S8x128_S136x128_d0 : FVec F S136x128 .f32)
      rotates_S136x128_d0 : FVec F S136x128 .f32) slices_S136x128_o0_0_S128x128

/-- Each row's predecessor: the last row of `c`, and then the rows of `m` but the last. -/
def prevV (c : FVec F S8x128 .f32) (m : FVec F S128x128 .f32) : FVec F S128x128 .f32 :=
  extractStridedSlice S128x128 ![8, 0]
    (dynamicRotate 0 1#32 none
      (concatenate S136x128 0 [⟨S8x128, c⟩, ⟨S128x128, m⟩] concatenates_S8x128_S128x128_S136x128_d0 : FVec F S136x128 .f32)
      rotates_S136x128_d0 : FVec F S136x128 .f32) slices_S136x128_o8_0_S128x128

/-- One minus the square. -/
def complV (a : FVec F S128x128 .f32) : FVec F S128x128 .f32 := subf (numV 0x3F800000#32) (mulf a a)

/-- The gradient of the exponent of the decay, by the gradient `l` of the state, the state `p` before,
the decay `a`, the gate `i` and the row `x`. -/
def dexpV (l p a i x : FVec F S128x128 .f32) : FVec F S128x128 .f32 :=
  subf (mulf (mulf l p) a) (mulf (mulf (mulf l (mulf i x)) (mulf a a)) (rsqrt (complV a)))

/-- The gradient of the gated row. -/
def dgatedV (l a : FVec F S128x128 .f32) : FVec F S128x128 .f32 :=
  mulf l (mulf (complV a) (rsqrt (complV a)))

/-- The gradient of what the first gate is the logistic function of. -/
def dpreAV (e r : FVec F S128x128 .f32) (sp : FVec F S1x128 .f32) : FVec F S128x128 .f32 :=
  mulf (mulf (mulf e (broadcastTo S128x128 (mulf (broadcast S1x128 (Scalar.ofBits .f32 0xC1000000#32)) sp) broadcasts_S1x128_S128x128)) r)
    (subf (numV 0x3F800000#32) r)

/-- The gradient of what the second gate is the logistic function of. -/
def dpreXV (g x i : FVec F S128x128 .f32) : FVec F S128x128 .f32 :=
  mulf (mulf (mulf g x) i) (subf (numV 0x3F800000#32) i)

/-- A row plus the sum of the rows. -/
def addRowsV (s : Vec F S1x128 .f32) (m : FVec F S128x128 .f32) : FVec F S1x128 .f32 :=
  addf (shapeCast S1x128 s shapeCasts_S1x128_S1x128 : FVec F S1x128 .f32)
    (shapeCast S1x128 (multiReduction .add [0] S128 m 0x00000000#32 reduces_S128x128_S128 (.inl rfl) rfl : FVec F S128 .f32) shapeCasts_S128_S1x128 : FVec F S1x128 .f32)

/-- The product with a transposed matrix. -/
def mulTV (m w : FVec F S128x128 .f32) : FVec F S128x128 .f32 :=
  matmul dot_S128x128_S128x128_S128x128_1_1_0_0_n_n none (truncf .bf16 m bitsLt_bf16_f32)
    (truncf .bf16 w bitsLt_bf16_f32) (constant S128x128 .f32 0x00000000#32)

/-- A matrix plus the product of the transposed rows `x` with `m`. -/
def addOuterV (s : Vec F S1x128x128 .f32) (x m : FVec F S128x128 .f32) : FVec F S1x128x128 .f32 :=
  shapeCast S1x128x128 (addf (mat s)
    (matmul dot_S128x128_S128x128_S128x128_1_0_0_1_n_n none
      (truncf .bf16 (transpose S128x128 [1, 0] x transposes_S128x128_p1_0_S128x128 : FVec F S128x128 .f32) bitsLt_bf16_f32)
      (truncf .bf16 m bitsLt_bf16_f32) (constant S128x128 .f32 0x00000000#32)) : FVec F S128x128 .f32) shapeCasts_S128x128_S1x128x128

section

variable (i : grid1.Coords)
    (arg1 : Memref sig .tc .vmem S128x2048 .f32) (harg1 : arg1.IsWhole)
    (arg2 : Memref sig .tc .vmem S16x128x128 .f32) (harg2 : arg2.IsWhole)
    (arg3 : Memref sig .tc .vmem S16x128x128 .f32) (harg3 : arg3.IsWhole)
    (arg4 : Memref sig .tc .vmem S1x2048 .f32) (harg4 : arg4.IsWhole)
    (arg5 : Memref sig .tc .vmem S1x2048 .f32) (harg5 : arg5.IsWhole)
    (arg6 : Memref sig .tc .vmem S1x2048 .f32) (harg6 : arg6.IsWhole)
    (arg7 : Memref sig .tc .vmem S1x2048 .f32) (harg7 : arg7.IsWhole)
    (arg8 : Memref sig .tc .vmem S128x2048 .f32) (harg8 : arg8.IsWhole)
    (arg9 : Memref sig .tc .vmem S8x2048 .f32) (harg9 : arg9.IsWhole)
    (arg10 : Memref sig .tc .vmem S128x2048 .f32) (harg10 : arg10.IsWhole)
    (arg11 : Memref sig .tc .vmem S1x2048 .f32) (harg11 : arg11.IsWhole)
    (arg12 : Memref sig .tc .vmem S128x2048 .f32) (harg12 : arg12.IsWhole)
    (arg13 : Memref sig .tc .vmem S16x128x128 .f32) (harg13 : arg13.IsWhole)
    (arg14 : Memref sig .tc .vmem S16x128x128 .f32) (harg14 : arg14.IsWhole)
    (arg15 : Memref sig .tc .vmem S1x2048 .f32) (harg15 : arg15.IsWhole)
    (arg16 : Memref sig .tc .vmem S1x2048 .f32) (harg16 : arg16.IsWhole)
    (arg17 : Memref sig .tc .vmem S1x2048 .f32) (harg17 : arg17.IsWhole)
    (arg18 : Memref sig .tc .vmem S1x2048 .f32) (harg18 : arg18.IsWhole)
    (arg19 : Memref sig .tc .vmem S128x2048 .f32) (harg19 : arg19.IsWhole)
    (arg20 : Memref sig .tc .vmem S128x2048 .f32) (harg20 : arg20.IsWhole)
    (arg21 : Memref sig .tc .vmem S128x2048 .f32) (harg21 : arg21.IsWhole)
    (arg22 : Memref sig .tc .vmem S128x2048 .f32) (harg22 : arg22.IsWhole)
    (arg23 : Memref sig .tc .vmem S128x2048 .f32) (harg23 : arg23.IsWhole)
    (arg24 : Memref sig .tc .vmem S8x2048 .f32) (harg24 : arg24.IsWhole)

/-- The first step of a grid point of the backward kernel: at the first point, the carry takes the
gradient of the last state, and the sums begin at zero. -/
def bwdStart : Prog (TpuEff nD τ sig (Elt F) Λ₀ .tc) PUnit := do
  if Scalar.cmpi .ne (Scalar.extui (Scalar.cmpi .eq (BitVec.ofNat 32 (i 0).val) 0#32) : BitVec 32) 0#32 = 1#1 then do
    let v ← ldAllRow arg11
    stTile arg24 v
    stAllMat arg13 (broadcast S16x128x128 (Scalar.ofBits .f32 0x00000000#32))
    stAllMat arg14 (broadcast S16x128x128 (Scalar.ofBits .f32 0x00000000#32))
    stAllRow arg15 (broadcast S1x2048 (Scalar.ofBits .f32 0x00000000#32))
    stAllRow arg16 (broadcast S1x2048 (Scalar.ofBits .f32 0x00000000#32))
    stAllRow arg17 (broadcast S1x2048 (Scalar.ofBits .f32 0x00000000#32))
    pure ⟨⟩
  else do
    pure ⟨⟩

/-- What the backward kernel does for a head before the sweep: the decays, the gates, and the decays
times the gradients of the states. -/
def bwdHead (hd : Fin 16) : Prog (TpuEff nD τ sig (Elt F) Λ₀ .tc) PUnit := do
  let x ← ldCols arg1 hd
  let wa ← ldMat arg2 hd
  let wx ← ldMat arg3 hd
  let ba ← ldRow arg4 hd
  let bx ← ldRow arg5 hd
  let lam ← ldRow arg6 hd
  let a := decayV (gateV x (mat wa) ba) (spV lam)
  stCols arg19 hd (same a)
  stCols arg22 hd (same (gateV x (mat wa) ba))
  stCols arg23 hd (same (gateV x (mat wx) bx))
  let dh ← ldCols arg10 hd
  stCols arg20 hd (same (mulf a dh))

/-- The sweep up the tiles of eight rows. -/
def bwdSweep : Prog (TpuEff nD τ sig (Elt F) Λ₀ .tc) PUnit :=
  Scf.Loop.for k1_t1_loop k1_t1_ok ⟨⟩ fun t _ => do
    let ⟨_, v, a⟩ ← k1_part1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24
      (iota .tc S8x2048 32 [0] iota_S8x2048_d0_w32) 0#32 1#32 t
    let c ← ldTile arg24
    let y : FVec F S8x2048 .f32 := addf (mulf a c) v
    let _ : Vec F S8x2048 .f32 ← Prog.lift (.load arg21 (Rect.unit (s := S128x2048) (k1_off1 t) S8x2048.size (k1_off1_inb t)).toLoadRect (View.loadsAt_vmem h_S8x2048))
    Prog.lift (.store arg21 (Rect.unit (s := S128x2048) (k1_off1 t) S8x2048.size (k1_off1_inb t)) (shapeCast S8x2048 y shapeCasts_S8x2048_S8x2048 : FVec F S8x2048 .f32) Finset.univ (View.stores_vmem_bits_univ h_S8x2048 rfl) (.inl rfl))
    stTile arg24 (extractStridedSlice S1x2048 ![0, 0] y slices_S8x2048_o0_0_S1x2048)
    pure ⟨⟩

/-- After the sweep: the carry's first row is the gradient of the state before the rows so far. -/
def bwdMid : Prog (TpuEff nD τ sig (Elt F) Λ₀ .tc) PUnit := do
  let v : Vec F S1x2048 .f32 ← Prog.lift (.load arg24 (Rect.unit (s := S8x2048) ![0, 0] S1x2048.size inb_S8x2048_S1x2048_0_0).toLoadRect (View.loadsAt_vmem h_S1x2048))
  stAllRow arg18 v

/-- The rows before the block: the state the recurrence starts from for the first block, and the rows
of the block before for the others. -/
def haloV (h0 : Vec F S1x2048 .f32) (p : Vec F S8x2048 .f32) : FVec F S8x2048 .f32 :=
  Scalar.select (Scalar.cmpi .eq (Scalar.subi 1#32 (BitVec.ofNat 32 (i 0).val)) 0#32) (rows8 h0)
    (shapeCast S8x2048 p shapeCasts_S8x2048_S8x2048 : FVec F S8x2048 .f32)

/-- What the backward kernel does for a head after the sweep, with the carry `c` before the sweep and
the rows `q` before the block. -/
def bwdGrad (c q : FVec F S8x2048 .f32) (hd : Fin 16) : Prog (TpuEff nD τ sig (Elt F) Λ₀ .tc) PUnit := do
  let mu ← ldCols arg21 hd
  let h ← ldCols arg8 hd
  let x ← ldCols arg1 hd
  let r ← ldCols arg22 hd
  let g ← ldCols arg23 hd
  let a ← ldCols arg19 hd
  let lam ← ldRow arg6 hd
  let dh ← ldCols arg10 hd
  let l : FVec F S128x128 .f32 := addf dh (nextV mu (tileCols c hd))
  let e := dexpV l (prevV (tileCols q hd) (same h)) a g x
  let d := dgatedV l a
  let pa := dpreAV e r (spV lam)
  let px := dpreXV d x g
  let dsp ← ldRow arg17 hd
  stRow arg17 hd (addRowsV dsp (mulf e (mulf (numV 0xC1000000#32) r)))
  let dba ← ldRow arg15 hd
  stRow arg15 hd (addRowsV dba pa)
  let dbx ← ldRow arg16 hd
  stRow arg16 hd (addRowsV dbx px)
  let wa ← ldMat arg2 hd
  let wx ← ldMat arg3 hd
  let dwa ← ldMat arg13 hd
  stMat arg13 hd (addOuterV dwa x pa)
  let dwx ← ldMat arg14 hd
  stMat arg14 hd (addOuterV dwx x px)
  stCols arg12 hd (addf (addf (mulf d g) (mulTV pa (mat wa))) (mulTV px (mat wx)))

/-- All that follows the sweep. -/
def bwdRest (c : FVec F S8x2048 .f32) : Prog (TpuEff nD τ sig (Elt F) Λ₀ .tc) PUnit := do
  bwdMid arg18 arg24
  let h0 ← ldAllRow arg7
  let p ← ldTile arg9
  heads (bwdGrad arg1 arg2 arg3 arg6 arg8 arg10 arg12 arg13 arg14 arg15 arg16 arg17 arg19 arg21 arg22 arg23 c (haloV i h0 p))
  pure ⟨⟩

/-- The first part: the start, and the gates of the first head up to a last sum. -/
theorem bwdFirst : k1_part2 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 = (do
    bwdStart i arg11 arg13 arg14 arg15 arg16 arg17 arg24
    let x ← ldCols arg1 0
    let wa ← ldMat arg2 0
    let wx ← ldMat arg3 0
    let ba ← ldRow arg4 0
    let bx ← ldRow arg5 0
    let lam ← ldRow arg6 0
    pure ⟨BitVec.ofNat 32 (i 0).val, lam, gateV x (mat wa) ba, mulf (numV 0x3F000000#32)
      (tanh (mulf (numV 0x3F000000#32)
        (addf (matmul dot_S128x128_S128x128_S128x128_1_0_0_1_n_n none (truncf .bf16 x bitsLt_bf16_f32)
            (truncf .bf16 (mat wx) bitsLt_bf16_f32) (constant S128x128 .f32 0x00000000#32))
          (broadcastTo S128x128 bx broadcasts_S1x128_S128x128)))), numV 0x3F000000#32⟩) := by
  unfold k1_part2 bwdStart
  by_cases h : Scalar.cmpi .ne (Scalar.extui (Scalar.cmpi .eq (BitVec.ofNat 32 (i 0).val) 0#32) : BitVec 32) 0#32 = 1#1
  · rw [if_pos h]
    simp only [dif_pos h]
    rfl
  · rw [if_neg h]
    simp only [dif_neg h]
    rfl

set_option maxHeartbeats 2000000 in
/-- The backward kernel is: the start, the sixteen heads, the sweep and what follows. -/
theorem bwd_eq : cc1_ctx_lru_bwd0 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 =
    (do bwdStart i arg11 arg13 arg14 arg15 arg16 arg17 arg24
        heads (bwdHead arg1 arg2 arg3 arg4 arg5 arg6 arg10 arg19 arg20 arg22 arg23)
        let c ← ldTile arg24
        bwdSweep i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24
        bwdRest i arg1 arg2 arg3 arg6 arg7 arg8 arg9 arg10 arg12 arg13 arg14 arg15 arg16 arg17 arg18 arg19 arg21 arg22 arg23 arg24 c) := by
  unfold cc1_ctx_lru_bwd0 k1_part79
  rw [bwdFirst]
  refine bind_peel (p := bwdStart (F := F) i arg11 arg13 arg14 arg15 arg16 arg17 arg24) fun _ => ?_
  repeat ((conv_lhs => whnf); (conv_rhs => whnf); refine op_congr fun _ => ?_)
  refine bind_peel (p := bwdSweep (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) fun _ => ?_
  repeat ((conv_lhs => whnf); (conv_rhs => whnf); refine op_congr fun _ => ?_)
  rfl

end

end Cert.KernelIdeal.Shape
-- ==== Proof.Tiles.lean ====
module

public import proofs.«01_k».proof.Proof.HeadRules
public import proofs.«01_k».proof.Proof.FwdShape
public import proofs.«01_k».proof.Proof.BwdShape

@[expose] public section

set_option maxRecDepth 16384

noncomputable section

namespace Cert.KernelIdeal.Shape

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Facts₀ Facts

theorem trips0 : k0_t1_loop.trips = 16 := by decide
theorem trips1 : k1_t1_loop.trips = 16 := by decide

/-- The tile of a trip of the forward sweep. -/
def tile0 (t : Fin k0_t1_loop.trips) : Fin 16 := ⟨t.1, trips0 ▸ t.2⟩

/-- The tile of a trip of the backward sweep. -/
def tile1 (t : Fin k1_t1_loop.trips) : Fin 16 := ⟨15 - t.1, by omega⟩

theorem off0 (t : Fin k0_t1_loop.trips) : k0_off1 t = ![8 * (tile0 t).1, 0] := by
  revert t; decide

theorem off1 (t : Fin k1_t1_loop.trips) : k1_off1 t = ![8 * (tile1 t).1, 0] := by
  revert t; decide

variable {F : FTy → Type} [FloatOps F] [Facts]

local notation "𝕄" => MT nD τ sig Unit (Elt F) ℕ (UR sig nD τ) ℕ

variable {𝒱 : Variants} {c : Dev nD} {bd : Option 𝒱.V} {E : Set ℕ}

local notation "WP" => wp (M := 𝕄) frame (wpE defs₀ 𝒱 (c : Thread nD τ) bd) E

/-- The number of each row of a tile. -/
abbrev rowNo : IVec S8x2048 32 := iota .tc S8x2048 32 [0] iota_S8x2048_d0_w32

/-- One doubling of the decays of a tile: each row's decay times the decay `k` rows on (by the
rotation), where the row's number says there is one. -/
def dblA (p : CmpIPredicate) (k : BitVec 32) (a : FVec F S8x2048 .f32) : FVec F S8x2048 .f32 :=
  mulf a (select (cmpi p rowNo (broadcast S8x2048 k)) (dynamicRotate 0 k none a rotates_S8x2048_d0 : FVec F S8x2048 .f32)
    (broadcast S8x2048 (Scalar.ofBits .f32 0x3F800000#32)))

/-- One doubling of the sums of a tile. -/
def dblU (p : CmpIPredicate) (k : BitVec 32) (a u : FVec F S8x2048 .f32) : FVec F S8x2048 .f32 :=
  addf (mulf a (select (cmpi p rowNo (broadcast S8x2048 k)) (dynamicRotate 0 k none u rotates_S8x2048_d0 : FVec F S8x2048 .f32)
    (broadcast S8x2048 (Scalar.ofBits .f32 0x00000000#32)))) u

/-- The products of decays down a tile. -/
def downA (a : FVec F S8x2048 .f32) : FVec F S8x2048 .f32 := dblA .sge 4#32 (dblA .sge 2#32 (dblA .sge 1#32 a))

/-- The sums down a tile. -/
def downU (a u : FVec F S8x2048 .f32) : FVec F S8x2048 .f32 :=
  dblU .sge 4#32 (dblA .sge 2#32 (dblA .sge 1#32 a)) (dblU .sge 2#32 (dblA .sge 1#32 a) (dblU .sge 1#32 a u))

/-- The products of decays up a tile. -/
def upA (a : FVec F S8x2048 .f32) : FVec F S8x2048 .f32 := dblA .slt 4#32 (dblA .slt 6#32 (dblA .slt 7#32 a))

/-- The sums up a tile. -/
def upU (a u : FVec F S8x2048 .f32) : FVec F S8x2048 .f32 :=
  dblU .slt 4#32 (dblA .slt 6#32 (dblA .slt 7#32 a)) (dblU .slt 6#32 (dblA .slt 7#32 a) (dblU .slt 7#32 a u))

/-- Eight rows lie in a block. -/
theorem inb_rows (t : Fin 16) : ∀ a, (![8 * t.1, 0] : Fin 2 → ℕ) a + S8x2048.size a ≤ S128x2048.size a := by
  have := t.2
  intro a
  fin_cases a <;> simp [S8x2048, S128x2048] <;> omega

/-- The rows of a tile. -/
def rowsOf {α : Type} (X : S128x2048.Idx → α) (t : Fin 16) : S8x2048.Idx → α :=
  VecWindow.window X ![8 * t.1, 0] S8x2048.size (inb_rows t)

/-- The block whose tiles are given. -/
def glueTiles {α : Type} (f : Fin 16 → S8x2048.Idx → α) : S128x2048.Idx → α :=
  fun y => f ⟨(y 0).val / 8, by have h : (y 0).val < 128 := (y 0).isLt; omega⟩
    (fun a => match a with
      | 0 => ⟨(y 0).val % 8, Nat.mod_lt _ (by decide)⟩
      | 1 => ⟨(y 1).val, (y 1).isLt⟩)

theorem rowsOf_glue {α : Type} (f : Fin 16 → S8x2048.Idx → α) (t : Fin 16) : rowsOf (glueTiles f) t = f t := by
  funext y
  have h1 : (y 0).val < 8 := (y 0).isLt
  show f _ _ = f t y
  refine app_congr f (Fin.ext ?_) (funext fun a => ?_)
  · show (8 * t.1 + 1 * (y 0).val) / 8 = t.1
    omega
  · match a with
    | 0 => exact Fin.ext (show (8 * t.1 + 1 * (y 0).val) % 8 = (y 0).val by omega)
    | 1 => exact Fin.ext (show 0 + 1 * (y 1).val = (y 1).val by omega)

/-- `A` with the last `k` tiles from `G`. -/
def fillUp {α : Type} (A G : S128x2048.Idx → α) (k : ℕ) : S128x2048.Idx → α :=
  fun y => if 128 ≤ (y 0).val + 8 * k then G y else A y

theorem fillUp_zero {α : Type} (A G : S128x2048.Idx → α) : fillUp A G 0 = A := by
  funext y; have h : (y 0).val < 128 := (y 0).isLt; simp only [fillUp]; rw [if_neg (by omega)]

theorem fillUp_full {α : Type} (A G : S128x2048.Idx → α) : fillUp A G 16 = G := by
  funext y; simp only [fillUp]; rw [if_pos (by omega)]

theorem put_fillUp {α : Type} (A G : S128x2048.Idx → α) (k : ℕ) (t : Fin 16) (h : t.1 + k = 15) :
    VecWindow.put (fillUp A G k) ![8 * t.1, 0] S8x2048.size (rowsOf G t) = fillUp A G (k + 1) := by
  funext y
  have h0 : (y 0).val < 128 := (y 0).isLt
  have h1 : (y 1).val < 2048 := (y 1).isLt
  unfold VecWindow.put fillUp
  by_cases hh : ∀ a, (![8 * t.1, 0] : Fin 2 → ℕ) a ≤ (y a).val ∧ (y a).val < (![8 * t.1, 0] : Fin 2 → ℕ) a + S8x2048.size a
  · have e : 8 * t.1 ≤ (y 0).val ∧ (y 0).val < 8 * t.1 + 8 := hh 0
    rw [dif_pos hh, if_pos (by omega)]
    refine congrArg G (funext fun b => Fin.ext ?_)
    show (![8 * t.1, 0] : Fin 2 → ℕ) b + 1 * ((y b).val - (![8 * t.1, 0] : Fin 2 → ℕ) b) = (y b).val
    have := (hh b).1
    omega
  · rw [dif_neg hh]
    have hn : ¬ (8 * t.1 ≤ (y 0).val ∧ (y 0).val < 8 * t.1 + 8) := fun e => hh fun b => by
      match b with
      | 0 => exact e
      | 1 => exact ⟨Nat.zero_le _, show (y 1).val < 0 + 2048 by omega⟩
    by_cases h2 : 128 ≤ (y 0).val + 8 * k
    · rw [if_pos h2, if_pos (by omega)]
    · rw [if_neg h2, if_neg (by omega)]

theorem put_fillDown {α : Type} (A G : S128x2048.Idx → α) (t : Fin 16) :
    VecWindow.put (fill 0 8 A G t.1) ![8 * t.1, 0] S8x2048.size (rowsOf G t) = fill 0 8 A G (t.1 + 1) :=
  put_fill (s := S128x2048) 0 8 A G t.1 ![8 * t.1, 0] S8x2048.size (inb_rows t) rfl rfl
    (by intro b hb; fin_cases b <;> simp_all [S8x2048, S128x2048])

/-- Equal offsets, equal windows. -/
theorem window_off {α : Type} {s : Shape} (X : s.Idx → α) {off off' size : Fin s.rank → ℕ} (h : off = off')
    (inb : ∀ a, off a + size a ≤ s.size a) (inb' : ∀ a, off' a + size a ≤ s.size a) :
    VecWindow.window X off size inb = VecWindow.window X off' size inb' := by subst h; rfl

/-- The first row of a carry. -/
def topRow (x : S8x2048.Idx → Elt F .f32) : FVec F S1x2048 .f32 :=
  VecWindow.window x ![0, 0] S1x2048.size inb_S8x2048_S1x2048_0_0

section

variable (A U : S128x2048.Idx → Elt F .f32) (c0 : S8x2048.Idx → Elt F .f32)

/-- The states of a tile, by the state before it. -/
def fwdY (x : S8x2048.Idx → Elt F .f32) (t : Fin 16) : FVec F S8x2048 .f32 :=
  addf (mulf (downA (rowsOf A t)) x) (downU (rowsOf A t) (rowsOf U t))

/-- The carry after the first tiles. -/
def fwdCarry : ℕ → (S8x2048.Idx → Elt F .f32)
  | 0 => c0
  | t + 1 => if h : t < 16 then
      tileV (extractStridedSlice S1x2048 ![7, 0] (fwdY A U (fwdCarry t) ⟨t, h⟩) slices_S8x2048_o7_0_S1x2048)
    else fwdCarry t

/-- The states of a block. -/
def fwdH : S128x2048.Idx → Elt F .f32 := glueTiles fun t => fwdY A U (fwdCarry A U c0 t.1) t

/-- The decays times the gradients of a tile, by the carry from the tile after it. -/
def bwdY (x : S8x2048.Idx → Elt F .f32) (t : Fin 16) : FVec F S8x2048 .f32 :=
  addf (mulf (upA (rowsOf A t)) x) (upU (rowsOf A t) (rowsOf U t))

/-- The carry after the last tiles. -/
def bwdCarry : ℕ → (S8x2048.Idx → Elt F .f32)
  | 0 => c0
  | t + 1 => if h : t < 16 then
      tileV (extractStridedSlice S1x2048 ![0, 0] (bwdY A U (bwdCarry t) ⟨15 - t, by omega⟩) slices_S8x2048_o0_0_S1x2048)
    else bwdCarry t

/-- The decays times the gradients of the states of a block. -/
def bwdMu : S128x2048.Idx → Elt F .f32 := glueTiles fun t =>
  (shapeCast S8x2048 (bwdY A U (bwdCarry A U c0 (15 - t.1)) t) shapeCasts_S8x2048_S8x2048 : FVec F S8x2048 .f32)

end

end Cert.KernelIdeal.Shape
-- ==== Proof.FwdBody.lean ====
module

public import proofs.«01_k».proof.Proof.Tiles

@[expose] public section

set_option maxRecDepth 16384

noncomputable section

namespace Cert.KernelIdeal.Shape

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Facts₀ Facts

/-- The test for the first grid point. -/
theorem first0 (i : grid0.Coords) : (Scalar.cmpi .ne (Scalar.extui (Scalar.cmpi .eq (BitVec.ofNat 32 (i 0).val) 0#32) : BitVec 32) 0#32 = 1#1)
    ↔ (i 0).val = 0 := by
  have h : ∀ n : Fin 2, (Scalar.cmpi .ne (Scalar.extui (Scalar.cmpi .eq (BitVec.ofNat 32 n.val) 0#32) : BitVec 32) 0#32 = 1#1) ↔ n.val = 0 := by decide
  exact h (i 0)

variable {F : FTy → Type} [FloatOps F] [Facts]

local notation "𝕄" => MT nD τ sig Unit (Elt F) ℕ (UR sig nD τ) ℕ

variable {𝒱 : Variants} {c : Dev nD} {bd : Option 𝒱.V} {E : Set ℕ}

local notation "WP" => wp (M := 𝕄) frame (wpE defs₀ 𝒱 (c : Thread nD τ) bd) E

/-- The decays of a block. -/
def decays (X : S128x2048.Idx → Elt F .f32) (WA : S16x128x128.Idx → Elt F .f32) (BA LAM : S1x2048.Idx → Elt F .f32) :
    S128x2048.Idx → Elt F .f32 :=
  glueCols fun hd => same (decayV (gateV (colsOf X hd) (mat (matOf WA hd)) (rowOf BA hd)) (spV (rowOf LAM hd)))

/-- What the recurrence adds at the rows of a block. -/
def inputs (X : S128x2048.Idx → Elt F .f32) (WA WX : S16x128x128.Idx → Elt F .f32) (BA BX LAM : S1x2048.Idx → Elt F .f32) :
    S128x2048.Idx → Elt F .f32 :=
  glueCols fun hd => same (inputV (decayV (gateV (colsOf X hd) (mat (matOf WA hd)) (rowOf BA hd)) (spV (rowOf LAM hd)))
    (gateV (colsOf X hd) (mat (matOf WX hd)) (rowOf BX hd)) (colsOf X hd))

theorem colsOf_decays (X : S128x2048.Idx → Elt F .f32) (WA : S16x128x128.Idx → Elt F .f32) (BA LAM : S1x2048.Idx → Elt F .f32) (hd : Fin 16) :
    colsOf (decays X WA BA LAM) hd = same (decayV (gateV (colsOf X hd) (mat (matOf WA hd)) (rowOf BA hd)) (spV (rowOf LAM hd))) :=
  colsOf_glue _ hd

theorem colsOf_inputs (X : S128x2048.Idx → Elt F .f32) (WA WX : S16x128x128.Idx → Elt F .f32) (BA BX LAM : S1x2048.Idx → Elt F .f32) (hd : Fin 16) :
    colsOf (inputs X WA WX BA BX LAM) hd = same (inputV (decayV (gateV (colsOf X hd) (mat (matOf WA hd)) (rowOf BA hd)) (spV (rowOf LAM hd)))
      (gateV (colsOf X hd) (mat (matOf WX hd)) (rowOf BX hd)) (colsOf X hd)) :=
  colsOf_glue _ hd

section

variable (i : grid0.Coords)
    (arg1 : Memref sig .tc .vmem S128x2048 .f32) (harg1 : arg1.IsWhole)
    (arg2 : Memref sig .tc .vmem S16x128x128 .f32) (harg2 : arg2.IsWhole)
    (arg3 : Memref sig .tc .vmem S16x128x128 .f32) (harg3 : arg3.IsWhole)
    (arg4 : Memref sig .tc .vmem S1x2048 .f32) (harg4 : arg4.IsWhole)
    (arg5 : Memref sig .tc .vmem S1x2048 .f32) (harg5 : arg5.IsWhole)
    (arg6 : Memref sig .tc .vmem S1x2048 .f32) (harg6 : arg6.IsWhole)
    (arg7 : Memref sig .tc .vmem S1x2048 .f32) (harg7 : arg7.IsWhole)
    (arg8 : Memref sig .tc .vmem S128x2048 .f32) (harg8 : arg8.IsWhole)
    (arg9 : Memref sig .tc .vmem S1x2048 .f32) (harg9 : arg9.IsWhole)
    (arg10 : Memref sig .tc .vmem S128x2048 .f32) (harg10 : arg10.IsWhole)
    (arg11 : Memref sig .tc .vmem S128x2048 .f32) (harg11 : arg11.IsWhole)
    (arg12 : Memref sig .tc .vmem S8x2048 .f32) (harg12 : arg12.IsWhole)

variable {q1 q2 q3 q4 q5 q6 q7 : PosShare TreeShare} {X : S128x2048.Idx → Elt F .f32} {WA WX : S16x128x128.Idx → Elt F .f32}
  {BA BX LAM H0 : S1x2048.Idx → Elt F .f32}

local notation "OW" => owns (Ix := Unit) (Val := Elt F) (Name := ℕ) (U := UR sig nD τ) (Lvl := ℕ) (c : Thread nD τ)

theorem fwdHeads_rule {D10 D11 : S128x2048.Idx → Elt F .f32} :
    iprop(OW arg1 q1 X ∗ OW arg2 q2 WA ∗ OW arg3 q3 WX ∗ OW arg4 q4 BA ∗ OW arg5 q5 BX ∗ OW arg6 q6 LAM
      ∗ OW arg10 fullShare D10 ∗ OW arg11 fullShare D11) ⊢
    WP (heads (fwdHead arg1 arg2 arg3 arg4 arg5 arg6 arg10 arg11)) (fun _ =>
      iprop(OW arg1 q1 X ∗ OW arg2 q2 WA ∗ OW arg3 q3 WX ∗ OW arg4 q4 BA ∗ OW arg5 q5 BX ∗ OW arg6 q6 LAM
      ∗ OW arg10 fullShare (decays X WA BA LAM) ∗ OW arg11 fullShare (inputs X WA WX BA BX LAM))) := by
  have key := heads_rule (F := F) (𝒱 := 𝒱) (c := c) (bd := bd) (E := E) (f := fwdHead arg1 arg2 arg3 arg4 arg5 arg6 arg10 arg11)
    (fun k => iprop(OW arg1 q1 X ∗ OW arg2 q2 WA ∗ OW arg3 q3 WX ∗ OW arg4 q4 BA ∗ OW arg5 q5 BX ∗ OW arg6 q6 LAM
      ∗ OW arg10 fullShare (fillCols D10 (decays X WA BA LAM) k) ∗ OW arg11 fullShare (fillCols D11 (inputs X WA WX BA BX LAM) k)))
    (by
      intro hd
      unfold fwdHead
      iintro ⟨H1, H2, H3, H4, H5, H6, H10, H11⟩
      iapply (ldCols_bind (F := F)) $$ H1; iintro H1
      iapply (ldMat_bind (F := F)) $$ H2; iintro H2
      iapply (ldMat_bind (F := F)) $$ H3; iintro H3
      iapply (ldRow_bind (F := F)) $$ H4; iintro H4
      iapply (ldRow_bind (F := F)) $$ H5; iintro H5
      iapply (ldRow_bind (F := F)) $$ H6; iintro H6
      iapply (stCols_bind (F := F) (colsOf_decays X WA BA LAM hd).symm) $$ H10; iintro H10
      iapply (stCols_rule (F := F) (colsOf_inputs X WA WX BA BX LAM hd).symm) $$ H11; iintro H11
      iframe)
  rw [fillCols, fillCols, fill_zero, fill_zero, fillCols, fillCols, fill_full _ _ _ _ (by decide), fill_full _ _ _ _ (by decide)] at key
  exact key

theorem fwdTile_eq (t : Fin k0_t1_loop.trips) :
    k0_part1 (F := F) i arg1 harg1 arg2 harg2 arg3 harg3 arg4 harg4 arg5 harg5 arg6 harg6 arg7 harg7 arg8 harg8 arg9 harg9 arg10 harg10 arg11 harg11 arg12 harg12
      rowNo 0#32 1#32 t = (do
      let a : Vec F S8x2048 .f32 ← Prog.lift (.load arg10 (Rect.unit (s := S128x2048) (k0_off1 t) S8x2048.size (k0_off1_inb t)).toLoadRect (View.loadsAt_vmem h_S8x2048))
      let u : Vec F S8x2048 .f32 ← Prog.lift (.load arg11 (Rect.unit (s := S128x2048) (k0_off1 t) S8x2048.size (k0_off1_inb t)).toLoadRect (View.loadsAt_vmem h_S8x2048))
      pure ⟨Scalar.muli (Scf.iv 0#32 1#32 t.1) 8#32, downU a u, downA a⟩) := rfl

theorem rowsOf_off0 {α : Type} (A : S128x2048.Idx → α) (t : Fin k0_t1_loop.trips) :
    VecWindow.window A (k0_off1 t) S8x2048.size (k0_off1_inb t) = rowsOf A (tile0 t) :=
  window_off A (off0 t) _ _

theorem put_fwdH (A U D8 : S128x2048.Idx → Elt F .f32) (C : S8x2048.Idx → Elt F .f32) (t : Fin k0_t1_loop.trips) :
    VecWindow.put (fill (s := S128x2048) 0 8 D8 (fwdH A U C) t.1) (k0_off1 t) S8x2048.size
      (addf (mulf (downA (rowsOf A (tile0 t))) (fwdCarry A U C t.1)) (downU (rowsOf A (tile0 t)) (rowsOf U (tile0 t))))
      = fill (s := S128x2048) 0 8 D8 (fwdH A U C) (t.1 + 1) := by
  rw [off0]
  have h := put_fillDown D8 (fwdH A U C) (tile0 t)
  rw [show rowsOf (fwdH A U C) (tile0 t) = _ from rowsOf_glue _ _] at h
  exact h

theorem fwdCarry_succ (A U : S128x2048.Idx → Elt F .f32) (C : S8x2048.Idx → Elt F .f32) (t : Fin k0_t1_loop.trips) :
    tileV (extractStridedSlice S1x2048 ![7, 0] (addf (mulf (downA (rowsOf A (tile0 t))) (fwdCarry A U C t.1))
      (downU (rowsOf A (tile0 t)) (rowsOf U (tile0 t)))) slices_S8x2048_o7_0_S1x2048) = fwdCarry A U C (t.1 + 1) := by
  have h : t.1 < 16 := trips0 ▸ t.2
  rw [fwdCarry, dif_pos h]
  rfl

/-- The sweep of the forward kernel. -/
theorem fwdSweep_rule {A U D8 : S128x2048.Idx → Elt F .f32} {C : S8x2048.Idx → Elt F .f32} :
    iprop(OW arg8 fullShare D8 ∗ OW arg10 fullShare A ∗ OW arg11 fullShare U ∗ OW arg12 fullShare C) ⊢
    WP (fwdSweep i arg1 harg1 arg2 harg2 arg3 harg3 arg4 harg4 arg5 harg5 arg6 harg6 arg7 harg7 arg8 harg8 arg9 harg9 arg10 harg10 arg11 harg11 arg12 harg12)
      (fun _ => iprop(OW arg8 fullShare (fwdH A U C) ∗ OW arg10 fullShare A ∗ OW arg11 fullShare U ∗ OW arg12 fullShare (fwdCarry A U C 16))) := by
  have key := Scf.wp_for (M := 𝕄) frame (wpE defs₀ 𝒱 (c : Thread nD τ) bd) E k0_t1_loop.lb k0_t1_loop.ub k0_t1_loop.st k0_t1_ok PUnit.unit
    (fun t _ => do
      let ⟨_, u, a⟩ ← k0_part1 i arg1 harg1 arg2 harg2 arg3 harg3 arg4 harg4 arg5 harg5 arg6 harg6 arg7 harg7 arg8 harg8 arg9 harg9 arg10 harg10 arg11 harg11 arg12 harg12
        rowNo 0#32 1#32 t
      let c ← ldTile arg12
      let y : FVec F S8x2048 .f32 := addf (mulf a c) u
      let _ : Vec F S8x2048 .f32 ← Prog.lift (.load arg8 (Rect.unit (s := S128x2048) (k0_off1 t) S8x2048.size (k0_off1_inb t)).toLoadRect (View.loadsAt_vmem h_S8x2048))
      Prog.lift (.store arg8 (Rect.unit (s := S128x2048) (k0_off1 t) S8x2048.size (k0_off1_inb t)) y Finset.univ (View.stores_vmem_bits_univ h_S8x2048 rfl) (.inl rfl))
      stTile arg12 (extractStridedSlice S1x2048 ![7, 0] y slices_S8x2048_o7_0_S1x2048)
      pure ⟨⟩)
    (fun k _ => iprop(OW arg8 fullShare (fill 0 8 D8 (fwdH A U C) k) ∗ OW arg10 fullShare A ∗ OW arg11 fullShare U ∗ OW arg12 fullShare (fwdCarry A U C k)))
    (by
      intro t _
      rw [fwdTile_eq]
      iintro ⟨H8, H10, H11, H12⟩
      simp only [bind_assoc, pure_bind]
      iapply (ld_bind_eq (F := F) (rowsOf_off0 A t)) $$ H10; iintro H10
      iapply (ld_bind_eq (F := F) (rowsOf_off0 U t)) $$ H11; iintro H11
      iapply (ldTile_bind (F := F)) $$ H12; iintro H12
      iapply (ld_bind (F := F)) $$ H8; iintro H8
      iapply (st_bind_eq (F := F) (put_fwdH A U D8 C t)) $$ H8; iintro H8
      iapply (stTile_bind (F := F)) $$ H12; iintro H12
      rw [fwdCarry_succ A U C t, wp_pure]
      iframe)
    (Q := fun _ => iprop(OW arg8 fullShare (fwdH A U C) ∗ OW arg10 fullShare A ∗ OW arg11 fullShare U ∗ OW arg12 fullShare (fwdCarry A U C 16)))
  have e : Scf.trips k0_t1_loop.lb k0_t1_loop.ub k0_t1_loop.st = 16 := trips0
  rw [fill_zero, show fwdCarry A U C 0 = C from rfl,
    show fwdCarry A U C (Scf.trips k0_t1_loop.lb k0_t1_loop.ub k0_t1_loop.st) = fwdCarry A U C 16 from congrArg _ e,
    fill_full (s := S128x2048) 0 8 _ _ (by rw [e]; decide)] at key
  refine BIBase.Entails.trans ?_ key
  iintro ⟨H8, H10, H11, H12⟩
  isplitl [H8 H10 H11 H12]
  · iframe
  · iintro %_ ⟨H8, H10, H11, H12⟩
    iframe

/-- The carry at the start of a grid point: the first state at the first point. -/
def startC (n : ℕ) (H0 : S1x2048.Idx → Elt F .f32) (C : S8x2048.Idx → Elt F .f32) : S8x2048.Idx → Elt F .f32 :=
  if n = 0 then tileV H0 else C

/-- A grid point of the forward kernel. -/
theorem fwdBody_rule {D8 D10 D11 : S128x2048.Idx → Elt F .f32} {D9 : S1x2048.Idx → Elt F .f32} {C : S8x2048.Idx → Elt F .f32} :
    iprop(OW arg1 q1 X ∗ OW arg2 q2 WA ∗ OW arg3 q3 WX ∗ OW arg4 q4 BA ∗ OW arg5 q5 BX ∗ OW arg6 q6 LAM ∗ OW arg7 q7 H0
      ∗ OW arg8 fullShare D8 ∗ OW arg9 fullShare D9 ∗ OW arg10 fullShare D10 ∗ OW arg11 fullShare D11 ∗ OW arg12 fullShare C) ⊢
    WP (cc0_ctx_lru_fwd0 i arg1 harg1 arg2 harg2 arg3 harg3 arg4 harg4 arg5 harg5 arg6 harg6 arg7 harg7 arg8 harg8 arg9 harg9 arg10 harg10 arg11 harg11 arg12 harg12) (fun _ =>
      iprop(OW arg1 q1 X ∗ OW arg2 q2 WA ∗ OW arg3 q3 WX ∗ OW arg4 q4 BA ∗ OW arg5 q5 BX ∗ OW arg6 q6 LAM ∗ OW arg7 q7 H0
      ∗ OW arg8 fullShare (fwdH (decays X WA BA LAM) (inputs X WA WX BA BX LAM) (startC (i 0).val H0 C))
      ∗ OW arg9 fullShare (topRow (fwdCarry (decays X WA BA LAM) (inputs X WA WX BA BX LAM) (startC (i 0).val H0 C) 16))
      ∗ OW arg10 fullShare (decays X WA BA LAM) ∗ OW arg11 fullShare (inputs X WA WX BA BX LAM)
      ∗ OW arg12 fullShare (fwdCarry (decays X WA BA LAM) (inputs X WA WX BA BX LAM) (startC (i 0).val H0 C) 16))) := by
  rw [fwd_eq]
  have start : iprop(OW arg7 q7 H0 ∗ OW arg12 fullShare C) ⊢ WP (fwdStart i arg7 arg12)
      (fun _ => iprop(OW arg7 q7 H0 ∗ OW arg12 fullShare (startC (i 0).val H0 C))) := by
    unfold fwdStart startC
    iintro ⟨H7, H12⟩
    by_cases h : (i 0).val = 0
    · rw [if_pos ((first0 i).mpr h), if_pos h]
      iapply (ldAllRow_bind (F := F)) $$ H7; iintro H7
      iapply (stTile_bind (F := F)) $$ H12; iintro H12
      rw [wp_pure]
      iframe
    · rw [if_neg (fun h' => h ((first0 i).mp h')), if_neg h, wp_pure]
      iframe
  iintro ⟨H1, H2, H3, H4, H5, H6, H7, H8, H9, H10, H11, H12⟩
  rw [wp_bind]
  iapply (wp_wand frame (wpE defs₀ 𝒱 (c : Thread nD τ) bd) E) $$ [H7 H12]
  · iapply start; iframe
  iintro %_ ⟨H7, H12⟩
  rw [wp_bind]
  iapply (wp_wand frame (wpE defs₀ 𝒱 (c : Thread nD τ) bd) E) $$ [H1 H2 H3 H4 H5 H6 H10 H11]
  · iapply (fwdHeads_rule (F := F)); iframe
  iintro %_ ⟨H1, H2, H3, H4, H5, H6, H10, H11⟩
  rw [wp_bind]
  iapply (wp_wand frame (wpE defs₀ 𝒱 (c : Thread nD τ) bd) E) $$ [H8 H10 H11 H12]
  · iapply (fwdSweep_rule (F := F)); iframe
  iintro %_ ⟨H8, H10, H11, H12⟩
  unfold fwdEnd
  iapply (ld_bind (F := F)) $$ H12; iintro H12
  iapply (stAllRow_bind (F := F)) $$ H9; iintro H9
  rw [wp_pure]
  unfold topRow
  iframe

end

end Cert.KernelIdeal.Shape
-- ==== Proof.FwdRegion.lean ====
module

public import proofs.«01_k».proof.Proof.FwdBody
public import proofs.«01_k».proof.Proof.Gen.KernelIdeal.Launch
public import proofs.«01_k».proof.Proof.Gen.KernelIdeal.Points
public import Idealize.ShloMosaic.Lib.Pipeline.Frame
public import Idealize.ShloMosaic.Lib.Pipeline.FrameBody
public import Idealize.ShloMosaic.Lib.Pipeline.Regions
public import Idealize.ShloMosaic.Lib.Pipeline.RegionsLoop

@[expose] public section

set_option maxRecDepth 16384

noncomputable section

namespace Cert.KernelIdeal.Fwd

open Cert.KernelIdeal.Gen Cert.KernelIdeal.Shape
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

-- `V` is what every unscoped buffer of a core holds when the forward kernel is called
variable (V : (c : Dev nD) → (b : Ref sig .tc) → Buf (Elt F) ((c : Thread nD τ).loc b)) (c : Dev nD)

/-! ## The blocks a grid point reads -/

/-- The rows, at a grid point. -/
def xB (t : Fin cfg0.N) : S128x2048.Idx → Elt F .f32 := ((cfg0.win 0).blk t).view.read (Elt F) (V c main_arg0)
/-- The first gate's matrices, at a grid point. -/
def waB (t : Fin cfg0.N) : S16x128x128.Idx → Elt F .f32 := ((cfg0.win 1).blk t).view.read (Elt F) (V c main_arg1)
/-- The second gate's matrices, at a grid point. -/
def wxB (t : Fin cfg0.N) : S16x128x128.Idx → Elt F .f32 := ((cfg0.win 2).blk t).view.read (Elt F) (V c main_arg2)
/-- The first gate's offsets, at a grid point. -/
def baB (t : Fin cfg0.N) : S1x2048.Idx → Elt F .f32 := ((cfg0.win 3).blk t).view.read (Elt F) (V c main_arg3)
/-- The second gate's offsets, at a grid point. -/
def bxB (t : Fin cfg0.N) : S1x2048.Idx → Elt F .f32 := ((cfg0.win 4).blk t).view.read (Elt F) (V c main_arg4)
/-- The logarithms, at a grid point. -/
def lamB (t : Fin cfg0.N) : S1x2048.Idx → Elt F .f32 := ((cfg0.win 5).blk t).view.read (Elt F) (V c main_arg5)
/-- The state before the first row, at a grid point. -/
def h0B (t : Fin cfg0.N) : S1x2048.Idx → Elt F .f32 := ((cfg0.win 6).blk t).view.read (Elt F) (V c main_arg6)

/-! ## What a grid point leaves -/

/-- The decays of the rows of a grid point. -/
def dec (t : Fin cfg0.N) : S128x2048.Idx → Elt F .f32 := decays (xB V c t) (waB V c t) (baB V c t) (lamB V c t)
/-- What the recurrence adds at those rows. -/
def inp (t : Fin cfg0.N) : S128x2048.Idx → Elt F .f32 := inputs (xB V c t) (waB V c t) (wxB V c t) (baB V c t) (bxB V c t) (lamB V c t)
/-- The state the first grid point hands to the second. -/
def handed : S8x2048.Idx → Elt F .f32 := fwdCarry (dec V c t0_0) (inp V c t0_0) (tileV (h0B V c t0_0)) 16
/-- The state a grid point starts from. -/
def start (t : Fin cfg0.N) : S8x2048.Idx → Elt F .f32 := startC t.val (h0B V c t) (handed V c)
/-- The states a grid point writes. -/
def hOut (t : Fin cfg0.N) : S128x2048.Idx → Elt F .f32 := fwdH (dec V c t) (inp V c t) (start V c t)
/-- The last state a grid point writes. -/
def lastOut (t : Fin cfg0.N) : S1x2048.Idx → Elt F .f32 := topRow (fwdCarry (dec V c t) (inp V c t) (start V c t) 16)

/-- The coordinate of a grid point is its number. -/
theorem coord (t : Fin cfg0.N) : (grid0.coords t 0).val = t.val := by
  obtain rfl | rfl := fin_N0 t <;> decide

/-- Whatever the carried state is before the first grid point, a point starts from the state it should. -/
theorem start_eq (t : Fin cfg0.N) (C : S8x2048.Idx → Elt F .f32) (h : t.val = 1 → C = handed V c) :
    startC t.val (h0B V c t) C = start V c t := by
  unfold start startC
  obtain rfl | rfl := fin_N0 t
  · rfl
  · rw [h rfl]

/-- The first grid point leaves the state the second takes up. -/
theorem handed_eq (t : Fin cfg0.N) (h : t.val + 1 = 1) : fwdCarry (dec V c t) (inp V c t) (start V c t) 16 = handed V c := by
  obtain rfl | rfl := fin_N0 t
  · rfl
  · exact absurd h (by decide)

/-- What is held between grid points: the scratch, the carried state as it should be. -/
def Between (n : ℕ) : sProp 𝕄 :=
  iprop((∃ f, ((c : Thread nD τ).loc cc0_scratch0) ↦{fullShare} f) ∗ (∃ f, ((c : Thread nD τ).loc cc0_scratch1) ↦{fullShare} f)
    ∗ (∃ f : S8x2048.Idx → Elt F .f32, ⌜n = 1 → f = handed V c⌝ ∗ ((c : Thread nD τ).loc cc0_scratch2) ↦{fullShare} f)
    ∗ Pipeline.scopedRestBut (Ix := Unit) (Name := ℕ) (U := UR sig nD τ) (Lvl := ℕ) (Val := Elt F) spec0 c [cc0_scratch0, cc0_scratch1, cc0_scratch2])

/-- The forward kernel's proof data, from the contents its call finds. -/
def dat : Dat τ (Elt F) Unit ℕ (UR sig nD τ) ℕ cfg0 c where
  A w := V c (Pipeline.arrRef spec0 w)
  after w t := match w with
    | ⟨0, _⟩ => xB V c t
    | ⟨1, _⟩ => waB V c t
    | ⟨2, _⟩ => wxB V c t
    | ⟨3, _⟩ => baB V c t
    | ⟨4, _⟩ => bxB V c t
    | ⟨5, _⟩ => lamB V c t
    | ⟨6, _⟩ => h0B V c t
    | ⟨7, _⟩ => hOut V c t
    | ⟨8, _⟩ => lastOut V c t
  Φ n := Between V c n.val
  q _ := fullShare
  owed _ := 0

abbrev 𝒱₀ : Variants := Variants.none

theorem before_xB (t : Fin cfg0.N) (d) : (dat V c).before 0 t d = xB V c t :=
  (dat V c).before_in_eq_fetched 0 rfl (fun _ => rfl) (fun _ _ _ => rfl) (fun _ => rfl) t d
theorem before_waB (t : Fin cfg0.N) (d) : (dat V c).before 1 t d = waB V c t :=
  (dat V c).before_in_eq_fetched 1 rfl (fun _ => rfl) (fun _ _ _ => rfl) (fun _ => rfl) t d
theorem before_wxB (t : Fin cfg0.N) (d) : (dat V c).before 2 t d = wxB V c t :=
  (dat V c).before_in_eq_fetched 2 rfl (fun _ => rfl) (fun _ _ _ => rfl) (fun _ => rfl) t d
theorem before_baB (t : Fin cfg0.N) (d) : (dat V c).before 3 t d = baB V c t :=
  (dat V c).before_in_eq_fetched 3 rfl (fun _ => rfl) (fun _ _ _ => rfl) (fun _ => rfl) t d
theorem before_bxB (t : Fin cfg0.N) (d) : (dat V c).before 4 t d = bxB V c t :=
  (dat V c).before_in_eq_fetched 4 rfl (fun _ => rfl) (fun _ _ _ => rfl) (fun _ => rfl) t d
theorem before_lamB (t : Fin cfg0.N) (d) : (dat V c).before 5 t d = lamB V c t :=
  (dat V c).before_in_eq_fetched 5 rfl (fun _ => rfl) (fun _ _ _ => rfl) (fun _ => rfl) t d
theorem before_h0B (t : Fin cfg0.N) (d) : (dat V c).before 6 t d = h0B V c t :=
  (dat V c).before_in_eq_fetched 6 rfl (fun _ => rfl) (fun _ _ _ => rfl) (fun _ => rfl) t d

/-- The kernel at a grid point. -/
theorem body (t : Fin cfg0.N) (R : sProp 𝕄) :
    iprop(Between V c t.val ∗ R ∗ (∃ d, owns c (st0_0 t) fullShare ((dat V c).before 0 t d)) ∗ (∃ d, owns c (st0_1 t) fullShare ((dat V c).before 1 t d)) ∗ (∃ d, owns c (st0_2 t) fullShare ((dat V c).before 2 t d)) ∗ (∃ d, owns c (st0_3 t) fullShare ((dat V c).before 3 t d)) ∗ (∃ d, owns c (st0_4 t) fullShare ((dat V c).before 4 t d)) ∗ (∃ d, owns c (st0_5 t) fullShare ((dat V c).before 5 t d)) ∗ (∃ d, owns c (st0_6 t) fullShare ((dat V c).before 6 t d)) ∗ (∃ d, owns c (st0_7 t) fullShare ((dat V c).before 7 t d)) ∗ (∃ d, owns c (st0_8 t) fullShare ((dat V c).before 8 t d)))
      ⊢ wp (M := 𝕄) frame (wpE defs₀ 𝒱₀ (c : Thread nD τ) none) Set.univ (bodyAt0 t) (fun _ => iprop(Between V c (t.val + 1) ∗ R ∗ owns c (st0_0 t) fullShare (xB V c t) ∗ owns c (st0_1 t) fullShare (waB V c t) ∗ owns c (st0_2 t) fullShare (wxB V c t) ∗ owns c (st0_3 t) fullShare (baB V c t) ∗ owns c (st0_4 t) fullShare (bxB V c t) ∗ owns c (st0_5 t) fullShare (lamB V c t) ∗ owns c (st0_6 t) fullShare (h0B V c t) ∗ owns c (st0_7 t) fullShare (hOut V c t) ∗ owns c (st0_8 t) fullShare (lastOut V c t))) := by
  have key := fun (D8 : S128x2048.Idx → Elt F .f32) (D9 : S1x2048.Idx → Elt F .f32) (D10 D11 : S128x2048.Idx → Elt F .f32) (C : S8x2048.Idx → Elt F .f32) =>
    fwdBody_rule (F := F) (𝒱 := 𝒱₀) (c := c) (bd := none) (E := Set.univ) (grid0.coords t)
      (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) (Memref.whole cc0_scratch2) (Memref.isWhole_whole _)
      (q1 := fullShare) (q2 := fullShare) (q3 := fullShare) (q4 := fullShare) (q5 := fullShare) (q6 := fullShare) (q7 := fullShare)
      (X := xB V c t) (WA := waB V c t) (WX := wxB V c t) (BA := baB V c t) (BX := bxB V c t) (LAM := lamB V c t) (H0 := h0B V c t)
      (D8 := D8) (D9 := D9) (D10 := D10) (D11 := D11) (C := C)
  unfold Between
  iintro ⟨⟨⟨%f10, H10⟩, ⟨%f11, H11⟩, ⟨%C, %hC, H12⟩, Hrest⟩, HR, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  rw [before_xB, before_waB, before_wxB, before_baB, before_bxB, before_lamB, before_h0B]
  ihave H10 := (Entails.of_eq (owns_whole (c : Thread nD τ) cc0_scratch0 fullShare f10).symm) $$ H10
  ihave H11 := (Entails.of_eq (owns_whole (c : Thread nD τ) cc0_scratch1 fullShare f11).symm) $$ H11
  ihave H12 := (Entails.of_eq (owns_whole (c : Thread nD τ) cc0_scratch2 fullShare C).symm) $$ H12
  iapply (wp_wand frame (wpE defs₀ 𝒱₀ (c : Thread nD τ) none) Set.univ) $$ [H1 H2 H3 H4 H5 H6 H7 H8 H9 H10 H11 H12]
  · iapply (key _ _ f10 f11 C)
    iframe
  rw [coord, start_eq V c t C hC]
  iintro %_ ⟨H1, H2, H3, H4, H5, H6, H7, H8, H9, H10, H11, H12⟩
  ihave H10 := (Entails.of_eq (owns_whole (c : Thread nD τ) cc0_scratch0 fullShare _)) $$ H10
  ihave H11 := (Entails.of_eq (owns_whole (c : Thread nD τ) cc0_scratch1 fullShare _)) $$ H11
  ihave H12 := (Entails.of_eq (owns_whole (c : Thread nD τ) cc0_scratch2 fullShare _)) $$ H12
  isplitl [H10 H11 H12 Hrest]
  · isplitl [H10]; · iexists _; iexact H10
    isplitl [H11]; · iexists _; iexact H11
    isplitl [H12]
    · iexists _
      isplitr
      · ipureintro
        exact handed_eq V c t
      iexact H12
    iexact Hrest
  unfold hOut lastOut dec inp
  iframe

/-- The kernel meets its obligation at every grid point. -/
theorem body_obligation : BodyObligation (dat V c) (defs₀ (F := F)) 𝒱₀ () Set.univ := fun t => by
  rw [bigSep_W0, bigSep_W0]
  exact body V c t _

end Cert.KernelIdeal.Fwd
-- ==== Proof.BwdBody.lean ====
module

public import proofs.«01_k».proof.Proof.FwdBody

@[expose] public section

set_option maxRecDepth 16384

noncomputable section

namespace Cert.KernelIdeal.Shape

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Facts₀ Facts

/-- The test for the first grid point. -/
theorem first1 (i : grid1.Coords) : (Scalar.cmpi .ne (Scalar.extui (Scalar.cmpi .eq (BitVec.ofNat 32 (i 0).val) 0#32) : BitVec 32) 0#32 = 1#1)
    ↔ (i 0).val = 0 := by
  have h : ∀ n : Fin 2, (Scalar.cmpi .ne (Scalar.extui (Scalar.cmpi .eq (BitVec.ofNat 32 n.val) 0#32) : BitVec 32) 0#32 = 1#1) ↔ n.val = 0 := by decide
  exact h (i 0)

variable {F : FTy → Type} [FloatOps F] [Facts]

local notation "𝕄" => MT nD τ sig Unit (Elt F) ℕ (UR sig nD τ) ℕ

variable {𝒱 : Variants} {c : Dev nD} {bd : Option 𝒱.V} {E : Set ℕ}

local notation "WP" => wp (M := 𝕄) frame (wpE defs₀ 𝒱 (c : Thread nD τ) bd) E

/-- A gate at the rows of a block. -/
def gates (X : S128x2048.Idx → Elt F .f32) (W : S16x128x128.Idx → Elt F .f32) (B : S1x2048.Idx → Elt F .f32) :
    S128x2048.Idx → Elt F .f32 :=
  glueCols fun hd => same (gateV (colsOf X hd) (mat (matOf W hd)) (rowOf B hd))

/-- The decays times the gradients that come from outside. -/
def scaled (X : S128x2048.Idx → Elt F .f32) (WA : S16x128x128.Idx → Elt F .f32) (BA LAM : S1x2048.Idx → Elt F .f32)
    (DH : S128x2048.Idx → Elt F .f32) : S128x2048.Idx → Elt F .f32 :=
  glueCols fun hd => same (mulf (decayV (gateV (colsOf X hd) (mat (matOf WA hd)) (rowOf BA hd)) (spV (rowOf LAM hd))) (colsOf DH hd))

theorem colsOf_gates (X : S128x2048.Idx → Elt F .f32) (W : S16x128x128.Idx → Elt F .f32) (B : S1x2048.Idx → Elt F .f32) (hd : Fin 16) :
    colsOf (gates X W B) hd = same (gateV (colsOf X hd) (mat (matOf W hd)) (rowOf B hd)) := colsOf_glue _ hd

theorem colsOf_scaled (X : S128x2048.Idx → Elt F .f32) (WA : S16x128x128.Idx → Elt F .f32) (BA LAM : S1x2048.Idx → Elt F .f32)
    (DH : S128x2048.Idx → Elt F .f32) (hd : Fin 16) :
    colsOf (scaled X WA BA LAM DH) hd = same (mulf (decayV (gateV (colsOf X hd) (mat (matOf WA hd)) (rowOf BA hd)) (spV (rowOf LAM hd))) (colsOf DH hd)) :=
  colsOf_glue _ hd

section

variable (DH MU H X R G A : S128x2048.Idx → Elt F .f32) (LAM : S1x2048.Idx → Elt F .f32) (x q : FVec F S8x2048 .f32) (hd : Fin 16)

/-- The gradient of the states, at the columns of a head. -/
abbrev lamOf : FVec F S128x128 .f32 := addf (colsOf DH hd) (nextV (colsOf MU hd) (tileCols x hd))

/-- The gradient of the exponents of the decays. -/
abbrev dexpOf : FVec F S128x128 .f32 :=
  dexpV (lamOf DH MU x hd) (prevV (tileCols q hd) (same (colsOf H hd))) (colsOf A hd) (colsOf G hd) (colsOf X hd)

/-- The gradient of the gated rows. -/
abbrev dgatedOf : FVec F S128x128 .f32 := dgatedV (lamOf DH MU x hd) (colsOf A hd)

/-- The gradient before the first gate. -/
abbrev preAOf : FVec F S128x128 .f32 := dpreAV (dexpOf DH MU H X G A x q hd) (colsOf R hd) (spV (rowOf LAM hd))

/-- The gradient before the second gate. -/
abbrev preXOf : FVec F S128x128 .f32 := dpreXV (dgatedOf DH MU A x hd) (colsOf X hd) (colsOf G hd)

/-- The gradient of the logarithms, after a block. -/
def dspOut (D : S1x2048.Idx → Elt F .f32) : S1x2048.Idx → Elt F .f32 := glueRow fun hd =>
  addRowsV (rowOf D hd) (mulf (dexpOf DH MU H X G A x q hd) (mulf (numV 0xC1000000#32) (colsOf R hd)))

/-- The gradient of the first gate's offset, after a block. -/
def dbaOut (D : S1x2048.Idx → Elt F .f32) : S1x2048.Idx → Elt F .f32 := glueRow fun hd =>
  addRowsV (rowOf D hd) (preAOf DH MU H X R G A LAM x q hd)

/-- The gradient of the second gate's offset, after a block. -/
def dbxOut (D : S1x2048.Idx → Elt F .f32) : S1x2048.Idx → Elt F .f32 := glueRow fun hd =>
  addRowsV (rowOf D hd) (preXOf DH MU X G A x hd)

/-- The gradient of the first gate's matrices, after a block. -/
def dwaOut (D : S16x128x128.Idx → Elt F .f32) : S16x128x128.Idx → Elt F .f32 := glueMat fun hd =>
  addOuterV (matOf D hd) (colsOf X hd) (preAOf DH MU H X R G A LAM x q hd)

/-- The gradient of the second gate's matrices, after a block. -/
def dwxOut (D : S16x128x128.Idx → Elt F .f32) : S16x128x128.Idx → Elt F .f32 := glueMat fun hd =>
  addOuterV (matOf D hd) (colsOf X hd) (preXOf DH MU X G A x hd)

/-- The gradient of the rows of a block. -/
def dxcOut (WA WX : S16x128x128.Idx → Elt F .f32) : S128x2048.Idx → Elt F .f32 := glueCols fun hd =>
  addf (addf (mulf (dgatedOf DH MU A x hd) (colsOf G hd)) (mulTV (preAOf DH MU H X R G A LAM x q hd) (mat (matOf WA hd))))
    (mulTV (preXOf DH MU X G A x hd) (mat (matOf WX hd)))

theorem rowOf_dsp (D : S1x2048.Idx → Elt F .f32) : rowOf (dspOut DH MU H X R G A x q D) hd =
    addRowsV (rowOf D hd) (mulf (dexpOf DH MU H X G A x q hd) (mulf (numV 0xC1000000#32) (colsOf R hd))) := rowOf_glue _ hd

theorem rowOf_dba (D : S1x2048.Idx → Elt F .f32) : rowOf (dbaOut DH MU H X R G A LAM x q D) hd =
    addRowsV (rowOf D hd) (preAOf DH MU H X R G A LAM x q hd) := rowOf_glue _ hd

theorem rowOf_dbx (D : S1x2048.Idx → Elt F .f32) : rowOf (dbxOut DH MU X G A x D) hd =
    addRowsV (rowOf D hd) (preXOf DH MU X G A x hd) := rowOf_glue _ hd

theorem matOf_dwa (D : S16x128x128.Idx → Elt F .f32) : matOf (dwaOut DH MU H X R G A LAM x q D) hd =
    addOuterV (matOf D hd) (colsOf X hd) (preAOf DH MU H X R G A LAM x q hd) := matOf_glue _ hd

theorem matOf_dwx (D : S16x128x128.Idx → Elt F .f32) : matOf (dwxOut DH MU X G A x D) hd =
    addOuterV (matOf D hd) (colsOf X hd) (preXOf DH MU X G A x hd) := matOf_glue _ hd

theorem colsOf_dxc (WA WX : S16x128x128.Idx → Elt F .f32) : colsOf (dxcOut DH MU H X R G A LAM x q WA WX) hd =
    addf (addf (mulf (dgatedOf DH MU A x hd) (colsOf G hd)) (mulTV (preAOf DH MU H X R G A LAM x q hd) (mat (matOf WA hd))))
    (mulTV (preXOf DH MU X G A x hd) (mat (matOf WX hd))) := colsOf_glue _ hd

end

section

variable (i : grid1.Coords)
    (arg1 : Memref sig .tc .vmem S128x2048 .f32) (harg1 : arg1.IsWhole)
    (arg2 : Memref sig .tc .vmem S16x128x128 .f32) (harg2 : arg2.IsWhole)
    (arg3 : Memref sig .tc .vmem S16x128x128 .f32) (harg3 : arg3.IsWhole)
    (arg4 : Memref sig .tc .vmem S1x2048 .f32) (harg4 : arg4.IsWhole)
    (arg5 : Memref sig .tc .vmem S1x2048 .f32) (harg5 : arg5.IsWhole)
    (arg6 : Memref sig .tc .vmem S1x2048 .f32) (harg6 : arg6.IsWhole)
    (arg7 : Memref sig .tc .vmem S1x2048 .f32) (harg7 : arg7.IsWhole)
    (arg8 : Memref sig .tc .vmem S128x2048 .f32) (harg8 : arg8.IsWhole)
    (arg9 : Memref sig .tc .vmem S8x2048 .f32) (harg9 : arg9.IsWhole)
    (arg10 : Memref sig .tc .vmem S128x2048 .f32) (harg10 : arg10.IsWhole)
    (arg11 : Memref sig .tc .vmem S1x2048 .f32) (harg11 : arg11.IsWhole)
    (arg12 : Memref sig .tc .vmem S128x2048 .f32) (harg12 : arg12.IsWhole)
    (arg13 : Memref sig .tc .vmem S16x128x128 .f32) (harg13 : arg13.IsWhole)
    (arg14 : Memref sig .tc .vmem S16x128x128 .f32) (harg14 : arg14.IsWhole)
    (arg15 : Memref sig .tc .vmem S1x2048 .f32) (harg15 : arg15.IsWhole)
    (arg16 : Memref sig .tc .vmem S1x2048 .f32) (harg16 : arg16.IsWhole)
    (arg17 : Memref sig .tc .vmem S1x2048 .f32) (harg17 : arg17.IsWhole)
    (arg18 : Memref sig .tc .vmem S1x2048 .f32) (harg18 : arg18.IsWhole)
    (arg19 : Memref sig .tc .vmem S128x2048 .f32) (harg19 : arg19.IsWhole)
    (arg20 : Memref sig .tc .vmem S128x2048 .f32) (harg20 : arg20.IsWhole)
    (arg21 : Memref sig .tc .vmem S128x2048 .f32) (harg21 : arg21.IsWhole)
    (arg22 : Memref sig .tc .vmem S128x2048 .f32) (harg22 : arg22.IsWhole)
    (arg23 : Memref sig .tc .vmem S128x2048 .f32) (harg23 : arg23.IsWhole)
    (arg24 : Memref sig .tc .vmem S8x2048 .f32) (harg24 : arg24.IsWhole)

variable {q1 q2 q3 q4 q5 q6 q7 q8 q9 q10 q11 : PosShare TreeShare} {X H DH : S128x2048.Idx → Elt F .f32} {WA WX : S16x128x128.Idx → Elt F .f32}
  {BA BX LAM H0 DFIN : S1x2048.Idx → Elt F .f32} {P : S8x2048.Idx → Elt F .f32}

local notation "OW" => owns (Ix := Unit) (Val := Elt F) (Name := ℕ) (U := UR sig nD τ) (Lvl := ℕ) (c : Thread nD τ)

theorem bwdHeads_rule {D19 D20 D22 D23 : S128x2048.Idx → Elt F .f32} :
    iprop(OW arg1 q1 X ∗ OW arg2 q2 WA ∗ OW arg3 q3 WX ∗ OW arg4 q4 BA ∗ OW arg5 q5 BX ∗ OW arg6 q6 LAM ∗ OW arg10 q10 DH
      ∗ OW arg19 fullShare D19 ∗ OW arg20 fullShare D20 ∗ OW arg22 fullShare D22 ∗ OW arg23 fullShare D23) ⊢
    WP (heads (bwdHead arg1 arg2 arg3 arg4 arg5 arg6 arg10 arg19 arg20 arg22 arg23)) (fun _ =>
      iprop(OW arg1 q1 X ∗ OW arg2 q2 WA ∗ OW arg3 q3 WX ∗ OW arg4 q4 BA ∗ OW arg5 q5 BX ∗ OW arg6 q6 LAM ∗ OW arg10 q10 DH
      ∗ OW arg19 fullShare (decays X WA BA LAM) ∗ OW arg20 fullShare (scaled X WA BA LAM DH)
      ∗ OW arg22 fullShare (gates X WA BA) ∗ OW arg23 fullShare (gates X WX BX))) := by
  have key := heads_rule (F := F) (𝒱 := 𝒱) (c := c) (bd := bd) (E := E) (f := bwdHead arg1 arg2 arg3 arg4 arg5 arg6 arg10 arg19 arg20 arg22 arg23)
    (fun k => iprop(OW arg1 q1 X ∗ OW arg2 q2 WA ∗ OW arg3 q3 WX ∗ OW arg4 q4 BA ∗ OW arg5 q5 BX ∗ OW arg6 q6 LAM ∗ OW arg10 q10 DH
      ∗ OW arg19 fullShare (fillCols D19 (decays X WA BA LAM) k) ∗ OW arg20 fullShare (fillCols D20 (scaled X WA BA LAM DH) k)
      ∗ OW arg22 fullShare (fillCols D22 (gates X WA BA) k) ∗ OW arg23 fullShare (fillCols D23 (gates X WX BX) k)))
    (by
      intro hd
      unfold bwdHead
      iintro ⟨H1, H2, H3, H4, H5, H6, H10, H19, H20, H22, H23⟩
      iapply (ldCols_bind (F := F)) $$ H1; iintro H1
      iapply (ldMat_bind (F := F)) $$ H2; iintro H2
      iapply (ldMat_bind (F := F)) $$ H3; iintro H3
      iapply (ldRow_bind (F := F)) $$ H4; iintro H4
      iapply (ldRow_bind (F := F)) $$ H5; iintro H5
      iapply (ldRow_bind (F := F)) $$ H6; iintro H6
      iapply (stCols_bind (F := F) (colsOf_decays X WA BA LAM hd).symm) $$ H19; iintro H19
      iapply (stCols_bind (F := F) (colsOf_gates X WA BA hd).symm) $$ H22; iintro H22
      iapply (stCols_bind (F := F) (colsOf_gates X WX BX hd).symm) $$ H23; iintro H23
      iapply (ldCols_bind (F := F)) $$ H10; iintro H10
      iapply (stCols_rule (F := F) (colsOf_scaled X WA BA LAM DH hd).symm) $$ H20; iintro H20
      iframe)
  simp only [fillCols, fill_zero, fill_full (s := S128x2048) 1 128 _ _ (k := 16) (by decide)] at key
  exact key

theorem bwdTile_eq (t : Fin k1_t1_loop.trips) :
    k1_part1 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24
      rowNo 0#32 1#32 t = (do
      let a : Vec F S8x2048 .f32 ← Prog.lift (.load arg19 (Rect.unit (s := S128x2048) (k1_off1 t) S8x2048.size (k1_off1_inb t)).toLoadRect (View.loadsAt_vmem h_S8x2048))
      let u : Vec F S8x2048 .f32 ← Prog.lift (.load arg20 (Rect.unit (s := S128x2048) (k1_off1 t) S8x2048.size (k1_off1_inb t)).toLoadRect (View.loadsAt_vmem h_S8x2048))
      pure ⟨Scalar.muli (Scalar.subi 15#32 (Scf.iv 0#32 1#32 t.1)) 8#32, upU a u, upA a⟩) := rfl

theorem rowsOf_off1 {α : Type} (A : S128x2048.Idx → α) (t : Fin k1_t1_loop.trips) :
    VecWindow.window A (k1_off1 t) S8x2048.size (k1_off1_inb t) = rowsOf A (tile1 t) :=
  window_off A (off1 t) _ _

theorem put_bwdMu (A U D : S128x2048.Idx → Elt F .f32) (C : S8x2048.Idx → Elt F .f32) (t : Fin k1_t1_loop.trips) :
    VecWindow.put (fillUp D (bwdMu A U C) t.1) (k1_off1 t) S8x2048.size
      (shapeCast S8x2048 (addf (mulf (upA (rowsOf A (tile1 t))) (bwdCarry A U C t.1)) (upU (rowsOf A (tile1 t)) (rowsOf U (tile1 t)))) shapeCasts_S8x2048_S8x2048 : FVec F S8x2048 .f32)
      = fillUp D (bwdMu A U C) (t.1 + 1) := by
  have h16 : t.1 < 16 := trips1 ▸ t.2
  rw [off1]
  have h := put_fillUp D (bwdMu A U C) t.1 (tile1 t) (by show 15 - t.1 + t.1 = 15; omega)
  rw [show rowsOf (bwdMu A U C) (tile1 t) = _ from rowsOf_glue _ _] at h
  rw [show 15 - (tile1 t).1 = t.1 by show 15 - (15 - t.1) = t.1; omega] at h
  exact h

theorem bwdCarry_succ (A U : S128x2048.Idx → Elt F .f32) (C : S8x2048.Idx → Elt F .f32) (t : Fin k1_t1_loop.trips) :
    tileV (extractStridedSlice S1x2048 ![0, 0] (addf (mulf (upA (rowsOf A (tile1 t))) (bwdCarry A U C t.1))
      (upU (rowsOf A (tile1 t)) (rowsOf U (tile1 t)))) slices_S8x2048_o0_0_S1x2048) = bwdCarry A U C (t.1 + 1) := by
  have h : t.1 < 16 := trips1 ▸ t.2
  rw [bwdCarry, dif_pos h]
  rfl

/-- The sweep of the backward kernel. -/
theorem bwdSweep_rule {A U D : S128x2048.Idx → Elt F .f32} {C : S8x2048.Idx → Elt F .f32} :
    iprop(OW arg21 fullShare D ∗ OW arg19 fullShare A ∗ OW arg20 fullShare U ∗ OW arg24 fullShare C) ⊢
    WP (bwdSweep i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24)
      (fun _ => iprop(OW arg21 fullShare (bwdMu A U C) ∗ OW arg19 fullShare A ∗ OW arg20 fullShare U ∗ OW arg24 fullShare (bwdCarry A U C 16))) := by
  have key := Scf.wp_for (M := 𝕄) frame (wpE defs₀ 𝒱 (c : Thread nD τ) bd) E k1_t1_loop.lb k1_t1_loop.ub k1_t1_loop.st k1_t1_ok PUnit.unit
    (fun t _ => do
      let ⟨_, v, a⟩ ← k1_part1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24
        rowNo 0#32 1#32 t
      let c ← ldTile arg24
      let y : FVec F S8x2048 .f32 := addf (mulf a c) v
      let _ : Vec F S8x2048 .f32 ← Prog.lift (.load arg21 (Rect.unit (s := S128x2048) (k1_off1 t) S8x2048.size (k1_off1_inb t)).toLoadRect (View.loadsAt_vmem h_S8x2048))
      Prog.lift (.store arg21 (Rect.unit (s := S128x2048) (k1_off1 t) S8x2048.size (k1_off1_inb t)) (shapeCast S8x2048 y shapeCasts_S8x2048_S8x2048 : FVec F S8x2048 .f32) Finset.univ (View.stores_vmem_bits_univ h_S8x2048 rfl) (.inl rfl))
      stTile arg24 (extractStridedSlice S1x2048 ![0, 0] y slices_S8x2048_o0_0_S1x2048)
      pure ⟨⟩)
    (fun k _ => iprop(OW arg21 fullShare (fillUp D (bwdMu A U C) k) ∗ OW arg19 fullShare A ∗ OW arg20 fullShare U ∗ OW arg24 fullShare (bwdCarry A U C k)))
    (by
      intro t _
      rw [bwdTile_eq]
      iintro ⟨H8, H10, H11, H12⟩
      simp only [bind_assoc, pure_bind]
      iapply (ld_bind_eq (F := F) (rowsOf_off1 A t)) $$ H10; iintro H10
      iapply (ld_bind_eq (F := F) (rowsOf_off1 U t)) $$ H11; iintro H11
      iapply (ldTile_bind (F := F)) $$ H12; iintro H12
      iapply (ld_bind (F := F)) $$ H8; iintro H8
      iapply (st_bind_eq (F := F) (put_bwdMu A U D C t)) $$ H8; iintro H8
      iapply (stTile_bind (F := F)) $$ H12; iintro H12
      rw [bwdCarry_succ A U C t, wp_pure]
      iframe)
    (Q := fun _ => iprop(OW arg21 fullShare (bwdMu A U C) ∗ OW arg19 fullShare A ∗ OW arg20 fullShare U ∗ OW arg24 fullShare (bwdCarry A U C 16)))
  have e : Scf.trips k1_t1_loop.lb k1_t1_loop.ub k1_t1_loop.st = 16 := trips1
  rw [fillUp_zero, show bwdCarry A U C 0 = C from rfl,
    show bwdCarry A U C (Scf.trips k1_t1_loop.lb k1_t1_loop.ub k1_t1_loop.st) = bwdCarry A U C 16 from congrArg _ e,
    show fillUp D (bwdMu A U C) (Scf.trips k1_t1_loop.lb k1_t1_loop.ub k1_t1_loop.st) = bwdMu A U C from (congrArg _ e).trans (fillUp_full _ _)] at key
  refine BIBase.Entails.trans ?_ key
  iintro ⟨H8, H10, H11, H12⟩
  isplitl [H8 H10 H11 H12]
  · iframe
  · iintro %_ ⟨H8, H10, H11, H12⟩
    iframe

/-- What the backward kernel does for the heads after the sweep. -/
theorem bwdGrads_rule {MU A R G D12 : S128x2048.Idx → Elt F .f32} {D13 D14 : S16x128x128.Idx → Elt F .f32} {D15 D16 D17 : S1x2048.Idx → Elt F .f32}
    {x q : FVec F S8x2048 .f32} :
    iprop(OW arg1 q1 X ∗ OW arg2 q2 WA ∗ OW arg3 q3 WX ∗ OW arg6 q6 LAM ∗ OW arg8 q8 H ∗ OW arg10 q10 DH ∗ OW arg19 fullShare A ∗ OW arg21 fullShare MU ∗ OW arg22 fullShare R ∗ OW arg23 fullShare G
      ∗ OW arg12 fullShare D12 ∗ OW arg13 fullShare D13 ∗ OW arg14 fullShare D14 ∗ OW arg15 fullShare D15 ∗ OW arg16 fullShare D16 ∗ OW arg17 fullShare D17) ⊢
    WP (heads (bwdGrad arg1 arg2 arg3 arg6 arg8 arg10 arg12 arg13 arg14 arg15 arg16 arg17 arg19 arg21 arg22 arg23 x q)) (fun _ =>
      iprop(OW arg1 q1 X ∗ OW arg2 q2 WA ∗ OW arg3 q3 WX ∗ OW arg6 q6 LAM ∗ OW arg8 q8 H ∗ OW arg10 q10 DH ∗ OW arg19 fullShare A ∗ OW arg21 fullShare MU ∗ OW arg22 fullShare R ∗ OW arg23 fullShare G
      ∗ OW arg12 fullShare (dxcOut DH MU H X R G A LAM x q WA WX)
      ∗ OW arg13 fullShare (dwaOut DH MU H X R G A LAM x q D13)
      ∗ OW arg14 fullShare (dwxOut DH MU X G A x D14)
      ∗ OW arg15 fullShare (dbaOut DH MU H X R G A LAM x q D15)
      ∗ OW arg16 fullShare (dbxOut DH MU X G A x D16)
      ∗ OW arg17 fullShare (dspOut DH MU H X R G A x q D17))) := by
  have key := heads_rule (F := F) (𝒱 := 𝒱) (c := c) (bd := bd) (E := E)
    (f := bwdGrad arg1 arg2 arg3 arg6 arg8 arg10 arg12 arg13 arg14 arg15 arg16 arg17 arg19 arg21 arg22 arg23 x q)
    (fun k => iprop(OW arg1 q1 X ∗ OW arg2 q2 WA ∗ OW arg3 q3 WX ∗ OW arg6 q6 LAM ∗ OW arg8 q8 H ∗ OW arg10 q10 DH ∗ OW arg19 fullShare A ∗ OW arg21 fullShare MU ∗ OW arg22 fullShare R ∗ OW arg23 fullShare G
      ∗ OW arg12 fullShare (fillCols D12 (dxcOut DH MU H X R G A LAM x q WA WX) k)
      ∗ OW arg13 fullShare (fillMat D13 (dwaOut DH MU H X R G A LAM x q D13) k)
      ∗ OW arg14 fullShare (fillMat D14 (dwxOut DH MU X G A x D14) k)
      ∗ OW arg15 fullShare (fillRow D15 (dbaOut DH MU H X R G A LAM x q D15) k)
      ∗ OW arg16 fullShare (fillRow D16 (dbxOut DH MU X G A x D16) k)
      ∗ OW arg17 fullShare (fillRow D17 (dspOut DH MU H X R G A x q D17) k)))
    (by
      intro hd
      unfold bwdGrad
      iintro ⟨H1, H2, H3, H6, H8, H10, H19, H21, H22, H23, H12, H13, H14, H15, H16, H17⟩
      iapply (ldCols_bind (F := F)) $$ H21; iintro H21
      iapply (ldCols_bind (F := F)) $$ H8; iintro H8
      iapply (ldCols_bind (F := F)) $$ H1; iintro H1
      iapply (ldCols_bind (F := F)) $$ H22; iintro H22
      iapply (ldCols_bind (F := F)) $$ H23; iintro H23
      iapply (ldCols_bind (F := F)) $$ H19; iintro H19
      iapply (ldRow_bind (F := F)) $$ H6; iintro H6
      iapply (ldCols_bind (F := F)) $$ H10; iintro H10
      iapply (ldRow_bind (F := F)) $$ H17; iintro H17
      rw [rowOf_fill]
      iapply (stRow_bind (F := F) (rowOf_dsp DH MU H X R G A x q hd D17).symm) $$ H17; iintro H17
      iapply (ldRow_bind (F := F)) $$ H15; iintro H15
      rw [rowOf_fill]
      iapply (stRow_bind (F := F) (rowOf_dba DH MU H X R G A LAM x q hd D15).symm) $$ H15; iintro H15
      iapply (ldRow_bind (F := F)) $$ H16; iintro H16
      rw [rowOf_fill]
      iapply (stRow_bind (F := F) (rowOf_dbx DH MU X G A x hd D16).symm) $$ H16; iintro H16
      iapply (ldMat_bind (F := F)) $$ H2; iintro H2
      iapply (ldMat_bind (F := F)) $$ H3; iintro H3
      iapply (ldMat_bind (F := F)) $$ H13; iintro H13
      rw [matOf_fill]
      iapply (stMat_bind (F := F) (matOf_dwa DH MU H X R G A LAM x q hd D13).symm) $$ H13; iintro H13
      iapply (ldMat_bind (F := F)) $$ H14; iintro H14
      rw [matOf_fill]
      iapply (stMat_bind (F := F) (matOf_dwx DH MU X G A x hd D14).symm) $$ H14; iintro H14
      iapply (stCols_rule (F := F) (colsOf_dxc DH MU H X R G A LAM x q hd WA WX).symm) $$ H12; iintro H12
      iframe)
  simp only [fillCols, fillRow, fillMat, fill_zero, fill_full (s := S128x2048) 1 128 _ _ (k := 16) (by decide),
    fill_full (s := S1x2048) 1 128 _ _ (k := 16) (by decide), fill_full (s := S16x128x128) 0 1 _ _ (k := 16) (by decide)] at key
  exact key

/-- A sum at the start of a grid point: zero at the first point. -/
def startS {s : Shape} (n : ℕ) (D : s.Idx → Elt F .f32) : s.Idx → Elt F .f32 :=
  if n = 0 then broadcast s (Scalar.ofBits .f32 0x00000000#32) else D

theorem bwdStart_rule {D13 D14 : S16x128x128.Idx → Elt F .f32} {D15 D16 D17 : S1x2048.Idx → Elt F .f32} {C : S8x2048.Idx → Elt F .f32} :
    iprop(OW arg11 q11 DFIN ∗ OW arg13 fullShare D13 ∗ OW arg14 fullShare D14 ∗ OW arg15 fullShare D15 ∗ OW arg16 fullShare D16
      ∗ OW arg17 fullShare D17 ∗ OW arg24 fullShare C) ⊢
    WP (bwdStart i arg11 arg13 arg14 arg15 arg16 arg17 arg24) (fun _ =>
      iprop(OW arg11 q11 DFIN ∗ OW arg13 fullShare (startS (i 0).val D13) ∗ OW arg14 fullShare (startS (i 0).val D14)
      ∗ OW arg15 fullShare (startS (i 0).val D15) ∗ OW arg16 fullShare (startS (i 0).val D16)
      ∗ OW arg17 fullShare (startS (i 0).val D17) ∗ OW arg24 fullShare (startC (i 0).val DFIN C))) := by
  unfold bwdStart startC startS
  iintro ⟨H11, H13, H14, H15, H16, H17, H24⟩
  by_cases h : (i 0).val = 0
  · rw [if_pos ((first1 i).mpr h)]
    simp only [if_pos h]
    iapply (ldAllRow_bind (F := F)) $$ H11; iintro H11
    iapply (stTile_bind (F := F)) $$ H24; iintro H24
    iapply (stAllMat_bind (F := F)) $$ H13; iintro H13
    iapply (stAllMat_bind (F := F)) $$ H14; iintro H14
    iapply (stAllRow_bind (F := F)) $$ H15; iintro H15
    iapply (stAllRow_bind (F := F)) $$ H16; iintro H16
    iapply (stAllRow_bind (F := F)) $$ H17; iintro H17
    rw [wp_pure]
    iframe
  · rw [if_neg (fun h' => h ((first1 i).mp h')), wp_pure]
    simp only [if_neg h]
    iframe

/-- What a grid point of the backward kernel finds of its decays times gradients. -/
abbrev muOf (n : ℕ) (X : S128x2048.Idx → Elt F .f32) (WA : S16x128x128.Idx → Elt F .f32) (BA LAM DFIN : S1x2048.Idx → Elt F .f32)
    (DH : S128x2048.Idx → Elt F .f32) (C : S8x2048.Idx → Elt F .f32) : S128x2048.Idx → Elt F .f32 :=
  bwdMu (decays X WA BA LAM) (scaled X WA BA LAM DH) (startC n DFIN C)

/-- A grid point of the backward kernel. -/
theorem bwdBody_rule {D12 D19 D20 D21 D22 D23 : S128x2048.Idx → Elt F .f32} {D13 D14 : S16x128x128.Idx → Elt F .f32}
    {D15 D16 D17 D18 : S1x2048.Idx → Elt F .f32} {C : S8x2048.Idx → Elt F .f32} :
    iprop(OW arg1 q1 X ∗ OW arg2 q2 WA ∗ OW arg3 q3 WX ∗ OW arg4 q4 BA ∗ OW arg5 q5 BX ∗ OW arg6 q6 LAM ∗ OW arg7 q7 H0 ∗ OW arg8 q8 H ∗ OW arg9 q9 P ∗ OW arg10 q10 DH ∗ OW arg11 q11 DFIN
      ∗ OW arg12 fullShare D12 ∗ OW arg13 fullShare D13 ∗ OW arg14 fullShare D14 ∗ OW arg15 fullShare D15 ∗ OW arg16 fullShare D16
      ∗ OW arg17 fullShare D17 ∗ OW arg18 fullShare D18
      ∗ OW arg19 fullShare D19 ∗ OW arg20 fullShare D20 ∗ OW arg21 fullShare D21 ∗ OW arg22 fullShare D22 ∗ OW arg23 fullShare D23 ∗ OW arg24 fullShare C) ⊢
    WP (cc1_ctx_lru_bwd0 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) (fun _ =>
      iprop(OW arg1 q1 X ∗ OW arg2 q2 WA ∗ OW arg3 q3 WX ∗ OW arg4 q4 BA ∗ OW arg5 q5 BX ∗ OW arg6 q6 LAM ∗ OW arg7 q7 H0 ∗ OW arg8 q8 H ∗ OW arg9 q9 P ∗ OW arg10 q10 DH ∗ OW arg11 q11 DFIN
      ∗ OW arg12 fullShare (dxcOut DH (muOf (i 0).val X WA BA LAM DFIN DH C) H X (gates X WA BA) (gates X WX BX) (decays X WA BA LAM) LAM
          (startC (i 0).val DFIN C) (haloV i H0 P) WA WX)
      ∗ OW arg13 fullShare (dwaOut DH (muOf (i 0).val X WA BA LAM DFIN DH C) H X (gates X WA BA) (gates X WX BX) (decays X WA BA LAM) LAM
          (startC (i 0).val DFIN C) (haloV i H0 P) (startS (i 0).val D13))
      ∗ OW arg14 fullShare (dwxOut DH (muOf (i 0).val X WA BA LAM DFIN DH C) X (gates X WX BX) (decays X WA BA LAM)
          (startC (i 0).val DFIN C) (startS (i 0).val D14))
      ∗ OW arg15 fullShare (dbaOut DH (muOf (i 0).val X WA BA LAM DFIN DH C) H X (gates X WA BA) (gates X WX BX) (decays X WA BA LAM) LAM
          (startC (i 0).val DFIN C) (haloV i H0 P) (startS (i 0).val D15))
      ∗ OW arg16 fullShare (dbxOut DH (muOf (i 0).val X WA BA LAM DFIN DH C) X (gates X WX BX) (decays X WA BA LAM)
          (startC (i 0).val DFIN C) (startS (i 0).val D16))
      ∗ OW arg17 fullShare (dspOut DH (muOf (i 0).val X WA BA LAM DFIN DH C) H X (gates X WA BA) (gates X WX BX) (decays X WA BA LAM)
          (startC (i 0).val DFIN C) (haloV i H0 P) (startS (i 0).val D17))
      ∗ OW arg18 fullShare (topRow (bwdCarry (decays X WA BA LAM) (scaled X WA BA LAM DH) (startC (i 0).val DFIN C) 16))
      ∗ OW arg19 fullShare (decays X WA BA LAM) ∗ OW arg20 fullShare (scaled X WA BA LAM DH)
      ∗ OW arg21 fullShare (muOf (i 0).val X WA BA LAM DFIN DH C) ∗ OW arg22 fullShare (gates X WA BA) ∗ OW arg23 fullShare (gates X WX BX)
      ∗ OW arg24 fullShare (bwdCarry (decays X WA BA LAM) (scaled X WA BA LAM DH) (startC (i 0).val DFIN C) 16))) := by
  rw [bwd_eq]
  iintro ⟨H1, H2, H3, H4, H5, H6, H7, H8, H9, H10, H11, H12, H13, H14, H15, H16, H17, H18, H19, H20, H21, H22, H23, H24⟩
  rw [wp_bind]
  iapply (wp_wand frame (wpE defs₀ 𝒱 (c : Thread nD τ) bd) E) $$ [H11 H13 H14 H15 H16 H17 H24]
  · iapply (bwdStart_rule (F := F)); iframe
  iintro %_ ⟨H11, H13, H14, H15, H16, H17, H24⟩
  rw [wp_bind]
  iapply (wp_wand frame (wpE defs₀ 𝒱 (c : Thread nD τ) bd) E) $$ [H1 H2 H3 H4 H5 H6 H10 H19 H20 H22 H23]
  · iapply (bwdHeads_rule (F := F)); iframe
  iintro %_ ⟨H1, H2, H3, H4, H5, H6, H10, H19, H20, H22, H23⟩
  iapply (ldTile_bind (F := F)) $$ H24; iintro H24
  rw [wp_bind]
  iapply (wp_wand frame (wpE defs₀ 𝒱 (c : Thread nD τ) bd) E) $$ [H21 H19 H20 H24]
  · iapply (bwdSweep_rule (F := F)); iframe
  iintro %_ ⟨H21, H19, H20, H24⟩
  unfold bwdRest bwdMid
  simp only [bind_assoc]
  iapply (ld_bind (F := F)) $$ H24; iintro H24
  iapply (stAllRow_bind (F := F)) $$ H18; iintro H18
  iapply (ldAllRow_bind (F := F)) $$ H7; iintro H7
  iapply (ldTile_bind (F := F)) $$ H9; iintro H9
  rw [wp_bind]
  iapply (wp_wand frame (wpE defs₀ 𝒱 (c : Thread nD τ) bd) E) $$ [H1 H2 H3 H6 H8 H10 H19 H21 H22 H23 H12 H13 H14 H15 H16 H17]
  · iapply (bwdGrads_rule (F := F)); iframe
  iintro %_ ⟨H1, H2, H3, H6, H8, H10, H19, H21, H22, H23, H12, H13, H14, H15, H16, H17⟩
  rw [wp_pure]
  unfold topRow
  iframe

end

end Cert.KernelIdeal.Shape
-- ==== Proof.BwdRegion.lean ====
module

public import proofs.«01_k».proof.Proof.BwdBody
public import proofs.«01_k».proof.Proof.Gen.KernelIdeal.Launch
public import proofs.«01_k».proof.Proof.Gen.KernelIdeal.Points
public import Idealize.ShloMosaic.Lib.Pipeline.Frame
public import Idealize.ShloMosaic.Lib.Pipeline.FrameBody
public import Idealize.ShloMosaic.Lib.Pipeline.Regions
public import Idealize.ShloMosaic.Lib.Pipeline.RegionsLoop

@[expose] public section

set_option maxRecDepth 16384

noncomputable section

namespace Cert.KernelIdeal.Bwd

open Cert.KernelIdeal.Gen Cert.KernelIdeal.Shape
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

-- `V` is what every unscoped buffer of a core holds when the backward kernel is called
variable (V : (c : Dev nD) → (b : Ref sig .tc) → Buf (Elt F) ((c : Thread nD τ).loc b)) (c : Dev nD)

/-! ## The blocks a grid point reads -/

/-- The rows, at a grid point. -/
def xB (t : Fin cfg1.N) : S128x2048.Idx → Elt F .f32 := ((cfg1.win 0).blk t).view.read (Elt F) (V c main_arg0)
/-- The first gate's matrices, at a grid point. -/
def waB (t : Fin cfg1.N) : S16x128x128.Idx → Elt F .f32 := ((cfg1.win 1).blk t).view.read (Elt F) (V c main_arg1)
/-- The second gate's matrices, at a grid point. -/
def wxB (t : Fin cfg1.N) : S16x128x128.Idx → Elt F .f32 := ((cfg1.win 2).blk t).view.read (Elt F) (V c main_arg2)
/-- The first gate's offsets, at a grid point. -/
def baB (t : Fin cfg1.N) : S1x2048.Idx → Elt F .f32 := ((cfg1.win 3).blk t).view.read (Elt F) (V c main_arg3)
/-- The second gate's offsets, at a grid point. -/
def bxB (t : Fin cfg1.N) : S1x2048.Idx → Elt F .f32 := ((cfg1.win 4).blk t).view.read (Elt F) (V c main_arg4)
/-- The logarithms, at a grid point. -/
def lamB (t : Fin cfg1.N) : S1x2048.Idx → Elt F .f32 := ((cfg1.win 5).blk t).view.read (Elt F) (V c main_arg5)
/-- The state before the first row, at a grid point. -/
def h0B (t : Fin cfg1.N) : S1x2048.Idx → Elt F .f32 := ((cfg1.win 6).blk t).view.read (Elt F) (V c main_arg6)
/-- The states, at a grid point. -/
def hB (t : Fin cfg1.N) : S128x2048.Idx → Elt F .f32 := ((cfg1.win 7).blk t).view.read (Elt F) (V c main_v0_0)
/-- The eight states that end where the block begins, at a grid point. -/
def pB (t : Fin cfg1.N) : S8x2048.Idx → Elt F .f32 := ((cfg1.win 8).blk t).view.read (Elt F) (V c main_v0_0)
/-- The gradients of the states, at a grid point. -/
def dhB (t : Fin cfg1.N) : S128x2048.Idx → Elt F .f32 := ((cfg1.win 9).blk t).view.read (Elt F) (V c main_arg7)
/-- The gradient of the last state, at a grid point. -/
def dfinB (t : Fin cfg1.N) : S1x2048.Idx → Elt F .f32 := ((cfg1.win 10).blk t).view.read (Elt F) (V c main_arg8)

/-! ## What a grid point leaves -/

/-- The decays of the rows of a grid point. -/
def dec (t : Fin cfg1.N) : S128x2048.Idx → Elt F .f32 := decays (xB V c t) (waB V c t) (baB V c t) (lamB V c t)
/-- The first gate at those rows. -/
def ra (t : Fin cfg1.N) : S128x2048.Idx → Elt F .f32 := gates (xB V c t) (waB V c t) (baB V c t)
/-- The second gate at those rows. -/
def rx (t : Fin cfg1.N) : S128x2048.Idx → Elt F .f32 := gates (xB V c t) (wxB V c t) (bxB V c t)
/-- The decays times the gradients from outside. -/
def scl (t : Fin cfg1.N) : S128x2048.Idx → Elt F .f32 := scaled (xB V c t) (waB V c t) (baB V c t) (lamB V c t) (dhB V c t)
/-- The state before the block, or the eight before it. -/
def halo (t : Fin cfg1.N) : S8x2048.Idx → Elt F .f32 := haloV (grid1.coords t) (h0B V c t) (pB V c t)
/-- What the first grid point hands to the second. -/
def handed : S8x2048.Idx → Elt F .f32 := bwdCarry (dec V c t1_0) (scl V c t1_0) (tileV (dfinB V c t1_0)) 16
/-- What a grid point starts from. -/
def start (t : Fin cfg1.N) : S8x2048.Idx → Elt F .f32 := startC t.val (dfinB V c t) (handed V c)
/-- What the rows of a grid point pass back. -/
def mu (t : Fin cfg1.N) : S128x2048.Idx → Elt F .f32 := bwdMu (dec V c t) (scl V c t) (start V c t)
/-- The gradient of the rows. -/
def dxcO (t : Fin cfg1.N) : S128x2048.Idx → Elt F .f32 :=
  dxcOut (dhB V c t) (mu V c t) (hB V c t) (xB V c t) (ra V c t) (rx V c t) (dec V c t) (lamB V c t) (start V c t) (halo V c t) (waB V c t) (wxB V c t)
/-- The gradient of the first gate's matrices after a grid point, from what was there before it. -/
def dwaS (t : Fin cfg1.N) (D : S16x128x128.Idx → Elt F .f32) : S16x128x128.Idx → Elt F .f32 :=
  dwaOut (dhB V c t) (mu V c t) (hB V c t) (xB V c t) (ra V c t) (rx V c t) (dec V c t) (lamB V c t) (start V c t) (halo V c t) (startS t.val D)
/-- The same, from the first grid point on. -/
def dwaO (t : Fin cfg1.N) : S16x128x128.Idx → Elt F .f32 := dwaS V c t (dwaS V c t1_0 (broadcast S16x128x128 (Scalar.ofBits .f32 0x00000000#32)))
/-- The gradient of the second gate's matrices after a grid point, from what was there before it. -/
def dwxS (t : Fin cfg1.N) (D : S16x128x128.Idx → Elt F .f32) : S16x128x128.Idx → Elt F .f32 :=
  dwxOut (dhB V c t) (mu V c t) (xB V c t) (rx V c t) (dec V c t) (start V c t) (startS t.val D)
/-- The same, from the first grid point on. -/
def dwxO (t : Fin cfg1.N) : S16x128x128.Idx → Elt F .f32 := dwxS V c t (dwxS V c t1_0 (broadcast S16x128x128 (Scalar.ofBits .f32 0x00000000#32)))
/-- The gradient of the first gate's offset after a grid point, from what was there before it. -/
def dbaS (t : Fin cfg1.N) (D : S1x2048.Idx → Elt F .f32) : S1x2048.Idx → Elt F .f32 :=
  dbaOut (dhB V c t) (mu V c t) (hB V c t) (xB V c t) (ra V c t) (rx V c t) (dec V c t) (lamB V c t) (start V c t) (halo V c t) (startS t.val D)
/-- The same, from the first grid point on. -/
def dbaO (t : Fin cfg1.N) : S1x2048.Idx → Elt F .f32 := dbaS V c t (dbaS V c t1_0 (broadcast S1x2048 (Scalar.ofBits .f32 0x00000000#32)))
/-- The gradient of the second gate's offset after a grid point, from what was there before it. -/
def dbxS (t : Fin cfg1.N) (D : S1x2048.Idx → Elt F .f32) : S1x2048.Idx → Elt F .f32 :=
  dbxOut (dhB V c t) (mu V c t) (xB V c t) (rx V c t) (dec V c t) (start V c t) (startS t.val D)
/-- The same, from the first grid point on. -/
def dbxO (t : Fin cfg1.N) : S1x2048.Idx → Elt F .f32 := dbxS V c t (dbxS V c t1_0 (broadcast S1x2048 (Scalar.ofBits .f32 0x00000000#32)))
/-- The gradient of the logarithms after a grid point, from what was there before it. -/
def dspS (t : Fin cfg1.N) (D : S1x2048.Idx → Elt F .f32) : S1x2048.Idx → Elt F .f32 :=
  dspOut (dhB V c t) (mu V c t) (hB V c t) (xB V c t) (ra V c t) (rx V c t) (dec V c t) (start V c t) (halo V c t) (startS t.val D)
/-- The same, from the first grid point on. -/
def dspO (t : Fin cfg1.N) : S1x2048.Idx → Elt F .f32 := dspS V c t (dspS V c t1_0 (broadcast S1x2048 (Scalar.ofBits .f32 0x00000000#32)))
/-- What the rows of a grid point pass back to the state before them. -/
def dh0O (t : Fin cfg1.N) : S1x2048.Idx → Elt F .f32 := topRow (bwdCarry (dec V c t) (scl V c t) (start V c t) 16)

/-- The coordinate of a grid point is its number. -/
theorem coord (t : Fin cfg1.N) : (grid1.coords t 0).val = t.val := by
  obtain rfl | rfl := fin_N1 t <;> decide

theorem start_eq (t : Fin cfg1.N) (C : S8x2048.Idx → Elt F .f32) (h : t.val = 1 → C = handed V c) :
    startC t.val (dfinB V c t) C = start V c t := by
  unfold start startC
  obtain rfl | rfl := fin_N1 t
  · rfl
  · rw [h rfl]

theorem handed_eq (t : Fin cfg1.N) (h : t.val + 1 = 1) : bwdCarry (dec V c t) (scl V c t) (start V c t) 16 = handed V c := by
  obtain rfl | rfl := fin_N1 t
  · rfl
  · exact absurd h (by decide)

/-- What is held between grid points: the scratch, what is passed back as it should be. -/
def Between (n : ℕ) : sProp 𝕄 :=
  iprop((∃ f, ((c : Thread nD τ).loc cc1_scratch0) ↦{fullShare} f) ∗ (∃ f, ((c : Thread nD τ).loc cc1_scratch1) ↦{fullShare} f) ∗ (∃ f, ((c : Thread nD τ).loc cc1_scratch2) ↦{fullShare} f) ∗ (∃ f, ((c : Thread nD τ).loc cc1_scratch3) ↦{fullShare} f) ∗ (∃ f, ((c : Thread nD τ).loc cc1_scratch4) ↦{fullShare} f)
    ∗ (∃ f : S8x2048.Idx → Elt F .f32, ⌜n = 1 → f = handed V c⌝ ∗ ((c : Thread nD τ).loc cc1_scratch5) ↦{fullShare} f)
    ∗ Pipeline.scopedRestBut (Ix := Unit) (Name := ℕ) (U := UR sig nD τ) (Lvl := ℕ) (Val := Elt F) spec1 c [cc1_scratch0, cc1_scratch1, cc1_scratch2, cc1_scratch3, cc1_scratch4, cc1_scratch5])

/-- The backward kernel's proof data, from the contents its call finds. -/
def dat : Dat τ (Elt F) Unit ℕ (UR sig nD τ) ℕ cfg1 c where
  A w := V c (Pipeline.arrRef spec1 w)
  after w t := match w with
    | ⟨0, _⟩ => xB V c t
    | ⟨1, _⟩ => waB V c t
    | ⟨2, _⟩ => wxB V c t
    | ⟨3, _⟩ => baB V c t
    | ⟨4, _⟩ => bxB V c t
    | ⟨5, _⟩ => lamB V c t
    | ⟨6, _⟩ => h0B V c t
    | ⟨7, _⟩ => hB V c t
    | ⟨8, _⟩ => pB V c t
    | ⟨9, _⟩ => dhB V c t
    | ⟨10, _⟩ => dfinB V c t
    | ⟨11, _⟩ => dxcO V c t
    | ⟨12, _⟩ => dwaO V c t
    | ⟨13, _⟩ => dwxO V c t
    | ⟨14, _⟩ => dbaO V c t
    | ⟨15, _⟩ => dbxO V c t
    | ⟨16, _⟩ => dspO V c t
    | ⟨17, _⟩ => dh0O V c t
    | ⟨_ + 18, h⟩ => absurd h (Nat.not_lt.2 (Nat.le_add_left _ _))
  Φ n := Between V c n.val
  q w := Pipeline.shareOf spec1 w
  owed _ := 0

abbrev 𝒱₀ : Variants := Variants.none

theorem before_xB (t : Fin cfg1.N) (d) : (dat V c).before 0 t d = xB V c t :=
  (dat V c).before_in_eq_fetched 0 rfl (fun _ => rfl) (fun _ _ _ => rfl) (fun _ => rfl) t d
theorem before_waB (t : Fin cfg1.N) (d) : (dat V c).before 1 t d = waB V c t :=
  (dat V c).before_in_eq_fetched 1 rfl (fun _ => rfl) (fun _ _ _ => rfl) (fun _ => rfl) t d
theorem before_wxB (t : Fin cfg1.N) (d) : (dat V c).before 2 t d = wxB V c t :=
  (dat V c).before_in_eq_fetched 2 rfl (fun _ => rfl) (fun _ _ _ => rfl) (fun _ => rfl) t d
theorem before_baB (t : Fin cfg1.N) (d) : (dat V c).before 3 t d = baB V c t :=
  (dat V c).before_in_eq_fetched 3 rfl (fun _ => rfl) (fun _ _ _ => rfl) (fun _ => rfl) t d
theorem before_bxB (t : Fin cfg1.N) (d) : (dat V c).before 4 t d = bxB V c t :=
  (dat V c).before_in_eq_fetched 4 rfl (fun _ => rfl) (fun _ _ _ => rfl) (fun _ => rfl) t d
theorem before_lamB (t : Fin cfg1.N) (d) : (dat V c).before 5 t d = lamB V c t :=
  (dat V c).before_in_eq_fetched 5 rfl (fun _ => rfl) (fun _ _ _ => rfl) (fun _ => rfl) t d
theorem before_h0B (t : Fin cfg1.N) (d) : (dat V c).before 6 t d = h0B V c t :=
  (dat V c).before_in_eq_fetched 6 rfl (fun _ => rfl) (fun _ _ _ => rfl) (fun _ => rfl) t d
theorem before_hB (t : Fin cfg1.N) (d) : (dat V c).before 7 t d = hB V c t :=
  (dat V c).before_in_eq_fetched 7 rfl (fun _ => rfl) (fun _ _ _ => rfl) (fun _ => rfl) t d
theorem before_pB (t : Fin cfg1.N) (d) : (dat V c).before 8 t d = pB V c t :=
  (dat V c).before_in_eq_fetched 8 rfl (fun _ => rfl) (fun _ _ _ => rfl) (fun _ => rfl) t d
theorem before_dhB (t : Fin cfg1.N) (d) : (dat V c).before 9 t d = dhB V c t :=
  (dat V c).before_in_eq_fetched 9 rfl (fun _ => rfl) (fun _ _ _ => rfl) (fun _ => rfl) t d
theorem before_dfinB (t : Fin cfg1.N) (d) : (dat V c).before 10 t d = dfinB V c t :=
  (dat V c).before_in_eq_fetched 10 rfl (fun _ => rfl) (fun _ _ _ => rfl) (fun _ => rfl) t d

/-- Starting a sum does not read what was there at the first grid point. -/
theorem startS_first {s : Shape} (D D' : s.Idx → Elt F .f32) : startS 0 D = startS 0 D' := rfl

theorem start_dwa (t : Fin cfg1.N) (d) : dwaS V c t ((dat V c).before 12 t d) = dwaO V c t := by
  obtain rfl | rfl := fin_N1 t
  · rfl
  · unfold dwaO
    exact congrArg _ ((dat V c).before_out_kept 12 rfl t1_1 (by decide) (Bool.eq_false_iff.mpr fun h => absurd ((flush1_12 _).mp h) (by decide)) (fun _ => rfl) (fun _ _ => rfl) d)
theorem start_dwx (t : Fin cfg1.N) (d) : dwxS V c t ((dat V c).before 13 t d) = dwxO V c t := by
  obtain rfl | rfl := fin_N1 t
  · rfl
  · unfold dwxO
    exact congrArg _ ((dat V c).before_out_kept 13 rfl t1_1 (by decide) (Bool.eq_false_iff.mpr fun h => absurd ((flush1_13 _).mp h) (by decide)) (fun _ => rfl) (fun _ _ => rfl) d)
theorem start_dba (t : Fin cfg1.N) (d) : dbaS V c t ((dat V c).before 14 t d) = dbaO V c t := by
  obtain rfl | rfl := fin_N1 t
  · rfl
  · unfold dbaO
    exact congrArg _ ((dat V c).before_out_kept 14 rfl t1_1 (by decide) (Bool.eq_false_iff.mpr fun h => absurd ((flush1_14 _).mp h) (by decide)) (fun _ => rfl) (fun _ _ => rfl) d)
theorem start_dbx (t : Fin cfg1.N) (d) : dbxS V c t ((dat V c).before 15 t d) = dbxO V c t := by
  obtain rfl | rfl := fin_N1 t
  · rfl
  · unfold dbxO
    exact congrArg _ ((dat V c).before_out_kept 15 rfl t1_1 (by decide) (Bool.eq_false_iff.mpr fun h => absurd ((flush1_15 _).mp h) (by decide)) (fun _ => rfl) (fun _ _ => rfl) d)
theorem start_dsp (t : Fin cfg1.N) (d) : dspS V c t ((dat V c).before 16 t d) = dspO V c t := by
  obtain rfl | rfl := fin_N1 t
  · rfl
  · unfold dspO
    exact congrArg _ ((dat V c).before_out_kept 16 rfl t1_1 (by decide) (Bool.eq_false_iff.mpr fun h => absurd ((flush1_16 _).mp h) (by decide)) (fun _ => rfl) (fun _ _ => rfl) d)

/-- The kernel at a grid point. -/
theorem body (t : Fin cfg1.N) (R : sProp 𝕄) :
    iprop(Between V c t.val ∗ R ∗ (∃ d, owns c (st1_0 t) fullShare ((dat V c).before 0 t d)) ∗ (∃ d, owns c (st1_1 t) fullShare ((dat V c).before 1 t d)) ∗ (∃ d, owns c (st1_2 t) fullShare ((dat V c).before 2 t d)) ∗ (∃ d, owns c (st1_3 t) fullShare ((dat V c).before 3 t d)) ∗ (∃ d, owns c (st1_4 t) fullShare ((dat V c).before 4 t d)) ∗ (∃ d, owns c (st1_5 t) fullShare ((dat V c).before 5 t d)) ∗ (∃ d, owns c (st1_6 t) fullShare ((dat V c).before 6 t d)) ∗ (∃ d, owns c (st1_7 t) fullShare ((dat V c).before 7 t d)) ∗ (∃ d, owns c (st1_8 t) fullShare ((dat V c).before 8 t d)) ∗ (∃ d, owns c (st1_9 t) fullShare ((dat V c).before 9 t d)) ∗ (∃ d, owns c (st1_10 t) fullShare ((dat V c).before 10 t d)) ∗ (∃ d, owns c (st1_11 t) fullShare ((dat V c).before 11 t d)) ∗ (∃ d, owns c (st1_12 t) fullShare ((dat V c).before 12 t d)) ∗ (∃ d, owns c (st1_13 t) fullShare ((dat V c).before 13 t d)) ∗ (∃ d, owns c (st1_14 t) fullShare ((dat V c).before 14 t d)) ∗ (∃ d, owns c (st1_15 t) fullShare ((dat V c).before 15 t d)) ∗ (∃ d, owns c (st1_16 t) fullShare ((dat V c).before 16 t d)) ∗ (∃ d, owns c (st1_17 t) fullShare ((dat V c).before 17 t d)))
      ⊢ wp (M := 𝕄) frame (wpE defs₀ 𝒱₀ (c : Thread nD τ) none) Set.univ (bodyAt1 t) (fun _ => iprop(Between V c (t.val + 1) ∗ R ∗ owns c (st1_0 t) fullShare (xB V c t) ∗ owns c (st1_1 t) fullShare (waB V c t) ∗ owns c (st1_2 t) fullShare (wxB V c t) ∗ owns c (st1_3 t) fullShare (baB V c t) ∗ owns c (st1_4 t) fullShare (bxB V c t) ∗ owns c (st1_5 t) fullShare (lamB V c t) ∗ owns c (st1_6 t) fullShare (h0B V c t) ∗ owns c (st1_7 t) fullShare (hB V c t) ∗ owns c (st1_8 t) fullShare (pB V c t) ∗ owns c (st1_9 t) fullShare (dhB V c t) ∗ owns c (st1_10 t) fullShare (dfinB V c t) ∗ owns c (st1_11 t) fullShare (dxcO V c t) ∗ owns c (st1_12 t) fullShare (dwaO V c t) ∗ owns c (st1_13 t) fullShare (dwxO V c t) ∗ owns c (st1_14 t) fullShare (dbaO V c t) ∗ owns c (st1_15 t) fullShare (dbxO V c t) ∗ owns c (st1_16 t) fullShare (dspO V c t) ∗ owns c (st1_17 t) fullShare (dh0O V c t))) := by
  have key := fun (D12 : S128x2048.Idx → Elt F .f32) (D13 D14 : S16x128x128.Idx → Elt F .f32) (D15 D16 D17 D18 : S1x2048.Idx → Elt F .f32)
      (D19 D20 D21 D22 D23 : S128x2048.Idx → Elt F .f32) (C : S8x2048.Idx → Elt F .f32) =>
    bwdBody_rule (F := F) (𝒱 := 𝒱₀) (c := c) (bd := none) (E := Set.univ) (grid1.coords t)
      (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) (win1_9.stage (cfg1.slots t 9)) (hstage1_9 ((cfg1.slots t 9).cast nbuf1_9)) (win1_10.stage (cfg1.slots t 10)) (hstage1_10 ((cfg1.slots t 10).cast nbuf1_10)) (win1_11.stage (cfg1.slots t 11)) (hstage1_11 ((cfg1.slots t 11).cast nbuf1_11)) (win1_12.stage (cfg1.slots t 12)) (hstage1_12 ((cfg1.slots t 12).cast nbuf1_12)) (win1_13.stage (cfg1.slots t 13)) (hstage1_13 ((cfg1.slots t 13).cast nbuf1_13)) (win1_14.stage (cfg1.slots t 14)) (hstage1_14 ((cfg1.slots t 14).cast nbuf1_14)) (win1_15.stage (cfg1.slots t 15)) (hstage1_15 ((cfg1.slots t 15).cast nbuf1_15)) (win1_16.stage (cfg1.slots t 16)) (hstage1_16 ((cfg1.slots t 16).cast nbuf1_16)) (win1_17.stage (cfg1.slots t 17)) (hstage1_17 ((cfg1.slots t 17).cast nbuf1_17)) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _)
      (q1 := fullShare) (q2 := fullShare) (q3 := fullShare) (q4 := fullShare) (q5 := fullShare) (q6 := fullShare) (q7 := fullShare) (q8 := fullShare) (q9 := fullShare) (q10 := fullShare) (q11 := fullShare)
      (X := xB V c t) (WA := waB V c t) (WX := wxB V c t) (BA := baB V c t) (BX := bxB V c t) (LAM := lamB V c t) (H0 := h0B V c t)
      (H := hB V c t) (P := pB V c t) (DH := dhB V c t) (DFIN := dfinB V c t)
      (D12 := D12) (D13 := D13) (D14 := D14) (D15 := D15) (D16 := D16) (D17 := D17) (D18 := D18) (D19 := D19) (D20 := D20) (D21 := D21) (D22 := D22) (D23 := D23) (C := C)
  unfold Between
  iintro ⟨⟨⟨%f19, H19⟩, ⟨%f20, H20⟩, ⟨%f21, H21⟩, ⟨%f22, H22⟩, ⟨%f23, H23⟩, ⟨%C, %hC, H24⟩, Hrest⟩, HR, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
  rw [before_xB, before_waB, before_wxB, before_baB, before_bxB, before_lamB, before_h0B, before_hB, before_pB, before_dhB, before_dfinB]
  ihave H19 := (Entails.of_eq (owns_whole (c : Thread nD τ) cc1_scratch0 fullShare f19).symm) $$ H19
  ihave H20 := (Entails.of_eq (owns_whole (c : Thread nD τ) cc1_scratch1 fullShare f20).symm) $$ H20
  ihave H21 := (Entails.of_eq (owns_whole (c : Thread nD τ) cc1_scratch2 fullShare f21).symm) $$ H21
  ihave H22 := (Entails.of_eq (owns_whole (c : Thread nD τ) cc1_scratch3 fullShare f22).symm) $$ H22
  ihave H23 := (Entails.of_eq (owns_whole (c : Thread nD τ) cc1_scratch4 fullShare f23).symm) $$ H23
  ihave H24 := (Entails.of_eq (owns_whole (c : Thread nD τ) cc1_scratch5 fullShare C).symm) $$ H24
  iapply (wp_wand frame (wpE defs₀ 𝒱₀ (c : Thread nD τ) none) Set.univ) $$ [H1 H2 H3 H4 H5 H6 H7 H8 H9 H10 H11 H12 H13 H14 H15 H16 H17 H18 H19 H20 H21 H22 H23 H24]
  · iapply (key _ _ _ _ _ _ _ f19 f20 f21 f22 f23 C)
    iframe
  simp only [muOf]
  rw [coord, start_eq V c t C hC]
  iintro %_ ⟨H1, H2, H3, H4, H5, H6, H7, H8, H9, H10, H11, H12, H13, H14, H15, H16, H17, H18, H19, H20, H21, H22, H23, H24⟩
  ihave H19 := (Entails.of_eq (owns_whole (c : Thread nD τ) cc1_scratch0 fullShare _)) $$ H19
  ihave H20 := (Entails.of_eq (owns_whole (c : Thread nD τ) cc1_scratch1 fullShare _)) $$ H20
  ihave H21 := (Entails.of_eq (owns_whole (c : Thread nD τ) cc1_scratch2 fullShare _)) $$ H21
  ihave H22 := (Entails.of_eq (owns_whole (c : Thread nD τ) cc1_scratch3 fullShare _)) $$ H22
  ihave H23 := (Entails.of_eq (owns_whole (c : Thread nD τ) cc1_scratch4 fullShare _)) $$ H23
  ihave H24 := (Entails.of_eq (owns_whole (c : Thread nD τ) cc1_scratch5 fullShare _)) $$ H24
  isplitl [H19 H20 H21 H22 H23 H24 Hrest]
  · iframe Hrest
    isplitl [H19]; · iexists _; iexact H19
    isplitl [H20]; · iexists _; iexact H20
    isplitl [H21]; · iexists _; iexact H21
    isplitl [H22]; · iexists _; iexact H22
    isplitl [H23]; · iexists _; iexact H23
    iexists _
    isplitr
    · ipureintro
      exact handed_eq V c t
    iexact H24
  rw [← start_dwa V c t d13, ← start_dwx V c t d14, ← start_dba V c t d15, ← start_dbx V c t d16, ← start_dsp V c t d17]
  unfold dxcO dwaS dwxS dbaS dbxS dspS dh0O mu dec scl ra rx halo
  iframe

/-- The kernel meets its obligation at every grid point. -/
theorem body_obligation : BodyObligation (dat V c) (defs₀ (F := F)) 𝒱₀ () Set.univ := fun t => by
  rw [bigSep_W1, bigSep_W1]
  exact body V c t _

end Cert.KernelIdeal.Bwd
-- ==== Proof.Run.lean ====
module

public import proofs.«01_k».proof.Proof.FwdRegion
public import proofs.«01_k».proof.Proof.Gen.KernelIdeal.Regions
public import proofs.«01_k».proof.Proof.BwdRegion

@[expose] public section

set_option maxRecDepth 16384

noncomputable section

namespace Cert.KernelIdeal.Run

open Cert.KernelIdeal.Gen Cert.KernelIdeal.Shape
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ)

/-! ## What the buffers hold before, between and after the two kernels -/

/-- What a core's buffers hold at launch, -/
def W0 (c : Dev nD) : Valuation τ sig (Elt F) := fun b => m (c, b)

/-- as the forward kernel finds them, -/
abbrev B0 (c : Dev nD) (b : Ref sig .tc) : Buf (Elt F) ((c : Thread nD τ).loc b) := W0 m c b

/-- the states it writes, -/
def states (c : Dev nD) : Buf (Elt F) ((c : Thread nD τ).loc main_v0_0) := (Fwd.dat (B0 m) c).arrAt 7 cfg0.N
/-- and the last of them; -/
def last (c : Dev nD) : Buf (Elt F) ((c : Thread nD τ).loc main_v0_1) := (Fwd.dat (B0 m) c).arrAt 8 cfg0.N

/-- after the forward kernel, -/
def W1 (c : Dev nD) : Valuation τ sig (Elt F) :=
  Function.update (Function.update (W0 m c) main_v0_0 (states m c)) main_v0_1 (last m c)

/-- as the backward kernel finds them, -/
abbrev B1 (c : Dev nD) (b : Ref sig .tc) : Buf (Elt F) ((c : Thread nD τ).loc b) := W1 m c b

/-- the gradients it writes, -/
def grad0 (c : Dev nD) : Buf (Elt F) ((c : Thread nD τ).loc main_v1_0) := (Bwd.dat (B1 m) c).arrAt 11 cfg1.N
def grad1 (c : Dev nD) : Buf (Elt F) ((c : Thread nD τ).loc main_v1_1) := (Bwd.dat (B1 m) c).arrAt 12 cfg1.N
def grad2 (c : Dev nD) : Buf (Elt F) ((c : Thread nD τ).loc main_v1_2) := (Bwd.dat (B1 m) c).arrAt 13 cfg1.N
def grad3 (c : Dev nD) : Buf (Elt F) ((c : Thread nD τ).loc main_v1_3) := (Bwd.dat (B1 m) c).arrAt 14 cfg1.N
def grad4 (c : Dev nD) : Buf (Elt F) ((c : Thread nD τ).loc main_v1_4) := (Bwd.dat (B1 m) c).arrAt 15 cfg1.N
def grad5 (c : Dev nD) : Buf (Elt F) ((c : Thread nD τ).loc main_v1_5) := (Bwd.dat (B1 m) c).arrAt 16 cfg1.N
def grad6 (c : Dev nD) : Buf (Elt F) ((c : Thread nD τ).loc main_v1_6) := (Bwd.dat (B1 m) c).arrAt 17 cfg1.N

/-- after the backward kernel. -/
def W2 (c : Dev nD) : Valuation τ sig (Elt F) :=
  Function.update (Function.update (Function.update (Function.update (Function.update (Function.update (Function.update (W1 m c)
    main_v1_0 (grad0 m c)) main_v1_1 (grad1 m c)) main_v1_2 (grad2 m c)) main_v1_3 (grad3 m c)) main_v1_4 (grad4 m c))
    main_v1_5 (grad5 m c)) main_v1_6 (grad6 m c)

abbrev B2 (c : Dev nD) (b : Ref sig .tc) : Buf (Elt F) ((c : Thread nD τ).loc b) := W2 m c b

/-- A buffer that is no result of the forward kernel is as it was. -/
theorem W1_of (c : Dev nD) (r : Ref sig .tc) (h : r ∉ ([main_v0_0, main_v0_1] : List (Ref sig .tc))) : W1 m c r = W0 m c r := by
  simp only [List.mem_cons, List.not_mem_nil, _root_.or_false, not_or] at h
  unfold W1
  rw [Function.update_of_ne (StableHlo.devRef_ne_of_ne h.2), Function.update_of_ne (StableHlo.devRef_ne_of_ne h.1)]

theorem W1_states (c : Dev nD) : W1 m c main_v0_0 = states m c := by
  unfold W1
  rw [Function.update_of_ne (StableHlo.devRef_ne_of_ne (by decide)), Function.update_self]

theorem W1_last (c : Dev nD) : W1 m c main_v0_1 = last m c := by
  unfold W1
  rw [Function.update_self]

/-- A buffer that is no result of the backward kernel is as it was. -/
theorem W2_of (c : Dev nD) (r : Ref sig .tc)
    (h : r ∉ ([main_v1_0, main_v1_1, main_v1_2, main_v1_3, main_v1_4, main_v1_5, main_v1_6] : List (Ref sig .tc))) : W2 m c r = W1 m c r := by
  simp only [List.mem_cons, List.not_mem_nil, _root_.or_false, not_or] at h
  obtain ⟨h0, h1, h2, h3, h4, h5, h6⟩ := h
  unfold W2
  rw [Function.update_of_ne (StableHlo.devRef_ne_of_ne h6), Function.update_of_ne (StableHlo.devRef_ne_of_ne h5),
    Function.update_of_ne (StableHlo.devRef_ne_of_ne h4), Function.update_of_ne (StableHlo.devRef_ne_of_ne h3),
    Function.update_of_ne (StableHlo.devRef_ne_of_ne h2), Function.update_of_ne (StableHlo.devRef_ne_of_ne h1),
    Function.update_of_ne (StableHlo.devRef_ne_of_ne h0)]

/-- What the results of the backward kernel hold. -/
theorem W2_grads (c : Dev nD) : W2 m c main_v1_0 = grad0 m c ∧ W2 m c main_v1_1 = grad1 m c ∧ W2 m c main_v1_2 = grad2 m c
    ∧ W2 m c main_v1_3 = grad3 m c ∧ W2 m c main_v1_4 = grad4 m c ∧ W2 m c main_v1_5 = grad5 m c ∧ W2 m c main_v1_6 = grad6 m c := by
  have ne : ∀ {a b : Ref sig .tc}, a ≠ b → (Proc.devRef .tc a : DevRef τ sig) ≠ Proc.devRef .tc b := StableHlo.devRef_ne_of_ne
  unfold W2
  refine ⟨?_, ?_, ?_, ?_, ?_, ?_, ?_⟩
  · rw [Function.update_of_ne (ne (by decide)), Function.update_of_ne (ne (by decide)), Function.update_of_ne (ne (by decide)),
      Function.update_of_ne (ne (by decide)), Function.update_of_ne (ne (by decide)), Function.update_of_ne (ne (by decide)), Function.update_self]
  · rw [Function.update_of_ne (ne (by decide)), Function.update_of_ne (ne (by decide)), Function.update_of_ne (ne (by decide)),
      Function.update_of_ne (ne (by decide)), Function.update_of_ne (ne (by decide)), Function.update_self]
  · rw [Function.update_of_ne (ne (by decide)), Function.update_of_ne (ne (by decide)), Function.update_of_ne (ne (by decide)),
      Function.update_of_ne (ne (by decide)), Function.update_self]
  · rw [Function.update_of_ne (ne (by decide)), Function.update_of_ne (ne (by decide)), Function.update_of_ne (ne (by decide)), Function.update_self]
  · rw [Function.update_of_ne (ne (by decide)), Function.update_of_ne (ne (by decide)), Function.update_self]
  · rw [Function.update_of_ne (ne (by decide)), Function.update_self]
  · rw [Function.update_self]

/-- The forward kernel's results are arrays of its windows, -/
theorem results0 : ∀ b ∈ ([main_v0_0, main_v0_1] : List (Ref sig .tc)), b ∈ Finset.univ.image (Pipeline.arrRef spec0) := by decide
/-- and the backward kernel's are of its own. -/
theorem results1 : ∀ b ∈ ([main_v1_0, main_v1_1, main_v1_2, main_v1_3, main_v1_4, main_v1_5, main_v1_6] : List (Ref sig .tc)),
    b ∈ Finset.univ.image (Pipeline.arrRef spec1) := by decide

/-! ## The two kernels as segments of the program -/

/-- The two kernels' proof data. -/
def dats : (p : Fin 2) → (c : Dev nD) → Dat τ (Elt F) Unit ℕ (UR sig nD τ) ℕ (Pipeline.pin (pcfgs (F := F)) adm p) c
  | ⟨0, _⟩ => fun c => Fwd.dat (B0 m) c
  | ⟨1, _⟩ => fun c => Bwd.dat (B1 m) c

/-- No core owes another anything. -/
abbrev L : GSem nD τ sig → Finset Unit := fun _ => ∅
abbrev lv : GSem nD τ sig → Unit → ℕ := fun _ _ => 0
abbrev 𝒱₀ : Variants := Variants.none

/-- What rides beside the buffers. -/
abbrev Rest (c : Dev nD) : sProp 𝕄 := iprop(∃ W, owes (c : Thread nD τ) (0 : CellTallies nD τ sig Unit) W)

set_option backward.isDefEq.respectTransparency.types false in
/-- The forward kernel, from the launch to the states. -/
def seg0 : Pipeline.RegionSeg (pcfgs (F := F)) adm (dats m) () defs₀ 𝒱₀ L lv 0 where
  win := launch0.win.to₀
  block_pos := launch0.block_pos
  stage_whole := launch0.stage_whole
  K := PEmpty
  osem k := k.elim
  ho := Pipeline.OwnSemFacts.none _
  hbody c := (Fwd.body_obligation (B0 m) c).loose
  hwaits := Pipeline.hwaits_of_owed_zero _ _ _ _ L lv 0 fun _ _ => rfl
  pre c := iprop(unscopedBufs c (B0 m c) ∗ Rest c)
  post c := iprop(unscopedBufs c (B1 m c) ∗ Rest c)
  X _ := BI.emp
  Y _ := BI.emp
  Z c := Pipeline.unscopedRest (Ix := Unit) (Name := ℕ) (U := UR sig nD τ) (Lvl := ℕ) spec0 c (B0 m c)
  hentry c := by
    rw [Pipeline.ownSems0_none]
    have hsplit := Pipeline.arrays_of_unscopedBufs (p := 0) (pcfgs (F := F)) adm (dats m) launch0.win launch0.arr_whole c
      ((dats m 0 c).share_full fun _ => rfl) (B0 m c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (dats m 0 c).Φ 0 = Fwd.Between (B0 m) c 0 from rfl]
    unfold Fwd.Between
    refine BIBase.Entails.trans (Q := Pipeline.scopedRest (Ix := Unit) (Name := ℕ) (U := UR sig nD τ) (Lvl := ℕ) (Val := Elt F) spec0 c) ?_ ?_
    · iintro ⟨-, -, Hr⟩; iexact Hr
    rw [scopedRest0_split]
    iintro ⟨⟨H0, H1, ⟨%f, H2⟩⟩, Hr⟩
    iframe Hr
    iframe H0
    iframe H1
    iexists f
    isplitr; · ipureintro; exact fun h => absurd h (by decide)
    iexact H2
  hout c := by
    rw [Pipeline.ownSems0_none, show (dats m 0 c).Φ (Fin.last _) = Fwd.Between (B0 m) c 2 from rfl]
    refine BIBase.Entails.trans (Q := Pipeline.scopedRest (Ix := Unit) (Name := ℕ) (U := UR sig nD τ) (Lvl := ℕ) (Val := Elt F) spec0 c) ?_ ?_
    · rw [scopedRest0_split]
      unfold Fwd.Between
      iintro ⟨H0, H1, ⟨%f, -, H2⟩, Hr⟩
      iframe Hr
      iframe H0
      iframe H1
      iexists f
      iexact H2
    iintro Hr
    isplitr; · iempintro
    isplitr; · iempintro
    iexact Hr
  hexit c := by
    have hjoin := Pipeline.unscopedBufs_of_arrays (p := 0) (pcfgs (F := F)) adm (Ix := Unit) (Name := ℕ) (U := UR sig nD τ) (Lvl := ℕ) launch0.win launch0.arr_whole c
      (dats m) ((dats m 0 c).share_full fun _ => rfl) (B0 m c) (B1 m c) ((dats m 0 c).arrAt · cfg0.N)
      (fun w => by
        fin_cases w
        · exact ((dats m 0 c).arrAt_in 0 rfl _).trans (W1_of m c main_arg0 (by decide)).symm
        · exact ((dats m 0 c).arrAt_in 1 rfl _).trans (W1_of m c main_arg1 (by decide)).symm
        · exact ((dats m 0 c).arrAt_in 2 rfl _).trans (W1_of m c main_arg2 (by decide)).symm
        · exact ((dats m 0 c).arrAt_in 3 rfl _).trans (W1_of m c main_arg3 (by decide)).symm
        · exact ((dats m 0 c).arrAt_in 4 rfl _).trans (W1_of m c main_arg4 (by decide)).symm
        · exact ((dats m 0 c).arrAt_in 5 rfl _).trans (W1_of m c main_arg5 (by decide)).symm
        · exact ((dats m 0 c).arrAt_in 6 rfl _).trans (W1_of m c main_arg6 (by decide)).symm
        · exact (W1_states m c).symm
        · exact (W1_last m c).symm)
      (fun b hb => W1_of m c b fun h => hb (results0 b h))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

/-- The backward kernel's scratch buffers taken out of what it leaves alone. -/
theorem scopedRest1_split (c : Dev nD) :
    (Pipeline.scopedRest (Ix := Unit) (Name := ℕ) (U := UR sig nD τ) (Lvl := ℕ) (Val := Elt F) spec1 c : sProp 𝕄)
      = iprop(iprop((∃ f : Buf (Elt F) ((c : Thread nD τ).loc cc1_scratch0), ((c : Thread nD τ).loc cc1_scratch0) ↦{fullShare} f)
          ∗ (∃ f : Buf (Elt F) ((c : Thread nD τ).loc cc1_scratch1), ((c : Thread nD τ).loc cc1_scratch1) ↦{fullShare} f)
          ∗ (∃ f : Buf (Elt F) ((c : Thread nD τ).loc cc1_scratch2), ((c : Thread nD τ).loc cc1_scratch2) ↦{fullShare} f)
          ∗ (∃ f : Buf (Elt F) ((c : Thread nD τ).loc cc1_scratch3), ((c : Thread nD τ).loc cc1_scratch3) ↦{fullShare} f)
          ∗ (∃ f : Buf (Elt F) ((c : Thread nD τ).loc cc1_scratch4), ((c : Thread nD τ).loc cc1_scratch4) ↦{fullShare} f)
          ∗ (∃ f : Buf (Elt F) ((c : Thread nD τ).loc cc1_scratch5), ((c : Thread nD τ).loc cc1_scratch5) ↦{fullShare} f))
        ∗ Pipeline.scopedRestBut (Ix := Unit) (Name := ℕ) (U := UR sig nD τ) (Lvl := ℕ) (Val := Elt F) spec1 c
            [cc1_scratch0, cc1_scratch1, cc1_scratch2, cc1_scratch3, cc1_scratch4, cc1_scratch5]) :=
  Pipeline.scopedRest_split_of_list spec1 c [cc1_scratch0, cc1_scratch1, cc1_scratch2, cc1_scratch3, cc1_scratch4, cc1_scratch5] (by decide) (by decide)

/-- Every array of the backward kernel's windows ends as the program's buffers say. -/
theorem ends1 (c : Dev nD) (w : Fin cfg1.W) : (dats m 1 c).arrAt w cfg1.N = B2 m c (Pipeline.arrRef spec1 w) := by
  fin_cases w
  · exact ((dats m 1 c).arrAt_in 0 rfl _).trans (W2_of m c main_arg0 (by decide)).symm
  · exact ((dats m 1 c).arrAt_in 1 rfl _).trans (W2_of m c main_arg1 (by decide)).symm
  · exact ((dats m 1 c).arrAt_in 2 rfl _).trans (W2_of m c main_arg2 (by decide)).symm
  · exact ((dats m 1 c).arrAt_in 3 rfl _).trans (W2_of m c main_arg3 (by decide)).symm
  · exact ((dats m 1 c).arrAt_in 4 rfl _).trans (W2_of m c main_arg4 (by decide)).symm
  · exact ((dats m 1 c).arrAt_in 5 rfl _).trans (W2_of m c main_arg5 (by decide)).symm
  · exact ((dats m 1 c).arrAt_in 6 rfl _).trans (W2_of m c main_arg6 (by decide)).symm
  · exact ((dats m 1 c).arrAt_in 7 rfl _).trans (W2_of m c main_v0_0 (by decide)).symm
  · exact ((dats m 1 c).arrAt_in 8 rfl _).trans (W2_of m c main_v0_0 (by decide)).symm
  · exact ((dats m 1 c).arrAt_in 9 rfl _).trans (W2_of m c main_arg7 (by decide)).symm
  · exact ((dats m 1 c).arrAt_in 10 rfl _).trans (W2_of m c main_arg8 (by decide)).symm
  · exact (W2_grads m c).1.symm
  · exact (W2_grads m c).2.1.symm
  · exact (W2_grads m c).2.2.1.symm
  · exact (W2_grads m c).2.2.2.1.symm
  · exact (W2_grads m c).2.2.2.2.1.symm
  · exact (W2_grads m c).2.2.2.2.2.1.symm
  · exact (W2_grads m c).2.2.2.2.2.2.symm

set_option backward.isDefEq.respectTransparency.types false in
/-- The buffers split into the backward kernel's arrays and the rest, -/
theorem split1 (c : Dev nD) : (unscopedBufs c (B1 m c) : sProp 𝕄)
    ⊢ iprop((dats m 1 c).arrays ((dats m 1 c).arrAt · 0) ∗ Pipeline.unscopedRest (Ix := Unit) (Name := ℕ) (U := UR sig nD τ) (Lvl := ℕ) spec1 c (B1 m c)) :=
  Pipeline.arrays_of_unscopedBufs_shared (p := 1) (pcfgs (F := F)) adm (dats m) winFacts₀1 sharedIn1 arr_whole1 c
    (fun _ _ => rfl) (B1 m c) fun _ => rfl

set_option backward.isDefEq.respectTransparency.types false in
/-- and are joined again when it is done. -/
theorem join1 (c : Dev nD) :
    iprop((dats m 1 c).arrays ((dats m 1 c).arrAt · cfg1.N) ∗ Pipeline.unscopedRest (Ix := Unit) (Name := ℕ) (U := UR sig nD τ) (Lvl := ℕ) spec1 c (B1 m c))
    ⊢ (unscopedBufs c (B2 m c) : sProp 𝕄) :=
  Pipeline.unscopedBufs_of_arrays_shared (p := 1) (pcfgs (F := F)) adm (Ix := Unit) (Name := ℕ) (U := UR sig nD τ) (Lvl := ℕ) winFacts₀1 sharedIn1 arr_whole1 c
    (dats m) (fun _ _ => rfl) (B1 m c) (B2 m c) ((dats m 1 c).arrAt · cfg1.N) (ends1 m c) fun b hb => W2_of m c b fun h => hb (results1 b h)

/-- What is left alone, to the first point, -/
theorem enter1 (c : Dev nD) : (Pipeline.scopedRest (Ix := Unit) (Name := ℕ) (U := UR sig nD τ) (Lvl := ℕ) (Val := Elt F) spec1 c : sProp 𝕄) ⊢ Bwd.Between (B1 m) c 0 := by
  rw [scopedRest1_split]
  unfold Bwd.Between
  iintro ⟨⟨H0, H1, H2, H3, H4, ⟨%f, H5⟩⟩, Hr⟩
  iframe Hr
  iframe H0
  iframe H1
  iframe H2
  iframe H3
  iframe H4
  iexists f
  isplitr; · ipureintro; exact fun h => absurd h (by decide)
  iexact H5

/-- and from the last. -/
theorem leave1 (c : Dev nD) : Bwd.Between (B1 m) c 2 ⊢ (Pipeline.scopedRest (Ix := Unit) (Name := ℕ) (U := UR sig nD τ) (Lvl := ℕ) (Val := Elt F) spec1 c : sProp 𝕄) := by
  rw [scopedRest1_split]
  unfold Bwd.Between
  iintro ⟨H0, H1, H2, H3, H4, ⟨%f, -, H5⟩, Hr⟩
  iframe Hr
  iframe H0
  iframe H1
  iframe H2
  iframe H3
  iframe H4
  iexists f
  iexact H5

set_option backward.isDefEq.respectTransparency.types false in
/-- The backward kernel, from the states to the gradients. -/
def seg1 : Pipeline.RegionSeg (pcfgs (F := F)) adm (dats m) () defs₀ 𝒱₀ L lv 1 where
  win := winFacts₀1
  block_pos := block_pos1
  stage_whole := stage_whole1
  K := PEmpty
  osem k := k.elim
  ho := Pipeline.OwnSemFacts.none _
  hbody c := (Bwd.body_obligation (B1 m) c).loose
  hwaits := Pipeline.hwaits_of_owed_zero _ _ _ _ L lv 1 fun _ _ => rfl
  pre c := iprop(unscopedBufs c (B1 m c) ∗ Rest c)
  post c := iprop(unscopedBufs c (B2 m c) ∗ Rest c)
  X _ := BI.emp
  Y _ := BI.emp
  Z c := Pipeline.unscopedRest (Ix := Unit) (Name := ℕ) (U := UR sig nD τ) (Lvl := ℕ) spec1 c (B1 m c)
  hentry c := by
    rw [Pipeline.ownSems0_none]
    iintro ⟨⟨Hub, HO⟩, -, -⟩
    ihave H := (split1 m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (dats m 1 c).Φ 0 = Bwd.Between (B1 m) c 0 from rfl]
    iintro ⟨-, -, Hr⟩
    iapply (enter1 m c)
    iexact Hr
  hout c := by
    rw [Pipeline.ownSems0_none, show (dats m 1 c).Φ (Fin.last _) = Bwd.Between (B1 m) c 2 from rfl]
    iintro H
    ihave Hr := (leave1 m c) $$ H
    isplitr; · iempintro
    isplitr; · iempintro
    iexact Hr
  hexit c := by
    iintro ⟨Ha, HO, -, Hrest⟩
    imodintro
    isplitl [Ha Hrest]
    · iapply (join1 m c); isplitl [Ha] <;> iassumption
    unfold Pipeline.Dat.owesAt Pipeline.owesWithin
    icases HO with ⟨%W, -, HO⟩; iexists W; iexact HO

/-! ## The whole program -/

/-- The program as the list of the two. -/
abbrev segs : List (Pipeline.Seg (pcfgs (F := F)) adm (dats m) () defs₀ 𝒱₀ L lv) := [.region (seg0 m), .region (seg1 m)]

/-- What a final memory holds: every buffer of the program as the two kernels leave it. -/
def Final (c : Dev nD) (s : MemSt nD τ sig (Elt F)) : Prop :=
  ∀ b ∈ Pipeline.ucRefs τ sig, s.mem (c, b) = W2 m c b

-- the launch rule's implicit arguments are found by unfolding plain definitions in a metavariable's type
set_option backward.isDefEq.respectTransparency.types false in
/-- For any float values, from any memory with zero counters, every weakly fair execution of the program terminates, and
    every final state has the buffers as the two kernels leave them and every semaphore counter at zero. -/
theorem run_main (ρ : Dev nD → PrngReg) :
    θ_run defs (onTc (τ := τ) (main (F := F))) (s₀ m ρ) (fun r => (∀ c : Dev nD, Final m c r.2) ∧ r.2.sem = fun _ => 0) :=
  Pipeline.θ_run_regions_kit_sems (pcfgs (F := F)) adm (dats m) () cellOf_inj (emb₁ : Emb (UR sig nD τ) 𝕄) defs₀ 𝒱₀ L lv m ρ main (segs m)
    (fun c Q => by rw [main_segs adm (dats m) () 𝒱₀ L lv (seg0 m) (seg1 m) c])
    (by simp only [Pipeline.Seg.pipes_region, Pipeline.Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu
      imodintro
      isplitl [Hu]
      · iapply (show (ownU (initOf (Pipeline.cells cfgs cellOf_inj) (Pipeline.launchToks cfgs cellOf_inj)) : sProp 𝕄)
          ⊢ BI.own ((emb₁ : Emb (UR sig nD τ) 𝕄) (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(unscopedBufs c (B0 m c) ∗ Rest c))
    (Tₙ := fun c => unscopedBufs c (B2 m c))
    (hch := ⟨fun _ => .rfl, fun _ => .rfl, fun _ => .rfl⟩)
    (hinit := by
      refine Pipeline.initEach L lv fun c => ?_
      iintro ⟨⟨Hh, -, HO, -, -, -⟩, -⟩
      imodintro
      isplitl [Hh]; · iexact Hh
      iexists ∅; iexact HO)
    (QY := fun c s => Final m c s)
    (hfin := fun c s' => by
      rw [Pipeline.unscopedBufs_held c (W2 m c)]
      unfold StableHlo.held
      iintro ⟨Hh, HSI⟩
      ihave Hr := (pointsTo_read_all (Pipeline.ucRefs τ sig) (fun b => ((c : Thread nD τ).1, b)) (W2 m c) s') $$ [Hh HSI]
      · isplitl [Hh] <;> iassumption
      icases Hr with ⟨%h, HSI⟩
      imodintro
      isplitr; · ipureintro; exact h
      iexact HSI)
    (hQ := fun _ h hz => ⟨h, funext fun g => hz g (.inr (Gen.regions_no_unscoped g.2))⟩)

/-- No argument of the program is a result of either kernel. -/
theorem W2_arg (c : Dev nD) (r : Ref sig .tc)
    (h : r ∈ ([main_arg0, main_arg1, main_arg2, main_arg3, main_arg4, main_arg5, main_arg6, main_arg7, main_arg8] : List (Ref sig .tc))) :
    W2 m c r = m ((c : Thread nD τ).loc r) := by
  have h1 : ∀ r ∈ ([main_arg0, main_arg1, main_arg2, main_arg3, main_arg4, main_arg5, main_arg6, main_arg7, main_arg8] : List (Ref sig .tc)),
      r ∉ ([main_v1_0, main_v1_1, main_v1_2, main_v1_3, main_v1_4, main_v1_5, main_v1_6] : List (Ref sig .tc)) ∧ r ∉ ([main_v0_0, main_v0_1] : List (Ref sig .tc)) := by decide
  rw [W2_of m c r (h1 r h).1, W1_of m c r (h1 r h).2]
  rfl

/-- Every argument ends as it was, -/
theorem arg_kept {c : Dev nD} {s : MemSt nD τ sig (Elt F)} (hs : Final m c s) (r : Ref sig .tc)
    (h : r ∈ ([main_arg0, main_arg1, main_arg2, main_arg3, main_arg4, main_arg5, main_arg6, main_arg7, main_arg8] : List (Ref sig .tc))) :
    s.mem ((c : Thread nD τ).loc r) = m ((c : Thread nD τ).loc r) := by
  have hu : ∀ r ∈ ([main_arg0, main_arg1, main_arg2, main_arg3, main_arg4, main_arg5, main_arg6, main_arg7, main_arg8] : List (Ref sig .tc)),
      ¬ (Proc.devRef .tc r : DevRef τ sig).isScoped = true := by decide
  exact (hs (Proc.devRef .tc r) (Finset.mem_filter.mpr ⟨StableHlo.devRef_mem_tcRefs r, hu r h⟩)).trans (W2_arg m c r h)

/-- the nine of them together. -/
theorem args_kept {c : Dev nD} {s : MemSt nD τ sig (Elt F)} (hs : Final m c s) :
    s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3)
    ∧ s.mem ((c : Thread nD τ).loc main_arg4) = m ((c : Thread nD τ).loc main_arg4)
    ∧ s.mem ((c : Thread nD τ).loc main_arg5) = m ((c : Thread nD τ).loc main_arg5)
    ∧ s.mem ((c : Thread nD τ).loc main_arg6) = m ((c : Thread nD τ).loc main_arg6)
    ∧ s.mem ((c : Thread nD τ).loc main_arg7) = m ((c : Thread nD τ).loc main_arg7)
    ∧ s.mem ((c : Thread nD τ).loc main_arg8) = m ((c : Thread nD τ).loc main_arg8) :=
  have k := fun r h => arg_kept m hs r h
  ⟨k _ (by simp), k _ (by simp), k _ (by simp), k _ (by simp), k _ (by simp), k _ (by simp), k _ (by simp), k _ (by simp), k _ (by simp)⟩

/-- The program runs to the end, leaves its arguments as they were and every semaphore counter at zero. -/
theorem frame_run (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) ∧ r.2.sem = fun _ => 0) :=
  (θ_run defs _ _).mono (fun _ h => ⟨fun c => args_kept m (h.1 c), h.2⟩) (run_main m ρ)

end Cert.KernelIdeal.Run
-- ==== Proof.Products.lean ====
module

public import Idealize.ShloMosaic.Lib.Pointwise

@[expose] public section

noncomputable section

/-! The three products of a dense layer over the extended reals, at any sizes: forward, and backward to either operand. -/

namespace Cert.Products

open Idealize.ShloMosaic

variable {k m n : Nat}

/-- The layer forward: rows of `a` against columns of `b`. -/
def nn (a : (⟨2, ![m, k]⟩ : Shape).Idx → EReal) (b : (⟨2, ![k, n]⟩ : Shape).Idx → EReal) (i : (⟨2, ![m, n]⟩ : Shape).Idx) : EReal :=
  ∑ l : Fin k, a (ix2 (i 0) l) * b (ix2 l (i 1))

/-- Backward to the layer's input: rows of `a` against rows of the weight `b`. -/
def nt (a : (⟨2, ![m, k]⟩ : Shape).Idx → EReal) (b : (⟨2, ![n, k]⟩ : Shape).Idx → EReal) (i : (⟨2, ![m, n]⟩ : Shape).Idx) : EReal :=
  ∑ l : Fin k, a (ix2 (i 0) l) * b (ix2 (i 1) l)

/-- Backward to the layer's weight: columns of `a` against columns of `b`, summed over the tokens. -/
def tn (a : (⟨2, ![k, m]⟩ : Shape).Idx → EReal) (b : (⟨2, ![k, n]⟩ : Shape).Idx → EReal) (i : (⟨2, ![m, n]⟩ : Shape).Idx) : EReal :=
  ∑ l : Fin k, a (ix2 l (i 0)) * b (ix2 l (i 1))

/-- A product added onto what is already there. -/
def onto (z p : (⟨2, ![m, n]⟩ : Shape).Idx → EReal) (i : (⟨2, ![m, n]⟩ : Shape).Idx) : EReal := z i + p i

/-- A weight's gradient with its columns dealt out `w` to a slot, from slot `p` on. -/
def dealt {s w : Nat} (p : Nat) (a : (⟨2, ![k, m]⟩ : Shape).Idx → EReal) (b : (⟨2, ![k, n]⟩ : Shape).Idx → EReal)
    (i : (⟨3, ![s, m, w]⟩ : Shape).Idx) : EReal :=
  if h : ((i 0).val - p) * w + (i 2).val < n then ∑ l : Fin k, a (ix2 l (i 1)) * b (ix2 l ⟨((i 0).val - p) * w + (i 2).val, h⟩)
  else 0

/-- Such a gradient in the slots from `p` on of an array whose earlier slots are `z`'s. -/
def dealtOnto {s w : Nat} (p : Nat) (z : (⟨3, ![s, m, w]⟩ : Shape).Idx → EReal) (a : (⟨2, ![k, m]⟩ : Shape).Idx → EReal)
    (b : (⟨2, ![k, n]⟩ : Shape).Idx → EReal) (i : (⟨3, ![s, m, w]⟩ : Shape).Idx) : EReal :=
  if p ≤ (i 0).val then dealt p a b i else z i

/-- A dealt-out gradient at a column it has. -/
theorem dealt_of_lt {s w p : Nat} (a : (⟨2, ![k, m]⟩ : Shape).Idx → EReal) (b : (⟨2, ![k, n]⟩ : Shape).Idx → EReal)
    (i : (⟨3, ![s, m, w]⟩ : Shape).Idx) (h : ((i 0).val - p) * w + (i 2).val < n) :
    dealt p a b i = ∑ l : Fin k, a (ix2 l (i 1)) * b (ix2 l ⟨((i 0).val - p) * w + (i 2).val, h⟩) := dif_pos h

/-- From slot `p` on the array holds the gradient. -/
theorem dealtOnto_of_le {s w p : Nat} (z : (⟨3, ![s, m, w]⟩ : Shape).Idx → EReal) (a : (⟨2, ![k, m]⟩ : Shape).Idx → EReal)
    (b : (⟨2, ![k, n]⟩ : Shape).Idx → EReal) (i : (⟨3, ![s, m, w]⟩ : Shape).Idx) (hp : p ≤ (i 0).val) :
    dealtOnto p z a b i = dealt p a b i := if_pos hp

/-- Before slot `p` it holds what it held. -/
theorem dealtOnto_of_lt {s w p : Nat} (z : (⟨3, ![s, m, w]⟩ : Shape).Idx → EReal) (a : (⟨2, ![k, m]⟩ : Shape).Idx → EReal)
    (b : (⟨2, ![k, n]⟩ : Shape).Idx → EReal) (i : (⟨3, ![s, m, w]⟩ : Shape).Idx) (hp : (i 0).val < p) :
    dealtOnto p z a b i = z i := if_neg (by omega)

end Cert.Products
-- ==== Proof.DownDw.lean ====
module

public import proofs.«01_k».proof.Defs
public import proofs.«01_k».proof.Proof.Gen.Kernel2Ideal.Frame
public import proofs.«01_k».proof.Proof.Gen.Reference2Ideal
public import proofs.«01_k».proof.Proof.Products
public import Idealize.ShloMosaic.Lib.Pipeline.ValueKit
public import Idealize.ShloMosaic.Lib.StableHlo.RunHlo
public import Idealize.ShloMosaic.Lib.Quiescent

@[expose] public section

set_option maxRecDepth 16384

noncomputable section

/-! The gradient of the feed-forward layer's output weight: 88 grid points, four partial products to each block. -/

open Idealize.ShloMosaic Idealize.ShloMosaic.TcCoe Idealize.SL.Sem
open Idealize.ShloMosaic.Pipeline (Dat)
open Cert.Products

namespace Cert.Kernel2Ideal.DownDw

open Cert.Kernel2Ideal Cert.Kernel2Ideal.Gen

variable (m : (ℓ : Loc nD τ sig) → Buf (Elt Ideal) ℓ) (ρ : Dev nD → PrngReg)

/-- A block's first point leaves its partial product. -/
theorem first (c : Dev nD) (i : grid0.Coords) (a3 : Memref sig .tc .vmem S2048x512 .bf16) (h3 : a3.IsWhole)
    (a4 : Memref sig .tc .vmem S2048x1024 .bf16) (h4 : a4.IsWhole) (a5 : Memref sig .tc .vmem S512x1024 .f32) (h5 : a5.IsWhole)
    (hc0 : cond0_0 i) (hc1 : ¬cond0_1 i) (x : Vec Ideal S2048x512 .bf16) (y : Vec Ideal S2048x1024 .bf16) (j : S512x1024.Idx) :
    out0_A_2 c i a3 h3 a4 h4 a5 h5 hc0 hc1 x y j = tn (m := 512) (n := 1024) x y j := by
  frame_out
  unfold k0_pay1 tn
  pointwise

/-- Each later point adds its own. -/
theorem next (c : Dev nD) (i : grid0.Coords) (a3 : Memref sig .tc .vmem S2048x512 .bf16) (h3 : a3.IsWhole)
    (a4 : Memref sig .tc .vmem S2048x1024 .bf16) (h4 : a4.IsWhole) (a5 : Memref sig .tc .vmem S512x1024 .f32) (h5 : a5.IsWhole)
    (hc0 : ¬cond0_0 i) (hc1 : cond0_1 i) (x : Vec Ideal S2048x512 .bf16) (y : Vec Ideal S2048x1024 .bf16)
    (o : Vec Ideal S512x1024 .f32) (j : S512x1024.Idx) :
    out0_B_2 c i a3 h3 a4 h4 a5 h5 hc0 hc1 x y o j = o j + tn (m := 512) (n := 1024) x y j := by
  frame_out
  unfold k0_pay2 tn
  pointwise

/-- The points run over the blocks of tokens first, then over the result's columns, then its rows. -/
theorem at0 : ∀ t : Fin cfg0.N, win0_0.index t = ![t.val % 4, t.val / 8] := by decide +kernel
theorem at1 : ∀ t : Fin cfg0.N, win0_1.index t = ![t.val % 4, t.val / 4 % 2] := by decide +kernel
theorem at2 : ∀ t : Fin cfg0.N, win0_2.index t = ![t.val / 8, t.val / 4 % 2] := by decide +kernel

/-- Every finished block of the result holds the product's own block. -/
theorem final (c : Dev nD) : (dats m 0 c).arrAt 2 cfg0.N
    = tn (m ((c.tc : Thread nD τ).loc main_arg0)) (m ((c.tc : Thread nD τ).loc main_arg1)) := by
  refine (dats m 0 c).arrAt_eq_of_covers 2 _ (by decide +kernel) fun t hf y => ?_
  have h := Pipeline.eq_sum_fin_of_reset_step_apply_of_flush (fun n h => outsAt0 m c n h) 4 (fun _ => (0 : EReal)) _
    (fun t h j => by rw [outsAt0_A m c t h (by omega)]; exact (first ..).trans (zero_add _).symm)
    (fun t h j => by rw [outsAt0_B m c t h (by omega)]; exact next ..) t ((flush0_2 t).mp hf)
  blk_simp
  rw [after0_2]
  refine (h y).trans ?_
  rw [zero_add]
  refine Fin.sum_mul_add_congr fun s k hl => ?_
  have hN : cfg0.N = 88 := N_0
  have := t.isLt
  congr 1 <;> blk_ext [iblk, V, at0, at1, at2]

/-- The kernel's run leaves the product of its two operands in its result. -/
theorem run : θ_run defs (onTc (τ := τ) (main (F := Ideal))) ⟨m, fun _ => 0, ρ⟩ fun r => ∀ c : Dev nD,
      r.2.mem ((c.tc : Thread nD τ).loc main_v0)
        = tn (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).1 2).trans (final m c), ((h c).1 0).trans ((dats m 0 c).arrAt_in 0 rfl _),
    ((h c).1 1).trans ((dats m 0 c).arrAt_in 1 rfl _)⟩) (run_main m ρ)

end Cert.Kernel2Ideal.DownDw

namespace Cert.Reference2Ideal.DownDw

open Cert.Reference2Ideal Cert.Reference2Ideal.Gen

/-- The plain product leaves the same. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v3)
        = tn (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  hlo_run
  funext i
  unfold tn
  pointwise

/-- The plain product runs and leaves its operands alone. -/
theorem frame : Cert.quiescent_Reference2Ideal := fun m ρ _ =>
  (θ_run _ _ _).mono (fun _ h => ⟨fun c => (h c).2, sem_eq_zero_of_no_sems rfl _⟩) (run m ρ)

/-- The blocked product and the plain one agree. -/
theorem agree : Cert.algebraic_Kernel2Ideal_Reference2Ideal := fun m ρ m' ρ' _ hag =>
  ⟨_, Cert.Kernel2Ideal.DownDw.run m ρ, (θ_run _ _ _).mono
    (fun _ h c => ⟨(h c).1.trans (by rw [(hag c).1, (hag c).2]), (h c).2⟩) (run m' ρ')⟩

end Cert.Reference2Ideal.DownDw
-- ==== Proof.DownDx.lean ====
module

public import proofs.«01_k».proof.Defs
public import proofs.«01_k».proof.Proof.Gen.Kernel3Ideal.Frame
public import proofs.«01_k».proof.Proof.Gen.Reference3Ideal
public import proofs.«01_k».proof.Proof.Products
public import Idealize.ShloMosaic.Lib.Pipeline.ValueKit
public import Idealize.ShloMosaic.Lib.StableHlo.RunHlo
public import Idealize.ShloMosaic.Lib.Quiescent

@[expose] public section

set_option maxRecDepth 16384

noncomputable section

/-! The gradient of the feed-forward layer's hidden activations: 32 grid points, a block of the result each. -/

open Idealize.ShloMosaic Idealize.ShloMosaic.TcCoe Idealize.SL.Sem
open Idealize.ShloMosaic.Pipeline (Dat)
open Cert.Products

namespace Cert.Kernel3Ideal.DownDx

open Cert.Kernel3Ideal Cert.Kernel3Ideal.Gen

variable (m : (ℓ : Loc nD τ sig) → Buf (Elt Ideal) ℓ) (ρ : Dev nD → PrngReg)

/-- The points run over the weight's rows first, then over the tokens. -/
theorem at0 : ∀ t : Fin cfg0.N, win0_0.index t = ![t.val / 4, 0] := by decide +kernel
theorem at1 : ∀ t : Fin cfg0.N, win0_1.index t = ![t.val % 4, 0] := by decide +kernel
theorem at2 : ∀ t : Fin cfg0.N, win0_2.index t = ![t.val / 4, t.val % 4] := by decide +kernel

/-- A grid point leaves the product of its two blocks. -/
theorem block (x : Vec Ideal S1024x2048 .bf16) (y : Vec Ideal S1408x2048 .bf16) (j : S1024x1408.Idx) :
    out0_2 x y j = nt (m := 1024) (n := 1408) x y j := by
  frame_out
  unfold k0_pay1 nt
  pointwise

/-- Every block of the result holds the product's own block. -/
theorem final (c : Dev nD) : (dats m 0 c).arrAt 2 cfg0.N
    = nt (m ((c.tc : Thread nD τ).loc main_arg0)) (m ((c.tc : Thread nD τ).loc main_arg1)) := by
  refine (dats m 0 c).arrAt_eq_of_covers 2 _ (by decide +kernel) fun t hf y => ?_
  blk_simp
  rw [after0_2]
  refine (block ..).trans ?_
  unfold nt
  refine Finset.sum_congr rfl fun k _ => ?_
  congr 1 <;> blk_ext [iblk, V, at0, at1, at2]

/-- The kernel's run leaves the product of its two operands in its result. -/
theorem run : θ_run defs (onTc (τ := τ) (main (F := Ideal))) ⟨m, fun _ => 0, ρ⟩ fun r => ∀ c : Dev nD,
      r.2.mem ((c.tc : Thread nD τ).loc main_v0)
        = nt (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).1 2).trans (final m c), ((h c).1 0).trans ((dats m 0 c).arrAt_in 0 rfl _),
    ((h c).1 1).trans ((dats m 0 c).arrAt_in 1 rfl _)⟩) (run_main m ρ)

end Cert.Kernel3Ideal.DownDx

namespace Cert.Reference3Ideal.DownDx

open Cert.Reference3Ideal Cert.Reference3Ideal.Gen

/-- The plain product leaves the same. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v4)
        = nt (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  hlo_run
  funext i
  unfold nt
  pointwise

/-- The plain product runs and leaves its operands alone. -/
theorem frame : Cert.quiescent_Reference3Ideal := fun m ρ _ =>
  (θ_run _ _ _).mono (fun _ h => ⟨fun c => (h c).2, sem_eq_zero_of_no_sems rfl _⟩) (run m ρ)

/-- The blocked product and the plain one agree. -/
theorem agree : Cert.algebraic_Kernel3Ideal_Reference3Ideal := fun m ρ m' ρ' _ hag =>
  ⟨_, Cert.Kernel3Ideal.DownDx.run m ρ, (θ_run _ _ _).mono
    (fun _ h c => ⟨(h c).1.trans (by rw [(hag c).1, (hag c).2]), (h c).2⟩) (run m' ρ')⟩

end Cert.Reference3Ideal.DownDx
-- ==== Proof.GateDw.lean ====
module

public import proofs.«01_k».proof.Defs
public import proofs.«01_k».proof.Proof.Gen.Kernel4Ideal.Frame
public import proofs.«01_k».proof.Proof.Gen.Reference4Ideal
public import proofs.«01_k».proof.Proof.Products
public import Idealize.ShloMosaic.Lib.Pipeline.ValueKit
public import Idealize.ShloMosaic.Lib.StableHlo.RunHlo
public import Idealize.ShloMosaic.Lib.Quiescent

@[expose] public section

set_option maxRecDepth 16384

noncomputable section

/-! The gradient of the weight to the gate half of the feed-forward (2048 by 5632, over 8192 tokens), written as slots 0 to 3 of
the eight that both halves share: 32 grid points, four partial products to each block. -/

open Idealize.ShloMosaic Idealize.ShloMosaic.TcCoe Idealize.SL.Sem
open Idealize.ShloMosaic.Pipeline (Dat)
open Cert.Products

namespace Cert.Kernel4Ideal.GateDw

open Cert.Kernel4Ideal Cert.Kernel4Ideal.Gen

variable (m : (ℓ : Loc nD τ sig) → Buf (Elt Ideal) ℓ) (ρ : Dev nD → PrngReg)

section Points

variable (c : Dev nD) (i : grid0.Coords) (a3 : Memref sig .tc .vmem S2048x1024 .bf16) (h3 : a3.IsWhole)
  (a4 : Memref sig .tc .vmem S2048x1408 .bf16) (h4 : a4.IsWhole) (a5 : Memref sig .tc .vmem S1x1024x1408 .f32) (h5 : a5.IsWhole)
  (x : Vec Ideal S2048x1024 .bf16) (y : Vec Ideal S2048x1408 .bf16) (o : Vec Ideal S1x1024x1408 .f32) (j : S1x1024x1408.Idx)

/-- A block's first point leaves its partial product. -/
theorem first (hc0 : cond0_0 i) (hc1 : ¬cond0_1 i) :
    out0_A_2 c i a3 h3 a4 h4 a5 h5 hc0 hc1 x y j = ∑ l : Fin 2048, x (ix2 l (j 1)) * y (ix2 l (j 2)) := by
  frame_out
  unfold k0_pay1
  pointwise

/-- Each later point adds its own. -/
theorem next (hc0 : ¬cond0_0 i) (hc1 : cond0_1 i) :
    out0_B_2 c i a3 h3 a4 h4 a5 h5 hc0 hc1 x y o j = o j + ∑ l : Fin 2048, (x (ix2 l (j 1)) * y (ix2 l (j 2)) : EReal) := by
  frame_out
  unfold k0_pay2
  pointwise

end Points

/-- The points run over the blocks of tokens first, then over the slots, then over the weight's rows. -/
theorem at0 : ∀ t : Fin cfg0.N, win0_0.index t = ![t.val % 4, t.val / 16] := by decide +kernel
theorem at1 : ∀ t : Fin cfg0.N, win0_1.index t = ![t.val % 4, t.val / 4 % 4] := by decide +kernel
theorem at2 : ∀ t : Fin cfg0.N, win0_2.index t = ![t.val / 4 % 4, t.val / 16, 0] := by decide +kernel

/-- Every finished block holds the product's own block: after the last point the first four slots are the product. -/
theorem final (c : Dev nD) : (dats m 0 c).arrAt 2 cfg0.N
    = fun i => if (i 0).val < 4 then dealt (s := 8) (w := 1408) 0 (m ((c.tc : Thread nD τ).loc main_arg0))
        (m ((c.tc : Thread nD τ).loc main_arg1)) i else (dats m 0 c).A 2 i := by
  refine (dats m 0 c).arrAt_eq_of_coversWhere 2 _ (fun β => β (0 : Fin _) < 4) (by decide +kernel) (fun t hf y => ?_)
    (fun j => by blk_simp [Pipeline.Window.cell_apply]; omega)
  have h := Pipeline.eq_sum_fin_of_reset_step_apply_of_flush (fun n h => outsAt0 m c n h) 4 (fun _ => (0 : EReal)) _
    (fun t h j => by rw [outsAt0_A m c t h (by omega)]; exact (first ..).trans (zero_add _).symm)
    (fun t h j => by rw [outsAt0_B m c t h (by omega)]; exact next ..) t ((flush0_2 t).mp hf)
  blk_simp
  rw [after0_2]
  refine (h y).trans ?_
  have hN : cfg0.N = 32 := N_0
  have := t.isLt
  have h0 : (y 0).val < 1 := (y 0).isLt
  have h2 : (y 2).val < 1408 := (y 2).isLt
  rw [zero_add]
  refine Eq.trans ?_ (dealt_of_lt _ _ _ (by blk_simp [at2]; omega)).symm
  refine Fin.sum_mul_add_congr fun s k hl => ?_
  congr 1 <;> blk_ext [iblk, V, at0, at1, at2]

/-- The kernel's run leaves the product of its operands in the four slots returned. -/
theorem run : θ_run defs (onTc (τ := τ) (main (F := Ideal))) ⟨m, fun _ => 0, ρ⟩ fun r => ∀ c : Dev nD,
      r.2.mem ((c.tc : Thread nD τ).loc main_v1)
        = dealt (s := 4) (w := 1408) 0 (m ((c.tc : Thread nD τ).loc main_arg0))
            (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  run_from Gen.run_main m ρ
  change StableHlo.after hostOps1 _ (Proc.devRef .tc main_v1) = _
  unfold hostOps1
  rw [StableHlo.after_cons]
  after_results
  erw [Pipeline.withArrays_arr (cfgs 0).spec (by decide) c (V0 m c) _ 2]
  funext i
  have h0 : (i 0).val < 4 := (i 0).isLt
  have h2 : (i 2).val < 1408 := (i 2).isLt
  rw [dealt_of_lt _ _ _ (by omega)]
  pointwise
  exact (congrFun (final m c) _).trans ((if_pos h0).trans (dealt_of_lt _ _ _ (by dsimp; omega)))

end Cert.Kernel4Ideal.GateDw

namespace Cert.Reference4Ideal.GateDw

open Cert.Reference4Ideal Cert.Reference4Ideal.Gen

/-- The plain product leaves the same. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v5)
        = dealt (s := 4) (w := 1408) 0 (m ((c.tc : Thread nD τ).loc main_arg0))
            (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  hlo_run
  funext i
  have h0 : (i 0).val < 4 := (i 0).isLt
  have h2 : (i 2).val < 1408 := (i 2).isLt
  rw [dealt_of_lt _ _ _ (by omega)]
  pointwise

/-- The plain product runs and leaves its operands alone. -/
theorem frame : Cert.quiescent_Reference4Ideal := fun m ρ _ =>
  (θ_run _ _ _).mono (fun _ h => ⟨fun c => (h c).2, sem_eq_zero_of_no_sems rfl _⟩) (run m ρ)

/-- The blocked product and the plain one agree. -/
theorem agree : Cert.algebraic_Kernel4Ideal_Reference4Ideal := fun m ρ m' ρ' _ hag =>
  ⟨_, Cert.Kernel4Ideal.GateDw.run m ρ, (θ_run _ _ _).mono
    (fun _ h c => ⟨(h c).1.trans (by
      obtain ⟨e0, e1⟩ := hag c
      rw [e0, e1]), (h c).2⟩) (run m' ρ')⟩

end Cert.Reference4Ideal.GateDw
-- ==== Proof.UpDw.lean ====
module

public import proofs.«01_k».proof.Defs
public import proofs.«01_k».proof.Proof.Gen.Kernel5Ideal.Frame
public import proofs.«01_k».proof.Proof.Gen.Reference5Ideal
public import proofs.«01_k».proof.Proof.Products
public import Idealize.ShloMosaic.Lib.Pipeline.ValueKit
public import Idealize.ShloMosaic.Lib.StableHlo.RunHlo
public import Idealize.ShloMosaic.Lib.Quiescent

@[expose] public section

set_option maxRecDepth 16384

noncomputable section

/-! The gradient of the weight to the up half of the feed-forward (2048 by 5632, over 8192 tokens), written as slots 4 to 7 of
the eight that both halves share: 32 grid points, four partial products to each block. -/

open Idealize.ShloMosaic Idealize.ShloMosaic.TcCoe Idealize.SL.Sem
open Idealize.ShloMosaic.Pipeline (Dat)
open Cert.Products

namespace Cert.Kernel5Ideal.UpDw

open Cert.Kernel5Ideal Cert.Kernel5Ideal.Gen

variable (m : (ℓ : Loc nD τ sig) → Buf (Elt Ideal) ℓ) (ρ : Dev nD → PrngReg)

section Points

variable (c : Dev nD) (i : grid0.Coords) (a3 : Memref sig .tc .vmem S2048x1024 .bf16) (h3 : a3.IsWhole)
  (a4 : Memref sig .tc .vmem S2048x1408 .bf16) (h4 : a4.IsWhole) (a6 : Memref sig .tc .vmem S1x1024x1408 .f32) (h6 : a6.IsWhole)
  (x : Vec Ideal S2048x1024 .bf16) (y : Vec Ideal S2048x1408 .bf16) (o : Vec Ideal S1x1024x1408 .f32) (j : S1x1024x1408.Idx)

/-- A block's first point leaves its partial product. -/
theorem first (hc0 : cond0_0 i) (hc1 : ¬cond0_1 i) :
    out0_A_2 c i a3 h3 a4 h4 a6 h6 hc0 hc1 x y j = ∑ l : Fin 2048, x (ix2 l (j 1)) * y (ix2 l (j 2)) := by
  frame_out
  unfold k0_pay1
  pointwise

/-- Each later point adds its own. -/
theorem next (hc0 : ¬cond0_0 i) (hc1 : cond0_1 i) :
    out0_B_2 c i a3 h3 a4 h4 a6 h6 hc0 hc1 x y o j = o j + ∑ l : Fin 2048, (x (ix2 l (j 1)) * y (ix2 l (j 2)) : EReal) := by
  frame_out
  unfold k0_pay2
  pointwise

end Points

/-- The points run over the blocks of tokens first, then over the slots, then over the weight's rows. -/
theorem at0 : ∀ t : Fin cfg0.N, win0_0.index t = ![t.val % 4, t.val / 16] := by decide +kernel
theorem at1 : ∀ t : Fin cfg0.N, win0_1.index t = ![t.val % 4, t.val / 4 % 4] := by decide +kernel
theorem at2 : ∀ t : Fin cfg0.N, win0_2.index t = ![t.val / 4 % 4 + 4, t.val / 16, 0] := by decide +kernel

/-- The shared array enters the blocked part as the caller gave it. -/
theorem entry (c : Dev nD) : (dats m 0 c).A 2 = (m ((c.tc : Thread nD τ).loc main_arg2)) := by
  refine (A_eq m c 2).trans ?_
  funext i
  entry_read
  rfl

/-- Every finished block of the result holds the product's own block; the first four slots are the caller's. -/
theorem final (c : Dev nD) : (dats m 0 c).arrAt 2 cfg0.N
    = dealtOnto (s := 8) (w := 1408) 4 (m ((c.tc : Thread nD τ).loc main_arg2))
            (m ((c.tc : Thread nD τ).loc main_arg0)) (m ((c.tc : Thread nD τ).loc main_arg1)) := by
  refine ((dats m 0 c).arrAt_eq_of_coversWhere (P := fun i => 4 ≤ (i 0).val) 2
    (dealt (s := 8) (w := 1408) 4 (m ((c.tc : Thread nD τ).loc main_arg0)) (m ((c.tc : Thread nD τ).loc main_arg1)))
    (fun β => 4 ≤ β (0 : Fin _)) (by decide +kernel) (fun t hf y => ?_)
    (fun j => by blk_simp [Pipeline.Window.cell_apply]; omega)).trans (by rw [entry]; rfl)
  have h := Pipeline.eq_sum_fin_of_reset_step_apply_of_flush (fun n h => outsAt0 m c n h) 4 (fun _ => (0 : EReal)) _
    (fun t h j => by rw [outsAt0_A m c t h (by omega)]; exact (first ..).trans (zero_add _).symm)
    (fun t h j => by rw [outsAt0_B m c t h (by omega)]; exact next ..) t ((flush0_2 t).mp hf)
  blk_simp
  rw [after0_2]
  refine (h y).trans ?_
  have hN : cfg0.N = 32 := N_0
  have := t.isLt
  have h0 : (y 0).val < 1 := (y 0).isLt
  have h2 : (y 2).val < 1408 := (y 2).isLt
  rw [zero_add]
  refine Eq.trans ?_ (dealt_of_lt _ _ _ (by blk_simp [at2]; omega)).symm
  refine Fin.sum_mul_add_congr fun s k hl => ?_
  congr 1 <;> blk_ext [iblk, V, at0, at1, at2]

/-- The kernel's run leaves the product of its operands in the last four slots of the shared array. -/
theorem run : θ_run defs (onTc (τ := τ) (main (F := Ideal))) ⟨m, fun _ => 0, ρ⟩ fun r => ∀ c : Dev nD,
      r.2.mem ((c.tc : Thread nD τ).loc main_v0)
        = dealtOnto (s := 8) (w := 1408) 4 (m ((c.tc : Thread nD τ).loc main_arg2))
            (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  run_from Gen.run_main m ρ
  exact final m c

end Cert.Kernel5Ideal.UpDw

namespace Cert.Reference5Ideal.UpDw

open Cert.Reference5Ideal Cert.Reference5Ideal.Gen

/-- The plain product leaves the same. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v7)
        = dealtOnto (s := 8) (w := 1408) 4 (m ((c.tc : Thread nD τ).loc main_arg2))
            (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  hlo_run
  funext i
  have h0 : (i 0).val < 8 := (i 0).isLt
  have h2 : (i 2).val < 1408 := (i 2).isLt
  by_cases h4 : 4 ≤ (i 0).val
  · rw [dealtOnto_of_le _ _ _ _ h4, dealt_of_lt _ _ _ (by omega)]
    pointwise
    exact dif_neg (by omega)
  · rw [dealtOnto_of_lt _ _ _ _ (by omega)]
    pointwise
    exact dif_pos (by omega)

/-- The plain product runs and leaves its operands alone. -/
theorem frame : Cert.quiescent_Reference5Ideal := fun m ρ _ =>
  (θ_run _ _ _).mono (fun _ h => ⟨fun c => (h c).2, sem_eq_zero_of_no_sems rfl _⟩) (run m ρ)

/-- The blocked product and the plain one agree. -/
theorem agree : Cert.algebraic_Kernel5Ideal_Reference5Ideal := fun m ρ m' ρ' _ hag =>
  ⟨_, Cert.Kernel5Ideal.UpDw.run m ρ, (θ_run _ _ _).mono
    (fun _ h c => ⟨(h c).1.trans (by
      obtain ⟨e0, e1, e2⟩ := hag c
      rw [e0, e1, e2]), (h c).2⟩) (run m' ρ')⟩

end Cert.Reference5Ideal.UpDw
-- ==== Proof.FfnDx0.lean ====
module

public import proofs.«01_k».proof.Defs
public import proofs.«01_k».proof.Proof.Gen.Kernel6Ideal.Frame
public import proofs.«01_k».proof.Proof.Gen.Reference6Ideal
public import proofs.«01_k».proof.Proof.Products
public import Idealize.ShloMosaic.Lib.Pipeline.ValueKit
public import Idealize.ShloMosaic.Lib.StableHlo.RunHlo
public import Idealize.ShloMosaic.Lib.Quiescent

@[expose] public section

set_option maxRecDepth 16384

noncomputable section

/-! The gradient of the feed-forward layer's input through its gate: 32 grid points, two partial products to each block. -/

open Idealize.ShloMosaic Idealize.ShloMosaic.TcCoe Idealize.SL.Sem
open Idealize.ShloMosaic.Pipeline (Dat)
open Cert.Products

namespace Cert.Kernel6Ideal.FfnDx0

open Cert.Kernel6Ideal Cert.Kernel6Ideal.Gen

variable (m : (ℓ : Loc nD τ sig) → Buf (Elt Ideal) ℓ) (ρ : Dev nD → PrngReg)

/-- A block's first point leaves its partial product. -/
theorem first (c : Dev nD) (i : grid0.Coords) (a3 : Memref sig .tc .vmem S1024x2816 .bf16) (h3 : a3.IsWhole)
    (a4 : Memref sig .tc .vmem S1024x2816 .bf16) (h4 : a4.IsWhole) (a5 : Memref sig .tc .vmem S1024x1024 .f32) (h5 : a5.IsWhole)
    (hc0 : cond0_0 i) (hc1 : ¬cond0_1 i) (x : Vec Ideal S1024x2816 .bf16) (y : Vec Ideal S1024x2816 .bf16) (j : S1024x1024.Idx) :
    out0_A_2 c i a3 h3 a4 h4 a5 h5 hc0 hc1 x y j = nt (m := 1024) (n := 1024) x y j := by
  frame_out
  unfold k0_pay1 nt
  pointwise

/-- Each later point adds its own. -/
theorem next (c : Dev nD) (i : grid0.Coords) (a3 : Memref sig .tc .vmem S1024x2816 .bf16) (h3 : a3.IsWhole)
    (a4 : Memref sig .tc .vmem S1024x2816 .bf16) (h4 : a4.IsWhole) (a5 : Memref sig .tc .vmem S1024x1024 .f32) (h5 : a5.IsWhole)
    (hc0 : ¬cond0_0 i) (hc1 : cond0_1 i) (x : Vec Ideal S1024x2816 .bf16) (y : Vec Ideal S1024x2816 .bf16)
    (o : Vec Ideal S1024x1024 .f32) (j : S1024x1024.Idx) :
    out0_B_2 c i a3 h3 a4 h4 a5 h5 hc0 hc1 x y o j = o j + nt (m := 1024) (n := 1024) x y j := by
  frame_out
  unfold k0_pay2 nt
  pointwise

/-- The points run over the two halves of the contraction first, then over the weight's rows, then over the tokens. -/
theorem at0 : ∀ t : Fin cfg0.N, win0_0.index t = ![t.val / 4, t.val % 2] := by decide +kernel
theorem at1 : ∀ t : Fin cfg0.N, win0_1.index t = ![t.val / 2 % 2, t.val % 2] := by decide +kernel
theorem at2 : ∀ t : Fin cfg0.N, win0_2.index t = ![t.val / 4, t.val / 2 % 2] := by decide +kernel

/-- Every finished block of the result holds the product's own block. -/
theorem final (c : Dev nD) : (dats m 0 c).arrAt 2 cfg0.N
    = nt (m ((c.tc : Thread nD τ).loc main_arg0)) (m ((c.tc : Thread nD τ).loc main_arg1)) := by
  refine (dats m 0 c).arrAt_eq_of_covers 2 _ (by decide +kernel) fun t hf y => ?_
  have h := Pipeline.eq_sum_fin_of_reset_step_apply_of_flush (fun n h => outsAt0 m c n h) 2 (fun _ => (0 : EReal)) _
    (fun t h j => by rw [outsAt0_A m c t h (by omega)]; exact (first ..).trans (zero_add _).symm)
    (fun t h j => by rw [outsAt0_B m c t h (by omega)]; exact next ..) t ((flush0_2 t).mp hf)
  blk_simp
  rw [after0_2]
  refine (h y).trans ?_
  rw [zero_add]
  refine Fin.sum_mul_add_congr fun s k hl => ?_
  have hN : cfg0.N = 32 := N_0
  have := t.isLt
  congr 1 <;> blk_ext [iblk, V, at0, at1, at2]

/-- The kernel's run leaves the product of its two operands in its result. -/
theorem run : θ_run defs (onTc (τ := τ) (main (F := Ideal))) ⟨m, fun _ => 0, ρ⟩ fun r => ∀ c : Dev nD,
      r.2.mem ((c.tc : Thread nD τ).loc main_v0)
        = nt (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).1 2).trans (final m c), ((h c).1 0).trans ((dats m 0 c).arrAt_in 0 rfl _),
    ((h c).1 1).trans ((dats m 0 c).arrAt_in 1 rfl _)⟩) (run_main m ρ)

end Cert.Kernel6Ideal.FfnDx0

namespace Cert.Reference6Ideal.FfnDx0

open Cert.Reference6Ideal Cert.Reference6Ideal.Gen

/-- The plain product leaves the same. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v3)
        = nt (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  hlo_run
  funext i
  unfold nt
  pointwise

/-- The plain product runs and leaves its operands alone. -/
theorem frame : Cert.quiescent_Reference6Ideal := fun m ρ _ =>
  (θ_run _ _ _).mono (fun _ h => ⟨fun c => (h c).2, sem_eq_zero_of_no_sems rfl _⟩) (run m ρ)

/-- The blocked product and the plain one agree. -/
theorem agree : Cert.algebraic_Kernel6Ideal_Reference6Ideal := fun m ρ m' ρ' _ hag =>
  ⟨_, Cert.Kernel6Ideal.FfnDx0.run m ρ, (θ_run _ _ _).mono
    (fun _ h c => ⟨(h c).1.trans (by rw [(hag c).1, (hag c).2]), (h c).2⟩) (run m' ρ')⟩

end Cert.Reference6Ideal.FfnDx0
-- ==== Proof.FfnDx1.lean ====
module

public import proofs.«01_k».proof.Defs
public import proofs.«01_k».proof.Proof.Gen.Kernel7Ideal.Frame
public import proofs.«01_k».proof.Proof.Gen.Reference7Ideal
public import proofs.«01_k».proof.Proof.Products
public import Idealize.ShloMosaic.Lib.Pipeline.ValueKit
public import Idealize.ShloMosaic.Lib.StableHlo.RunHlo
public import Idealize.ShloMosaic.Lib.Quiescent

@[expose] public section

set_option maxRecDepth 16384

noncomputable section

/-! The gradient of the feed-forward layer's input through its up projection, added to that through its gate: 32 grid points, two partial products to each block. -/

open Idealize.ShloMosaic Idealize.ShloMosaic.TcCoe Idealize.SL.Sem
open Idealize.ShloMosaic.Pipeline (Dat)
open Cert.Products

namespace Cert.Kernel7Ideal.FfnDx1

open Cert.Kernel7Ideal Cert.Kernel7Ideal.Gen

variable (m : (ℓ : Loc nD τ sig) → Buf (Elt Ideal) ℓ) (ρ : Dev nD → PrngReg)

/-- A block's first point leaves the block given plus its partial product. -/
theorem first (c : Dev nD) (i : grid0.Coords) (a3 : Memref sig .tc .vmem S1024x2816 .bf16) (h3 : a3.IsWhole)
    (a4 : Memref sig .tc .vmem S1024x2816 .bf16) (h4 : a4.IsWhole) (a5 : Memref sig .tc .vmem S1024x1024 .f32) (h5 : a5.IsWhole)
    (a6 : Memref sig .tc .vmem S1024x1024 .f32) (h6 : a6.IsWhole)
    (hc0 : cond0_0 i) (hc1 : ¬cond0_1 i) (x : Vec Ideal S1024x2816 .bf16) (y : Vec Ideal S1024x2816 .bf16)
    (z : Vec Ideal S1024x1024 .f32) (j : S1024x1024.Idx) :
    out0_A_3 c i a3 h3 a4 h4 a5 h5 a6 h6 hc0 hc1 x y z j = z j + nt (m := 1024) (n := 1024) x y j := by
  frame_out
  unfold k0_pay1 nt
  pointwise
  exact add_comm ..

/-- Each later point adds its own. -/
theorem next (c : Dev nD) (i : grid0.Coords) (a3 : Memref sig .tc .vmem S1024x2816 .bf16) (h3 : a3.IsWhole)
    (a4 : Memref sig .tc .vmem S1024x2816 .bf16) (h4 : a4.IsWhole) (a5 : Memref sig .tc .vmem S1024x1024 .f32) (h5 : a5.IsWhole)
    (a6 : Memref sig .tc .vmem S1024x1024 .f32) (h6 : a6.IsWhole)
    (hc0 : ¬cond0_0 i) (hc1 : cond0_1 i) (x : Vec Ideal S1024x2816 .bf16) (y : Vec Ideal S1024x2816 .bf16)
    (z o : Vec Ideal S1024x1024 .f32) (j : S1024x1024.Idx) :
    out0_B_3 c i a3 h3 a4 h4 a5 h5 a6 h6 hc0 hc1 x y z o j = o j + nt (m := 1024) (n := 1024) x y j := by
  frame_out
  unfold k0_pay2 nt
  pointwise

/-- The points run over the two halves of the contraction first, then over the weight's rows, then over the tokens. -/
theorem at0 : ∀ t : Fin cfg0.N, win0_0.index t = ![t.val / 4, t.val % 2] := by decide +kernel
theorem at1 : ∀ t : Fin cfg0.N, win0_1.index t = ![t.val / 2 % 2, t.val % 2] := by decide +kernel
theorem at2 : ∀ t : Fin cfg0.N, win0_2.index t = ![t.val / 4, t.val / 2 % 2] := by decide +kernel
theorem at3 : ∀ t : Fin cfg0.N, win0_3.index t = ![t.val / 4, t.val / 2 % 2] := by decide +kernel

/-- Every finished block of the result holds the given block plus the product's own. -/
theorem final (c : Dev nD) : (dats m 0 c).arrAt 3 cfg0.N
    = onto (m ((c.tc : Thread nD τ).loc main_arg2))
        (nt (m ((c.tc : Thread nD τ).loc main_arg0)) (m ((c.tc : Thread nD τ).loc main_arg1))) := by
  refine (dats m 0 c).arrAt_eq_of_covers 3 _ (by decide +kernel) fun t hf y => ?_
  have h := Pipeline.eq_sum_fin_of_reset_step_apply_of_flush (fun n h => outsAt0 m c n h) 2 (fun _ => (0 : EReal))
    (fun t j => onto (m := 1024) (n := 1024) (fun i => if t.val % 2 = 0 then (iblk m c 2 t : Vec Ideal S1024x1024 .f32) i else 0)
      (nt (iblk m c 0 t : Vec Ideal S1024x2816 .bf16) (iblk m c 1 t : Vec Ideal S1024x2816 .bf16)) j)
    (fun t h j => by rw [outsAt0_A m c t h (by omega), zero_add]; unfold onto; dsimp only; rw [if_pos h]; exact first ..)
    (fun t h j => by rw [outsAt0_B m c t h (by omega)]; unfold onto; dsimp only; rw [if_neg h, zero_add]; exact next ..) t ((flush0_3 t).mp hf)
  blk_simp
  rw [after0_3]
  refine (h y).trans ?_
  have hN : cfg0.N = 32 := N_0
  have := t.isLt
  unfold onto
  rw [zero_add, Finset.sum_add_distrib]
  refine congrArg₂ (fun p q : EReal => p + q) ?_ ?_
  · rw [Fin.sum_univ_two]
    dsimp only
    rw [if_pos (by simp), if_neg (by simp), add_zero]
    blk_ext [iblk, V, at2, at3]
  refine Fin.sum_mul_add_congr fun s k hl => ?_
  congr 1 <;> blk_ext [iblk, V, at0, at1, at3]

/-- The kernel's run leaves what it was given plus the product of its first two operands. -/
theorem run : θ_run defs (onTc (τ := τ) (main (F := Ideal))) ⟨m, fun _ => 0, ρ⟩ fun r => ∀ c : Dev nD,
      r.2.mem ((c.tc : Thread nD τ).loc main_v0)
        = onto (m ((c.tc : Thread nD τ).loc main_arg2))
          (nt (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h c).1 3).trans (final m c), ((h c).1 0).trans ((dats m 0 c).arrAt_in 0 rfl _),
    ((h c).1 1).trans ((dats m 0 c).arrAt_in 1 rfl _), ((h c).1 2).trans ((dats m 0 c).arrAt_in 2 rfl _)⟩) (run_main m ρ)

end Cert.Kernel7Ideal.FfnDx1

namespace Cert.Reference7Ideal.FfnDx1

open Cert.Reference7Ideal Cert.Reference7Ideal.Gen

/-- The plain sum leaves the same. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v4)
        = onto (m ((c.tc : Thread nD τ).loc main_arg2))
          (nt (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  hlo_run
  funext i
  unfold onto nt
  pointwise

/-- The plain sum runs and leaves its operands alone. -/
theorem frame : Cert.quiescent_Reference7Ideal := fun m ρ _ =>
  (θ_run _ _ _).mono (fun _ h => ⟨fun c => (h c).2, sem_eq_zero_of_no_sems rfl _⟩) (run m ρ)

/-- The blocked product and the plain one agree. -/
theorem agree : Cert.algebraic_Kernel7Ideal_Reference7Ideal := fun m ρ m' ρ' _ hag =>
  ⟨_, Cert.Kernel7Ideal.FfnDx1.run m ρ, (θ_run _ _ _).mono
    (fun _ h c => ⟨(h c).1.trans (by rw [(hag c).1, (hag c).2.1, (hag c).2.2]), (h c).2⟩) (run m' ρ')⟩

end Cert.Reference7Ideal.FfnDx1
-- ==== Proof.TokenDw.lean ====
module

public import proofs.«01_k».proof.Defs
public import proofs.«01_k».proof.Proof.Gen.Kernel8Ideal.Frame
public import proofs.«01_k».proof.Proof.Gen.Reference8Ideal
public import proofs.«01_k».proof.Proof.Products
public import Idealize.ShloMosaic.Lib.Pipeline.ValueKit
public import Idealize.ShloMosaic.Lib.StableHlo.RunHlo
public import Idealize.ShloMosaic.Lib.Quiescent

@[expose] public section

set_option maxRecDepth 16384

noncomputable section

/-! The gradient of a square projection's weight (2048 by 2048, over 8192 tokens): 16 grid points, four partial products to each block. -/

open Idealize.ShloMosaic Idealize.ShloMosaic.TcCoe Idealize.SL.Sem
open Idealize.ShloMosaic.Pipeline (Dat)
open Cert.Products

namespace Cert.Kernel8Ideal.TokenDw

open Cert.Kernel8Ideal Cert.Kernel8Ideal.Gen

variable (m : (ℓ : Loc nD τ sig) → Buf (Elt Ideal) ℓ) (ρ : Dev nD → PrngReg)

/-- A block's first point leaves its partial product. -/
theorem first (c : Dev nD) (i : grid0.Coords) (a3 : Memref sig .tc .vmem S2048x1024 .bf16) (h3 : a3.IsWhole)
    (a4 : Memref sig .tc .vmem S2048x1024 .bf16) (h4 : a4.IsWhole) (a5 : Memref sig .tc .vmem S1024x1024 .f32) (h5 : a5.IsWhole)
    (hc0 : cond0_0 i) (hc1 : ¬cond0_1 i) (x : Vec Ideal S2048x1024 .bf16) (y : Vec Ideal S2048x1024 .bf16) (j : S1024x1024.Idx) :
    out0_A_2 c i a3 h3 a4 h4 a5 h5 hc0 hc1 x y j = tn (m := 1024) (n := 1024) x y j := by
  frame_out
  unfold k0_pay1 tn
  pointwise

/-- Each later point adds its own. -/
theorem next (c : Dev nD) (i : grid0.Coords) (a3 : Memref sig .tc .vmem S2048x1024 .bf16) (h3 : a3.IsWhole)
    (a4 : Memref sig .tc .vmem S2048x1024 .bf16) (h4 : a4.IsWhole) (a5 : Memref sig .tc .vmem S1024x1024 .f32) (h5 : a5.IsWhole)
    (hc0 : ¬cond0_0 i) (hc1 : cond0_1 i) (x : Vec Ideal S2048x1024 .bf16) (y : Vec Ideal S2048x1024 .bf16)
    (o : Vec Ideal S1024x1024 .f32) (j : S1024x1024.Idx) :
    out0_B_2 c i a3 h3 a4 h4 a5 h5 hc0 hc1 x y o j = o j + tn (m := 1024) (n := 1024) x y j := by
  frame_out
  unfold k0_pay2 tn
  pointwise

/-- The points run over the blocks of tokens first, then over the result's columns, then its rows. -/
theorem at0 : ∀ t : Fin cfg0.N, win0_0.index t = ![t.val % 4, t.val / 8] := by decide +kernel
theorem at1 : ∀ t : Fin cfg0.N, win0_1.index t = ![t.val % 4, t.val / 4 % 2] := by decide +kernel
theorem at2 : ∀ t : Fin cfg0.N, win0_2.index t = ![t.val / 8, t.val / 4 % 2] := by decide +kernel

/-- Every finished block of the result holds the product's own block. -/
theorem final (c : Dev nD) : (dats m 0 c).arrAt 2 cfg0.N
    = tn (m ((c.tc : Thread nD τ).loc main_arg0)) (m ((c.tc : Thread nD τ).loc main_arg1)) := by
  refine (dats m 0 c).arrAt_eq_of_covers 2 _ (by decide +kernel) fun t hf y => ?_
  have h := Pipeline.eq_sum_fin_of_reset_step_apply_of_flush (fun n h => outsAt0 m c n h) 4 (fun _ => (0 : EReal)) _
    (fun t h j => by rw [outsAt0_A m c t h (by omega)]; exact (first ..).trans (zero_add _).symm)
    (fun t h j => by rw [outsAt0_B m c t h (by omega)]; exact next ..) t ((flush0_2 t).mp hf)
  blk_simp
  rw [after0_2]
  refine (h y).trans ?_
  rw [zero_add]
  refine Fin.sum_mul_add_congr fun s k hl => ?_
  have hN : cfg0.N = 16 := N_0
  have := t.isLt
  congr 1 <;> blk_ext [iblk, V, at0, at1, at2]

/-- The kernel's run leaves the product of its two operands in its result. -/
theorem run : θ_run defs (onTc (τ := τ) (main (F := Ideal))) ⟨m, fun _ => 0, ρ⟩ fun r => ∀ c : Dev nD,
      r.2.mem ((c.tc : Thread nD τ).loc main_v0)
        = tn (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).1 2).trans (final m c), ((h c).1 0).trans ((dats m 0 c).arrAt_in 0 rfl _),
    ((h c).1 1).trans ((dats m 0 c).arrAt_in 1 rfl _)⟩) (run_main m ρ)

end Cert.Kernel8Ideal.TokenDw

namespace Cert.Reference8Ideal.TokenDw

open Cert.Reference8Ideal Cert.Reference8Ideal.Gen

/-- The plain product leaves the same. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v3)
        = tn (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  hlo_run
  funext i
  unfold tn
  pointwise

/-- The plain product runs and leaves its operands alone. -/
theorem frame : Cert.quiescent_Reference8Ideal := fun m ρ _ =>
  (θ_run _ _ _).mono (fun _ h => ⟨fun c => (h c).2, sem_eq_zero_of_no_sems rfl _⟩) (run m ρ)

/-- The blocked product and the plain one agree. -/
theorem agree : Cert.algebraic_Kernel8Ideal_Reference8Ideal := fun m ρ m' ρ' _ hag =>
  ⟨_, Cert.Kernel8Ideal.TokenDw.run m ρ, (θ_run _ _ _).mono
    (fun _ h c => ⟨(h c).1.trans (by rw [(hag c).1, (hag c).2]), (h c).2⟩) (run m' ρ')⟩

end Cert.Reference8Ideal.TokenDw
-- ==== Proof.OutDx.lean ====
module

public import proofs.«01_k».proof.Defs
public import proofs.«01_k».proof.Proof.Gen.Kernel9Ideal.Frame
public import proofs.«01_k».proof.Proof.Gen.Reference9Ideal
public import proofs.«01_k».proof.Proof.Products
public import Idealize.ShloMosaic.Lib.Pipeline.ValueKit
public import Idealize.ShloMosaic.Lib.StableHlo.RunHlo
public import Idealize.ShloMosaic.Lib.Quiescent

@[expose] public section

set_option maxRecDepth 16384

noncomputable section

/-! The gradient of a square projection's input (2048 by 2048, over 8192 tokens): 16 grid points, a block of the result each. -/

open Idealize.ShloMosaic Idealize.ShloMosaic.TcCoe Idealize.SL.Sem
open Idealize.ShloMosaic.Pipeline (Dat)
open Cert.Products

namespace Cert.Kernel9Ideal.OutDx

open Cert.Kernel9Ideal Cert.Kernel9Ideal.Gen

variable (m : (ℓ : Loc nD τ sig) → Buf (Elt Ideal) ℓ) (ρ : Dev nD → PrngReg)

/-- The points run over the weight's rows first, then over the tokens. -/
theorem at0 : ∀ t : Fin cfg0.N, win0_0.index t = ![t.val / 2, 0] := by decide +kernel
theorem at1 : ∀ t : Fin cfg0.N, win0_1.index t = ![t.val % 2, 0] := by decide +kernel
theorem at2 : ∀ t : Fin cfg0.N, win0_2.index t = ![t.val / 2, t.val % 2] := by decide +kernel

/-- A grid point leaves the product of its two blocks. -/
theorem block (x : Vec Ideal S1024x2048 .bf16) (y : Vec Ideal S1024x2048 .bf16) (j : S1024x1024.Idx) :
    out0_2 x y j = nt (m := 1024) (n := 1024) x y j := by
  frame_out
  unfold k0_pay1 nt
  pointwise

/-- Every block of the result holds the product's own block. -/
theorem final (c : Dev nD) : (dats m 0 c).arrAt 2 cfg0.N
    = nt (m ((c.tc : Thread nD τ).loc main_arg0)) (m ((c.tc : Thread nD τ).loc main_arg1)) := by
  refine (dats m 0 c).arrAt_eq_of_covers 2 _ (by decide +kernel) fun t hf y => ?_
  blk_simp
  rw [after0_2]
  refine (block ..).trans ?_
  unfold nt
  refine Finset.sum_congr rfl fun k _ => ?_
  congr 1 <;> blk_ext [iblk, V, at0, at1, at2]

/-- The kernel's run leaves the product of its two operands in its result. -/
theorem run : θ_run defs (onTc (τ := τ) (main (F := Ideal))) ⟨m, fun _ => 0, ρ⟩ fun r => ∀ c : Dev nD,
      r.2.mem ((c.tc : Thread nD τ).loc main_v0)
        = nt (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).1 2).trans (final m c), ((h c).1 0).trans ((dats m 0 c).arrAt_in 0 rfl _),
    ((h c).1 1).trans ((dats m 0 c).arrAt_in 1 rfl _)⟩) (run_main m ρ)

end Cert.Kernel9Ideal.OutDx

namespace Cert.Reference9Ideal.OutDx

open Cert.Reference9Ideal Cert.Reference9Ideal.Gen

/-- The plain product leaves the same. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v4)
        = nt (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  hlo_run
  funext i
  unfold nt
  pointwise

/-- The plain product runs and leaves its operands alone. -/
theorem frame : Cert.quiescent_Reference9Ideal := fun m ρ _ =>
  (θ_run _ _ _).mono (fun _ h => ⟨fun c => (h c).2, sem_eq_zero_of_no_sems rfl _⟩) (run m ρ)

/-- The blocked product and the plain one agree. -/
theorem agree : Cert.algebraic_Kernel9Ideal_Reference9Ideal := fun m ρ m' ρ' _ hag =>
  ⟨_, Cert.Kernel9Ideal.OutDx.run m ρ, (θ_run _ _ _).mono
    (fun _ h c => ⟨(h c).1.trans (by rw [(hag c).1, (hag c).2]), (h c).2⟩) (run m' ρ')⟩

end Cert.Reference9Ideal.OutDx
-- ==== Proof.Gates.lean ====
module

public import Idealize.ShloMosaic.Lib.Pointwise
public import Idealize.ShloMosaic.Lib.IdealHost

@[expose] public section

noncomputable section

/-! The logistic gate over the extended reals: the form with a hyperbolic tangent that the kernels take, its derivative, and what
the gated calls compute of it. -/

namespace Cert.Gates

open Idealize.ShloMosaic

/-- Half the tangent of half the argument, plus a half, is the logistic function. -/
theorem half_tanh (x : EReal) : ((1 / 2 : ℝ) : EReal) * Ideal.tanh (((1 / 2 : ℝ) : EReal) * x) + ((1 / 2 : ℝ) : EReal) = Ideal.logistic x := by
  induction x with
  | bot =>
    rw [EReal.coe_mul_bot_of_pos (by norm_num), Ideal.tanh_bot, Ideal.logistic_bot, show (-1 : EReal) = ((-1 : ℝ) : EReal) from rfl,
      ← EReal.coe_mul, ← EReal.coe_add]
    norm_num
  | top =>
    rw [EReal.coe_mul_top_of_pos (by norm_num), Ideal.tanh_top, Ideal.logistic_top]
    norm_cast
    norm_num
  | coe r =>
    rw [← EReal.coe_mul, Ideal.tanh_coe, Ideal.logistic_coe]
    norm_cast
    rw [Real.tanh_eq_sinh_div_cosh, Real.sinh_eq, Real.cosh_eq]
    have h : Real.exp (-r) = Real.exp (-(1 / 2 * r)) * Real.exp (-(1 / 2 * r)) := by rw [← Real.exp_add]; ring_nf
    have h1 : Real.exp (1 / 2 * r) * Real.exp (-(1 / 2 * r)) = 1 := by rw [← Real.exp_add]; simp
    rw [h]
    have p := Real.exp_pos (1 / 2 * r)
    have q := Real.exp_pos (-(1 / 2 * r))
    generalize Real.exp (1 / 2 * r) = a at *
    generalize Real.exp (-(1 / 2 * r)) = b at *
    have : a + b ≠ 0 := by positivity
    have : 1 + b * b ≠ 0 := by positivity
    field_simp
    nlinarith [h1]

/-- The float32 pattern of a half. -/
theorem half_bits : Ideal.ofBits .f32 0x3F000000#32 = ((1 / 2 : ℝ) : EReal) := by
  simp [Ideal.ofBits, Ideal.ieee, -EReal.coe_mul]; norm_num

/-- The form the kernels take, with its constants as they are written. -/
theorem tanh_gate (x : EReal) : Ideal.ofBits .f32 0x3F000000#32 * Ideal.tanh (Ideal.ofBits .f32 0x3F000000#32 * x)
    + Ideal.ofBits .f32 0x3F000000#32 = Ideal.logistic x := by
  rw [half_bits, half_tanh]

/-- The derivative of `x` times its logistic, in two forms. -/
theorem slope (x : EReal) : Ideal.logistic x * (1 + x * (1 - Ideal.logistic x))
    = Ideal.logistic x + x * Ideal.logistic x * (1 - Ideal.logistic x) := by
  induction x with
  | bot => simp
  | top =>
    rw [Ideal.logistic_top]
    have : (1 : EReal) - 1 = 0 := by
      rw [show (1 : EReal) = ((1 : ℝ) : EReal) from rfl, ← EReal.coe_sub]; norm_num
    rw [this]; simp
  | coe r =>
    rw [Ideal.logistic_coe]
    norm_cast
    ring

/-- The feed-forward's activation of a gate `g` and its other half `u`. -/
def act (g u : EReal) : EReal := g * Ideal.logistic g * u

/-- Backward to the gate. -/
def actGate (d g u : EReal) : EReal := d * u * (Ideal.logistic g + g * Ideal.logistic g * (1 - Ideal.logistic g))

/-- Backward to the other half. -/
def actUp (d g : EReal) : EReal := d * (g * Ideal.logistic g)

variable {k m n : Nat}

/-- The gate of each entry of `g`, its columns shifted by `b`. -/
def gate (g : (⟨2, ![m, n]⟩ : Shape).Idx → EReal) (b : (⟨2, ![1, n]⟩ : Shape).Idx → EReal) (i : (⟨2, ![m, n]⟩ : Shape).Idx) : EReal :=
  Ideal.logistic (g i + b (ix2 0 (i 1)))

/-- Two branches merged, each through its gate. -/
def merge (g h o p : (⟨2, ![m, n]⟩ : Shape).Idx → EReal) (b c : (⟨2, ![1, n]⟩ : Shape).Idx → EReal) (i : (⟨2, ![m, n]⟩ : Shape).Idx) :
    EReal := gate g b i * o i + gate h c i * p i

/-- Backward to a branch. -/
def toBranch (d g : (⟨2, ![m, n]⟩ : Shape).Idx → EReal) (b : (⟨2, ![1, n]⟩ : Shape).Idx → EReal) (i : (⟨2, ![m, n]⟩ : Shape).Idx) :
    EReal := d i * gate g b i

/-- Backward to its gate. -/
def toGate (d o g : (⟨2, ![m, n]⟩ : Shape).Idx → EReal) (b : (⟨2, ![1, n]⟩ : Shape).Idx → EReal) (i : (⟨2, ![m, n]⟩ : Shape).Idx) :
    EReal := d i * o i * (gate g b i * (1 - gate g b i))

/-- Backward to a branch depends on three entries, -/
theorem toBranch_eq {m' : Nat} {d g : (⟨2, ![m, n]⟩ : Shape).Idx → EReal} {b : (⟨2, ![1, n]⟩ : Shape).Idx → EReal}
    {d' g' : (⟨2, ![m', n]⟩ : Shape).Idx → EReal} {b' : (⟨2, ![1, n]⟩ : Shape).Idx → EReal} {i : (⟨2, ![m, n]⟩ : Shape).Idx}
    {j : (⟨2, ![m', n]⟩ : Shape).Idx} (hd : d i = d' j) (hg : g i = g' j) (hb : b (ix2 0 (i 1)) = b' (ix2 0 (j 1))) :
    toBranch d g b i = toBranch d' g' b' j := by
  unfold toBranch gate
  rw [hd, hg, hb]

/-- and backward to its gate on four. -/
theorem toGate_eq {m' : Nat} {d o g : (⟨2, ![m, n]⟩ : Shape).Idx → EReal} {b : (⟨2, ![1, n]⟩ : Shape).Idx → EReal}
    {d' o' g' : (⟨2, ![m', n]⟩ : Shape).Idx → EReal} {b' : (⟨2, ![1, n]⟩ : Shape).Idx → EReal} {i : (⟨2, ![m, n]⟩ : Shape).Idx}
    {j : (⟨2, ![m', n]⟩ : Shape).Idx} (hd : d i = d' j) (ho : o i = o' j) (hg : g i = g' j)
    (hb : b (ix2 0 (i 1)) = b' (ix2 0 (j 1))) : toGate d o g b i = toGate d' o' g' b' j := by
  unfold toGate gate
  rw [hd, ho, hg, hb]

/-- The columns' sums. -/
def total (f : (⟨2, ![k, n]⟩ : Shape).Idx → EReal) (i : (⟨2, ![1, n]⟩ : Shape).Idx) : EReal := ∑ l : Fin k, f (ix2 l (i 1))

end Cert.Gates
-- ==== Proof.ActBwd.lean ====
module

public import proofs.«01_k».proof.Defs
public import proofs.«01_k».proof.Proof.Gen.Kernel10Ideal.Frame
public import proofs.«01_k».proof.Proof.Gen.Reference10Ideal
public import proofs.«01_k».proof.Proof.Gates
public import Idealize.ShloMosaic.Lib.Pipeline.ValueKit
public import Idealize.ShloMosaic.Lib.StableHlo.RunHlo
public import Idealize.ShloMosaic.Lib.Quiescent

@[expose] public section

set_option maxRecDepth 16384

noncomputable section

/-! The feed-forward's activation backward, to the gate and to the other half (8192 by 5632 each): 64 grid points, 128 rows each. -/

open Idealize.ShloMosaic Idealize.ShloMosaic.TcCoe Idealize.SL.Sem
open Idealize.ShloMosaic.Pipeline (Dat)
open Cert.Gates

namespace Cert.Kernel10Ideal.ActBwd

open Cert.Kernel10Ideal Cert.Kernel10Ideal.Gen

variable (m : (ℓ : Loc nD τ sig) → Buf (Elt Ideal) ℓ) (ρ : Dev nD → PrngReg)

theorem at0 : ∀ t : Fin cfg0.N, win0_0.index t = ![t.val, 0] := by decide +kernel
theorem at1 : ∀ t : Fin cfg0.N, win0_1.index t = ![t.val, 0] := by decide +kernel
theorem at2 : ∀ t : Fin cfg0.N, win0_2.index t = ![t.val, 0] := by decide +kernel
theorem at3 : ∀ t : Fin cfg0.N, win0_3.index t = ![t.val, 0] := by decide +kernel
theorem at4 : ∀ t : Fin cfg0.N, win0_4.index t = ![t.val, 0] := by decide +kernel

variable (x y z : Vec Ideal S128x5632 .bf16) (j : S128x5632.Idx)

/-- A grid point leaves the gradient to the gate, -/
theorem block3 : out0_3 x y z j = actGate (x j) (y j) (z j) := by
  frame_out
  unfold k0_pay3 k0_pay2 k0_pay1 actGate
  pointwise
  rw [tanh_gate, slope]

/-- and the one to the other half. -/
theorem block4 : out0_4 x y z j = actUp (x j) (y j) := by
  frame_out
  unfold k0_pay4 k0_pay2 k0_pay1 actUp
  pointwise
  rw [tanh_gate]

/-- Every block of the first result holds the gradient to the gate, -/
theorem final3 (c : Dev nD) : (dats m 0 c).arrAt 3 cfg0.N
    = (fun i => actGate (m ((c.tc : Thread nD τ).loc main_arg0) i) (m ((c.tc : Thread nD τ).loc main_arg1) i) (m ((c.tc : Thread nD τ).loc main_arg2) i)) := by
  refine (dats m 0 c).arrAt_eq_of_covers 3 _ (by decide +kernel) fun t hf y => ?_
  blk_simp
  rw [after0_3]
  refine (block3 ..).trans ?_
  refine congr (congr (congrArg actGate ?_) ?_) ?_ <;> blk_ext [iblk, V, at0, at1, at2, at3]

/-- and every block of the second the one to the other half. -/
theorem final4 (c : Dev nD) : (dats m 0 c).arrAt 4 cfg0.N
    = (fun i => actUp (m ((c.tc : Thread nD τ).loc main_arg0) i) (m ((c.tc : Thread nD τ).loc main_arg1) i)) := by
  refine (dats m 0 c).arrAt_eq_of_covers 4 _ (by decide +kernel) fun t hf y => ?_
  blk_simp
  rw [after0_4]
  refine (block4 ..).trans ?_
  refine congrArg₂ actUp ?_ ?_ <;> blk_ext [iblk, V, at0, at1, at4]

/-- The kernel's run leaves the two gradients in its results. -/
theorem run : θ_run defs (onTc (τ := τ) (main (F := Ideal))) ⟨m, fun _ => 0, ρ⟩ fun r => ∀ c : Dev nD,
      r.2.mem ((c.tc : Thread nD τ).loc main_v0_0)
        = (fun i => actGate (m ((c.tc : Thread nD τ).loc main_arg0) i) (m ((c.tc : Thread nD τ).loc main_arg1) i) (m ((c.tc : Thread nD τ).loc main_arg2) i))
      ∧ r.2.mem ((c.tc : Thread nD τ).loc main_v0_1)
        = (fun i => actUp (m ((c.tc : Thread nD τ).loc main_arg0) i) (m ((c.tc : Thread nD τ).loc main_arg1) i))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h c).1 3).trans (final3 m c), ((h c).1 4).trans (final4 m c),
    ((h c).1 0).trans ((dats m 0 c).arrAt_in 0 rfl _), ((h c).1 1).trans ((dats m 0 c).arrAt_in 1 rfl _),
    ((h c).1 2).trans ((dats m 0 c).arrAt_in 2 rfl _)⟩) (run_main m ρ)

end Cert.Kernel10Ideal.ActBwd

namespace Cert.Reference10Ideal.ActBwd

open Cert.Reference10Ideal Cert.Reference10Ideal.Gen

/-- The plain formulas leave the same. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v16)
        = (fun i => actGate (m ((c.tc : Thread nD τ).loc main_arg0) i) (m ((c.tc : Thread nD τ).loc main_arg1) i) (m ((c.tc : Thread nD τ).loc main_arg2) i))
      ∧ r.2.mem ((c.tc : Thread nD τ).loc main_v19)
        = (fun i => actUp (m ((c.tc : Thread nD τ).loc main_arg0) i) (m ((c.tc : Thread nD τ).loc main_arg1) i))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  hlo_run
  · funext i
    unfold actGate Ideal.logistic
    pointwise
  · funext i
    unfold actUp Ideal.logistic
    pointwise

/-- They run and leave their operands alone. -/
theorem frame : Cert.quiescent_Reference10Ideal := fun m ρ _ =>
  (θ_run _ _ _).mono (fun _ h => ⟨fun c => (h c).2.2, sem_eq_zero_of_no_sems rfl _⟩) (run m ρ)

/-- The blocked gradients and the plain ones agree. -/
theorem agree : Cert.algebraic_Kernel10Ideal_Reference10Ideal := fun m ρ m' ρ' _ hag =>
  ⟨_, _, Cert.Kernel10Ideal.ActBwd.run m ρ, (θ_run _ _ _).mono
    (fun _ h c => by
      obtain ⟨e0, e1, e2⟩ := hag c
      exact ⟨(h c).1.trans (by rw [e0, e1, e2]; rfl), (h c).2.1.trans (by rw [e0, e1]; rfl), (h c).2.2⟩) (run m' ρ')⟩

end Cert.Reference10Ideal.ActBwd
-- ==== Proof.PairDw.lean ====
module

public import proofs.«01_k».proof.Defs
public import proofs.«01_k».proof.Proof.Gen.Kernel11Ideal.Frame
public import proofs.«01_k».proof.Proof.Gen.Reference11Ideal
public import proofs.«01_k».proof.Proof.Products
public import Idealize.ShloMosaic.Lib.Pipeline.ValueKit
public import Idealize.ShloMosaic.Lib.StableHlo.RunHlo
public import Idealize.ShloMosaic.Lib.Quiescent

@[expose] public section

set_option maxRecDepth 16384

noncomputable section

/-! The gradient of the state-space branch's input weight, over the 8192 tokens and the 256 of the context: 30 grid
points, four partial products of the tokens and one of the context to each block. -/

open Idealize.ShloMosaic Idealize.ShloMosaic.TcCoe Idealize.SL.Sem
open Idealize.ShloMosaic.Pipeline (Dat)
open Cert.Products

namespace Cert.Kernel11Ideal.PairDw

open Cert.Kernel11Ideal Cert.Kernel11Ideal.Gen

variable (m : (ℓ : Loc nD τ sig) → Buf (Elt Ideal) ℓ) (ρ : Dev nD → PrngReg)

section Points

variable (c : Dev nD) (i : grid0.Coords) (a3 : Memref sig .tc .vmem S2048x1024 .bf16) (h3 : a3.IsWhole)
  (a4 : Memref sig .tc .vmem S2048x1024 .f32) (h4 : a4.IsWhole) (a5 : Memref sig .tc .vmem S256x1024 .bf16) (h5 : a5.IsWhole)
  (a6 : Memref sig .tc .vmem S256x1024 .f32) (h6 : a6.IsWhole) (a7 : Memref sig .tc .vmem S1024x1024 .f32) (h7 : a7.IsWhole)
  (x : Vec Ideal S2048x1024 .bf16) (y : Vec Ideal S2048x1024 .f32) (u : Vec Ideal S256x1024 .bf16) (v : Vec Ideal S256x1024 .f32)
  (o : Vec Ideal S1024x1024 .f32) (j : S1024x1024.Idx)

/-- A block's first point leaves its partial product. -/
theorem first (hc0 : cond0_0 i) (hc1 : ¬cond0_1 i) (hc2 : ¬cond0_2 i) :
    out0_A_4 c i a3 h3 a4 h4 a5 h5 a6 h6 a7 h7 hc0 hc1 hc2 x y u v j = tn (m := 1024) (n := 1024) x y j := by
  frame_out
  unfold k0_pay1 tn
  pointwise

/-- The next three add their own. -/
theorem next (hc0 : ¬cond0_0 i) (hc1 : cond0_1 i) (hc2 : ¬cond0_2 i) :
    out0_B_4 c i a3 h3 a4 h4 a5 h5 a6 h6 a7 h7 hc0 hc1 hc2 x y u v o j = o j + tn (m := 1024) (n := 1024) x y j := by
  frame_out
  unfold k0_pay2 tn
  pointwise

/-- The last adds the context's. -/
theorem last (hc0 : ¬cond0_0 i) (hc1 : ¬cond0_1 i) (hc2 : cond0_2 i) :
    out0_C_4 c i a3 h3 a4 h4 a5 h5 a6 h6 a7 h7 hc0 hc1 hc2 x y u v o j = o j + tn (m := 1024) (n := 1024) u v j := by
  frame_out
  unfold k0_pay3 tn
  pointwise

end Points

/-- The points run over the blocks of tokens and the context first, then over the result's columns, then its rows. -/
theorem at0 : ∀ t : Fin cfg0.N, win0_0.index t = ![min (t.val % 5) 3, t.val / 15] := by decide +kernel
theorem at1 : ∀ t : Fin cfg0.N, win0_1.index t = ![min (t.val % 5) 3, t.val / 5 % 3] := by decide +kernel
theorem at2 : ∀ t : Fin cfg0.N, win0_2.index t = ![0, t.val / 15] := by decide +kernel
theorem at3 : ∀ t : Fin cfg0.N, win0_3.index t = ![0, t.val / 5 % 3] := by decide +kernel
theorem at4 : ∀ t : Fin cfg0.N, win0_4.index t = ![t.val / 15, t.val / 5 % 3] := by decide +kernel

/-- What a point adds to its block. -/
def part (c : Dev nD) (t : Fin cfg0.N) : S1024x1024.Idx → EReal :=
  if t.val % 5 = 4 then tn (iblk m c 2 t : Vec Ideal S256x1024 .bf16) (iblk m c 3 t : Vec Ideal S256x1024 .f32)
  else tn (iblk m c 0 t : Vec Ideal S2048x1024 .bf16) (iblk m c 1 t : Vec Ideal S2048x1024 .f32)

/-- Every finished block of the result holds the two products' own blocks, added. -/
theorem final (c : Dev nD) : (dats m 0 c).arrAt 4 cfg0.N
    = onto (tn (m ((c.tc : Thread nD τ).loc main_arg0)) (m ((c.tc : Thread nD τ).loc main_arg2)))
        (tn (m ((c.tc : Thread nD τ).loc main_arg1)) (m ((c.tc : Thread nD τ).loc main_arg3))) := by
  refine (dats m 0 c).arrAt_eq_of_covers 4 _ (by decide +kernel) fun t hf y => ?_
  have h := Pipeline.eq_sum_fin_of_reset_step_apply_of_flush (fun n h => outsAt0 m c n h) 5 (fun _ => (0 : EReal)) (part m c)
    (fun t h j => by
      rw [outsAt0_A m c t h (by omega) (by omega), zero_add]
      unfold part
      rw [if_neg (by omega)]
      exact first ..)
    (fun t h j => by
      unfold part
      by_cases h4 : t.val % 5 = 4
      · rw [outsAt0_C m c t h (by omega) h4, if_pos h4]
        exact last ..
      · rw [outsAt0_B m c t h (by omega) h4, if_neg h4]
        exact next ..) t ((flush0_4 t).mp hf)
  blk_simp
  rw [after0_4]
  refine (h y).trans ?_
  have hN : cfg0.N = 30 := N_0
  have := t.isLt
  rw [zero_add, Fin.sum_univ_castSucc]
  unfold part onto
  refine congrArg₂ (fun p q : EReal => p + q) ?_ ?_
  · have e : ∀ s : Fin 4, ¬(5 * (t.val / 5) + s.castSucc.val) % 5 = 4 := fun s => by rw [Fin.val_castSucc]; omega
    simp only [e, if_false]
    refine Fin.sum_mul_add_congr fun s k hl => ?_
    have e' : min ((5 * (t.val / 5) + s.castSucc.val) % 5) 3 = s.val := by rw [Fin.val_castSucc]; omega
    congr 1 <;> blk_ext [iblk, V, at0, at1, at4, e', Fin.val_castSucc]
  · rw [if_pos (by simp)]
    unfold tn
    refine Finset.sum_congr rfl fun k _ => ?_
    congr 1 <;> blk_ext [iblk, V, at2, at3, at4]

/-- The kernel's run leaves the sum of the two products in its result. -/
theorem run : θ_run defs (onTc (τ := τ) (main (F := Ideal))) ⟨m, fun _ => 0, ρ⟩ fun r => ∀ c : Dev nD,
      r.2.mem ((c.tc : Thread nD τ).loc main_v0)
        = onto (tn (m ((c.tc : Thread nD τ).loc main_arg0)) (m ((c.tc : Thread nD τ).loc main_arg2)))
          (tn (m ((c.tc : Thread nD τ).loc main_arg1)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h c).1 4).trans (final m c), ((h c).1 0).trans ((dats m 0 c).arrAt_in 0 rfl _),
    ((h c).1 2).trans ((dats m 0 c).arrAt_in 2 rfl _), ((h c).1 1).trans ((dats m 0 c).arrAt_in 1 rfl _),
    ((h c).1 3).trans ((dats m 0 c).arrAt_in 3 rfl _)⟩) (run_main m ρ)

end Cert.Kernel11Ideal.PairDw

namespace Cert.Reference11Ideal.PairDw

open Cert.Reference11Ideal Cert.Reference11Ideal.Gen

/-- The plain sum leaves the same. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v6)
        = onto (tn (m ((c.tc : Thread nD τ).loc main_arg0)) (m ((c.tc : Thread nD τ).loc main_arg2)))
          (tn (m ((c.tc : Thread nD τ).loc main_arg1)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  hlo_run
  funext i
  unfold onto tn
  pointwise

/-- The plain sum runs and leaves its operands alone. -/
theorem frame : Cert.quiescent_Reference11Ideal := fun m ρ _ =>
  (θ_run _ _ _).mono (fun _ h => ⟨fun c => (h c).2, sem_eq_zero_of_no_sems rfl _⟩) (run m ρ)

/-- The blocked sum and the plain one agree. -/
theorem agree : Cert.algebraic_Kernel11Ideal_Reference11Ideal := fun m ρ m' ρ' _ hag =>
  ⟨_, Cert.Kernel11Ideal.PairDw.run m ρ, (θ_run _ _ _).mono
    (fun _ h c => ⟨(h c).1.trans (by rw [(hag c).1, (hag c).2.1, (hag c).2.2.1, (hag c).2.2.2]), (h c).2⟩) (run m' ρ')⟩

end Cert.Reference11Ideal.PairDw
-- ==== Proof.ProjDx.lean ====
module

public import proofs.«01_k».proof.Defs
public import proofs.«01_k».proof.Proof.Gen.Kernel12Ideal.Frame
public import proofs.«01_k».proof.Proof.Gen.Reference12Ideal
public import proofs.«01_k».proof.Proof.Products
public import Idealize.ShloMosaic.Lib.Pipeline.ValueKit
public import Idealize.ShloMosaic.Lib.StableHlo.RunHlo
public import Idealize.ShloMosaic.Lib.Quiescent

@[expose] public section

set_option maxRecDepth 16384

noncomputable section

/-! The gradient of the layer's input through one more square projection (2048 by 2048, over 8192 tokens): 16 grid points, a block of the result each. -/

open Idealize.ShloMosaic Idealize.ShloMosaic.TcCoe Idealize.SL.Sem
open Idealize.ShloMosaic.Pipeline (Dat)
open Cert.Products

namespace Cert.Kernel12Ideal.ProjDx

open Cert.Kernel12Ideal Cert.Kernel12Ideal.Gen

variable (m : (ℓ : Loc nD τ sig) → Buf (Elt Ideal) ℓ) (ρ : Dev nD → PrngReg)

/-- The points run over the weight's rows first, then over the tokens. -/
theorem at0 : ∀ t : Fin cfg0.N, win0_0.index t = ![t.val / 2, 0] := by decide +kernel
theorem at1 : ∀ t : Fin cfg0.N, win0_1.index t = ![t.val % 2, 0] := by decide +kernel
theorem at2 : ∀ t : Fin cfg0.N, win0_2.index t = ![t.val / 2, t.val % 2] := by decide +kernel
theorem at3 : ∀ t : Fin cfg0.N, win0_3.index t = ![t.val / 2, t.val % 2] := by decide +kernel

/-- A grid point leaves the block given plus the product of its two blocks. -/
theorem block (x : Vec Ideal S1024x2048 .bf16) (y : Vec Ideal S1024x2048 .bf16) (z : Vec Ideal S1024x1024 .f32) (j : S1024x1024.Idx) :
    out0_3 x y z j = z j + nt (m := 1024) (n := 1024) x y j := by
  frame_out
  unfold k0_pay1 nt
  pointwise
  exact add_comm ..

/-- Every block of the result holds the given block plus the product's own. -/
theorem final (c : Dev nD) : (dats m 0 c).arrAt 3 cfg0.N
    = onto (m ((c.tc : Thread nD τ).loc main_arg2))
        (nt (m ((c.tc : Thread nD τ).loc main_arg0)) (m ((c.tc : Thread nD τ).loc main_arg1))) := by
  refine (dats m 0 c).arrAt_eq_of_covers 3 _ (by decide +kernel) fun t hf y => ?_
  blk_simp
  rw [after0_3]
  refine (block ..).trans ?_
  unfold onto nt
  refine congrArg₂ (fun p q : EReal => p + q) ?_ ?_
  · blk_ext [iblk, V, at2, at3]
  refine Finset.sum_congr rfl fun k _ => ?_
  congr 1 <;> blk_ext [iblk, V, at0, at1, at3]

/-- The kernel's run leaves what it was given plus the product of its first two operands. -/
theorem run : θ_run defs (onTc (τ := τ) (main (F := Ideal))) ⟨m, fun _ => 0, ρ⟩ fun r => ∀ c : Dev nD,
      r.2.mem ((c.tc : Thread nD τ).loc main_v0)
        = onto (m ((c.tc : Thread nD τ).loc main_arg2))
          (nt (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h c).1 3).trans (final m c), ((h c).1 0).trans ((dats m 0 c).arrAt_in 0 rfl _),
    ((h c).1 1).trans ((dats m 0 c).arrAt_in 1 rfl _), ((h c).1 2).trans ((dats m 0 c).arrAt_in 2 rfl _)⟩) (run_main m ρ)

end Cert.Kernel12Ideal.ProjDx

namespace Cert.Reference12Ideal.ProjDx

open Cert.Reference12Ideal Cert.Reference12Ideal.Gen

/-- The plain sum leaves the same. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v4)
        = onto (m ((c.tc : Thread nD τ).loc main_arg2))
          (nt (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  hlo_run
  funext i
  unfold onto nt
  pointwise

/-- The plain sum runs and leaves its operands alone. -/
theorem frame : Cert.quiescent_Reference12Ideal := fun m ρ _ =>
  (θ_run _ _ _).mono (fun _ h => ⟨fun c => (h c).2, sem_eq_zero_of_no_sems rfl _⟩) (run m ρ)

/-- The blocked product and the plain one agree. -/
theorem agree : Cert.algebraic_Kernel12Ideal_Reference12Ideal := fun m ρ m' ρ' _ hag =>
  ⟨_, Cert.Kernel12Ideal.ProjDx.run m ρ, (θ_run _ _ _).mono
    (fun _ h c => ⟨(h c).1.trans (by rw [(hag c).1, (hag c).2.1, (hag c).2.2]), (h c).2⟩) (run m' ρ')⟩

end Cert.Reference12Ideal.ProjDx
-- ==== Proof.FfnUp.lean ====
module

public import proofs.«01_k».proof.Defs
public import proofs.«01_k».proof.Proof.Gen.Kernel13Ideal.Frame
public import proofs.«01_k».proof.Proof.Gen.Reference13Ideal
public import proofs.«01_k».proof.Proof.Products
public import Idealize.ShloMosaic.Lib.Pipeline.ValueKit
public import Idealize.ShloMosaic.Lib.StableHlo.RunHlo
public import Idealize.ShloMosaic.Lib.Quiescent

@[expose] public section

set_option maxRecDepth 16384

noncomputable section

/-! The feed-forward layer's gate and up projections: 32 grid points, a block of the result each. -/

open Idealize.ShloMosaic Idealize.ShloMosaic.TcCoe Idealize.SL.Sem
open Idealize.ShloMosaic.Pipeline (Dat)
open Cert.Products

namespace Cert.Kernel13Ideal.FfnUp

open Cert.Kernel13Ideal Cert.Kernel13Ideal.Gen

variable (m : (ℓ : Loc nD τ sig) → Buf (Elt Ideal) ℓ) (ρ : Dev nD → PrngReg)

/-- The points run over the weight's columns first, then over the tokens. -/
theorem at0 : ∀ t : Fin cfg0.N, win0_0.index t = ![t.val / 4, 0] := by decide +kernel
theorem at1 : ∀ t : Fin cfg0.N, win0_1.index t = ![0, t.val % 4] := by decide +kernel
theorem at2 : ∀ t : Fin cfg0.N, win0_2.index t = ![t.val / 4, t.val % 4] := by decide +kernel

/-- A grid point leaves the product of its two blocks. -/
theorem block (x : Vec Ideal S1024x2048 .bf16) (y : Vec Ideal S2048x1408 .bf16) (j : S1024x1408.Idx) :
    out0_2 x y j = nn (m := 1024) (n := 1408) x y j := by
  frame_out
  unfold k0_pay1 nn
  pointwise

/-- Every block of the result holds the product's own block. -/
theorem final (c : Dev nD) : (dats m 0 c).arrAt 2 cfg0.N
    = nn (m ((c.tc : Thread nD τ).loc main_arg0)) (m ((c.tc : Thread nD τ).loc main_arg1)) := by
  refine (dats m 0 c).arrAt_eq_of_covers 2 _ (by decide +kernel) fun t hf y => ?_
  blk_simp
  rw [after0_2]
  refine (block ..).trans ?_
  unfold nn
  refine Finset.sum_congr rfl fun k _ => ?_
  congr 1 <;> blk_ext [iblk, V, at0, at1, at2]

/-- The kernel's run leaves the product of its two operands in its result. -/
theorem run : θ_run defs (onTc (τ := τ) (main (F := Ideal))) ⟨m, fun _ => 0, ρ⟩ fun r => ∀ c : Dev nD,
      r.2.mem ((c.tc : Thread nD τ).loc main_v0)
        = nn (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).1 2).trans (final m c), ((h c).1 0).trans ((dats m 0 c).arrAt_in 0 rfl _),
    ((h c).1 1).trans ((dats m 0 c).arrAt_in 1 rfl _)⟩) (run_main m ρ)

end Cert.Kernel13Ideal.FfnUp

namespace Cert.Reference13Ideal.FfnUp

open Cert.Reference13Ideal Cert.Reference13Ideal.Gen

/-- The plain product leaves the same. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v3)
        = nn (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  hlo_run
  funext i
  unfold nn
  pointwise

/-- The plain product runs and leaves its operands alone. -/
theorem frame : Cert.quiescent_Reference13Ideal := fun m ρ _ =>
  (θ_run _ _ _).mono (fun _ h => ⟨fun c => (h c).2, sem_eq_zero_of_no_sems rfl _⟩) (run m ρ)

/-- The blocked product and the plain one agree. -/
theorem agree : Cert.algebraic_Kernel13Ideal_Reference13Ideal := fun m ρ m' ρ' _ hag =>
  ⟨_, Cert.Kernel13Ideal.FfnUp.run m ρ, (θ_run _ _ _).mono
    (fun _ h c => ⟨(h c).1.trans (by rw [(hag c).1, (hag c).2]), (h c).2⟩) (run m' ρ')⟩

end Cert.Reference13Ideal.FfnUp
-- ==== Proof.Proj.lean ====
module

public import proofs.«01_k».proof.Defs
public import proofs.«01_k».proof.Proof.Gen.Kernel14Ideal.Frame
public import proofs.«01_k».proof.Proof.Gen.Reference14Ideal
public import proofs.«01_k».proof.Proof.Products
public import Idealize.ShloMosaic.Lib.Pipeline.ValueKit
public import Idealize.ShloMosaic.Lib.StableHlo.RunHlo
public import Idealize.ShloMosaic.Lib.Quiescent

@[expose] public section

set_option maxRecDepth 16384

noncomputable section

/-! A square projection (2048 by 2048, over 8192 tokens): 16 grid points, a block of the result each. -/

open Idealize.ShloMosaic Idealize.ShloMosaic.TcCoe Idealize.SL.Sem
open Idealize.ShloMosaic.Pipeline (Dat)
open Cert.Products

namespace Cert.Kernel14Ideal.Proj

open Cert.Kernel14Ideal Cert.Kernel14Ideal.Gen

variable (m : (ℓ : Loc nD τ sig) → Buf (Elt Ideal) ℓ) (ρ : Dev nD → PrngReg)

/-- The points run over the weight's columns first, then over the tokens. -/
theorem at0 : ∀ t : Fin cfg0.N, win0_0.index t = ![t.val / 2, 0] := by decide +kernel
theorem at1 : ∀ t : Fin cfg0.N, win0_1.index t = ![0, t.val % 2] := by decide +kernel
theorem at2 : ∀ t : Fin cfg0.N, win0_2.index t = ![t.val / 2, t.val % 2] := by decide +kernel

/-- A grid point leaves the product of its two blocks. -/
theorem block (x : Vec Ideal S1024x2048 .bf16) (y : Vec Ideal S2048x1024 .bf16) (j : S1024x1024.Idx) :
    out0_2 x y j = nn (m := 1024) (n := 1024) x y j := by
  frame_out
  unfold k0_pay1 nn
  pointwise

/-- Every block of the result holds the product's own block. -/
theorem final (c : Dev nD) : (dats m 0 c).arrAt 2 cfg0.N
    = nn (m ((c.tc : Thread nD τ).loc main_arg0)) (m ((c.tc : Thread nD τ).loc main_arg1)) := by
  refine (dats m 0 c).arrAt_eq_of_covers 2 _ (by decide +kernel) fun t hf y => ?_
  blk_simp
  rw [after0_2]
  refine (block ..).trans ?_
  unfold nn
  refine Finset.sum_congr rfl fun k _ => ?_
  congr 1 <;> blk_ext [iblk, V, at0, at1, at2]

/-- The kernel's run leaves the product of its two operands in its result. -/
theorem run : θ_run defs (onTc (τ := τ) (main (F := Ideal))) ⟨m, fun _ => 0, ρ⟩ fun r => ∀ c : Dev nD,
      r.2.mem ((c.tc : Thread nD τ).loc main_v0)
        = nn (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).1 2).trans (final m c), ((h c).1 0).trans ((dats m 0 c).arrAt_in 0 rfl _),
    ((h c).1 1).trans ((dats m 0 c).arrAt_in 1 rfl _)⟩) (run_main m ρ)

end Cert.Kernel14Ideal.Proj

namespace Cert.Reference14Ideal.Proj

open Cert.Reference14Ideal Cert.Reference14Ideal.Gen

/-- The plain product leaves the same. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v3)
        = nn (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  hlo_run
  funext i
  unfold nn
  pointwise

/-- The plain product runs and leaves its operands alone. -/
theorem frame : Cert.quiescent_Reference14Ideal := fun m ρ _ =>
  (θ_run _ _ _).mono (fun _ h => ⟨fun c => (h c).2, sem_eq_zero_of_no_sems rfl _⟩) (run m ρ)

/-- The blocked product and the plain one agree. -/
theorem agree : Cert.algebraic_Kernel14Ideal_Reference14Ideal := fun m ρ m' ρ' _ hag =>
  ⟨_, Cert.Kernel14Ideal.Proj.run m ρ, (θ_run _ _ _).mono
    (fun _ h c => ⟨(h c).1.trans (by rw [(hag c).1, (hag c).2]), (h c).2⟩) (run m' ρ')⟩

end Cert.Reference14Ideal.Proj
-- ==== Proof.FfnDown.lean ====
module

public import proofs.«01_k».proof.Defs
public import proofs.«01_k».proof.Proof.Gen.Kernel15Ideal.Frame
public import proofs.«01_k».proof.Proof.Gen.Reference15Ideal
public import proofs.«01_k».proof.Proof.Products
public import Idealize.ShloMosaic.Lib.Pipeline.ValueKit
public import Idealize.ShloMosaic.Lib.StableHlo.RunHlo
public import Idealize.ShloMosaic.Lib.Quiescent

@[expose] public section

set_option maxRecDepth 16384

noncomputable section

/-! The feed-forward layer's output projection: 32 grid points, two partial products to each block. -/

open Idealize.ShloMosaic Idealize.ShloMosaic.TcCoe Idealize.SL.Sem
open Idealize.ShloMosaic.Pipeline (Dat)
open Cert.Products

namespace Cert.Kernel15Ideal.FfnDown

open Cert.Kernel15Ideal Cert.Kernel15Ideal.Gen

variable (m : (ℓ : Loc nD τ sig) → Buf (Elt Ideal) ℓ) (ρ : Dev nD → PrngReg)

/-- A block's first point leaves its partial product. -/
theorem first (c : Dev nD) (i : grid0.Coords) (a3 : Memref sig .tc .vmem S1024x2816 .bf16) (h3 : a3.IsWhole)
    (a4 : Memref sig .tc .vmem S2816x1024 .bf16) (h4 : a4.IsWhole) (a5 : Memref sig .tc .vmem S1024x1024 .f32) (h5 : a5.IsWhole)
    (hc0 : cond0_0 i) (hc1 : ¬cond0_1 i) (x : Vec Ideal S1024x2816 .bf16) (y : Vec Ideal S2816x1024 .bf16) (j : S1024x1024.Idx) :
    out0_A_2 c i a3 h3 a4 h4 a5 h5 hc0 hc1 x y j = nn (m := 1024) (n := 1024) x y j := by
  frame_out
  unfold k0_pay1 nn
  pointwise

/-- Each later point adds its own. -/
theorem next (c : Dev nD) (i : grid0.Coords) (a3 : Memref sig .tc .vmem S1024x2816 .bf16) (h3 : a3.IsWhole)
    (a4 : Memref sig .tc .vmem S2816x1024 .bf16) (h4 : a4.IsWhole) (a5 : Memref sig .tc .vmem S1024x1024 .f32) (h5 : a5.IsWhole)
    (hc0 : ¬cond0_0 i) (hc1 : cond0_1 i) (x : Vec Ideal S1024x2816 .bf16) (y : Vec Ideal S2816x1024 .bf16)
    (o : Vec Ideal S1024x1024 .f32) (j : S1024x1024.Idx) :
    out0_B_2 c i a3 h3 a4 h4 a5 h5 hc0 hc1 x y o j = o j + nn (m := 1024) (n := 1024) x y j := by
  frame_out
  unfold k0_pay2 nn
  pointwise

/-- The points run over the two halves of the contraction first, then over the weight's columns, then over the tokens. -/
theorem at0 : ∀ t : Fin cfg0.N, win0_0.index t = ![t.val / 4, t.val % 2] := by decide +kernel
theorem at1 : ∀ t : Fin cfg0.N, win0_1.index t = ![t.val % 2, t.val / 2 % 2] := by decide +kernel
theorem at2 : ∀ t : Fin cfg0.N, win0_2.index t = ![t.val / 4, t.val / 2 % 2] := by decide +kernel

/-- Every finished block of the result holds the product's own block. -/
theorem final (c : Dev nD) : (dats m 0 c).arrAt 2 cfg0.N
    = nn (m ((c.tc : Thread nD τ).loc main_arg0)) (m ((c.tc : Thread nD τ).loc main_arg1)) := by
  refine (dats m 0 c).arrAt_eq_of_covers 2 _ (by decide +kernel) fun t hf y => ?_
  have h := Pipeline.eq_sum_fin_of_reset_step_apply_of_flush (fun n h => outsAt0 m c n h) 2 (fun _ => (0 : EReal)) _
    (fun t h j => by rw [outsAt0_A m c t h (by omega)]; exact (first ..).trans (zero_add _).symm)
    (fun t h j => by rw [outsAt0_B m c t h (by omega)]; exact next ..) t ((flush0_2 t).mp hf)
  blk_simp
  rw [after0_2]
  refine (h y).trans ?_
  rw [zero_add]
  refine Fin.sum_mul_add_congr fun s k hl => ?_
  have hN : cfg0.N = 32 := N_0
  have := t.isLt
  congr 1 <;> blk_ext [iblk, V, at0, at1, at2]

/-- The kernel's run leaves the product of its two operands in its result. -/
theorem run : θ_run defs (onTc (τ := τ) (main (F := Ideal))) ⟨m, fun _ => 0, ρ⟩ fun r => ∀ c : Dev nD,
      r.2.mem ((c.tc : Thread nD τ).loc main_v0)
        = nn (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).1 2).trans (final m c), ((h c).1 0).trans ((dats m 0 c).arrAt_in 0 rfl _),
    ((h c).1 1).trans ((dats m 0 c).arrAt_in 1 rfl _)⟩) (run_main m ρ)

end Cert.Kernel15Ideal.FfnDown

namespace Cert.Reference15Ideal.FfnDown

open Cert.Reference15Ideal Cert.Reference15Ideal.Gen

/-- The plain product leaves the same. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v2)
        = nn (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  hlo_run
  funext i
  unfold nn
  pointwise

/-- The plain product runs and leaves its operands alone. -/
theorem frame : Cert.quiescent_Reference15Ideal := fun m ρ _ =>
  (θ_run _ _ _).mono (fun _ h => ⟨fun c => (h c).2, sem_eq_zero_of_no_sems rfl _⟩) (run m ρ)

/-- The blocked product and the plain one agree. -/
theorem agree : Cert.algebraic_Kernel15Ideal_Reference15Ideal := fun m ρ m' ρ' _ hag =>
  ⟨_, Cert.Kernel15Ideal.FfnDown.run m ρ, (θ_run _ _ _).mono
    (fun _ h c => ⟨(h c).1.trans (by rw [(hag c).1, (hag c).2]), (h c).2⟩) (run m' ρ')⟩

end Cert.Reference15Ideal.FfnDown
-- ==== Proof.GsDw.lean ====
module

public import proofs.«01_k».proof.Defs
public import proofs.«01_k».proof.Proof.Gen.Kernel16Ideal.Frame
public import proofs.«01_k».proof.Proof.Gen.Reference16Ideal
public import proofs.«01_k».proof.Proof.Products
public import Idealize.ShloMosaic.Lib.Pipeline.ValueKit
public import Idealize.ShloMosaic.Lib.StableHlo.RunHlo
public import Idealize.ShloMosaic.Lib.Quiescent

@[expose] public section

set_option maxRecDepth 16384

noncomputable section

/-! The gradient of the weight to the first gate of the mixer (2048 by 2048, over 8192 tokens), written as slots 0 to 3 of
the eight that both gates share: 32 grid points, four partial products to each block. -/

open Idealize.ShloMosaic Idealize.ShloMosaic.TcCoe Idealize.SL.Sem
open Idealize.ShloMosaic.Pipeline (Dat)
open Cert.Products

namespace Cert.Kernel16Ideal.GsDw

open Cert.Kernel16Ideal Cert.Kernel16Ideal.Gen

variable (m : (ℓ : Loc nD τ sig) → Buf (Elt Ideal) ℓ) (ρ : Dev nD → PrngReg)

section Points

variable (c : Dev nD) (i : grid0.Coords) (a3 : Memref sig .tc .vmem S2048x1024 .bf16) (h3 : a3.IsWhole)
  (a4 : Memref sig .tc .vmem S2048x512 .bf16) (h4 : a4.IsWhole) (a5 : Memref sig .tc .vmem S1x1024x512 .f32) (h5 : a5.IsWhole)
  (x : Vec Ideal S2048x1024 .bf16) (y : Vec Ideal S2048x512 .bf16) (o : Vec Ideal S1x1024x512 .f32) (j : S1x1024x512.Idx)

/-- A block's first point leaves its partial product. -/
theorem first (hc0 : cond0_0 i) (hc1 : ¬cond0_1 i) :
    out0_A_2 c i a3 h3 a4 h4 a5 h5 hc0 hc1 x y j = ∑ l : Fin 2048, x (ix2 l (j 1)) * y (ix2 l (j 2)) := by
  frame_out
  unfold k0_pay1
  pointwise

/-- Each later point adds its own. -/
theorem next (hc0 : ¬cond0_0 i) (hc1 : cond0_1 i) :
    out0_B_2 c i a3 h3 a4 h4 a5 h5 hc0 hc1 x y o j = o j + ∑ l : Fin 2048, (x (ix2 l (j 1)) * y (ix2 l (j 2)) : EReal) := by
  frame_out
  unfold k0_pay2
  pointwise

end Points

/-- The points run over the blocks of tokens first, then over the slots, then over the weight's rows. -/
theorem at0 : ∀ t : Fin cfg0.N, win0_0.index t = ![t.val % 4, t.val / 16] := by decide +kernel
theorem at1 : ∀ t : Fin cfg0.N, win0_1.index t = ![t.val % 4, t.val / 4 % 4] := by decide +kernel
theorem at2 : ∀ t : Fin cfg0.N, win0_2.index t = ![t.val / 4 % 4, t.val / 16, 0] := by decide +kernel

/-- Every finished block holds the product's own block: after the last point the first four slots are the product. -/
theorem final (c : Dev nD) : (dats m 0 c).arrAt 2 cfg0.N
    = fun i => if (i 0).val < 4 then dealt (s := 8) (w := 512) 0 (m ((c.tc : Thread nD τ).loc main_arg0))
        (m ((c.tc : Thread nD τ).loc main_arg1)) i else (dats m 0 c).A 2 i := by
  refine (dats m 0 c).arrAt_eq_of_coversWhere 2 _ (fun β => β (0 : Fin _) < 4) (by decide +kernel) (fun t hf y => ?_)
    (fun j => by blk_simp [Pipeline.Window.cell_apply]; omega)
  have h := Pipeline.eq_sum_fin_of_reset_step_apply_of_flush (fun n h => outsAt0 m c n h) 4 (fun _ => (0 : EReal)) _
    (fun t h j => by rw [outsAt0_A m c t h (by omega)]; exact (first ..).trans (zero_add _).symm)
    (fun t h j => by rw [outsAt0_B m c t h (by omega)]; exact next ..) t ((flush0_2 t).mp hf)
  blk_simp
  rw [after0_2]
  refine (h y).trans ?_
  have hN : cfg0.N = 32 := N_0
  have := t.isLt
  have h0 : (y 0).val < 1 := (y 0).isLt
  have h2 : (y 2).val < 512 := (y 2).isLt
  rw [zero_add]
  refine Eq.trans ?_ (dealt_of_lt _ _ _ (by blk_simp [at2]; omega)).symm
  refine Fin.sum_mul_add_congr fun s k hl => ?_
  congr 1 <;> blk_ext [iblk, V, at0, at1, at2]

/-- The kernel's run leaves the product of its operands in the four slots returned. -/
theorem run : θ_run defs (onTc (τ := τ) (main (F := Ideal))) ⟨m, fun _ => 0, ρ⟩ fun r => ∀ c : Dev nD,
      r.2.mem ((c.tc : Thread nD τ).loc main_v1)
        = dealt (s := 4) (w := 512) 0 (m ((c.tc : Thread nD τ).loc main_arg0))
            (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  run_from Gen.run_main m ρ
  change StableHlo.after hostOps1 _ (Proc.devRef .tc main_v1) = _
  unfold hostOps1
  rw [StableHlo.after_cons]
  after_results
  erw [Pipeline.withArrays_arr (cfgs 0).spec (by decide) c (V0 m c) _ 2]
  funext i
  have h0 : (i 0).val < 4 := (i 0).isLt
  have h2 : (i 2).val < 512 := (i 2).isLt
  rw [dealt_of_lt _ _ _ (by omega)]
  pointwise
  exact (congrFun (final m c) _).trans ((if_pos h0).trans (dealt_of_lt _ _ _ (by dsimp; omega)))

end Cert.Kernel16Ideal.GsDw

namespace Cert.Reference16Ideal.GsDw

open Cert.Reference16Ideal Cert.Reference16Ideal.Gen

/-- The plain product leaves the same. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v5)
        = dealt (s := 4) (w := 512) 0 (m ((c.tc : Thread nD τ).loc main_arg0))
            (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  hlo_run
  funext i
  have h0 : (i 0).val < 4 := (i 0).isLt
  have h2 : (i 2).val < 512 := (i 2).isLt
  rw [dealt_of_lt _ _ _ (by omega)]
  pointwise

/-- The plain product runs and leaves its operands alone. -/
theorem frame : Cert.quiescent_Reference16Ideal := fun m ρ _ =>
  (θ_run _ _ _).mono (fun _ h => ⟨fun c => (h c).2, sem_eq_zero_of_no_sems rfl _⟩) (run m ρ)

/-- The blocked product and the plain one agree. -/
theorem agree : Cert.algebraic_Kernel16Ideal_Reference16Ideal := fun m ρ m' ρ' _ hag =>
  ⟨_, Cert.Kernel16Ideal.GsDw.run m ρ, (θ_run _ _ _).mono
    (fun _ h c => ⟨(h c).1.trans (by
      obtain ⟨e0, e1⟩ := hag c
      rw [e0, e1]), (h c).2⟩) (run m' ρ')⟩

end Cert.Reference16Ideal.GsDw
-- ==== Proof.GrDw.lean ====
module

public import proofs.«01_k».proof.Defs
public import proofs.«01_k».proof.Proof.Gen.Kernel17Ideal.Frame
public import proofs.«01_k».proof.Proof.Gen.Reference17Ideal
public import proofs.«01_k».proof.Proof.Products
public import Idealize.ShloMosaic.Lib.Pipeline.ValueKit
public import Idealize.ShloMosaic.Lib.StableHlo.RunHlo
public import Idealize.ShloMosaic.Lib.Quiescent

@[expose] public section

set_option maxRecDepth 16384

noncomputable section

/-! The gradient of the weight to the second gate of the mixer (2048 by 2048, over 8192 tokens), written as slots 4 to 7 of
the eight that both gates share: 32 grid points, four partial products to each block. -/

open Idealize.ShloMosaic Idealize.ShloMosaic.TcCoe Idealize.SL.Sem
open Idealize.ShloMosaic.Pipeline (Dat)
open Cert.Products

namespace Cert.Kernel17Ideal.GrDw

open Cert.Kernel17Ideal Cert.Kernel17Ideal.Gen

variable (m : (ℓ : Loc nD τ sig) → Buf (Elt Ideal) ℓ) (ρ : Dev nD → PrngReg)

section Points

variable (c : Dev nD) (i : grid0.Coords) (a3 : Memref sig .tc .vmem S2048x1024 .bf16) (h3 : a3.IsWhole)
  (a4 : Memref sig .tc .vmem S2048x512 .bf16) (h4 : a4.IsWhole) (a6 : Memref sig .tc .vmem S1x1024x512 .f32) (h6 : a6.IsWhole)
  (x : Vec Ideal S2048x1024 .bf16) (y : Vec Ideal S2048x512 .bf16) (o : Vec Ideal S1x1024x512 .f32) (j : S1x1024x512.Idx)

/-- A block's first point leaves its partial product. -/
theorem first (hc0 : cond0_0 i) (hc1 : ¬cond0_1 i) :
    out0_A_2 c i a3 h3 a4 h4 a6 h6 hc0 hc1 x y j = ∑ l : Fin 2048, x (ix2 l (j 1)) * y (ix2 l (j 2)) := by
  frame_out
  unfold k0_pay1
  pointwise

/-- Each later point adds its own. -/
theorem next (hc0 : ¬cond0_0 i) (hc1 : cond0_1 i) :
    out0_B_2 c i a3 h3 a4 h4 a6 h6 hc0 hc1 x y o j = o j + ∑ l : Fin 2048, (x (ix2 l (j 1)) * y (ix2 l (j 2)) : EReal) := by
  frame_out
  unfold k0_pay2
  pointwise

end Points

/-- The points run over the blocks of tokens first, then over the slots, then over the weight's rows. -/
theorem at0 : ∀ t : Fin cfg0.N, win0_0.index t = ![t.val % 4, t.val / 16] := by decide +kernel
theorem at1 : ∀ t : Fin cfg0.N, win0_1.index t = ![t.val % 4, t.val / 4 % 4] := by decide +kernel
theorem at2 : ∀ t : Fin cfg0.N, win0_2.index t = ![t.val / 4 % 4 + 4, t.val / 16, 0] := by decide +kernel

/-- The shared array enters the blocked part as the caller gave it. -/
theorem entry (c : Dev nD) : (dats m 0 c).A 2 = (m ((c.tc : Thread nD τ).loc main_arg2)) := by
  refine (A_eq m c 2).trans ?_
  funext i
  entry_read
  rfl

/-- Every finished block of the result holds the product's own block; the first four slots are the caller's. -/
theorem final (c : Dev nD) : (dats m 0 c).arrAt 2 cfg0.N
    = dealtOnto (s := 8) (w := 512) 4 (m ((c.tc : Thread nD τ).loc main_arg2))
            (m ((c.tc : Thread nD τ).loc main_arg0)) (m ((c.tc : Thread nD τ).loc main_arg1)) := by
  refine ((dats m 0 c).arrAt_eq_of_coversWhere (P := fun i => 4 ≤ (i 0).val) 2
    (dealt (s := 8) (w := 512) 4 (m ((c.tc : Thread nD τ).loc main_arg0)) (m ((c.tc : Thread nD τ).loc main_arg1)))
    (fun β => 4 ≤ β (0 : Fin _)) (by decide +kernel) (fun t hf y => ?_)
    (fun j => by blk_simp [Pipeline.Window.cell_apply]; omega)).trans (by rw [entry]; rfl)
  have h := Pipeline.eq_sum_fin_of_reset_step_apply_of_flush (fun n h => outsAt0 m c n h) 4 (fun _ => (0 : EReal)) _
    (fun t h j => by rw [outsAt0_A m c t h (by omega)]; exact (first ..).trans (zero_add _).symm)
    (fun t h j => by rw [outsAt0_B m c t h (by omega)]; exact next ..) t ((flush0_2 t).mp hf)
  blk_simp
  rw [after0_2]
  refine (h y).trans ?_
  have hN : cfg0.N = 32 := N_0
  have := t.isLt
  have h0 : (y 0).val < 1 := (y 0).isLt
  have h2 : (y 2).val < 512 := (y 2).isLt
  rw [zero_add]
  refine Eq.trans ?_ (dealt_of_lt _ _ _ (by blk_simp [at2]; omega)).symm
  refine Fin.sum_mul_add_congr fun s k hl => ?_
  congr 1 <;> blk_ext [iblk, V, at0, at1, at2]

/-- The kernel's run leaves the product of its operands in the last four slots of the shared array. -/
theorem run : θ_run defs (onTc (τ := τ) (main (F := Ideal))) ⟨m, fun _ => 0, ρ⟩ fun r => ∀ c : Dev nD,
      r.2.mem ((c.tc : Thread nD τ).loc main_v0)
        = dealtOnto (s := 8) (w := 512) 4 (m ((c.tc : Thread nD τ).loc main_arg2))
            (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  run_from Gen.run_main m ρ
  exact final m c

end Cert.Kernel17Ideal.GrDw

namespace Cert.Reference17Ideal.GrDw

open Cert.Reference17Ideal Cert.Reference17Ideal.Gen

/-- The plain product leaves the same. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v7)
        = dealtOnto (s := 8) (w := 512) 4 (m ((c.tc : Thread nD τ).loc main_arg2))
            (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  hlo_run
  funext i
  have h0 : (i 0).val < 8 := (i 0).isLt
  have h2 : (i 2).val < 512 := (i 2).isLt
  by_cases h4 : 4 ≤ (i 0).val
  · rw [dealtOnto_of_le _ _ _ _ h4, dealt_of_lt _ _ _ (by omega)]
    pointwise
    exact dif_neg (by omega)
  · rw [dealtOnto_of_lt _ _ _ _ (by omega)]
    pointwise
    exact dif_pos (by omega)

/-- The plain product runs and leaves its operands alone. -/
theorem frame : Cert.quiescent_Reference17Ideal := fun m ρ _ =>
  (θ_run _ _ _).mono (fun _ h => ⟨fun c => (h c).2, sem_eq_zero_of_no_sems rfl _⟩) (run m ρ)

/-- The blocked product and the plain one agree. -/
theorem agree : Cert.algebraic_Kernel17Ideal_Reference17Ideal := fun m ρ m' ρ' _ hag =>
  ⟨_, Cert.Kernel17Ideal.GrDw.run m ρ, (θ_run _ _ _).mono
    (fun _ h c => ⟨(h c).1.trans (by
      obtain ⟨e0, e1, e2⟩ := hag c
      rw [e0, e1, e2]), (h c).2⟩) (run m' ρ')⟩

end Cert.Reference17Ideal.GrDw
-- ==== Proof.OutO.lean ====
module

public import proofs.«01_k».proof.Defs
public import proofs.«01_k».proof.Proof.Gen.Kernel18Ideal.Frame
public import proofs.«01_k».proof.Proof.Gen.Reference18Ideal
public import proofs.«01_k».proof.Proof.Products
public import Idealize.ShloMosaic.Lib.Pipeline.ValueKit
public import Idealize.ShloMosaic.Lib.StableHlo.RunHlo
public import Idealize.ShloMosaic.Lib.Quiescent

@[expose] public section

set_option maxRecDepth 16384

noncomputable section

/-! The mixer's output projection (2048 by 2048, over 8192 tokens), its result in float32: 16 grid points, a block of the result each. -/

open Idealize.ShloMosaic Idealize.ShloMosaic.TcCoe Idealize.SL.Sem
open Idealize.ShloMosaic.Pipeline (Dat)
open Cert.Products

namespace Cert.Kernel18Ideal.OutO

open Cert.Kernel18Ideal Cert.Kernel18Ideal.Gen

variable (m : (ℓ : Loc nD τ sig) → Buf (Elt Ideal) ℓ) (ρ : Dev nD → PrngReg)

/-- The points run over the weight's columns first, then over the tokens. -/
theorem at0 : ∀ t : Fin cfg0.N, win0_0.index t = ![t.val / 2, 0] := by decide +kernel
theorem at1 : ∀ t : Fin cfg0.N, win0_1.index t = ![0, t.val % 2] := by decide +kernel
theorem at2 : ∀ t : Fin cfg0.N, win0_2.index t = ![t.val / 2, t.val % 2] := by decide +kernel

/-- A grid point leaves the product of its two blocks. -/
theorem block (x : Vec Ideal S1024x2048 .bf16) (y : Vec Ideal S2048x1024 .bf16) (j : S1024x1024.Idx) :
    out0_2 x y j = nn (m := 1024) (n := 1024) x y j := by
  frame_out
  unfold k0_pay1 nn
  pointwise

/-- Every block of the result holds the product's own block. -/
theorem final (c : Dev nD) : (dats m 0 c).arrAt 2 cfg0.N
    = nn (m ((c.tc : Thread nD τ).loc main_arg0)) (m ((c.tc : Thread nD τ).loc main_arg1)) := by
  refine (dats m 0 c).arrAt_eq_of_covers 2 _ (by decide +kernel) fun t hf y => ?_
  blk_simp
  rw [after0_2]
  refine (block ..).trans ?_
  unfold nn
  refine Finset.sum_congr rfl fun k _ => ?_
  congr 1 <;> blk_ext [iblk, V, at0, at1, at2]

/-- The kernel's run leaves the product of its two operands in its result. -/
theorem run : θ_run defs (onTc (τ := τ) (main (F := Ideal))) ⟨m, fun _ => 0, ρ⟩ fun r => ∀ c : Dev nD,
      r.2.mem ((c.tc : Thread nD τ).loc main_v0)
        = nn (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).1 2).trans (final m c), ((h c).1 0).trans ((dats m 0 c).arrAt_in 0 rfl _),
    ((h c).1 1).trans ((dats m 0 c).arrAt_in 1 rfl _)⟩) (run_main m ρ)

end Cert.Kernel18Ideal.OutO

namespace Cert.Reference18Ideal.OutO

open Cert.Reference18Ideal Cert.Reference18Ideal.Gen

/-- The plain product leaves the same. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v2)
        = nn (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  hlo_run
  funext i
  unfold nn
  pointwise

/-- The plain product runs and leaves its operands alone. -/
theorem frame : Cert.quiescent_Reference18Ideal := fun m ρ _ =>
  (θ_run _ _ _).mono (fun _ h => ⟨fun c => (h c).2, sem_eq_zero_of_no_sems rfl _⟩) (run m ρ)

/-- The blocked product and the plain one agree. -/
theorem agree : Cert.algebraic_Kernel18Ideal_Reference18Ideal := fun m ρ m' ρ' _ hag =>
  ⟨_, Cert.Kernel18Ideal.OutO.run m ρ, (θ_run _ _ _).mono
    (fun _ h c => ⟨(h c).1.trans (by rw [(hag c).1, (hag c).2]), (h c).2⟩) (run m' ρ')⟩

end Cert.Reference18Ideal.OutO
-- ==== Proof.ProjXbc.lean ====
module

public import proofs.«01_k».proof.Defs
public import proofs.«01_k».proof.Proof.Gen.Kernel19Ideal.Frame
public import proofs.«01_k».proof.Proof.Gen.Reference19Ideal
public import proofs.«01_k».proof.Proof.Products
public import Idealize.ShloMosaic.Lib.Pipeline.ValueKit
public import Idealize.ShloMosaic.Lib.StableHlo.RunHlo
public import Idealize.ShloMosaic.Lib.Quiescent

@[expose] public section

set_option maxRecDepth 16384

noncomputable section

/-! The projection into the state-space branch (2048 by 3072, over 8192 tokens): 24 grid points, a block of the result each. -/

open Idealize.ShloMosaic Idealize.ShloMosaic.TcCoe Idealize.SL.Sem
open Idealize.ShloMosaic.Pipeline (Dat)
open Cert.Products

namespace Cert.Kernel19Ideal.ProjXbc

open Cert.Kernel19Ideal Cert.Kernel19Ideal.Gen

variable (m : (ℓ : Loc nD τ sig) → Buf (Elt Ideal) ℓ) (ρ : Dev nD → PrngReg)

/-- The points run over the weight's columns first, then over the tokens. -/
theorem at0 : ∀ t : Fin cfg0.N, win0_0.index t = ![t.val / 3, 0] := by decide +kernel
theorem at1 : ∀ t : Fin cfg0.N, win0_1.index t = ![0, t.val % 3] := by decide +kernel
theorem at2 : ∀ t : Fin cfg0.N, win0_2.index t = ![t.val / 3, t.val % 3] := by decide +kernel

/-- A grid point leaves the product of its two blocks. -/
theorem block (x : Vec Ideal S1024x2048 .bf16) (y : Vec Ideal S2048x1024 .bf16) (j : S1024x1024.Idx) :
    out0_2 x y j = nn (m := 1024) (n := 1024) x y j := by
  frame_out
  unfold k0_pay1 nn
  pointwise

/-- Every block of the result holds the product's own block. -/
theorem final (c : Dev nD) : (dats m 0 c).arrAt 2 cfg0.N
    = nn (m ((c.tc : Thread nD τ).loc main_arg0)) (m ((c.tc : Thread nD τ).loc main_arg1)) := by
  refine (dats m 0 c).arrAt_eq_of_covers 2 _ (by decide +kernel) fun t hf y => ?_
  blk_simp
  rw [after0_2]
  refine (block ..).trans ?_
  unfold nn
  refine Finset.sum_congr rfl fun k _ => ?_
  congr 1 <;> blk_ext [iblk, V, at0, at1, at2]

/-- The kernel's run leaves the product of its two operands in its result. -/
theorem run : θ_run defs (onTc (τ := τ) (main (F := Ideal))) ⟨m, fun _ => 0, ρ⟩ fun r => ∀ c : Dev nD,
      r.2.mem ((c.tc : Thread nD τ).loc main_v0)
        = nn (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).1 2).trans (final m c), ((h c).1 0).trans ((dats m 0 c).arrAt_in 0 rfl _),
    ((h c).1 1).trans ((dats m 0 c).arrAt_in 1 rfl _)⟩) (run_main m ρ)

end Cert.Kernel19Ideal.ProjXbc

namespace Cert.Reference19Ideal.ProjXbc

open Cert.Reference19Ideal Cert.Reference19Ideal.Gen

/-- The plain product leaves the same. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v2)
        = nn (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  hlo_run
  funext i
  unfold nn
  pointwise

/-- The plain product runs and leaves its operands alone. -/
theorem frame : Cert.quiescent_Reference19Ideal := fun m ρ _ =>
  (θ_run _ _ _).mono (fun _ h => ⟨fun c => (h c).2, sem_eq_zero_of_no_sems rfl _⟩) (run m ρ)

/-- The blocked product and the plain one agree. -/
theorem agree : Cert.algebraic_Kernel19Ideal_Reference19Ideal := fun m ρ m' ρ' _ hag =>
  ⟨_, Cert.Kernel19Ideal.ProjXbc.run m ρ, (θ_run _ _ _).mono
    (fun _ h c => ⟨(h c).1.trans (by rw [(hag c).1, (hag c).2]), (h c).2⟩) (run m' ρ')⟩

end Cert.Reference19Ideal.ProjXbc
-- ==== Proof.XrDw.lean ====
module

public import proofs.«01_k».proof.Defs
public import proofs.«01_k».proof.Proof.Gen.Kernel20Ideal.Frame
public import proofs.«01_k».proof.Proof.Gen.Reference20Ideal
public import proofs.«01_k».proof.Proof.Products
public import Idealize.ShloMosaic.Lib.Pipeline.ValueKit
public import Idealize.ShloMosaic.Lib.StableHlo.RunHlo
public import Idealize.ShloMosaic.Lib.Quiescent

@[expose] public section

set_option maxRecDepth 16384

noncomputable section

/-! The gradient of the recurrence's input weight, over the 8192 tokens and the 256 of the context: 20 grid
points, four partial products of the tokens and one of the context to each block. -/

open Idealize.ShloMosaic Idealize.ShloMosaic.TcCoe Idealize.SL.Sem
open Idealize.ShloMosaic.Pipeline (Dat)
open Cert.Products

namespace Cert.Kernel20Ideal.XrDw

open Cert.Kernel20Ideal Cert.Kernel20Ideal.Gen

variable (m : (ℓ : Loc nD τ sig) → Buf (Elt Ideal) ℓ) (ρ : Dev nD → PrngReg)

section Points

variable (c : Dev nD) (i : grid0.Coords) (a3 : Memref sig .tc .vmem S2048x1024 .bf16) (h3 : a3.IsWhole)
  (a4 : Memref sig .tc .vmem S2048x1024 .f32) (h4 : a4.IsWhole) (a5 : Memref sig .tc .vmem S256x1024 .bf16) (h5 : a5.IsWhole)
  (a6 : Memref sig .tc .vmem S256x1024 .f32) (h6 : a6.IsWhole) (a7 : Memref sig .tc .vmem S1024x1024 .f32) (h7 : a7.IsWhole)
  (x : Vec Ideal S2048x1024 .bf16) (y : Vec Ideal S2048x1024 .f32) (u : Vec Ideal S256x1024 .bf16) (v : Vec Ideal S256x1024 .f32)
  (o : Vec Ideal S1024x1024 .f32) (j : S1024x1024.Idx)

/-- A block's first point leaves its partial product. -/
theorem first (hc0 : cond0_0 i) (hc1 : ¬cond0_1 i) (hc2 : ¬cond0_2 i) :
    out0_A_4 c i a3 h3 a4 h4 a5 h5 a6 h6 a7 h7 hc0 hc1 hc2 x y u v j = tn (m := 1024) (n := 1024) x y j := by
  frame_out
  unfold k0_pay1 tn
  pointwise

/-- The next three add their own. -/
theorem next (hc0 : ¬cond0_0 i) (hc1 : cond0_1 i) (hc2 : ¬cond0_2 i) :
    out0_B_4 c i a3 h3 a4 h4 a5 h5 a6 h6 a7 h7 hc0 hc1 hc2 x y u v o j = o j + tn (m := 1024) (n := 1024) x y j := by
  frame_out
  unfold k0_pay2 tn
  pointwise

/-- The last adds the context's. -/
theorem last (hc0 : ¬cond0_0 i) (hc1 : ¬cond0_1 i) (hc2 : cond0_2 i) :
    out0_C_4 c i a3 h3 a4 h4 a5 h5 a6 h6 a7 h7 hc0 hc1 hc2 x y u v o j = o j + tn (m := 1024) (n := 1024) u v j := by
  frame_out
  unfold k0_pay3 tn
  pointwise

end Points

/-- The points run over the blocks of tokens and the context first, then over the result's columns, then its rows. -/
theorem at0 : ∀ t : Fin cfg0.N, win0_0.index t = ![min (t.val % 5) 3, t.val / 10] := by decide +kernel
theorem at1 : ∀ t : Fin cfg0.N, win0_1.index t = ![min (t.val % 5) 3, t.val / 5 % 2] := by decide +kernel
theorem at2 : ∀ t : Fin cfg0.N, win0_2.index t = ![0, t.val / 10] := by decide +kernel
theorem at3 : ∀ t : Fin cfg0.N, win0_3.index t = ![0, t.val / 5 % 2] := by decide +kernel
theorem at4 : ∀ t : Fin cfg0.N, win0_4.index t = ![t.val / 10, t.val / 5 % 2] := by decide +kernel

/-- What a point adds to its block. -/
def part (c : Dev nD) (t : Fin cfg0.N) : S1024x1024.Idx → EReal :=
  if t.val % 5 = 4 then tn (iblk m c 2 t : Vec Ideal S256x1024 .bf16) (iblk m c 3 t : Vec Ideal S256x1024 .f32)
  else tn (iblk m c 0 t : Vec Ideal S2048x1024 .bf16) (iblk m c 1 t : Vec Ideal S2048x1024 .f32)

/-- Every finished block of the result holds the two products' own blocks, added. -/
theorem final (c : Dev nD) : (dats m 0 c).arrAt 4 cfg0.N
    = onto (tn (m ((c.tc : Thread nD τ).loc main_arg0)) (m ((c.tc : Thread nD τ).loc main_arg2)))
        (tn (m ((c.tc : Thread nD τ).loc main_arg1)) (m ((c.tc : Thread nD τ).loc main_arg3))) := by
  refine (dats m 0 c).arrAt_eq_of_covers 4 _ (by decide +kernel) fun t hf y => ?_
  have h := Pipeline.eq_sum_fin_of_reset_step_apply_of_flush (fun n h => outsAt0 m c n h) 5 (fun _ => (0 : EReal)) (part m c)
    (fun t h j => by
      rw [outsAt0_A m c t h (by omega) (by omega), zero_add]
      unfold part
      rw [if_neg (by omega)]
      exact first ..)
    (fun t h j => by
      unfold part
      by_cases h4 : t.val % 5 = 4
      · rw [outsAt0_C m c t h (by omega) h4, if_pos h4]
        exact last ..
      · rw [outsAt0_B m c t h (by omega) h4, if_neg h4]
        exact next ..) t ((flush0_4 t).mp hf)
  blk_simp
  rw [after0_4]
  refine (h y).trans ?_
  have hN : cfg0.N = 20 := N_0
  have := t.isLt
  rw [zero_add, Fin.sum_univ_castSucc]
  unfold part onto
  refine congrArg₂ (fun p q : EReal => p + q) ?_ ?_
  · have e : ∀ s : Fin 4, ¬(5 * (t.val / 5) + s.castSucc.val) % 5 = 4 := fun s => by rw [Fin.val_castSucc]; omega
    simp only [e, if_false]
    refine Fin.sum_mul_add_congr fun s k hl => ?_
    have e' : min ((5 * (t.val / 5) + s.castSucc.val) % 5) 3 = s.val := by rw [Fin.val_castSucc]; omega
    congr 1 <;> blk_ext [iblk, V, at0, at1, at4, e', Fin.val_castSucc]
  · rw [if_pos (by simp)]
    unfold tn
    refine Finset.sum_congr rfl fun k _ => ?_
    congr 1 <;> blk_ext [iblk, V, at2, at3, at4]

/-- The kernel's run leaves the sum of the two products in its result. -/
theorem run : θ_run defs (onTc (τ := τ) (main (F := Ideal))) ⟨m, fun _ => 0, ρ⟩ fun r => ∀ c : Dev nD,
      r.2.mem ((c.tc : Thread nD τ).loc main_v0)
        = onto (tn (m ((c.tc : Thread nD τ).loc main_arg0)) (m ((c.tc : Thread nD τ).loc main_arg2)))
          (tn (m ((c.tc : Thread nD τ).loc main_arg1)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h c).1 4).trans (final m c), ((h c).1 0).trans ((dats m 0 c).arrAt_in 0 rfl _),
    ((h c).1 2).trans ((dats m 0 c).arrAt_in 2 rfl _), ((h c).1 1).trans ((dats m 0 c).arrAt_in 1 rfl _),
    ((h c).1 3).trans ((dats m 0 c).arrAt_in 3 rfl _)⟩) (run_main m ρ)

end Cert.Kernel20Ideal.XrDw

namespace Cert.Reference20Ideal.XrDw

open Cert.Reference20Ideal Cert.Reference20Ideal.Gen

/-- The plain sum leaves the same. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v6)
        = onto (tn (m ((c.tc : Thread nD τ).loc main_arg0)) (m ((c.tc : Thread nD τ).loc main_arg2)))
          (tn (m ((c.tc : Thread nD τ).loc main_arg1)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  hlo_run
  funext i
  unfold onto tn
  pointwise

/-- The plain sum runs and leaves its operands alone. -/
theorem frame : Cert.quiescent_Reference20Ideal := fun m ρ _ =>
  (θ_run _ _ _).mono (fun _ h => ⟨fun c => (h c).2, sem_eq_zero_of_no_sems rfl _⟩) (run m ρ)

/-- The blocked sum and the plain one agree. -/
theorem agree : Cert.algebraic_Kernel20Ideal_Reference20Ideal := fun m ρ m' ρ' _ hag =>
  ⟨_, Cert.Kernel20Ideal.XrDw.run m ρ, (θ_run _ _ _).mono
    (fun _ h c => ⟨(h c).1.trans (by rw [(hag c).1, (hag c).2.1, (hag c).2.2.1, (hag c).2.2.2]), (h c).2⟩) (run m' ρ')⟩

end Cert.Reference20Ideal.XrDw
-- ==== Proof.ProjDx0.lean ====
module

public import proofs.«01_k».proof.Defs
public import proofs.«01_k».proof.Proof.Gen.Kernel21Ideal.Frame
public import proofs.«01_k».proof.Proof.Gen.Reference21Ideal
public import proofs.«01_k».proof.Proof.Products
public import Idealize.ShloMosaic.Lib.Pipeline.ValueKit
public import Idealize.ShloMosaic.Lib.StableHlo.RunHlo
public import Idealize.ShloMosaic.Lib.Quiescent

@[expose] public section

set_option maxRecDepth 16384

noncomputable section

/-! Backward through the projection into the recurrence (2048 by 2048, over 8192 tokens), from a float32 cotangent: 16 grid points, a block of the result each. -/

open Idealize.ShloMosaic Idealize.ShloMosaic.TcCoe Idealize.SL.Sem
open Idealize.ShloMosaic.Pipeline (Dat)
open Cert.Products

namespace Cert.Kernel21Ideal.ProjDx0

open Cert.Kernel21Ideal Cert.Kernel21Ideal.Gen

variable (m : (ℓ : Loc nD τ sig) → Buf (Elt Ideal) ℓ) (ρ : Dev nD → PrngReg)

/-- The points run over the weight's rows first, then over the tokens. -/
theorem at0 : ∀ t : Fin cfg0.N, win0_0.index t = ![t.val / 2, 0] := by decide +kernel
theorem at1 : ∀ t : Fin cfg0.N, win0_1.index t = ![t.val % 2, 0] := by decide +kernel
theorem at2 : ∀ t : Fin cfg0.N, win0_2.index t = ![t.val / 2, t.val % 2] := by decide +kernel

/-- A grid point leaves the product of its two blocks. -/
theorem block (x : Vec Ideal S1024x2048 .f32) (y : Vec Ideal S1024x2048 .bf16) (j : S1024x1024.Idx) :
    out0_2 x y j = nt (m := 1024) (n := 1024) x y j := by
  frame_out
  unfold k0_pay1 nt
  pointwise

/-- Every block of the result holds the product's own block. -/
theorem final (c : Dev nD) : (dats m 0 c).arrAt 2 cfg0.N
    = nt (m ((c.tc : Thread nD τ).loc main_arg0)) (m ((c.tc : Thread nD τ).loc main_arg1)) := by
  refine (dats m 0 c).arrAt_eq_of_covers 2 _ (by decide +kernel) fun t hf y => ?_
  blk_simp
  rw [after0_2]
  refine (block ..).trans ?_
  unfold nt
  refine Finset.sum_congr rfl fun k _ => ?_
  congr 1 <;> blk_ext [iblk, V, at0, at1, at2]

/-- The kernel's run leaves the product of its two operands in its result. -/
theorem run : θ_run defs (onTc (τ := τ) (main (F := Ideal))) ⟨m, fun _ => 0, ρ⟩ fun r => ∀ c : Dev nD,
      r.2.mem ((c.tc : Thread nD τ).loc main_v0)
        = nt (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).1 2).trans (final m c), ((h c).1 0).trans ((dats m 0 c).arrAt_in 0 rfl _),
    ((h c).1 1).trans ((dats m 0 c).arrAt_in 1 rfl _)⟩) (run_main m ρ)

end Cert.Kernel21Ideal.ProjDx0

namespace Cert.Reference21Ideal.ProjDx0

open Cert.Reference21Ideal Cert.Reference21Ideal.Gen

/-- The plain product leaves the same. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v2)
        = nt (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  hlo_run
  funext i
  unfold nt
  pointwise

/-- The plain product runs and leaves its operands alone. -/
theorem frame : Cert.quiescent_Reference21Ideal := fun m ρ _ =>
  (θ_run _ _ _).mono (fun _ h => ⟨fun c => (h c).2, sem_eq_zero_of_no_sems rfl _⟩) (run m ρ)

/-- The blocked product and the plain one agree. -/
theorem agree : Cert.algebraic_Kernel21Ideal_Reference21Ideal := fun m ρ m' ρ' _ hag =>
  ⟨_, Cert.Kernel21Ideal.ProjDx0.run m ρ, (θ_run _ _ _).mono
    (fun _ h c => ⟨(h c).1.trans (by rw [(hag c).1, (hag c).2]), (h c).2⟩) (run m' ρ')⟩

end Cert.Reference21Ideal.ProjDx0
-- ==== Proof.ProjDx1.lean ====
module

public import proofs.«01_k».proof.Defs
public import proofs.«01_k».proof.Proof.Gen.Kernel22Ideal.Frame
public import proofs.«01_k».proof.Proof.Gen.Reference22Ideal
public import proofs.«01_k».proof.Proof.Products
public import Idealize.ShloMosaic.Lib.Pipeline.ValueKit
public import Idealize.ShloMosaic.Lib.StableHlo.RunHlo
public import Idealize.ShloMosaic.Lib.Quiescent

@[expose] public section

set_option maxRecDepth 16384

noncomputable section

/-! Backward through three projections to the mixer's input (2048, 3072 and 128 columns), added onto what another branch
gave: 80 grid points, two partial products of the first projection, two of the second and the third's to each block. -/

open Idealize.ShloMosaic Idealize.ShloMosaic.TcCoe Idealize.SL.Sem
open Idealize.ShloMosaic.Pipeline (Dat)
open Cert.Products

namespace Cert.Kernel22Ideal.ProjDx1

open Cert.Kernel22Ideal Cert.Kernel22Ideal.Gen

variable (m : (ℓ : Loc nD τ sig) → Buf (Elt Ideal) ℓ) (ρ : Dev nD → PrngReg)

section Points

variable (c : Dev nD) (i : grid0.Coords) (a3 : Memref sig .tc .vmem S1024x1024 .bf16) (h3 : a3.IsWhole) (a4 : Memref sig .tc .vmem S1024x1024 .bf16) (h4 : a4.IsWhole)
  (a5 : Memref sig .tc .vmem S1024x1536 .f32) (h5 : a5.IsWhole) (a6 : Memref sig .tc .vmem S1024x1536 .bf16) (h6 : a6.IsWhole)
  (a7 : Memref sig .tc .vmem S1024x128 .f32) (h7 : a7.IsWhole) (a8 : Memref sig .tc .vmem S1024x128 .bf16) (h8 : a8.IsWhole)
  (a9 : Memref sig .tc .vmem S1024x1024 .f32) (h9 : a9.IsWhole) (a10 : Memref sig .tc .vmem S1024x1024 .f32) (h10 : a10.IsWhole)
  (x0 x1 : Vec Ideal S1024x1024 .bf16) (x2 : Vec Ideal S1024x1536 .f32) (x3 : Vec Ideal S1024x1536 .bf16)
  (x4 : Vec Ideal S1024x128 .f32) (x5 : Vec Ideal S1024x128 .bf16) (z o : Vec Ideal S1024x1024 .f32) (j : S1024x1024.Idx)

/-- A block's first point leaves the block given plus its partial product. -/
theorem first (hc0 : cond0_0 i) (hc1 : ¬cond0_1 i) (hc2 : ¬cond0_2 i) (hc3 : ¬cond0_3 i) :
    out0_A_7 c i a3 h3 a4 h4 a5 h5 a6 h6 a7 h7 a8 h8 a9 h9 a10 h10 hc0 hc1 hc2 hc3 x0 x1 x2 x3 x4 x5 z j
      = z j + nt (m := 1024) (n := 1024) x0 x1 j := by
  frame_out
  unfold k0_pay1 nt
  pointwise
  exact add_comm ..

/-- The second adds the first projection's other half. -/
theorem second (hc0 : ¬cond0_0 i) (hc1 : cond0_1 i) (hc2 : ¬cond0_2 i) (hc3 : ¬cond0_3 i) :
    out0_B_7 c i a3 h3 a4 h4 a5 h5 a6 h6 a7 h7 a8 h8 a9 h9 a10 h10 hc0 hc1 hc2 hc3 x0 x1 x2 x3 x4 x5 z o j
      = o j + nt (m := 1024) (n := 1024) x0 x1 j := by
  frame_out
  unfold k0_pay2 nt
  pointwise

/-- The next two add the second projection's halves. -/
theorem next (hc0 : ¬cond0_0 i) (hc1 : ¬cond0_1 i) (hc2 : cond0_2 i) (hc3 : ¬cond0_3 i) :
    out0_C_7 c i a3 h3 a4 h4 a5 h5 a6 h6 a7 h7 a8 h8 a9 h9 a10 h10 hc0 hc1 hc2 hc3 x0 x1 x2 x3 x4 x5 z o j
      = o j + nt (m := 1024) (n := 1024) x2 x3 j := by
  frame_out
  unfold k0_pay3 nt
  pointwise

/-- The last adds the third projection's product. -/
theorem last (hc0 : ¬cond0_0 i) (hc1 : ¬cond0_1 i) (hc2 : ¬cond0_2 i) (hc3 : cond0_3 i) :
    out0_D_7 c i a3 h3 a4 h4 a5 h5 a6 h6 a7 h7 a8 h8 a9 h9 a10 h10 hc0 hc1 hc2 hc3 x0 x1 x2 x3 x4 x5 z o j
      = o j + nt (m := 1024) (n := 1024) x4 x5 j := by
  frame_out
  unfold k0_pay4 nt
  pointwise

end Points

/-- The points run over the parts of the contractions first, then over the weights' rows, then over the tokens. -/
theorem at0 : ∀ t : Fin cfg0.N, win0_0.index t = ![t.val / 10, min (t.val % 5) 1] := by decide +kernel
theorem at1 : ∀ t : Fin cfg0.N, win0_1.index t = ![t.val / 5 % 2, min (t.val % 5) 1] := by decide +kernel
theorem at2 : ∀ t : Fin cfg0.N, win0_2.index t = ![t.val / 10, min (t.val % 5 - 2) 1] := by decide +kernel
theorem at3 : ∀ t : Fin cfg0.N, win0_3.index t = ![t.val / 5 % 2, min (t.val % 5 - 2) 1] := by decide +kernel
theorem at4 : ∀ t : Fin cfg0.N, win0_4.index t = ![t.val / 10, 0] := by decide +kernel
theorem at5 : ∀ t : Fin cfg0.N, win0_5.index t = ![t.val / 5 % 2, 0] := by decide +kernel
theorem at6 : ∀ t : Fin cfg0.N, win0_6.index t = ![t.val / 10, t.val / 5 % 2] := by decide +kernel
theorem at7 : ∀ t : Fin cfg0.N, win0_7.index t = ![t.val / 10, t.val / 5 % 2] := by decide +kernel

/-- What a point adds to its block. -/
def part (c : Dev nD) (t : Fin cfg0.N) : S1024x1024.Idx → EReal :=
  if t.val % 5 < 2 then
    onto (m := 1024) (n := 1024) (fun i => if t.val % 5 = 0 then (iblk m c 6 t : Vec Ideal S1024x1024 .f32) i else 0)
      (nt (iblk m c 0 t : Vec Ideal S1024x1024 .bf16) (iblk m c 1 t : Vec Ideal S1024x1024 .bf16))
  else if t.val % 5 < 4 then nt (iblk m c 2 t : Vec Ideal S1024x1536 .f32) (iblk m c 3 t : Vec Ideal S1024x1536 .bf16)
  else nt (iblk m c 4 t : Vec Ideal S1024x128 .f32) (iblk m c 5 t : Vec Ideal S1024x128 .bf16)

/-- Every finished block of the result holds the given block plus the three products' own. -/
theorem final (c : Dev nD) : (dats m 0 c).arrAt 7 cfg0.N
    = onto (onto (onto (m ((c.tc : Thread nD τ).loc main_arg6))
            (nt (m ((c.tc : Thread nD τ).loc main_arg0)) (m ((c.tc : Thread nD τ).loc main_arg1))))
            (nt (m ((c.tc : Thread nD τ).loc main_arg2)) (m ((c.tc : Thread nD τ).loc main_arg3))))
            (nt (m ((c.tc : Thread nD τ).loc main_arg4)) (m ((c.tc : Thread nD τ).loc main_arg5))) := by
  refine (dats m 0 c).arrAt_eq_of_covers 7 _ (by decide +kernel) fun t hf y => ?_
  have h := Pipeline.eq_sum_fin_of_reset_step_apply_of_flush (fun n h => outsAt0 m c n h) 5 (fun _ => (0 : EReal)) (part m c)
    (fun t h j => by
      rw [outsAt0_A m c t h (by omega) (by omega) (by omega), zero_add]
      unfold part onto
      rw [if_pos (by omega)]
      dsimp only
      rw [if_pos h]
      exact first ..)
    (fun t h j => by
      unfold part
      by_cases h1 : t.val % 5 = 1
      · rw [outsAt0_B m c t h h1 (by omega) (by omega), if_pos (by omega)]
        unfold onto
        dsimp only
        rw [if_neg h, zero_add]
        exact second ..
      · rw [if_neg (by omega)]
        by_cases h4 : t.val % 5 = 4
        · rw [outsAt0_D m c t h h1 (by omega) h4, if_neg (by omega)]
          exact last ..
        · rw [outsAt0_C m c t h h1 (by omega) h4, if_pos (by omega)]
          exact next ..) t ((flush0_7 t).mp hf)
  blk_simp
  rw [after0_7]
  refine (h y).trans ?_
  have hN : cfg0.N = 80 := N_0
  have := t.isLt
  rw [zero_add, Fin.sum_univ_castSucc]
  refine congrArg₂ (fun p q : EReal => p + q) ((Fin.sum_univ_add (a := 2) (b := 2) _).trans
    (congrArg₂ (fun p q : EReal => p + q) ?_ ?_)) ?_
  · have e (s : Fin 2) : (5 * (t.val / 5) + (Fin.castAdd 2 s).castSucc.val) % 5 = s.val := by
      rw [Fin.val_castSucc, Fin.val_castAdd]; omega
    unfold part onto
    simp only [e, Fin.is_lt, if_true]
    rw [Finset.sum_add_distrib]
    refine congrArg₂ (fun p q : EReal => p + q) ?_ ?_
    · rw [Fin.sum_univ_two]
      rw [if_pos (by rfl), if_neg (by simp), add_zero]
      blk_ext [iblk, V, at6, at7]
    refine Fin.sum_mul_add_congr fun s k hl => ?_
    have e' : min ((5 * (t.val / 5) + (Fin.castAdd 2 s).castSucc.val) % 5) 1 = s.val := by rw [e]; omega
    congr 1 <;> blk_ext [iblk, V, at0, at1, at7, e', Fin.val_castSucc, Fin.val_castAdd]
  · have e (s : Fin 2) : (5 * (t.val / 5) + (Fin.natAdd 2 s).castSucc.val) % 5 = 2 + s.val := by
      rw [Fin.val_castSucc, Fin.val_natAdd]; omega
    unfold part
    have e0 (s : Fin 2) : ¬2 + s.val < 2 := by omega
    have e1 (s : Fin 2) : 2 + s.val < 4 := by omega
    simp only [e, e0, e1, if_true, if_false]
    refine Fin.sum_mul_add_congr fun s k hl => ?_
    have e' : min ((5 * (t.val / 5) + (Fin.natAdd 2 s).castSucc.val) % 5 - 2) 1 = s.val := by rw [e]; omega
    congr 1 <;> blk_ext [iblk, V, at2, at3, at7, e', Fin.val_castSucc, Fin.val_natAdd]
  · unfold part
    rw [if_neg (by simp), if_neg (by simp)]
    unfold nt
    refine Finset.sum_congr rfl fun k _ => ?_
    congr 1 <;> blk_ext [iblk, V, at4, at5, at7]

/-- The kernel's run leaves what it was given plus the three products in its result. -/
theorem run : θ_run defs (onTc (τ := τ) (main (F := Ideal))) ⟨m, fun _ => 0, ρ⟩ fun r => ∀ c : Dev nD,
      r.2.mem ((c.tc : Thread nD τ).loc main_v0)
        = onto (onto (onto (m ((c.tc : Thread nD τ).loc main_arg6))
            (nt (m ((c.tc : Thread nD τ).loc main_arg0)) (m ((c.tc : Thread nD τ).loc main_arg1))))
            (nt (m ((c.tc : Thread nD τ).loc main_arg2)) (m ((c.tc : Thread nD τ).loc main_arg3))))
            (nt (m ((c.tc : Thread nD τ).loc main_arg4)) (m ((c.tc : Thread nD τ).loc main_arg5)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨((h c).1 7).trans (final m c), ((h c).1 0).trans ((dats m 0 c).arrAt_in 0 rfl _), ((h c).1 1).trans ((dats m 0 c).arrAt_in 1 rfl _), ((h c).1 2).trans ((dats m 0 c).arrAt_in 2 rfl _), ((h c).1 3).trans ((dats m 0 c).arrAt_in 3 rfl _), ((h c).1 4).trans ((dats m 0 c).arrAt_in 4 rfl _), ((h c).1 5).trans ((dats m 0 c).arrAt_in 5 rfl _), ((h c).1 6).trans ((dats m 0 c).arrAt_in 6 rfl _)⟩) (run_main m ρ)

end Cert.Kernel22Ideal.ProjDx1

namespace Cert.Reference22Ideal.ProjDx1

open Cert.Reference22Ideal Cert.Reference22Ideal.Gen

/-- The plain sum leaves the same. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v12)
        = onto (onto (onto (m ((c.tc : Thread nD τ).loc main_arg6))
            (nt (m ((c.tc : Thread nD τ).loc main_arg0)) (m ((c.tc : Thread nD τ).loc main_arg1))))
            (nt (m ((c.tc : Thread nD τ).loc main_arg2)) (m ((c.tc : Thread nD τ).loc main_arg3))))
            (nt (m ((c.tc : Thread nD τ).loc main_arg4)) (m ((c.tc : Thread nD τ).loc main_arg5)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  hlo_run
  funext i
  unfold onto nt
  pointwise

/-- The plain sum runs and leaves its operands alone. -/
theorem frame : Cert.quiescent_Reference22Ideal := fun m ρ _ =>
  (θ_run _ _ _).mono (fun _ h => ⟨fun c => (h c).2, sem_eq_zero_of_no_sems rfl _⟩) (run m ρ)

/-- The blocked sum and the plain one agree. -/
theorem agree : Cert.algebraic_Kernel22Ideal_Reference22Ideal := fun m ρ m' ρ' _ hag =>
  ⟨_, Cert.Kernel22Ideal.ProjDx1.run m ρ, (θ_run _ _ _).mono
    (fun _ h c => ⟨(h c).1.trans (by
      obtain ⟨e0, e1, e2, e3, e4, e5, e6⟩ := hag c
      rw [e0, e1, e2, e3, e4, e5, e6]), (h c).2⟩) (run m' ρ')⟩

end Cert.Reference22Ideal.ProjDx1
-- ==== Proof.FfnAct.lean ====
module

public import proofs.«01_k».proof.Defs
public import proofs.«01_k».proof.Proof.Gen.Kernel23Ideal.Frame
public import proofs.«01_k».proof.Proof.Gen.Reference23Ideal
public import proofs.«01_k».proof.Proof.Gates
public import Idealize.ShloMosaic.Lib.Pipeline.ValueKit
public import Idealize.ShloMosaic.Lib.StableHlo.RunHlo
public import Idealize.ShloMosaic.Lib.Quiescent

@[expose] public section

set_option maxRecDepth 16384

noncomputable section

/-! The feed-forward's activation, a gate times its logistic times the other half (8192 by 5632): 32 grid points, 256 rows each. -/

open Idealize.ShloMosaic Idealize.ShloMosaic.TcCoe Idealize.SL.Sem
open Idealize.ShloMosaic.Pipeline (Dat)
open Cert.Gates

namespace Cert.Kernel23Ideal.FfnAct

open Cert.Kernel23Ideal Cert.Kernel23Ideal.Gen

variable (m : (ℓ : Loc nD τ sig) → Buf (Elt Ideal) ℓ) (ρ : Dev nD → PrngReg)

theorem at0 : ∀ t : Fin cfg0.N, win0_0.index t = ![t.val, 0] := by decide +kernel
theorem at1 : ∀ t : Fin cfg0.N, win0_1.index t = ![t.val, 0] := by decide +kernel
theorem at2 : ∀ t : Fin cfg0.N, win0_2.index t = ![t.val, 0] := by decide +kernel

/-- A grid point leaves the activation of its rows. -/
theorem block (x y : Vec Ideal S256x5632 .bf16) (j : S256x5632.Idx) : out0_2 x y j = act (x j) (y j) := by
  frame_out
  unfold k0_pay1 act
  pointwise
  rw [tanh_gate]

/-- Every block of the result holds the activation of the same rows. -/
theorem final (c : Dev nD) : (dats m 0 c).arrAt 2 cfg0.N
    = fun i => act (m ((c.tc : Thread nD τ).loc main_arg0) i) (m ((c.tc : Thread nD τ).loc main_arg1) i) := by
  refine (dats m 0 c).arrAt_eq_of_covers 2 _ (by decide +kernel) fun t hf y => ?_
  blk_simp
  rw [after0_2]
  refine (block ..).trans ?_
  refine congrArg₂ act ?_ ?_ <;> blk_ext [iblk, V, at0, at1, at2]

/-- The kernel's run leaves the activation in its result. -/
theorem run : θ_run defs (onTc (τ := τ) (main (F := Ideal))) ⟨m, fun _ => 0, ρ⟩ fun r => ∀ c : Dev nD,
      r.2.mem ((c.tc : Thread nD τ).loc main_v0)
        = (fun i => act (m ((c.tc : Thread nD τ).loc main_arg0) i) (m ((c.tc : Thread nD τ).loc main_arg1) i))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).1 2).trans (final m c), ((h c).1 0).trans ((dats m 0 c).arrAt_in 0 rfl _),
    ((h c).1 1).trans ((dats m 0 c).arrAt_in 1 rfl _)⟩) (run_main m ρ)

end Cert.Kernel23Ideal.FfnAct

namespace Cert.Reference23Ideal.FfnAct

open Cert.Reference23Ideal Cert.Reference23Ideal.Gen

/-- The plain formula leaves the same. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v10)
        = (fun i => act (m ((c.tc : Thread nD τ).loc main_arg0) i) (m ((c.tc : Thread nD τ).loc main_arg1) i))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  hlo_run
  funext i
  unfold act Ideal.logistic
  pointwise

/-- It runs and leaves its operands alone. -/
theorem frame : Cert.quiescent_Reference23Ideal := fun m ρ _ =>
  (θ_run _ _ _).mono (fun _ h => ⟨fun c => (h c).2, sem_eq_zero_of_no_sems rfl _⟩) (run m ρ)

/-- The blocked activation and the plain one agree. -/
theorem agree : Cert.algebraic_Kernel23Ideal_Reference23Ideal := fun m ρ m' ρ' _ hag =>
  ⟨_, Cert.Kernel23Ideal.FfnAct.run m ρ, (θ_run _ _ _).mono
    (fun _ h c => ⟨(h c).1.trans (by rw [(hag c).1, (hag c).2]; rfl), (h c).2⟩) (run m' ρ')⟩

end Cert.Reference23Ideal.FfnAct
-- ==== Proof.Merge.lean ====
module

public import proofs.«01_k».proof.Defs
public import proofs.«01_k».proof.Proof.Gen.Kernel24Ideal.Frame
public import proofs.«01_k».proof.Proof.Gen.Reference24Ideal
public import proofs.«01_k».proof.Proof.Gates
public import Idealize.ShloMosaic.Lib.Pipeline.ValueKit
public import Idealize.ShloMosaic.Lib.StableHlo.RunHlo
public import Idealize.ShloMosaic.Lib.Quiescent

@[expose] public section

set_option maxRecDepth 16384

noncomputable section

/-! The mixer's two branches merged, each through the logistic gate of its own shifted columns (8192 by 2048): 16 grid points, 512
rows each. -/

open Idealize.ShloMosaic Idealize.ShloMosaic.TcCoe Idealize.SL.Sem
open Idealize.ShloMosaic.Pipeline (Dat)
open Cert.Gates

namespace Cert.Kernel24Ideal.Merge

open Cert.Kernel24Ideal Cert.Kernel24Ideal.Gen

variable (m : (ℓ : Loc nD τ sig) → Buf (Elt Ideal) ℓ) (ρ : Dev nD → PrngReg)

theorem at0 : ∀ t : Fin cfg0.N, win0_0.index t = ![t.val, 0] := by decide +kernel
theorem at1 : ∀ t : Fin cfg0.N, win0_1.index t = ![t.val, 0] := by decide +kernel
theorem at2 : ∀ t : Fin cfg0.N, win0_2.index t = ![t.val, 0] := by decide +kernel
theorem at3 : ∀ t : Fin cfg0.N, win0_3.index t = ![t.val, 0] := by decide +kernel
theorem at4 : ∀ t : Fin cfg0.N, win0_4.index t = ![0, 0] := by decide +kernel
theorem at5 : ∀ t : Fin cfg0.N, win0_5.index t = ![0, 0] := by decide +kernel
theorem at6 : ∀ t : Fin cfg0.N, win0_6.index t = ![t.val, 0] := by decide +kernel

/-- A grid point leaves the merge of its rows. -/
theorem block (g h o p : Vec Ideal S512x2048 .bf16) (b c : Vec Ideal S1x2048 .f32) (j : S512x2048.Idx) :
    out0_6 g h o p b c j = merge (m := 512) (n := 2048) g h o p b c j := by
  frame_out
  unfold k0_pay1 merge gate
  pointwise
  rw [tanh_gate, tanh_gate]

/-- Every block of the result holds the merge of the same rows. -/
theorem final (c : Dev nD) : (dats m 0 c).arrAt 6 cfg0.N
    = merge (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5)) := by
  refine (dats m 0 c).arrAt_eq_of_covers 6 _ (by decide +kernel) fun t hf y => ?_
  blk_simp
  rw [after0_6]
  refine (block ..).trans ?_
  unfold merge gate
  refine congrArg₂ (fun p q : EReal => p + q) ?_ ?_
  · refine congrArg₂ (fun p q : EReal => p * q) (congrArg Ideal.logistic (congrArg₂ (fun p q : EReal => p + q) ?_ ?_)) ?_
      <;> blk_ext [iblk, V, at0, at2, at4, at6]
  · refine congrArg₂ (fun p q : EReal => p * q) (congrArg Ideal.logistic (congrArg₂ (fun p q : EReal => p + q) ?_ ?_)) ?_
      <;> blk_ext [iblk, V, at1, at3, at5, at6]

/-- The kernel's run leaves the merge in its result. -/
theorem run : θ_run defs (onTc (τ := τ) (main (F := Ideal))) ⟨m, fun _ => 0, ρ⟩ fun r => ∀ c : Dev nD,
      r.2.mem ((c.tc : Thread nD τ).loc main_v0)
        = merge (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨((h c).1 6).trans (final m c), ((h c).1 0).trans ((dats m 0 c).arrAt_in 0 rfl _),
    ((h c).1 1).trans ((dats m 0 c).arrAt_in 1 rfl _), ((h c).1 2).trans ((dats m 0 c).arrAt_in 2 rfl _),
    ((h c).1 3).trans ((dats m 0 c).arrAt_in 3 rfl _), ((h c).1 4).trans ((dats m 0 c).arrAt_in 4 rfl _),
    ((h c).1 5).trans ((dats m 0 c).arrAt_in 5 rfl _)⟩) (run_main m ρ)

end Cert.Kernel24Ideal.Merge

namespace Cert.Reference24Ideal.Merge

open Cert.Reference24Ideal Cert.Reference24Ideal.Gen

/-- The plain formula leaves the same. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v23)
        = merge (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  hlo_run
  funext i
  unfold merge gate Ideal.logistic
  pointwise

/-- It runs and leaves its operands alone. -/
theorem frame : Cert.quiescent_Reference24Ideal := fun m ρ _ =>
  (θ_run _ _ _).mono (fun _ h => ⟨fun c => (h c).2, sem_eq_zero_of_no_sems rfl _⟩) (run m ρ)

/-- The blocked merge and the plain one agree. -/
theorem agree : Cert.algebraic_Kernel24Ideal_Reference24Ideal := fun m ρ m' ρ' _ hag =>
  ⟨_, Cert.Kernel24Ideal.Merge.run m ρ, (θ_run _ _ _).mono
    (fun _ h c => by
      obtain ⟨e0, e1, e2, e3, e4, e5⟩ := hag c
      exact ⟨(h c).1.trans (by rw [e0, e1, e2, e3, e4, e5]), (h c).2⟩) (run m' ρ')⟩

end Cert.Reference24Ideal.Merge
-- ==== Proof.MergeBwd.lean ====
module

public import proofs.«01_k».proof.Defs
public import proofs.«01_k».proof.Proof.Gen.Kernel25Ideal.Frame
public import proofs.«01_k».proof.Proof.Gen.Reference25Ideal
public import proofs.«01_k».proof.Proof.Gates
public import Idealize.ShloMosaic.Lib.Pipeline.ValueKit
public import Idealize.ShloMosaic.Lib.StableHlo.RunHlo
public import Idealize.ShloMosaic.Lib.Quiescent

@[expose] public section

set_option maxRecDepth 16384

noncomputable section

/-! The merge of the mixer's two branches backward: to the branches, to the gates (8192 by 2048 each) and, by sums over the
columns, to the gates' shifts: 32 grid points, 256 rows each. -/

open Idealize.ShloMosaic Idealize.ShloMosaic.TcCoe Idealize.SL.Sem
open Idealize.ShloMosaic.Pipeline (Dat)
open Cert.Gates

namespace Cert.Kernel25Ideal.MergeBwd

open Cert.Kernel25Ideal Cert.Kernel25Ideal.Gen

variable (m : (ℓ : Loc nD τ sig) → Buf (Elt Ideal) ℓ) (ρ : Dev nD → PrngReg)

theorem at0 : ∀ t : Fin cfg0.N, win0_0.index t = ![t.val, 0] := by decide +kernel
theorem at1 : ∀ t : Fin cfg0.N, win0_1.index t = ![t.val, 0] := by decide +kernel
theorem at2 : ∀ t : Fin cfg0.N, win0_2.index t = ![t.val, 0] := by decide +kernel
theorem at3 : ∀ t : Fin cfg0.N, win0_3.index t = ![t.val, 0] := by decide +kernel
theorem at4 : ∀ t : Fin cfg0.N, win0_4.index t = ![t.val, 0] := by decide +kernel
theorem at5 : ∀ t : Fin cfg0.N, win0_5.index t = ![0, 0] := by decide +kernel
theorem at6 : ∀ t : Fin cfg0.N, win0_6.index t = ![0, 0] := by decide +kernel
theorem at7 : ∀ t : Fin cfg0.N, win0_7.index t = ![t.val, 0] := by decide +kernel
theorem at8 : ∀ t : Fin cfg0.N, win0_8.index t = ![t.val, 0] := by decide +kernel
theorem at9 : ∀ t : Fin cfg0.N, win0_9.index t = ![t.val, 0] := by decide +kernel
theorem at10 : ∀ t : Fin cfg0.N, win0_10.index t = ![t.val, 0] := by decide +kernel
theorem at11 : ∀ t : Fin cfg0.N, win0_11.index t = ![0, 0] := by decide +kernel
theorem at12 : ∀ t : Fin cfg0.N, win0_12.index t = ![0, 0] := by decide +kernel

section Points

variable (c : Dev nD) (i : grid0.Coords) (a1 : Memref sig .tc .vmem S256x2048 .bf16) (h1 : a1.IsWhole) (a2 : Memref sig .tc .vmem S256x2048 .bf16) (h2 : a2.IsWhole)
  (a3 : Memref sig .tc .vmem S256x2048 .bf16) (h3 : a3.IsWhole) (a4 : Memref sig .tc .vmem S256x2048 .bf16) (h4 : a4.IsWhole) (a5 : Memref sig .tc .vmem S256x2048 .bf16) (h5 : a5.IsWhole)
  (a6 : Memref sig .tc .vmem S1x2048 .f32) (h6 : a6.IsWhole) (a7 : Memref sig .tc .vmem S1x2048 .f32) (h7 : a7.IsWhole) (a8 : Memref sig .tc .vmem S256x2048 .bf16) (h8 : a8.IsWhole)
  (a9 : Memref sig .tc .vmem S256x2048 .bf16) (h9 : a9.IsWhole) (a10 : Memref sig .tc .vmem S256x2048 .bf16) (h10 : a10.IsWhole) (a11 : Memref sig .tc .vmem S256x2048 .bf16) (h11 : a11.IsWhole)
  (a12 : Memref sig .tc .vmem S1x2048 .f32) (h12 : a12.IsWhole) (a13 : Memref sig .tc .vmem S1x2048 .f32) (h13 : a13.IsWhole)
  (x g h o p : Vec Ideal S256x2048 .bf16) (b e u v : Vec Ideal S1x2048 .f32) (j : S256x2048.Idx) (k : S1x2048.Idx)

/-- The first point leaves the gradient to the first branch, -/
theorem blockA7 (hc0 : cond0_0 i) : out0_A_7 c i a1 h1 a2 h2 a3 h3 a4 h4 a5 h5 a6 h6 a7 h7 a8 h8 a9 h9 a10 h10 a11 h11 a12 h12 a13 h13 hc0
    x g h o p b e j = toBranch (m := 256) (n := 2048) x g b j := by
  frame_out
  unfold k0_pay2 k0_pay11 k0_pay10 toBranch gate
  pointwise
  rw [tanh_gate]

/-- and so does each later one. -/
theorem blockB7 (hc0 : ¬cond0_0 i) : out0_B_7 c i a1 h1 a2 h2 a3 h3 a4 h4 a5 h5 a6 h6 a7 h7 a8 h8 a9 h9 a10 h10 a11 h11 a12 h12 a13 h13 hc0
    x g h o p b e u v j = toBranch (m := 256) (n := 2048) x g b j := by
  frame_out
  unfold k0_pay2 k0_pay11 k0_pay10 toBranch gate
  pointwise
  rw [tanh_gate]

/-- The first point leaves the gradient to the second branch, -/
theorem blockA8 (hc0 : cond0_0 i) : out0_A_8 c i a1 h1 a2 h2 a3 h3 a4 h4 a5 h5 a6 h6 a7 h7 a8 h8 a9 h9 a10 h10 a11 h11 a12 h12 a13 h13 hc0
    x g h o p b e j = toBranch (m := 256) (n := 2048) x h e j := by
  frame_out
  unfold k0_pay3 k0_pay12 k0_pay10 toBranch gate
  pointwise
  rw [tanh_gate]

/-- and so does each later one. -/
theorem blockB8 (hc0 : ¬cond0_0 i) : out0_B_8 c i a1 h1 a2 h2 a3 h3 a4 h4 a5 h5 a6 h6 a7 h7 a8 h8 a9 h9 a10 h10 a11 h11 a12 h12 a13 h13 hc0
    x g h o p b e u v j = toBranch (m := 256) (n := 2048) x h e j := by
  frame_out
  unfold k0_pay3 k0_pay12 k0_pay10 toBranch gate
  pointwise
  rw [tanh_gate]

/-- The first point leaves the gradient to the first gate, -/
theorem blockA9 (hc0 : cond0_0 i) : out0_A_9 c i a1 h1 a2 h2 a3 h3 a4 h4 a5 h5 a6 h6 a7 h7 a8 h8 a9 h9 a10 h10 a11 h11 a12 h12 a13 h13 hc0
    x g h o p b e j = toGate (m := 256) (n := 2048) x o g b j := by
  frame_out
  unfold k0_pay4 k0_pay13 k0_pay11 k0_pay10 toGate gate
  pointwise
  simp only [tanh_gate, mul_assoc]

/-- and so does each later one. -/
theorem blockB9 (hc0 : ¬cond0_0 i) : out0_B_9 c i a1 h1 a2 h2 a3 h3 a4 h4 a5 h5 a6 h6 a7 h7 a8 h8 a9 h9 a10 h10 a11 h11 a12 h12 a13 h13 hc0
    x g h o p b e u v j = toGate (m := 256) (n := 2048) x o g b j := by
  frame_out
  unfold k0_pay4 k0_pay13 k0_pay11 k0_pay10 toGate gate
  pointwise
  simp only [tanh_gate, mul_assoc]

/-- The first point leaves the gradient to the second gate, -/
theorem blockA10 (hc0 : cond0_0 i) : out0_A_10 c i a1 h1 a2 h2 a3 h3 a4 h4 a5 h5 a6 h6 a7 h7 a8 h8 a9 h9 a10 h10 a11 h11 a12 h12 a13 h13 hc0
    x g h o p b e j = toGate (m := 256) (n := 2048) x p h e j := by
  frame_out
  unfold k0_pay5 k0_pay1 k0_pay14 k0_pay12 k0_pay10 toGate gate
  pointwise
  simp only [tanh_gate, mul_assoc]

/-- and so does each later one. -/
theorem blockB10 (hc0 : ¬cond0_0 i) : out0_B_10 c i a1 h1 a2 h2 a3 h3 a4 h4 a5 h5 a6 h6 a7 h7 a8 h8 a9 h9 a10 h10 a11 h11 a12 h12 a13 h13 hc0
    x g h o p b e u v j = toGate (m := 256) (n := 2048) x p h e j := by
  frame_out
  unfold k0_pay5 k0_pay1 k0_pay14 k0_pay12 k0_pay10 toGate gate
  pointwise
  simp only [tanh_gate, mul_assoc]

/-- The first point leaves the sum over its rows of the gradient to the first gate, -/
theorem blockA11 (hc0 : cond0_0 i) : out0_A_11 c i a1 h1 a2 h2 a3 h3 a4 h4 a5 h5 a6 h6 a7 h7 a8 h8 a9 h9 a10 h10 a11 h11 a12 h12 a13 h13 hc0
    x g h o p b e k = total (toGate (m := 256) (n := 2048) x o g b) k := by
  frame_out
  unfold k0_pay8 k0_pay6 k0_pay13 k0_pay11 k0_pay10 total toGate gate
  pointwise
  simp only [tanh_gate, mul_assoc, zero_add]

/-- and each later one adds its own. -/
theorem blockB11 (hc0 : ¬cond0_0 i) : out0_B_11 c i a1 h1 a2 h2 a3 h3 a4 h4 a5 h5 a6 h6 a7 h7 a8 h8 a9 h9 a10 h10 a11 h11 a12 h12 a13 h13 hc0
    x g h o p b e u v k = u k + total (toGate (m := 256) (n := 2048) x o g b) k := by
  frame_out
  unfold k0_pay8 k0_pay13 k0_pay11 k0_pay10 total toGate gate
  pointwise
  simp only [tanh_gate, mul_assoc, zero_add]

/-- The first point leaves the sum over its rows of the gradient to the second gate, -/
theorem blockA12 (hc0 : cond0_0 i) : out0_A_12 c i a1 h1 a2 h2 a3 h3 a4 h4 a5 h5 a6 h6 a7 h7 a8 h8 a9 h9 a10 h10 a11 h11 a12 h12 a13 h13 hc0
    x g h o p b e k = total (toGate (m := 256) (n := 2048) x p h e) k := by
  frame_out
  unfold k0_pay9 k0_pay7 k0_pay1 k0_pay14 k0_pay12 k0_pay10 total toGate gate
  pointwise
  simp only [tanh_gate, mul_assoc, zero_add]

/-- and each later one adds its own. -/
theorem blockB12 (hc0 : ¬cond0_0 i) : out0_B_12 c i a1 h1 a2 h2 a3 h3 a4 h4 a5 h5 a6 h6 a7 h7 a8 h8 a9 h9 a10 h10 a11 h11 a12 h12 a13 h13 hc0
    x g h o p b e u v k = v k + total (toGate (m := 256) (n := 2048) x p h e) k := by
  frame_out
  unfold k0_pay9 k0_pay1 k0_pay14 k0_pay12 k0_pay10 total toGate gate
  pointwise
  simp only [tanh_gate, mul_assoc, zero_add]

end Points

/-- Every point leaves the gradient to the first branch of its rows, -/
theorem rows7 (c : Dev nD) (t : Fin cfg0.N) (j : S256x2048.Idx) : (outsAt0 m c t.val t.isLt).1 j
    = toBranch (iblk m c 0 t : Vec Ideal S256x2048 .bf16) (iblk m c 1 t : Vec Ideal S256x2048 .bf16) (iblk m c 5 t : Vec Ideal S1x2048 .f32) j := by
  by_cases h : t.val % 32 = 0
  · rw [outsAt0_A m c t h]
    dsimp only
    exact blockA7 ..
  · rw [outsAt0_B m c t h]
    dsimp only
    exact blockB7 ..

/-- and so does every block of that result. -/
theorem final7 (c : Dev nD) : (dats m 0 c).arrAt 7 cfg0.N
    = toBranch (m ((c.tc : Thread nD τ).loc main_arg0)) (m ((c.tc : Thread nD τ).loc main_arg1))
        (m ((c.tc : Thread nD τ).loc main_arg5)) := by
  refine (dats m 0 c).arrAt_eq_of_covers 7 _ (by decide +kernel) fun t hf y => ?_
  blk_simp
  rw [after0_7]
  refine (rows7 m c t y).trans ?_
  refine toBranch_eq ?_ ?_ ?_ <;> blk_ext [iblk, V, at0, at1, at5, at7]

/-- Every point leaves the gradient to the second branch of its rows, -/
theorem rows8 (c : Dev nD) (t : Fin cfg0.N) (j : S256x2048.Idx) : (outsAt0 m c t.val t.isLt).2.1 j
    = toBranch (iblk m c 0 t : Vec Ideal S256x2048 .bf16) (iblk m c 2 t : Vec Ideal S256x2048 .bf16) (iblk m c 6 t : Vec Ideal S1x2048 .f32) j := by
  by_cases h : t.val % 32 = 0
  · rw [outsAt0_A m c t h]
    dsimp only
    exact blockA8 ..
  · rw [outsAt0_B m c t h]
    dsimp only
    exact blockB8 ..

/-- and so does every block of that result. -/
theorem final8 (c : Dev nD) : (dats m 0 c).arrAt 8 cfg0.N
    = toBranch (m ((c.tc : Thread nD τ).loc main_arg0)) (m ((c.tc : Thread nD τ).loc main_arg2))
        (m ((c.tc : Thread nD τ).loc main_arg6)) := by
  refine (dats m 0 c).arrAt_eq_of_covers 8 _ (by decide +kernel) fun t hf y => ?_
  blk_simp
  rw [after0_8]
  refine (rows8 m c t y).trans ?_
  refine toBranch_eq ?_ ?_ ?_ <;> blk_ext [iblk, V, at0, at2, at6, at8]

/-- Every point leaves the gradient to the first gate of its rows, -/
theorem rows9 (c : Dev nD) (t : Fin cfg0.N) (j : S256x2048.Idx) : (outsAt0 m c t.val t.isLt).2.2.1 j
    = toGate (iblk m c 0 t : Vec Ideal S256x2048 .bf16) (iblk m c 3 t : Vec Ideal S256x2048 .bf16) (iblk m c 1 t : Vec Ideal S256x2048 .bf16) (iblk m c 5 t : Vec Ideal S1x2048 .f32) j := by
  by_cases h : t.val % 32 = 0
  · rw [outsAt0_A m c t h]
    dsimp only
    exact blockA9 ..
  · rw [outsAt0_B m c t h]
    dsimp only
    exact blockB9 ..

/-- and so does every block of that result. -/
theorem final9 (c : Dev nD) : (dats m 0 c).arrAt 9 cfg0.N
    = toGate (m ((c.tc : Thread nD τ).loc main_arg0)) (m ((c.tc : Thread nD τ).loc main_arg3))
        (m ((c.tc : Thread nD τ).loc main_arg1)) (m ((c.tc : Thread nD τ).loc main_arg5)) := by
  refine (dats m 0 c).arrAt_eq_of_covers 9 _ (by decide +kernel) fun t hf y => ?_
  blk_simp
  rw [after0_9]
  refine (rows9 m c t y).trans ?_
  refine toGate_eq ?_ ?_ ?_ ?_ <;> blk_ext [iblk, V, at0, at3, at1, at5, at9]

/-- Every point leaves the gradient to the second gate of its rows, -/
theorem rows10 (c : Dev nD) (t : Fin cfg0.N) (j : S256x2048.Idx) : (outsAt0 m c t.val t.isLt).2.2.2.1 j
    = toGate (iblk m c 0 t : Vec Ideal S256x2048 .bf16) (iblk m c 4 t : Vec Ideal S256x2048 .bf16) (iblk m c 2 t : Vec Ideal S256x2048 .bf16) (iblk m c 6 t : Vec Ideal S1x2048 .f32) j := by
  by_cases h : t.val % 32 = 0
  · rw [outsAt0_A m c t h]
    dsimp only
    exact blockA10 ..
  · rw [outsAt0_B m c t h]
    dsimp only
    exact blockB10 ..

/-- and so does every block of that result. -/
theorem final10 (c : Dev nD) : (dats m 0 c).arrAt 10 cfg0.N
    = toGate (m ((c.tc : Thread nD τ).loc main_arg0)) (m ((c.tc : Thread nD τ).loc main_arg4))
        (m ((c.tc : Thread nD τ).loc main_arg2)) (m ((c.tc : Thread nD τ).loc main_arg6)) := by
  refine (dats m 0 c).arrAt_eq_of_covers 10 _ (by decide +kernel) fun t hf y => ?_
  blk_simp
  rw [after0_10]
  refine (rows10 m c t y).trans ?_
  refine toGate_eq ?_ ?_ ?_ ?_ <;> blk_ext [iblk, V, at0, at4, at2, at6, at10]

/-- The sums' one block holds the sums over all the rows. -/
theorem final11 (c : Dev nD) : (dats m 0 c).arrAt 11 cfg0.N
    = total (toGate (m ((c.tc : Thread nD τ).loc main_arg0)) (m ((c.tc : Thread nD τ).loc main_arg3))
        (m ((c.tc : Thread nD τ).loc main_arg1)) (m ((c.tc : Thread nD τ).loc main_arg5))) := by
  refine (dats m 0 c).arrAt_eq_of_covers 11 _ (by decide +kernel) fun t hf y => ?_
  have h := Pipeline.eq_sum_fin_of_reset_step_apply_of_flush (fun n h => (outsAt0 m c n h).2.2.2.2.1) 32 (fun _ => (0 : EReal)) _
    (fun t h j => by rw [outsAt0_A m c t h]; dsimp only; exact (blockA11 ..).trans (zero_add _).symm)
    (fun t h j => by rw [outsAt0_B m c t h]; dsimp only; exact blockB11 ..) t ((flush0_11 t).mp hf)
  blk_simp
  rw [after0_11]
  refine (h y).trans ?_
  rw [zero_add]
  refine Fin.sum_mul_add_congr fun s k hl => ?_
  have hN : cfg0.N = 32 := N_0
  have := t.isLt
  refine toGate_eq ?_ ?_ ?_ ?_ <;> blk_ext [iblk, V, at0, at3, at1, at5, at11]

/-- The sums' one block holds the sums over all the rows. -/
theorem final12 (c : Dev nD) : (dats m 0 c).arrAt 12 cfg0.N
    = total (toGate (m ((c.tc : Thread nD τ).loc main_arg0)) (m ((c.tc : Thread nD τ).loc main_arg4))
        (m ((c.tc : Thread nD τ).loc main_arg2)) (m ((c.tc : Thread nD τ).loc main_arg6))) := by
  refine (dats m 0 c).arrAt_eq_of_covers 12 _ (by decide +kernel) fun t hf y => ?_
  have h := Pipeline.eq_sum_fin_of_reset_step_apply_of_flush (fun n h => (outsAt0 m c n h).2.2.2.2.2) 32 (fun _ => (0 : EReal)) _
    (fun t h j => by rw [outsAt0_A m c t h]; dsimp only; exact (blockA12 ..).trans (zero_add _).symm)
    (fun t h j => by rw [outsAt0_B m c t h]; dsimp only; exact blockB12 ..) t ((flush0_12 t).mp hf)
  blk_simp
  rw [after0_12]
  refine (h y).trans ?_
  rw [zero_add]
  refine Fin.sum_mul_add_congr fun s k hl => ?_
  have hN : cfg0.N = 32 := N_0
  have := t.isLt
  refine toGate_eq ?_ ?_ ?_ ?_ <;> blk_ext [iblk, V, at0, at4, at2, at6, at12]

/-- The kernel's run leaves the six gradients in its results. -/
theorem run : θ_run defs (onTc (τ := τ) (main (F := Ideal))) ⟨m, fun _ => 0, ρ⟩ fun r => ∀ c : Dev nD,
      r.2.mem ((c.tc : Thread nD τ).loc main_v0_0)
        = toBranch (m ((c.tc : Thread nD τ).loc main_arg0)) (m ((c.tc : Thread nD τ).loc main_arg1))
          (m ((c.tc : Thread nD τ).loc main_arg5))
      ∧ r.2.mem ((c.tc : Thread nD τ).loc main_v0_1)
        = toBranch (m ((c.tc : Thread nD τ).loc main_arg0)) (m ((c.tc : Thread nD τ).loc main_arg2))
          (m ((c.tc : Thread nD τ).loc main_arg6))
      ∧ r.2.mem ((c.tc : Thread nD τ).loc main_v0_2)
        = toGate (m ((c.tc : Thread nD τ).loc main_arg0)) (m ((c.tc : Thread nD τ).loc main_arg3))
          (m ((c.tc : Thread nD τ).loc main_arg1)) (m ((c.tc : Thread nD τ).loc main_arg5))
      ∧ r.2.mem ((c.tc : Thread nD τ).loc main_v0_3)
        = toGate (m ((c.tc : Thread nD τ).loc main_arg0)) (m ((c.tc : Thread nD τ).loc main_arg4))
          (m ((c.tc : Thread nD τ).loc main_arg2)) (m ((c.tc : Thread nD τ).loc main_arg6))
      ∧ r.2.mem ((c.tc : Thread nD τ).loc main_v0_4)
        = total (toGate (m ((c.tc : Thread nD τ).loc main_arg0)) (m ((c.tc : Thread nD τ).loc main_arg3))
          (m ((c.tc : Thread nD τ).loc main_arg1)) (m ((c.tc : Thread nD τ).loc main_arg5)))
      ∧ r.2.mem ((c.tc : Thread nD τ).loc main_v0_5)
        = total (toGate (m ((c.tc : Thread nD τ).loc main_arg0)) (m ((c.tc : Thread nD τ).loc main_arg4))
          (m ((c.tc : Thread nD τ).loc main_arg2)) (m ((c.tc : Thread nD τ).loc main_arg6)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨((h c).1 7).trans (final7 m c),
    ((h c).1 8).trans (final8 m c),
    ((h c).1 9).trans (final9 m c),
    ((h c).1 10).trans (final10 m c),
    ((h c).1 11).trans (final11 m c),
    ((h c).1 12).trans (final12 m c),
    ((h c).1 0).trans ((dats m 0 c).arrAt_in 0 rfl _),
    ((h c).1 1).trans ((dats m 0 c).arrAt_in 1 rfl _),
    ((h c).1 2).trans ((dats m 0 c).arrAt_in 2 rfl _),
    ((h c).1 3).trans ((dats m 0 c).arrAt_in 3 rfl _),
    ((h c).1 4).trans ((dats m 0 c).arrAt_in 4 rfl _),
    ((h c).1 5).trans ((dats m 0 c).arrAt_in 5 rfl _),
    ((h c).1 6).trans ((dats m 0 c).arrAt_in 6 rfl _)⟩) (run_main m ρ)

end Cert.Kernel25Ideal.MergeBwd

namespace Cert.Reference25Ideal.MergeBwd

open Cert.Reference25Ideal Cert.Reference25Ideal.Gen

/-- The plain formulas leave the same. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v32)
        = toBranch (m ((c.tc : Thread nD τ).loc main_arg0)) (m ((c.tc : Thread nD τ).loc main_arg1))
          (m ((c.tc : Thread nD τ).loc main_arg5))
      ∧ r.2.mem ((c.tc : Thread nD τ).loc main_v34)
        = toBranch (m ((c.tc : Thread nD τ).loc main_arg0)) (m ((c.tc : Thread nD τ).loc main_arg2))
          (m ((c.tc : Thread nD τ).loc main_arg6))
      ∧ r.2.mem ((c.tc : Thread nD τ).loc main_v35)
        = toGate (m ((c.tc : Thread nD τ).loc main_arg0)) (m ((c.tc : Thread nD τ).loc main_arg3))
          (m ((c.tc : Thread nD τ).loc main_arg1)) (m ((c.tc : Thread nD τ).loc main_arg5))
      ∧ r.2.mem ((c.tc : Thread nD τ).loc main_v36)
        = toGate (m ((c.tc : Thread nD τ).loc main_arg0)) (m ((c.tc : Thread nD τ).loc main_arg4))
          (m ((c.tc : Thread nD τ).loc main_arg2)) (m ((c.tc : Thread nD τ).loc main_arg6))
      ∧ r.2.mem ((c.tc : Thread nD τ).loc main_v38)
        = total (toGate (m ((c.tc : Thread nD τ).loc main_arg0)) (m ((c.tc : Thread nD τ).loc main_arg3))
          (m ((c.tc : Thread nD τ).loc main_arg1)) (m ((c.tc : Thread nD τ).loc main_arg5)))
      ∧ r.2.mem ((c.tc : Thread nD τ).loc main_v40)
        = total (toGate (m ((c.tc : Thread nD τ).loc main_arg0)) (m ((c.tc : Thread nD τ).loc main_arg4))
          (m ((c.tc : Thread nD τ).loc main_arg2)) (m ((c.tc : Thread nD τ).loc main_arg6)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  hlo_run
  all_goals
    funext i
    simp only [total, toBranch, toGate, gate, Ideal.logistic]
    pointwise

/-- They run and leave their operands alone. -/
theorem frame : Cert.quiescent_Reference25Ideal := fun m ρ _ =>
  (θ_run _ _ _).mono (fun _ h => ⟨fun c => (h c).2.2.2.2.2.2, sem_eq_zero_of_no_sems rfl _⟩) (run m ρ)

/-- The blocked gradients and the plain ones agree. -/
theorem agree : Cert.algebraic_Kernel25Ideal_Reference25Ideal := fun m ρ m' ρ' _ hag =>
  ⟨_, _, _, _, _, _, Cert.Kernel25Ideal.MergeBwd.run m ρ, (θ_run _ _ _).mono
    (fun _ h c => by
      obtain ⟨e0, e1, e2, e3, e4, e5, e6⟩ := hag c
      obtain ⟨r0, r1, r2, r3, r4, r5, k⟩ := h c
      exact ⟨r0.trans (by rw [e0, e1, e5]), r1.trans (by rw [e0, e2, e6]), r2.trans (by rw [e0, e3, e1, e5]),
        r3.trans (by rw [e0, e4, e2, e6]), r4.trans (by rw [e0, e3, e1, e5]), r5.trans (by rw [e0, e4, e2, e6]), k⟩) (run m' ρ')⟩

end Cert.Reference25Ideal.MergeBwd
-- ==== Proof.Norms.lean ====
module

public import Idealize.ShloMosaic.Lib.Pointwise
public import Idealize.ShloMosaic.Lib.IdealHost

@[expose] public section

noncomputable section

/-! The norm of a row by its root mean square, the scale and shift after it, and its derivative, over the extended reals: what the
calls around the residual stream compute. -/

namespace Cert.Norms

open Idealize.ShloMosaic

variable {k m n : Nat}

/-- The mean of a row of 2048 entries. -/
def mean (x : Fin n → EReal) : EReal := Ideal.div (∑ l, x l) (Ideal.ofBits .f32 0x45000000#32)

/-- One over the root of the mean of the squares, a millionth added to it. -/
def root (x : Fin n → EReal) : EReal := Ideal.rsqrt (mean (fun l => x l * x l) + Ideal.ofBits .f32 0x358637BD#32)

/-- The row divided by its root mean square. -/
def normed (x : Fin n → EReal) (q : Fin n) : EReal := x q * root x

/-- Backward through the norm, from the cotangent `e` of its result. -/
def back (x e : Fin n → EReal) (q : Fin n) : EReal := root x * (e q - normed x q * mean fun l => e l * normed x l)

/-- A row of a matrix. -/
def row (f : (⟨2, ![m, n]⟩ : Shape).Idx → EReal) (r : Fin m) (q : Fin n) : EReal := f (ix2 r q)

/-- The norm with its gain, then the scale by one more than `s` and the shift by `h`. -/
def modulated (x : (⟨2, ![m, n]⟩ : Shape).Idx → EReal) (g s h : (⟨2, ![1, n]⟩ : Shape).Idx → EReal) (i : (⟨2, ![m, n]⟩ : Shape).Idx) :
    EReal := normed (row x (i 0)) (i 1) * row g 0 (i 1) * (1 + row s 0 (i 1)) + row h 0 (i 1)

/-- Backward through scale and norm, from the cotangent `d` of the result, added to what already came back. -/
def modulatedBack (x d p : (⟨2, ![m, n]⟩ : Shape).Idx → EReal) (g s : (⟨2, ![1, n]⟩ : Shape).Idx → EReal)
    (i : (⟨2, ![m, n]⟩ : Shape).Idx) : EReal :=
  back (row x (i 0)) (fun l => row d (i 0) l * (1 + row s 0 l) * row g 0 l) (i 1) + row p (i 0) (i 1)

/-- Backward to the scale, before the columns are summed. -/
def toScale (x d : (⟨2, ![m, n]⟩ : Shape).Idx → EReal) (g : (⟨2, ![1, n]⟩ : Shape).Idx → EReal) (i : (⟨2, ![m, n]⟩ : Shape).Idx) :
    EReal := row d (i 0) (i 1) * (normed (row x (i 0)) (i 1) * row g 0 (i 1))

/-- Backward to the gain, before the columns are summed. -/
def toGain (x d : (⟨2, ![m, n]⟩ : Shape).Idx → EReal) (s : (⟨2, ![1, n]⟩ : Shape).Idx → EReal) (i : (⟨2, ![m, n]⟩ : Shape).Idx) :
    EReal := row d (i 0) (i 1) * (1 + row s 0 (i 1)) * normed (row x (i 0)) (i 1)

/-- A row of a gated residual. -/
def resid (x f : (⟨2, ![m, n]⟩ : Shape).Idx → EReal) (g : (⟨2, ![1, n]⟩ : Shape).Idx → EReal) (i : (⟨2, ![m, n]⟩ : Shape).Idx) :
    EReal := row x (i 0) (i 1) + row g 0 (i 1) * row f (i 0) (i 1)

/-- Each row times one row. -/
def gated (x : (⟨2, ![m, n]⟩ : Shape).Idx → EReal) (g : (⟨2, ![1, n]⟩ : Shape).Idx → EReal) (i : (⟨2, ![m, n]⟩ : Shape).Idx) : EReal :=
  row x (i 0) (i 1) * row g 0 (i 1)

/-- Two matrices, entry by entry. -/
def times (x y : (⟨2, ![m, n]⟩ : Shape).Idx → EReal) (i : (⟨2, ![m, n]⟩ : Shape).Idx) : EReal :=
  row x (i 0) (i 1) * row y (i 0) (i 1)

/-- The columns' sums. -/
def total (f : (⟨2, ![k, n]⟩ : Shape).Idx → EReal) (i : (⟨2, ![1, n]⟩ : Shape).Idx) : EReal := ∑ l : Fin k, f (ix2 l (i 1))

/-- How far the normed row with its gain is from the target. -/
def miss (x y : (⟨2, ![m, n]⟩ : Shape).Idx → EReal) (g : (⟨2, ![1, n]⟩ : Shape).Idx → EReal) (i : (⟨2, ![m, n]⟩ : Shape).Idx) : EReal :=
  normed (row x (i 0)) (i 1) * row g 0 (i 1) - row y (i 0) (i 1)

/-- The cotangent of the normed row with its gain: the miss divided by the row's length. -/
def missMean (x y : (⟨2, ![m, n]⟩ : Shape).Idx → EReal) (g : (⟨2, ![1, n]⟩ : Shape).Idx → EReal) (i : (⟨2, ![m, n]⟩ : Shape).Idx) :
    EReal := Ideal.div (miss x y g i) (Ideal.ofBits .f32 0x45000000#32)

/-- Backward from the loss to the residual stream. -/
def lossBack (x y : (⟨2, ![m, n]⟩ : Shape).Idx → EReal) (g : (⟨2, ![1, n]⟩ : Shape).Idx → EReal) (i : (⟨2, ![m, n]⟩ : Shape).Idx) :
    EReal := back (row x (i 0)) (fun l => missMean x y g (ix2 (i 0) l) * row g 0 l) (i 1)

/-- Backward from the loss to the last gain, before the columns are summed. -/
def toLossGain (x y : (⟨2, ![m, n]⟩ : Shape).Idx → EReal) (g : (⟨2, ![1, n]⟩ : Shape).Idx → EReal) (i : (⟨2, ![m, n]⟩ : Shape).Idx) :
    EReal := missMean x y g i * normed (row x (i 0)) (i 1)

section Reads

variable {m' : Nat} {x f y : (⟨2, ![m, n]⟩ : Shape).Idx → EReal} {x' f' y' : (⟨2, ![m', n]⟩ : Shape).Idx → EReal}
  {g g' : (⟨2, ![1, n]⟩ : Shape).Idx → EReal} {i : (⟨2, ![m, n]⟩ : Shape).Idx} {j : (⟨2, ![m', n]⟩ : Shape).Idx}

/-- A row of a gated residual depends on one row of each operand, -/
theorem resid_row {r : Fin m} {r' : Fin m'} (hx : row x r = row x' r') (hf : row f r = row f' r') (hg : row g 0 = row g' 0) :
    row (resid x f g) r = row (resid x' f' g') r' := by
  funext l
  change row x r l + row g 0 l * row f r l = row x' r' l + row g' 0 l * row f' r' l
  rw [hx, hf, hg]

/-- an entry of what comes back from the loss does too, -/
theorem lossBack_eq (hx : row x (i 0) = row x' (j 0)) (hy : row y (i 0) = row y' (j 0)) (hg : row g 0 = row g' 0) (hq : i 1 = j 1) :
    lossBack x y g i = lossBack x' y' g' j := by
  change back (row x (i 0)) (fun l => Ideal.div (normed (row x (i 0)) l * row g 0 l - row y (i 0) l) _ * row g 0 l) (i 1)
    = back (row x' (j 0)) (fun l => Ideal.div (normed (row x' (j 0)) l * row g' 0 l - row y' (j 0) l) _ * row g' 0 l) (j 1)
  rw [hx, hy, hg, hq]

/-- and a gated row and a product depend on two entries. -/
theorem gated_eq (hx : x (ix2 (i 0) (i 1)) = x' (ix2 (j 0) (j 1))) (hg : g (ix2 0 (i 1)) = g' (ix2 0 (j 1))) :
    gated x g i = gated x' g' j := congrArg₂ (fun p q : EReal => p * q) hx hg

theorem times_eq (hx : x (ix2 (i 0) (i 1)) = x' (ix2 (j 0) (j 1))) (hf : f (ix2 (i 0) (i 1)) = f' (ix2 (j 0) (j 1))) :
    times x f i = times x' f' j := congrArg₂ (fun p q : EReal => p * q) hx hf

end Reads

/-- Dividing by 2048 is multiplying by its inverse, at every extended real. -/
theorem div_width (x : EReal) :
    Ideal.div x (Ideal.ofBits .f32 0x45000000#32) = x * Ideal.ofBits .f32 0x3A000000#32 := by
  have a : Ideal.ofBits .f32 0x45000000#32 = ((2048 : ℝ) : EReal) := by
    simp [Ideal.ofBits, Ideal.ieee, -EReal.coe_mul]; norm_num
  have b : Ideal.ofBits .f32 0x3A000000#32 = ((1 / 2048 : ℝ) : EReal) := by
    simp [Ideal.ofBits, Ideal.ieee, -EReal.coe_mul]; norm_num
  rw [a, b, Ideal.div_coe (by norm_num)]

end Cert.Norms
-- ==== Proof.NormBwd.lean ====
module

public import proofs.«01_k».proof.Defs
public import proofs.«01_k».proof.Proof.Gen.Kernel26Ideal.Frame
public import proofs.«01_k».proof.Proof.Gen.Reference26Ideal
public import proofs.«01_k».proof.Proof.Norms
public import Idealize.ShloMosaic.Lib.Pipeline.ValueKit
public import Idealize.ShloMosaic.Lib.StableHlo.RunHlo
public import Idealize.ShloMosaic.Lib.Quiescent

@[expose] public section

set_option maxRecDepth 16384

noncomputable section

/-! Backward through the scale and the norm before the feed-forward (8192 by 2048), added to what came back past it, and, by sums over the
columns, to the shift, the scale and the gain: 32 grid points, 256 rows each. -/

open Idealize.ShloMosaic Idealize.ShloMosaic.TcCoe Idealize.SL.Sem
open Idealize.ShloMosaic.Pipeline (Dat)
open Cert.Norms

namespace Cert.Kernel26Ideal.NormBwd

open Cert.Kernel26Ideal Cert.Kernel26Ideal.Gen

variable (m : (ℓ : Loc nD τ sig) → Buf (Elt Ideal) ℓ) (ρ : Dev nD → PrngReg)

theorem at0 : ∀ t : Fin cfg0.N, win0_0.index t = ![t.val, 0] := by decide +kernel
theorem at1 : ∀ t : Fin cfg0.N, win0_1.index t = ![t.val, 0] := by decide +kernel
theorem at2 : ∀ t : Fin cfg0.N, win0_2.index t = ![t.val, 0] := by decide +kernel
theorem at3 : ∀ t : Fin cfg0.N, win0_3.index t = ![0, 0] := by decide +kernel
theorem at4 : ∀ t : Fin cfg0.N, win0_4.index t = ![0, 0] := by decide +kernel
theorem at5 : ∀ t : Fin cfg0.N, win0_5.index t = ![t.val, 0] := by decide +kernel
theorem at6 : ∀ t : Fin cfg0.N, win0_6.index t = ![0, 0] := by decide +kernel
theorem at7 : ∀ t : Fin cfg0.N, win0_7.index t = ![0, 0] := by decide +kernel
theorem at8 : ∀ t : Fin cfg0.N, win0_8.index t = ![0, 0] := by decide +kernel

section Points

variable (c : Dev nD) (i : grid0.Coords)
  (a1 : Memref sig .tc .vmem S256x2048 .f32) (h1 : a1.IsWhole) (a2 : Memref sig .tc .vmem S256x2048 .f32) (h2 : a2.IsWhole)
  (a3 : Memref sig .tc .vmem S256x2048 .f32) (h3 : a3.IsWhole) (a4 : Memref sig .tc .vmem S1x2048 .f32) (h4 : a4.IsWhole)
  (a5 : Memref sig .tc .vmem S1x2048 .f32) (h5 : a5.IsWhole) (a6 : Memref sig .tc .vmem S256x2048 .f32) (h6 : a6.IsWhole)
  (a7 : Memref sig .tc .vmem S1x2048 .f32) (h7 : a7.IsWhole) (a8 : Memref sig .tc .vmem S1x2048 .f32) (h8 : a8.IsWhole)
  (a9 : Memref sig .tc .vmem S1x2048 .f32) (h9 : a9.IsWhole)
  (x d p : Vec Ideal S256x2048 .f32) (g s : Vec Ideal S1x2048 .f32) (u1 u2 u3 : Vec Ideal S1x2048 .f32)
  (j : S256x2048.Idx) (k : S1x2048.Idx)

/-- The first point leaves the gradient to the norm's input of its rows, -/
theorem blockA5 (hc0 : cond0_0 i) :
    out0_A_5 c i a1 h1 a2 h2 a3 h3 a4 h4 a5 h5 a6 h6 a7 h7 a8 h8 a9 h9
      hc0 x d p g s j = modulatedBack x d p g s j := by
  frame_out
  unfold_payloads
  simp only [total, times, gated, toScale, toGain, toLossGain, modulatedBack, modulated, lossBack, missMean, miss, resid, back,
    normed, root, mean, row]
  pointwise

/-- and so does each later one. -/
theorem blockB5 (hc0 : ¬cond0_0 i) :
    out0_B_5 c i a1 h1 a2 h2 a3 h3 a4 h4 a5 h5 a6 h6 a7 h7 a8 h8 a9 h9
      hc0 x d p g s u1 u2 u3 j = modulatedBack x d p g s j := by
  frame_out
  unfold_payloads
  simp only [total, times, gated, toScale, toGain, toLossGain, modulatedBack, modulated, lossBack, missMean, miss, resid, back,
    normed, root, mean, row]
  pointwise

/-- The first point leaves the gradient to the shift, summed over its rows, -/
theorem blockA6 (hc0 : cond0_0 i) :
    out0_A_6 c i a1 h1 a2 h2 a3 h3 a4 h4 a5 h5 a6 h6 a7 h7 a8 h8 a9 h9
      hc0 x d p g s k = total d k := by
  frame_out
  unfold_payloads
  simp only [total, times, gated, toScale, toGain, toLossGain, modulatedBack, modulated, lossBack, missMean, miss, resid, back,
    normed, root, mean, row]
  pointwise

/-- and each later one adds its own. -/
theorem blockB6 (hc0 : ¬cond0_0 i) :
    out0_B_6 c i a1 h1 a2 h2 a3 h3 a4 h4 a5 h5 a6 h6 a7 h7 a8 h8 a9 h9
      hc0 x d p g s u1 u2 u3 k = u1 k + total d k := by
  frame_out
  unfold_payloads
  simp only [total, times, gated, toScale, toGain, toLossGain, modulatedBack, modulated, lossBack, missMean, miss, resid, back,
    normed, root, mean, row]
  pointwise

/-- The first point leaves the gradient to the scale, summed over its rows, -/
theorem blockA7 (hc0 : cond0_0 i) :
    out0_A_7 c i a1 h1 a2 h2 a3 h3 a4 h4 a5 h5 a6 h6 a7 h7 a8 h8 a9 h9
      hc0 x d p g s k = total (toScale x d g) k := by
  frame_out
  unfold_payloads
  simp only [total, times, gated, toScale, toGain, toLossGain, modulatedBack, modulated, lossBack, missMean, miss, resid, back,
    normed, root, mean, row]
  pointwise
  simp only [mul_assoc]

/-- and each later one adds its own. -/
theorem blockB7 (hc0 : ¬cond0_0 i) :
    out0_B_7 c i a1 h1 a2 h2 a3 h3 a4 h4 a5 h5 a6 h6 a7 h7 a8 h8 a9 h9
      hc0 x d p g s u1 u2 u3 k = u2 k + total (toScale x d g) k := by
  frame_out
  unfold_payloads
  simp only [total, times, gated, toScale, toGain, toLossGain, modulatedBack, modulated, lossBack, missMean, miss, resid, back,
    normed, root, mean, row]
  pointwise
  simp only [mul_assoc]

/-- The first point leaves the gradient to the gain, summed over its rows, -/
theorem blockA8 (hc0 : cond0_0 i) :
    out0_A_8 c i a1 h1 a2 h2 a3 h3 a4 h4 a5 h5 a6 h6 a7 h7 a8 h8 a9 h9
      hc0 x d p g s k = total (toGain x d s) k := by
  frame_out
  unfold_payloads
  simp only [total, times, gated, toScale, toGain, toLossGain, modulatedBack, modulated, lossBack, missMean, miss, resid, back,
    normed, root, mean, row]
  pointwise

/-- and each later one adds its own. -/
theorem blockB8 (hc0 : ¬cond0_0 i) :
    out0_B_8 c i a1 h1 a2 h2 a3 h3 a4 h4 a5 h5 a6 h6 a7 h7 a8 h8 a9 h9
      hc0 x d p g s u1 u2 u3 k = u3 k + total (toGain x d s) k := by
  frame_out
  unfold_payloads
  simp only [total, times, gated, toScale, toGain, toLossGain, modulatedBack, modulated, lossBack, missMean, miss, resid, back,
    normed, root, mean, row]
  pointwise

end Points

/-- Every point leaves the gradient to the norm's input of its rows, -/
theorem rows5 (c : Dev nD) (t : Fin cfg0.N) (j : S256x2048.Idx) : (outsAt0 m c t.val t.isLt).1 j
    = modulatedBack (iblk m c 0 t : Vec Ideal S256x2048 .f32) (iblk m c 1 t : Vec Ideal S256x2048 .f32) (iblk m c 2 t : Vec
        Ideal S256x2048 .f32) (iblk m c 3 t : Vec Ideal S1x2048 .f32) (iblk m c 4 t : Vec Ideal S1x2048 .f32) j := by
  by_cases h : t.val % 32 = 0
  · rw [outsAt0_A m c t h]
    dsimp only
    exact blockA5 ..
  · rw [outsAt0_B m c t h]
    dsimp only
    exact blockB5 ..

/-- and so does every block of that result. -/
theorem final5 (c : Dev nD) : (dats m 0 c).arrAt 5 cfg0.N
    = modulatedBack (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) := by
  refine (dats m 0 c).arrAt_eq_of_covers 5 _ (by decide +kernel) fun t hf y => ?_
  blk_simp
  rw [after0_5]
  refine (rows5 m c t y).trans ?_
  simp only [total, times, gated, toScale, toGain, toLossGain, modulatedBack, modulated, lossBack, missMean, miss, resid, back,
    normed, root, mean, row]
  reads_congr <;> blk_ext [iblk, V, at0, at1, at2, at3, at4, at5, at6, at7, at8]

/-- The sums' one block holds the gradient to the shift, summed over all the rows. -/
theorem final6 (c : Dev nD) : (dats m 0 c).arrAt 6 cfg0.N
    = total (m ((c.tc : Thread nD τ).loc main_arg1)) := by
  refine (dats m 0 c).arrAt_eq_of_covers 6 _ (by decide +kernel) fun t hf y => ?_
  have h := Pipeline.eq_sum_fin_of_reset_step_apply_of_flush (fun n h => (outsAt0 m c n h).2.1) 32 (fun _ => (0 : EReal)) _
    (fun t h j => by rw [outsAt0_A m c t h]; dsimp only; exact (blockA6 ..).trans (zero_add _).symm)
    (fun t h j => by rw [outsAt0_B m c t h]; dsimp only; exact blockB6 ..) t ((flush0_6 t).mp hf)
  blk_simp
  rw [after0_6]
  refine (h y).trans ?_
  rw [zero_add]
  refine Fin.sum_mul_add_congr fun s k hl => ?_
  have hN : cfg0.N = 32 := N_0
  have := t.isLt
  simp only [total, times, gated, toScale, toGain, toLossGain, modulatedBack, modulated, lossBack, missMean, miss, resid, back,
    normed, root, mean, row]
  reads_congr <;> blk_ext [iblk, V, at0, at1, at2, at3, at4, at5, at6, at7, at8]

/-- The sums' one block holds the gradient to the scale, summed over all the rows. -/
theorem final7 (c : Dev nD) : (dats m 0 c).arrAt 7 cfg0.N
    = total (toScale (m ((c.tc : Thread nD τ).loc main_arg0)) (m ((c.tc : Thread nD τ).loc main_arg1))
        (m ((c.tc : Thread nD τ).loc main_arg3))) := by
  refine (dats m 0 c).arrAt_eq_of_covers 7 _ (by decide +kernel) fun t hf y => ?_
  have h := Pipeline.eq_sum_fin_of_reset_step_apply_of_flush (fun n h => (outsAt0 m c n h).2.2.1) 32 (fun _ => (0 : EReal)) _
    (fun t h j => by rw [outsAt0_A m c t h]; dsimp only; exact (blockA7 ..).trans (zero_add _).symm)
    (fun t h j => by rw [outsAt0_B m c t h]; dsimp only; exact blockB7 ..) t ((flush0_7 t).mp hf)
  blk_simp
  rw [after0_7]
  refine (h y).trans ?_
  rw [zero_add]
  refine Fin.sum_mul_add_congr fun s k hl => ?_
  have hN : cfg0.N = 32 := N_0
  have := t.isLt
  simp only [total, times, gated, toScale, toGain, toLossGain, modulatedBack, modulated, lossBack, missMean, miss, resid, back,
    normed, root, mean, row]
  reads_congr <;> blk_ext [iblk, V, at0, at1, at2, at3, at4, at5, at6, at7, at8]

/-- The sums' one block holds the gradient to the gain, summed over all the rows. -/
theorem final8 (c : Dev nD) : (dats m 0 c).arrAt 8 cfg0.N
    = total (toGain (m ((c.tc : Thread nD τ).loc main_arg0)) (m ((c.tc : Thread nD τ).loc main_arg1))
        (m ((c.tc : Thread nD τ).loc main_arg4))) := by
  refine (dats m 0 c).arrAt_eq_of_covers 8 _ (by decide +kernel) fun t hf y => ?_
  have h := Pipeline.eq_sum_fin_of_reset_step_apply_of_flush (fun n h => (outsAt0 m c n h).2.2.2) 32 (fun _ => (0 : EReal)) _
    (fun t h j => by rw [outsAt0_A m c t h]; dsimp only; exact (blockA8 ..).trans (zero_add _).symm)
    (fun t h j => by rw [outsAt0_B m c t h]; dsimp only; exact blockB8 ..) t ((flush0_8 t).mp hf)
  blk_simp
  rw [after0_8]
  refine (h y).trans ?_
  rw [zero_add]
  refine Fin.sum_mul_add_congr fun s k hl => ?_
  have hN : cfg0.N = 32 := N_0
  have := t.isLt
  simp only [total, times, gated, toScale, toGain, toLossGain, modulatedBack, modulated, lossBack, missMean, miss, resid, back,
    normed, root, mean, row]
  reads_congr <;> blk_ext [iblk, V, at0, at1, at2, at3, at4, at5, at6, at7, at8]

/-- The kernel's run leaves that in its results. -/
theorem run : θ_run defs (onTc (τ := τ) (main (F := Ideal))) ⟨m, fun _ => 0, ρ⟩ fun r => ∀ c : Dev nD,
      r.2.mem ((c.tc : Thread nD τ).loc main_v0_0)
        = modulatedBack (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4))
      ∧ r.2.mem ((c.tc : Thread nD τ).loc main_v0_1) = total (m ((c.tc : Thread nD τ).loc main_arg1))
      ∧ r.2.mem ((c.tc : Thread nD τ).loc main_v0_2)
        = total (toScale (m ((c.tc : Thread nD τ).loc main_arg0)) (m ((c.tc : Thread nD τ).loc main_arg1))
          (m ((c.tc : Thread nD τ).loc main_arg3)))
      ∧ r.2.mem ((c.tc : Thread nD τ).loc main_v0_3)
        = total (toGain (m ((c.tc : Thread nD τ).loc main_arg0)) (m ((c.tc : Thread nD τ).loc main_arg1))
          (m ((c.tc : Thread nD τ).loc main_arg4)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨((h c).1 5).trans (final5 m c), ((h c).1 6).trans (final6 m c),
    ((h c).1 7).trans (final7 m c), ((h c).1 8).trans (final8 m c),
    ((h c).1 0).trans ((dats m 0 c).arrAt_in 0 rfl _), ((h c).1 1).trans ((dats m 0 c).arrAt_in 1 rfl _),
    ((h c).1 2).trans ((dats m 0 c).arrAt_in 2 rfl _), ((h c).1 3).trans ((dats m 0 c).arrAt_in 3 rfl _),
    ((h c).1 4).trans ((dats m 0 c).arrAt_in 4 rfl _)⟩) (run_main m ρ)

end Cert.Kernel26Ideal.NormBwd

namespace Cert.Reference26Ideal.NormBwd

open Cert.Reference26Ideal Cert.Reference26Ideal.Gen

/-- The plain formulas leave the same. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v26)
        = modulatedBack (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4))
      ∧ r.2.mem ((c.tc : Thread nD τ).loc main_v28) = total (m ((c.tc : Thread nD τ).loc main_arg1))
      ∧ r.2.mem ((c.tc : Thread nD τ).loc main_v33)
        = total (toScale (m ((c.tc : Thread nD τ).loc main_arg0)) (m ((c.tc : Thread nD τ).loc main_arg1))
          (m ((c.tc : Thread nD τ).loc main_arg3)))
      ∧ r.2.mem ((c.tc : Thread nD τ).loc main_v40)
        = total (toGain (m ((c.tc : Thread nD τ).loc main_arg0)) (m ((c.tc : Thread nD τ).loc main_arg1))
          (m ((c.tc : Thread nD τ).loc main_arg4)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  hlo_run
  all_goals
    funext i
    simp only [total, times, gated, toScale, toGain, toLossGain, modulatedBack, modulated, lossBack, missMean, miss, resid, back,
    normed, root, mean, row]
    pointwise
  exact add_comm _ _

/-- They run and leave their operands alone. -/
theorem frame : Cert.quiescent_Reference26Ideal := fun m ρ _ =>
  (θ_run _ _ _).mono (fun _ h => ⟨fun c => (h c).2.2.2.2, sem_eq_zero_of_no_sems rfl _⟩) (run m ρ)

/-- The blocked results and the plain ones agree. -/
theorem agree : Cert.algebraic_Kernel26Ideal_Reference26Ideal := fun m ρ m' ρ' _ hag =>
  ⟨_, _, _, _, Cert.Kernel26Ideal.NormBwd.run m ρ, (θ_run _ _ _).mono
    (fun _ h c => by
      obtain ⟨e0, e1, e2, e3, e4⟩ := hag c
      obtain ⟨r0, r1, r2, r3, k⟩ := h c
      exact ⟨r0.trans (by rw [e0, e1, e2, e3, e4]),
        r1.trans (by rw [e1]),
        r2.trans (by rw [e0, e1, e3]),
        r3.trans (by rw [e0, e1, e4]), k⟩) (run m' ρ')⟩

end Cert.Reference26Ideal.NormBwd
-- ==== Proof.ResidBwd.lean ====
module

public import proofs.«01_k».proof.Defs
public import proofs.«01_k».proof.Proof.Gen.Kernel27Ideal.Frame
public import proofs.«01_k».proof.Proof.Gen.Reference27Ideal
public import proofs.«01_k».proof.Proof.Norms
public import Idealize.ShloMosaic.Lib.Pipeline.ValueKit
public import Idealize.ShloMosaic.Lib.StableHlo.RunHlo
public import Idealize.ShloMosaic.Lib.Quiescent

@[expose] public section

set_option maxRecDepth 16384

noncomputable section

/-! Backward through the first gated residual (8192 by 2048), and, by sums over the columns, to its gate: 16 grid points, 512 rows
each. -/

open Idealize.ShloMosaic Idealize.ShloMosaic.TcCoe Idealize.SL.Sem
open Idealize.ShloMosaic.Pipeline (Dat)
open Cert.Norms

namespace Cert.Kernel27Ideal.ResidBwd

open Cert.Kernel27Ideal Cert.Kernel27Ideal.Gen

variable (m : (ℓ : Loc nD τ sig) → Buf (Elt Ideal) ℓ) (ρ : Dev nD → PrngReg)

theorem at0 : ∀ t : Fin cfg0.N, win0_0.index t = ![t.val, 0] := by decide +kernel
theorem at1 : ∀ t : Fin cfg0.N, win0_1.index t = ![t.val, 0] := by decide +kernel
theorem at2 : ∀ t : Fin cfg0.N, win0_2.index t = ![0, 0] := by decide +kernel
theorem at3 : ∀ t : Fin cfg0.N, win0_3.index t = ![t.val, 0] := by decide +kernel
theorem at4 : ∀ t : Fin cfg0.N, win0_4.index t = ![0, 0] := by decide +kernel

section Points

variable (c : Dev nD) (i : grid0.Coords)
  (a1 : Memref sig .tc .vmem S512x2048 .f32) (h1 : a1.IsWhole) (a2 : Memref sig .tc .vmem S512x2048 .f32) (h2 : a2.IsWhole)
  (a3 : Memref sig .tc .vmem S1x2048 .f32) (h3 : a3.IsWhole) (a4 : Memref sig .tc .vmem S512x2048 .bf16) (h4 : a4.IsWhole)
  (a5 : Memref sig .tc .vmem S1x2048 .f32) (h5 : a5.IsWhole)
  (x f : Vec Ideal S512x2048 .f32) (g : Vec Ideal S1x2048 .f32) (u1 : Vec Ideal S1x2048 .f32)
  (j : S512x2048.Idx) (k : S1x2048.Idx)

/-- The first point leaves the gradient to the branch of its rows, -/
theorem blockA3 (hc0 : cond0_0 i) :
    out0_A_3 c i a1 h1 a2 h2 a3 h3 a4 h4 a5 h5
      hc0 x f g j = gated x g j := by
  frame_out
  unfold_payloads
  simp only [total, times, gated, toScale, toGain, toLossGain, modulatedBack, modulated, lossBack, missMean, miss, resid, back,
    normed, root, mean, row]
  pointwise
  exact mul_comm _ _

/-- and so does each later one. -/
theorem blockB3 (hc0 : ¬cond0_0 i) :
    out0_B_3 c i a1 h1 a2 h2 a3 h3 a4 h4 a5 h5
      hc0 x f g u1 j = gated x g j := by
  frame_out
  unfold_payloads
  simp only [total, times, gated, toScale, toGain, toLossGain, modulatedBack, modulated, lossBack, missMean, miss, resid, back,
    normed, root, mean, row]
  pointwise
  exact mul_comm _ _

/-- The first point leaves the gradient to the gate, summed over its rows, -/
theorem blockA4 (hc0 : cond0_0 i) :
    out0_A_4 c i a1 h1 a2 h2 a3 h3 a4 h4 a5 h5
      hc0 x f g k = total (times x f) k := by
  frame_out
  unfold_payloads
  simp only [total, times, gated, toScale, toGain, toLossGain, modulatedBack, modulated, lossBack, missMean, miss, resid, back,
    normed, root, mean, row]
  pointwise

/-- and each later one adds its own. -/
theorem blockB4 (hc0 : ¬cond0_0 i) :
    out0_B_4 c i a1 h1 a2 h2 a3 h3 a4 h4 a5 h5
      hc0 x f g u1 k = u1 k + total (times x f) k := by
  frame_out
  unfold_payloads
  simp only [total, times, gated, toScale, toGain, toLossGain, modulatedBack, modulated, lossBack, missMean, miss, resid, back,
    normed, root, mean, row]
  pointwise

end Points

/-- Every point leaves the gradient to the branch of its rows, -/
theorem rows3 (c : Dev nD) (t : Fin cfg0.N) (j : S512x2048.Idx) : (outsAt0 m c t.val t.isLt).1 j
    = gated (iblk m c 0 t : Vec Ideal S512x2048 .f32) (iblk m c 2 t : Vec Ideal S1x2048 .f32) j := by
  by_cases h : t.val % 16 = 0
  · rw [outsAt0_A m c t h]
    dsimp only
    exact blockA3 ..
  · rw [outsAt0_B m c t h]
    dsimp only
    exact blockB3 ..

/-- and so does every block of that result. -/
theorem final3 (c : Dev nD) : (dats m 0 c).arrAt 3 cfg0.N
    = gated (m ((c.tc : Thread nD τ).loc main_arg0)) (m ((c.tc : Thread nD τ).loc main_arg2)) := by
  refine (dats m 0 c).arrAt_eq_of_covers 3 _ (by decide +kernel) fun t hf y => ?_
  blk_simp
  rw [after0_3]
  refine (rows3 m c t y).trans ?_
  simp only [total, times, gated, toScale, toGain, toLossGain, modulatedBack, modulated, lossBack, missMean, miss, resid, back,
    normed, root, mean, row]
  reads_congr <;> blk_ext [iblk, V, at0, at1, at2, at3, at4]

/-- The sums' one block holds the gradient to the gate, summed over all the rows. -/
theorem final4 (c : Dev nD) : (dats m 0 c).arrAt 4 cfg0.N
    = total (times (m ((c.tc : Thread nD τ).loc main_arg0)) (m ((c.tc : Thread nD τ).loc main_arg1))) := by
  refine (dats m 0 c).arrAt_eq_of_covers 4 _ (by decide +kernel) fun t hf y => ?_
  have h := Pipeline.eq_sum_fin_of_reset_step_apply_of_flush (fun n h => (outsAt0 m c n h).2) 16 (fun _ => (0 : EReal)) _
    (fun t h j => by rw [outsAt0_A m c t h]; dsimp only; exact (blockA4 ..).trans (zero_add _).symm)
    (fun t h j => by rw [outsAt0_B m c t h]; dsimp only; exact blockB4 ..) t ((flush0_4 t).mp hf)
  blk_simp
  rw [after0_4]
  refine (h y).trans ?_
  rw [zero_add]
  refine Fin.sum_mul_add_congr fun s k hl => ?_
  have hN : cfg0.N = 16 := N_0
  have := t.isLt
  simp only [total, times, gated, toScale, toGain, toLossGain, modulatedBack, modulated, lossBack, missMean, miss, resid, back,
    normed, root, mean, row]
  reads_congr <;> blk_ext [iblk, V, at0, at1, at2, at3, at4]

/-- The kernel's run leaves that in its results. -/
theorem run : θ_run defs (onTc (τ := τ) (main (F := Ideal))) ⟨m, fun _ => 0, ρ⟩ fun r => ∀ c : Dev nD,
      r.2.mem ((c.tc : Thread nD τ).loc main_v0_0)
        = gated (m ((c.tc : Thread nD τ).loc main_arg0)) (m ((c.tc : Thread nD τ).loc main_arg2))
      ∧ r.2.mem ((c.tc : Thread nD τ).loc main_v0_1)
        = total (times (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h c).1 3).trans (final3 m c), ((h c).1 4).trans (final4 m c),
    ((h c).1 0).trans ((dats m 0 c).arrAt_in 0 rfl _), ((h c).1 1).trans ((dats m 0 c).arrAt_in 1 rfl _),
    ((h c).1 2).trans ((dats m 0 c).arrAt_in 2 rfl _)⟩) (run_main m ρ)

end Cert.Kernel27Ideal.ResidBwd

namespace Cert.Reference27Ideal.ResidBwd

open Cert.Reference27Ideal Cert.Reference27Ideal.Gen

/-- The plain formulas leave the same. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v2)
        = gated (m ((c.tc : Thread nD τ).loc main_arg0)) (m ((c.tc : Thread nD τ).loc main_arg2))
      ∧ r.2.mem ((c.tc : Thread nD τ).loc main_v5)
        = total (times (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  hlo_run
  all_goals
    funext i
    simp only [total, times, gated, toScale, toGain, toLossGain, modulatedBack, modulated, lossBack, missMean, miss, resid, back,
    normed, root, mean, row]
    pointwise

/-- They run and leave their operands alone. -/
theorem frame : Cert.quiescent_Reference27Ideal := fun m ρ _ =>
  (θ_run _ _ _).mono (fun _ h => ⟨fun c => (h c).2.2, sem_eq_zero_of_no_sems rfl _⟩) (run m ρ)

/-- The blocked results and the plain ones agree. -/
theorem agree : Cert.algebraic_Kernel27Ideal_Reference27Ideal := fun m ρ m' ρ' _ hag =>
  ⟨_, _, Cert.Kernel27Ideal.ResidBwd.run m ρ, (θ_run _ _ _).mono
    (fun _ h c => by
      obtain ⟨e0, e1, e2⟩ := hag c
      obtain ⟨r0, r1, k⟩ := h c
      exact ⟨r0.trans (by rw [e0, e2]),
        r1.trans (by rw [e0, e1]), k⟩) (run m' ρ')⟩

end Cert.Reference27Ideal.ResidBwd
-- ==== Proof.LossHead.lean ====
module

public import proofs.«01_k».proof.Defs
public import proofs.«01_k».proof.Proof.Gen.Kernel28Ideal.Frame
public import proofs.«01_k».proof.Proof.Gen.Reference28Ideal
public import proofs.«01_k».proof.Proof.Norms
public import Idealize.ShloMosaic.Lib.Pipeline.ValueKit
public import Idealize.ShloMosaic.Lib.StableHlo.RunHlo
public import Idealize.ShloMosaic.Lib.Quiescent

@[expose] public section

set_option maxRecDepth 16384

noncomputable section

/-! The loss and its gradient (8192 by 2048): the last residual, its norm, the squared misses summed over the rows, and the gradients to
the residual stream, to the feed-forward, to the last gain and to the residual's gate: 32 grid points, 256 rows each. -/

open Idealize.ShloMosaic Idealize.ShloMosaic.TcCoe Idealize.SL.Sem
open Idealize.ShloMosaic.Pipeline (Dat)
open Cert.Norms

namespace Cert.Kernel28Ideal.LossHead

open Cert.Kernel28Ideal Cert.Kernel28Ideal.Gen

variable (m : (ℓ : Loc nD τ sig) → Buf (Elt Ideal) ℓ) (ρ : Dev nD → PrngReg)

theorem at0 : ∀ t : Fin cfg0.N, win0_0.index t = ![t.val, 0] := by decide +kernel
theorem at1 : ∀ t : Fin cfg0.N, win0_1.index t = ![t.val, 0] := by decide +kernel
theorem at2 : ∀ t : Fin cfg0.N, win0_2.index t = ![t.val, 0] := by decide +kernel
theorem at3 : ∀ t : Fin cfg0.N, win0_3.index t = ![0, 0] := by decide +kernel
theorem at4 : ∀ t : Fin cfg0.N, win0_4.index t = ![0, 0] := by decide +kernel
theorem at5 : ∀ t : Fin cfg0.N, win0_5.index t = ![t.val, 0] := by decide +kernel
theorem at6 : ∀ t : Fin cfg0.N, win0_6.index t = ![t.val, 0] := by decide +kernel
theorem at7 : ∀ t : Fin cfg0.N, win0_7.index t = ![0, 0] := by decide +kernel
theorem at8 : ∀ t : Fin cfg0.N, win0_8.index t = ![0, 0] := by decide +kernel
theorem at9 : ∀ t : Fin cfg0.N, win0_9.index t = ![0, 0] := by decide +kernel

section Points

variable (c : Dev nD) (i : grid0.Coords)
  (a1 : Memref sig .tc .vmem S256x2048 .f32) (h1 : a1.IsWhole) (a2 : Memref sig .tc .vmem S256x2048 .f32) (h2 : a2.IsWhole)
  (a3 : Memref sig .tc .vmem S256x2048 .f32) (h3 : a3.IsWhole) (a4 : Memref sig .tc .vmem S1x2048 .f32) (h4 : a4.IsWhole)
  (a5 : Memref sig .tc .vmem S1x2048 .f32) (h5 : a5.IsWhole) (a6 : Memref sig .tc .vmem S256x2048 .f32) (h6 : a6.IsWhole)
  (a7 : Memref sig .tc .vmem S256x2048 .bf16) (h7 : a7.IsWhole) (a8 : Memref sig .tc .vmem S1x2048 .f32) (h8 : a8.IsWhole)
  (a9 : Memref sig .tc .vmem S1x2048 .f32) (h9 : a9.IsWhole) (a10 : Memref sig .tc .vmem S1x2048 .f32) (h10 : a10.IsWhole)
  (x f y : Vec Ideal S256x2048 .f32) (a g : Vec Ideal S1x2048 .f32) (u2 u3 u4 : Vec Ideal S1x2048 .f32)
  (j : S256x2048.Idx) (k : S1x2048.Idx)

/-- The first point leaves the gradient to the residual stream of its rows, -/
theorem blockA5 (hc0 : cond0_0 i) :
    out0_A_5 c i a1 h1 a2 h2 a3 h3 a4 h4 a5 h5 a6 h6 a7 h7 a8 h8 a9 h9 a10 h10
      hc0 x f y a g j = lossBack (resid x f a) y g j := by
  frame_out
  unfold_payloads
  simp only [total, times, gated, toScale, toGain, toLossGain, modulatedBack, modulated, lossBack, missMean, miss, resid, back,
    normed, root, mean, row]
  pointwise
  simp only [div_width]

/-- and so does each later one. -/
theorem blockB5 (hc0 : ¬cond0_0 i) :
    out0_B_5 c i a1 h1 a2 h2 a3 h3 a4 h4 a5 h5 a6 h6 a7 h7 a8 h8 a9 h9 a10 h10
      hc0 x f y a g u2 u3 u4 j = lossBack (resid x f a) y g j := by
  frame_out
  unfold_payloads
  simp only [total, times, gated, toScale, toGain, toLossGain, modulatedBack, modulated, lossBack, missMean, miss, resid, back,
    normed, root, mean, row]
  pointwise
  simp only [div_width]

/-- The first point leaves the gradient to the feed-forward of its rows, -/
theorem blockA6 (hc0 : cond0_0 i) :
    out0_A_6 c i a1 h1 a2 h2 a3 h3 a4 h4 a5 h5 a6 h6 a7 h7 a8 h8 a9 h9 a10 h10
      hc0 x f y a g j = gated (lossBack (resid x f a) y g) a j := by
  frame_out
  unfold_payloads
  simp only [total, times, gated, toScale, toGain, toLossGain, modulatedBack, modulated, lossBack, missMean, miss, resid, back,
    normed, root, mean, row]
  pointwise
  simp only [div_width]

/-- and so does each later one. -/
theorem blockB6 (hc0 : ¬cond0_0 i) :
    out0_B_6 c i a1 h1 a2 h2 a3 h3 a4 h4 a5 h5 a6 h6 a7 h7 a8 h8 a9 h9 a10 h10
      hc0 x f y a g u2 u3 u4 j = gated (lossBack (resid x f a) y g) a j := by
  frame_out
  unfold_payloads
  simp only [total, times, gated, toScale, toGain, toLossGain, modulatedBack, modulated, lossBack, missMean, miss, resid, back,
    normed, root, mean, row]
  pointwise
  simp only [div_width]

/-- The first point leaves the squared misses, summed over its rows, -/
theorem blockA7 (hc0 : cond0_0 i) :
    out0_A_7 c i a1 h1 a2 h2 a3 h3 a4 h4 a5 h5 a6 h6 a7 h7 a8 h8 a9 h9 a10 h10
      hc0 x f y a g k = total (times (miss (resid x f a) y g) (miss (resid x f a) y g)) k := by
  frame_out
  unfold_payloads
  simp only [total, times, gated, toScale, toGain, toLossGain, modulatedBack, modulated, lossBack, missMean, miss, resid, back,
    normed, root, mean, row]
  pointwise

/-- and each later one adds its own. -/
theorem blockB7 (hc0 : ¬cond0_0 i) :
    out0_B_7 c i a1 h1 a2 h2 a3 h3 a4 h4 a5 h5 a6 h6 a7 h7 a8 h8 a9 h9 a10 h10
      hc0 x f y a g u2 u3 u4 k = u2 k + total (times (miss (resid x f a) y g) (miss (resid x f a) y g)) k := by
  frame_out
  unfold_payloads
  simp only [total, times, gated, toScale, toGain, toLossGain, modulatedBack, modulated, lossBack, missMean, miss, resid, back,
    normed, root, mean, row]
  pointwise

/-- The first point leaves the gradient to the last gain, summed over its rows, -/
theorem blockA8 (hc0 : cond0_0 i) :
    out0_A_8 c i a1 h1 a2 h2 a3 h3 a4 h4 a5 h5 a6 h6 a7 h7 a8 h8 a9 h9 a10 h10
      hc0 x f y a g k = total (toLossGain (resid x f a) y g) k := by
  frame_out
  unfold_payloads
  simp only [total, times, gated, toScale, toGain, toLossGain, modulatedBack, modulated, lossBack, missMean, miss, resid, back,
    normed, root, mean, row]
  pointwise
  simp only [div_width]

/-- and each later one adds its own. -/
theorem blockB8 (hc0 : ¬cond0_0 i) :
    out0_B_8 c i a1 h1 a2 h2 a3 h3 a4 h4 a5 h5 a6 h6 a7 h7 a8 h8 a9 h9 a10 h10
      hc0 x f y a g u2 u3 u4 k = u3 k + total (toLossGain (resid x f a) y g) k := by
  frame_out
  unfold_payloads
  simp only [total, times, gated, toScale, toGain, toLossGain, modulatedBack, modulated, lossBack, missMean, miss, resid, back,
    normed, root, mean, row]
  pointwise
  simp only [div_width]

/-- The first point leaves the gradient to the gate, summed over its rows, -/
theorem blockA9 (hc0 : cond0_0 i) :
    out0_A_9 c i a1 h1 a2 h2 a3 h3 a4 h4 a5 h5 a6 h6 a7 h7 a8 h8 a9 h9 a10 h10
      hc0 x f y a g k = total (times (lossBack (resid x f a) y g) f) k := by
  frame_out
  unfold_payloads
  simp only [total, times, gated, toScale, toGain, toLossGain, modulatedBack, modulated, lossBack, missMean, miss, resid, back,
    normed, root, mean, row]
  pointwise
  simp only [div_width]

/-- and each later one adds its own. -/
theorem blockB9 (hc0 : ¬cond0_0 i) :
    out0_B_9 c i a1 h1 a2 h2 a3 h3 a4 h4 a5 h5 a6 h6 a7 h7 a8 h8 a9 h9 a10 h10
      hc0 x f y a g u2 u3 u4 k = u4 k + total (times (lossBack (resid x f a) y g) f) k := by
  frame_out
  unfold_payloads
  simp only [total, times, gated, toScale, toGain, toLossGain, modulatedBack, modulated, lossBack, missMean, miss, resid, back,
    normed, root, mean, row]
  pointwise
  simp only [div_width]

end Points

/-- Every point leaves the gradient to the residual stream of its rows, -/
theorem rows5 (c : Dev nD) (t : Fin cfg0.N) (j : S256x2048.Idx) : (outsAt0 m c t.val t.isLt).1 j
    = lossBack (resid (iblk m c 0 t : Vec Ideal S256x2048 .f32) (iblk m c 1 t : Vec Ideal S256x2048 .f32) (iblk m c 3 t : Vec
        Ideal S1x2048 .f32)) (iblk m c 2 t : Vec Ideal S256x2048 .f32) (iblk m c 4 t : Vec Ideal S1x2048 .f32) j := by
  by_cases h : t.val % 32 = 0
  · rw [outsAt0_A m c t h]
    dsimp only
    exact blockA5 ..
  · rw [outsAt0_B m c t h]
    dsimp only
    exact blockB5 ..

/-- and so does every block of that result. -/
theorem final5 (c : Dev nD) : (dats m 0 c).arrAt 5 cfg0.N
    = lossBack (resid (m ((c.tc : Thread nD τ).loc main_arg0)) (m ((c.tc : Thread nD τ).loc main_arg1))
        (m ((c.tc : Thread nD τ).loc main_arg3))) (m ((c.tc : Thread nD τ).loc main_arg2))
        (m ((c.tc : Thread nD τ).loc main_arg4)) := by
  refine (dats m 0 c).arrAt_eq_of_covers 5 _ (by decide +kernel) fun t hf y => ?_
  blk_simp
  rw [after0_5]
  refine (rows5 m c t y).trans ?_
  refine lossBack_eq (resid_row ?_ ?_ ?_) ?_ ?_ ?_
  all_goals
    first
    | (funext l; unfold row; blk_ext [iblk, V, at0, at1, at2, at3, at4, at5, at6, at7, at8, at9])
    | blk_ext [iblk, V, at0, at1, at2, at3, at4, at5, at6, at7, at8, at9]
    | (apply Fin.ext; blk_simp [at5, at6, at9])

/-- Every point leaves the gradient to the feed-forward of its rows, -/
theorem rows6 (c : Dev nD) (t : Fin cfg0.N) (j : S256x2048.Idx) : (outsAt0 m c t.val t.isLt).2.1 j
    = gated (lossBack (resid (iblk m c 0 t : Vec Ideal S256x2048 .f32) (iblk m c 1 t : Vec Ideal S256x2048 .f32) (iblk m c 3
        t : Vec Ideal S1x2048 .f32)) (iblk m c 2 t : Vec Ideal S256x2048 .f32) (iblk m c 4 t : Vec Ideal S1x2048 .f32)) (iblk m
        c 3 t : Vec Ideal S1x2048 .f32) j := by
  by_cases h : t.val % 32 = 0
  · rw [outsAt0_A m c t h]
    dsimp only
    exact blockA6 ..
  · rw [outsAt0_B m c t h]
    dsimp only
    exact blockB6 ..

/-- and so does every block of that result. -/
theorem final6 (c : Dev nD) : (dats m 0 c).arrAt 6 cfg0.N
    = gated (lossBack (resid (m ((c.tc : Thread nD τ).loc main_arg0)) (m ((c.tc : Thread nD τ).loc main_arg1))
        (m ((c.tc : Thread nD τ).loc main_arg3))) (m ((c.tc : Thread nD τ).loc main_arg2))
        (m ((c.tc : Thread nD τ).loc main_arg4))) (m ((c.tc : Thread nD τ).loc main_arg3)) := by
  refine (dats m 0 c).arrAt_eq_of_covers 6 _ (by decide +kernel) fun t hf y => ?_
  blk_simp
  rw [after0_6]
  refine (rows6 m c t y).trans ?_
  refine gated_eq (lossBack_eq (resid_row ?_ ?_ ?_) ?_ ?_ ?_) ?_
  all_goals
    first
    | (funext l; unfold row; blk_ext [iblk, V, at0, at1, at2, at3, at4, at5, at6, at7, at8, at9])
    | blk_ext [iblk, V, at0, at1, at2, at3, at4, at5, at6, at7, at8, at9]
    | (apply Fin.ext; blk_simp [at5, at6, at9])

/-- The sums' one block holds the squared misses, summed over all the rows. -/
theorem final7 (c : Dev nD) : (dats m 0 c).arrAt 7 cfg0.N
    = total (times (miss (resid (m ((c.tc : Thread nD τ).loc main_arg0)) (m ((c.tc : Thread nD τ).loc main_arg1))
        (m ((c.tc : Thread nD τ).loc main_arg3))) (m ((c.tc : Thread nD τ).loc main_arg2))
        (m ((c.tc : Thread nD τ).loc main_arg4))) (miss (resid (m ((c.tc : Thread nD τ).loc main_arg0))
        (m ((c.tc : Thread nD τ).loc main_arg1)) (m ((c.tc : Thread nD τ).loc main_arg3)))
        (m ((c.tc : Thread nD τ).loc main_arg2)) (m ((c.tc : Thread nD τ).loc main_arg4)))) := by
  refine (dats m 0 c).arrAt_eq_of_covers 7 _ (by decide +kernel) fun t hf y => ?_
  have h := Pipeline.eq_sum_fin_of_reset_step_apply_of_flush (fun n h => (outsAt0 m c n h).2.2.1) 32 (fun _ => (0 : EReal)) _
    (fun t h j => by rw [outsAt0_A m c t h]; dsimp only; exact (blockA7 ..).trans (zero_add _).symm)
    (fun t h j => by rw [outsAt0_B m c t h]; dsimp only; exact blockB7 ..) t ((flush0_7 t).mp hf)
  blk_simp
  rw [after0_7]
  refine (h y).trans ?_
  rw [zero_add]
  refine Fin.sum_mul_add_congr fun s k hl => ?_
  have hN : cfg0.N = 32 := N_0
  have := t.isLt
  simp only [total, times, gated, toScale, toGain, toLossGain, modulatedBack, modulated, lossBack, missMean, miss, resid, back,
    normed, root, mean, row]
  reads_congr <;> blk_ext [iblk, V, at0, at1, at2, at3, at4, at5, at6, at7, at8, at9]

/-- The sums' one block holds the gradient to the last gain, summed over all the rows. -/
theorem final8 (c : Dev nD) : (dats m 0 c).arrAt 8 cfg0.N
    = total (toLossGain (resid (m ((c.tc : Thread nD τ).loc main_arg0)) (m ((c.tc : Thread nD τ).loc main_arg1))
        (m ((c.tc : Thread nD τ).loc main_arg3))) (m ((c.tc : Thread nD τ).loc main_arg2))
        (m ((c.tc : Thread nD τ).loc main_arg4))) := by
  refine (dats m 0 c).arrAt_eq_of_covers 8 _ (by decide +kernel) fun t hf y => ?_
  have h := Pipeline.eq_sum_fin_of_reset_step_apply_of_flush (fun n h => (outsAt0 m c n h).2.2.2.1) 32 (fun _ => (0 : EReal)) _
    (fun t h j => by rw [outsAt0_A m c t h]; dsimp only; exact (blockA8 ..).trans (zero_add _).symm)
    (fun t h j => by rw [outsAt0_B m c t h]; dsimp only; exact blockB8 ..) t ((flush0_8 t).mp hf)
  blk_simp
  rw [after0_8]
  refine (h y).trans ?_
  rw [zero_add]
  refine Fin.sum_mul_add_congr fun s k hl => ?_
  have hN : cfg0.N = 32 := N_0
  have := t.isLt
  simp only [total, times, gated, toScale, toGain, toLossGain, modulatedBack, modulated, lossBack, missMean, miss, resid, back,
    normed, root, mean, row]
  reads_congr <;> blk_ext [iblk, V, at0, at1, at2, at3, at4, at5, at6, at7, at8, at9]

/-- The sums' one block holds the gradient to the gate, summed over all the rows. -/
theorem final9 (c : Dev nD) : (dats m 0 c).arrAt 9 cfg0.N
    = total (times (lossBack (resid (m ((c.tc : Thread nD τ).loc main_arg0)) (m ((c.tc : Thread nD τ).loc main_arg1))
        (m ((c.tc : Thread nD τ).loc main_arg3))) (m ((c.tc : Thread nD τ).loc main_arg2))
        (m ((c.tc : Thread nD τ).loc main_arg4))) (m ((c.tc : Thread nD τ).loc main_arg1))) := by
  refine (dats m 0 c).arrAt_eq_of_covers 9 _ (by decide +kernel) fun t hf y => ?_
  have h := Pipeline.eq_sum_fin_of_reset_step_apply_of_flush (fun n h => (outsAt0 m c n h).2.2.2.2) 32 (fun _ => (0 : EReal)) _
    (fun t h j => by rw [outsAt0_A m c t h]; dsimp only; exact (blockA9 ..).trans (zero_add _).symm)
    (fun t h j => by rw [outsAt0_B m c t h]; dsimp only; exact blockB9 ..) t ((flush0_9 t).mp hf)
  blk_simp
  rw [after0_9]
  refine (h y).trans ?_
  rw [zero_add]
  refine Fin.sum_mul_add_congr fun s k hl => ?_
  have hN : cfg0.N = 32 := N_0
  have := t.isLt
  refine times_eq (lossBack_eq (resid_row ?_ ?_ ?_) ?_ ?_ ?_) ?_
  all_goals
    first
    | (funext l; unfold row; blk_ext [iblk, V, at0, at1, at2, at3, at4, at5, at6, at7, at8, at9])
    | blk_ext [iblk, V, at0, at1, at2, at3, at4, at5, at6, at7, at8, at9]
    | (apply Fin.ext; blk_simp [at5, at6, at9])

/-- The kernel's run leaves that in its results. -/
theorem run : θ_run defs (onTc (τ := τ) (main (F := Ideal))) ⟨m, fun _ => 0, ρ⟩ fun r => ∀ c : Dev nD,
      r.2.mem ((c.tc : Thread nD τ).loc main_v0_0)
        = lossBack (resid (m ((c.tc : Thread nD τ).loc main_arg0)) (m ((c.tc : Thread nD τ).loc main_arg1))
          (m ((c.tc : Thread nD τ).loc main_arg3))) (m ((c.tc : Thread nD τ).loc main_arg2))
          (m ((c.tc : Thread nD τ).loc main_arg4))
      ∧ r.2.mem ((c.tc : Thread nD τ).loc main_v0_1)
        = gated (lossBack (resid (m ((c.tc : Thread nD τ).loc main_arg0)) (m ((c.tc : Thread nD τ).loc main_arg1))
          (m ((c.tc : Thread nD τ).loc main_arg3))) (m ((c.tc : Thread nD τ).loc main_arg2))
          (m ((c.tc : Thread nD τ).loc main_arg4))) (m ((c.tc : Thread nD τ).loc main_arg3))
      ∧ r.2.mem ((c.tc : Thread nD τ).loc main_v0_2)
        = total (times (miss (resid (m ((c.tc : Thread nD τ).loc main_arg0)) (m ((c.tc : Thread nD τ).loc main_arg1))
          (m ((c.tc : Thread nD τ).loc main_arg3))) (m ((c.tc : Thread nD τ).loc main_arg2))
          (m ((c.tc : Thread nD τ).loc main_arg4))) (miss (resid (m ((c.tc : Thread nD τ).loc main_arg0))
          (m ((c.tc : Thread nD τ).loc main_arg1)) (m ((c.tc : Thread nD τ).loc main_arg3)))
          (m ((c.tc : Thread nD τ).loc main_arg2)) (m ((c.tc : Thread nD τ).loc main_arg4))))
      ∧ r.2.mem ((c.tc : Thread nD τ).loc main_v0_3)
        = total (toLossGain (resid (m ((c.tc : Thread nD τ).loc main_arg0)) (m ((c.tc : Thread nD τ).loc main_arg1))
          (m ((c.tc : Thread nD τ).loc main_arg3))) (m ((c.tc : Thread nD τ).loc main_arg2))
          (m ((c.tc : Thread nD τ).loc main_arg4)))
      ∧ r.2.mem ((c.tc : Thread nD τ).loc main_v0_4)
        = total (times (lossBack (resid (m ((c.tc : Thread nD τ).loc main_arg0)) (m ((c.tc : Thread nD τ).loc main_arg1))
          (m ((c.tc : Thread nD τ).loc main_arg3))) (m ((c.tc : Thread nD τ).loc main_arg2))
          (m ((c.tc : Thread nD τ).loc main_arg4))) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨((h c).1 5).trans (final5 m c), ((h c).1 6).trans (final6 m c),
    ((h c).1 7).trans (final7 m c), ((h c).1 8).trans (final8 m c),
    ((h c).1 9).trans (final9 m c), ((h c).1 0).trans ((dats m 0 c).arrAt_in 0 rfl _),
    ((h c).1 1).trans ((dats m 0 c).arrAt_in 1 rfl _), ((h c).1 2).trans ((dats m 0 c).arrAt_in 2 rfl _),
    ((h c).1 3).trans ((dats m 0 c).arrAt_in 3 rfl _), ((h c).1 4).trans ((dats m 0 c).arrAt_in 4 rfl _)⟩) (run_main m ρ)

end Cert.Kernel28Ideal.LossHead

namespace Cert.Reference28Ideal.LossHead

open Cert.Reference28Ideal Cert.Reference28Ideal.Gen

/-- The plain formulas leave the same. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v29)
        = lossBack (resid (m ((c.tc : Thread nD τ).loc main_arg0)) (m ((c.tc : Thread nD τ).loc main_arg1))
          (m ((c.tc : Thread nD τ).loc main_arg3))) (m ((c.tc : Thread nD τ).loc main_arg2))
          (m ((c.tc : Thread nD τ).loc main_arg4))
      ∧ r.2.mem ((c.tc : Thread nD τ).loc main_v32)
        = gated (lossBack (resid (m ((c.tc : Thread nD τ).loc main_arg0)) (m ((c.tc : Thread nD τ).loc main_arg1))
          (m ((c.tc : Thread nD τ).loc main_arg3))) (m ((c.tc : Thread nD τ).loc main_arg2))
          (m ((c.tc : Thread nD τ).loc main_arg4))) (m ((c.tc : Thread nD τ).loc main_arg3))
      ∧ r.2.mem ((c.tc : Thread nD τ).loc main_v35)
        = total (times (miss (resid (m ((c.tc : Thread nD τ).loc main_arg0)) (m ((c.tc : Thread nD τ).loc main_arg1))
          (m ((c.tc : Thread nD τ).loc main_arg3))) (m ((c.tc : Thread nD τ).loc main_arg2))
          (m ((c.tc : Thread nD τ).loc main_arg4))) (miss (resid (m ((c.tc : Thread nD τ).loc main_arg0))
          (m ((c.tc : Thread nD τ).loc main_arg1)) (m ((c.tc : Thread nD τ).loc main_arg3)))
          (m ((c.tc : Thread nD τ).loc main_arg2)) (m ((c.tc : Thread nD τ).loc main_arg4))))
      ∧ r.2.mem ((c.tc : Thread nD τ).loc main_v38)
        = total (toLossGain (resid (m ((c.tc : Thread nD τ).loc main_arg0)) (m ((c.tc : Thread nD τ).loc main_arg1))
          (m ((c.tc : Thread nD τ).loc main_arg3))) (m ((c.tc : Thread nD τ).loc main_arg2))
          (m ((c.tc : Thread nD τ).loc main_arg4)))
      ∧ r.2.mem ((c.tc : Thread nD τ).loc main_v41)
        = total (times (lossBack (resid (m ((c.tc : Thread nD τ).loc main_arg0)) (m ((c.tc : Thread nD τ).loc main_arg1))
          (m ((c.tc : Thread nD τ).loc main_arg3))) (m ((c.tc : Thread nD τ).loc main_arg2))
          (m ((c.tc : Thread nD τ).loc main_arg4))) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  hlo_run
  all_goals
    funext i
    simp only [total, times, gated, toScale, toGain, toLossGain, modulatedBack, modulated, lossBack, missMean, miss, resid, back,
    normed, root, mean, row]
    pointwise

/-- They run and leave their operands alone. -/
theorem frame : Cert.quiescent_Reference28Ideal := fun m ρ _ =>
  (θ_run _ _ _).mono (fun _ h => ⟨fun c => (h c).2.2.2.2.2, sem_eq_zero_of_no_sems rfl _⟩) (run m ρ)

/-- The blocked results and the plain ones agree. -/
theorem agree : Cert.algebraic_Kernel28Ideal_Reference28Ideal := fun m ρ m' ρ' _ hag =>
  ⟨_, _, _, _, _, Cert.Kernel28Ideal.LossHead.run m ρ, (θ_run _ _ _).mono
    (fun _ h c => by
      obtain ⟨e0, e1, e2, e3, e4⟩ := hag c
      obtain ⟨r0, r1, r2, r3, r4, k⟩ := h c
      exact ⟨r0.trans (by rw [e0, e1, e2, e3, e4]),
        r1.trans (by rw [e0, e1, e2, e3, e4]),
        r2.trans (by rw [e0, e1, e2, e3, e4]),
        r3.trans (by rw [e0, e1, e2, e3, e4]),
        r4.trans (by rw [e0, e1, e2, e3, e4]), k⟩) (run m' ρ')⟩

end Cert.Reference28Ideal.LossHead
-- ==== Proof.Norm.lean ====
module

public import proofs.«01_k».proof.Defs
public import proofs.«01_k».proof.Proof.Gen.Kernel29Ideal.Frame
public import proofs.«01_k».proof.Proof.Gen.Reference29Ideal
public import proofs.«01_k».proof.Proof.Norms
public import Idealize.ShloMosaic.Lib.Pipeline.ValueKit
public import Idealize.ShloMosaic.Lib.StableHlo.RunHlo
public import Idealize.ShloMosaic.Lib.Quiescent

@[expose] public section

set_option maxRecDepth 16384

noncomputable section

/-! The norm, its scale and its shift before the mixer (8192 by 2048): 8 grid points, 1024 rows each. -/

open Idealize.ShloMosaic Idealize.ShloMosaic.TcCoe Idealize.SL.Sem
open Idealize.ShloMosaic.Pipeline (Dat)
open Cert.Norms

namespace Cert.Kernel29Ideal.Norm

open Cert.Kernel29Ideal Cert.Kernel29Ideal.Gen

variable (m : (ℓ : Loc nD τ sig) → Buf (Elt Ideal) ℓ) (ρ : Dev nD → PrngReg)

theorem at0 : ∀ t : Fin cfg0.N, win0_0.index t = ![t.val, 0] := by decide +kernel
theorem at1 : ∀ t : Fin cfg0.N, win0_1.index t = ![0, 0] := by decide +kernel
theorem at2 : ∀ t : Fin cfg0.N, win0_2.index t = ![0, 0] := by decide +kernel
theorem at3 : ∀ t : Fin cfg0.N, win0_3.index t = ![0, 0] := by decide +kernel
theorem at4 : ∀ t : Fin cfg0.N, win0_4.index t = ![t.val, 0] := by decide +kernel

/-- A grid point leaves the norm of its rows. -/
theorem block4 (x : Vec Ideal S1024x2048 .f32) (g s h : Vec Ideal S1x2048 .f32) (j : S1024x2048.Idx) :
    out0_4 x g s h j = modulated x g s h j := by
  frame_out
  unfold_payloads
  simp only [total, times, gated, toScale, toGain, toLossGain, modulatedBack, modulated, lossBack, missMean, miss, resid, back,
    normed, root, mean, row]
  pointwise

/-- Every block of that result holds the norm of the same rows. -/
theorem final4 (c : Dev nD) : (dats m 0 c).arrAt 4 cfg0.N
    = modulated (m ((c.tc : Thread nD τ).loc main_arg0)) (m ((c.tc : Thread nD τ).loc main_arg1))
        (m ((c.tc : Thread nD τ).loc main_arg2)) (m ((c.tc : Thread nD τ).loc main_arg3)) := by
  refine (dats m 0 c).arrAt_eq_of_covers 4 _ (by decide +kernel) fun t hf y => ?_
  blk_simp
  rw [after0_4]
  refine (block4 ..).trans ?_
  simp only [total, times, gated, toScale, toGain, toLossGain, modulatedBack, modulated, lossBack, missMean, miss, resid, back,
    normed, root, mean, row]
  reads_congr <;> blk_ext [iblk, V, at0, at1, at2, at3, at4]

/-- The kernel's run leaves that in its results. -/
theorem run : θ_run defs (onTc (τ := τ) (main (F := Ideal))) ⟨m, fun _ => 0, ρ⟩ fun r => ∀ c : Dev nD,
      r.2.mem ((c.tc : Thread nD τ).loc main_v0)
        = modulated (m ((c.tc : Thread nD τ).loc main_arg0)) (m ((c.tc : Thread nD τ).loc main_arg1))
          (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h c).1 4).trans (final4 m c), ((h c).1 0).trans ((dats m 0 c).arrAt_in 0 rfl _),
    ((h c).1 1).trans ((dats m 0 c).arrAt_in 1 rfl _), ((h c).1 2).trans ((dats m 0 c).arrAt_in 2 rfl _),
    ((h c).1 3).trans ((dats m 0 c).arrAt_in 3 rfl _)⟩) (run_main m ρ)

end Cert.Kernel29Ideal.Norm

namespace Cert.Reference29Ideal.Norm

open Cert.Reference29Ideal Cert.Reference29Ideal.Gen

/-- The plain formulas leave the same. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v18)
        = modulated (m ((c.tc : Thread nD τ).loc main_arg0)) (m ((c.tc : Thread nD τ).loc main_arg1))
          (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  hlo_run
  all_goals
    funext i
    simp only [total, times, gated, toScale, toGain, toLossGain, modulatedBack, modulated, lossBack, missMean, miss, resid, back,
    normed, root, mean, row]
    pointwise

/-- They run and leave their operands alone. -/
theorem frame : Cert.quiescent_Reference29Ideal := fun m ρ _ =>
  (θ_run _ _ _).mono (fun _ h => ⟨fun c => (h c).2, sem_eq_zero_of_no_sems rfl _⟩) (run m ρ)

/-- The blocked results and the plain ones agree. -/
theorem agree : Cert.algebraic_Kernel29Ideal_Reference29Ideal := fun m ρ m' ρ' _ hag =>
  ⟨_, Cert.Kernel29Ideal.Norm.run m ρ, (θ_run _ _ _).mono
    (fun _ h c => by
      obtain ⟨e0, e1, e2, e3⟩ := hag c
      obtain ⟨r0, k⟩ := h c
      exact ⟨r0.trans (by rw [e0, e1, e2, e3]), k⟩) (run m' ρ')⟩

end Cert.Reference29Ideal.Norm
-- ==== Proof.Resid.lean ====
module

public import proofs.«01_k».proof.Defs
public import proofs.«01_k».proof.Proof.Gen.Kernel30Ideal.Frame
public import proofs.«01_k».proof.Proof.Gen.Reference30Ideal
public import proofs.«01_k».proof.Proof.Norms
public import Idealize.ShloMosaic.Lib.Pipeline.ValueKit
public import Idealize.ShloMosaic.Lib.StableHlo.RunHlo
public import Idealize.ShloMosaic.Lib.Quiescent

@[expose] public section

set_option maxRecDepth 16384

noncomputable section

/-! The first gated residual and the norm, scale and shift before the feed-forward (8192 by 2048): 32 grid points, 256 rows each. -/

open Idealize.ShloMosaic Idealize.ShloMosaic.TcCoe Idealize.SL.Sem
open Idealize.ShloMosaic.Pipeline (Dat)
open Cert.Norms

namespace Cert.Kernel30Ideal.Resid

open Cert.Kernel30Ideal Cert.Kernel30Ideal.Gen

variable (m : (ℓ : Loc nD τ sig) → Buf (Elt Ideal) ℓ) (ρ : Dev nD → PrngReg)

theorem at0 : ∀ t : Fin cfg0.N, win0_0.index t = ![t.val, 0] := by decide +kernel
theorem at1 : ∀ t : Fin cfg0.N, win0_1.index t = ![t.val, 0] := by decide +kernel
theorem at2 : ∀ t : Fin cfg0.N, win0_2.index t = ![0, 0] := by decide +kernel
theorem at3 : ∀ t : Fin cfg0.N, win0_3.index t = ![0, 0] := by decide +kernel
theorem at4 : ∀ t : Fin cfg0.N, win0_4.index t = ![0, 0] := by decide +kernel
theorem at5 : ∀ t : Fin cfg0.N, win0_5.index t = ![0, 0] := by decide +kernel
theorem at6 : ∀ t : Fin cfg0.N, win0_6.index t = ![t.val, 0] := by decide +kernel
theorem at7 : ∀ t : Fin cfg0.N, win0_7.index t = ![t.val, 0] := by decide +kernel

/-- A grid point leaves the residual of its rows. -/
theorem block6 (x f : Vec Ideal S256x2048 .f32) (a g s h : Vec Ideal S1x2048 .f32) (j : S256x2048.Idx) :
    out0_6 x f a g s h j = resid x f a j := by
  frame_out
  unfold_payloads
  simp only [total, times, gated, toScale, toGain, toLossGain, modulatedBack, modulated, lossBack, missMean, miss, resid, back,
    normed, root, mean, row]
  pointwise

/-- A grid point leaves the norm of its rows. -/
theorem block7 (x f : Vec Ideal S256x2048 .f32) (a g s h : Vec Ideal S1x2048 .f32) (j : S256x2048.Idx) :
    out0_7 x f a g s h j = modulated (resid x f a) g s h j := by
  frame_out
  unfold_payloads
  simp only [total, times, gated, toScale, toGain, toLossGain, modulatedBack, modulated, lossBack, missMean, miss, resid, back,
    normed, root, mean, row]
  pointwise

/-- Every block of that result holds the residual of the same rows. -/
theorem final6 (c : Dev nD) : (dats m 0 c).arrAt 6 cfg0.N
    = resid (m ((c.tc : Thread nD τ).loc main_arg0)) (m ((c.tc : Thread nD τ).loc main_arg1))
        (m ((c.tc : Thread nD τ).loc main_arg2)) := by
  refine (dats m 0 c).arrAt_eq_of_covers 6 _ (by decide +kernel) fun t hf y => ?_
  blk_simp
  rw [after0_6]
  refine (block6 ..).trans ?_
  simp only [total, times, gated, toScale, toGain, toLossGain, modulatedBack, modulated, lossBack, missMean, miss, resid, back,
    normed, root, mean, row]
  reads_congr <;> blk_ext [iblk, V, at0, at1, at2, at3, at4, at5, at6, at7]

/-- Every block of that result holds the norm of the same rows. -/
theorem final7 (c : Dev nD) : (dats m 0 c).arrAt 7 cfg0.N
    = modulated (resid (m ((c.tc : Thread nD τ).loc main_arg0)) (m ((c.tc : Thread nD τ).loc main_arg1))
        (m ((c.tc : Thread nD τ).loc main_arg2))) (m ((c.tc : Thread nD τ).loc main_arg3))
        (m ((c.tc : Thread nD τ).loc main_arg4)) (m ((c.tc : Thread nD τ).loc main_arg5)) := by
  refine (dats m 0 c).arrAt_eq_of_covers 7 _ (by decide +kernel) fun t hf y => ?_
  blk_simp
  rw [after0_7]
  refine (block7 ..).trans ?_
  simp only [total, times, gated, toScale, toGain, toLossGain, modulatedBack, modulated, lossBack, missMean, miss, resid, back,
    normed, root, mean, row]
  reads_congr <;> blk_ext [iblk, V, at0, at1, at2, at3, at4, at5, at6, at7]

/-- The kernel's run leaves that in its results. -/
theorem run : θ_run defs (onTc (τ := τ) (main (F := Ideal))) ⟨m, fun _ => 0, ρ⟩ fun r => ∀ c : Dev nD,
      r.2.mem ((c.tc : Thread nD τ).loc main_v0_0)
        = resid (m ((c.tc : Thread nD τ).loc main_arg0)) (m ((c.tc : Thread nD τ).loc main_arg1))
          (m ((c.tc : Thread nD τ).loc main_arg2))
      ∧ r.2.mem ((c.tc : Thread nD τ).loc main_v0_1)
        = modulated (resid (m ((c.tc : Thread nD τ).loc main_arg0)) (m ((c.tc : Thread nD τ).loc main_arg1))
          (m ((c.tc : Thread nD τ).loc main_arg2))) (m ((c.tc : Thread nD τ).loc main_arg3))
          (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨((h c).1 6).trans (final6 m c), ((h c).1 7).trans (final7 m c),
    ((h c).1 0).trans ((dats m 0 c).arrAt_in 0 rfl _), ((h c).1 1).trans ((dats m 0 c).arrAt_in 1 rfl _),
    ((h c).1 2).trans ((dats m 0 c).arrAt_in 2 rfl _), ((h c).1 3).trans ((dats m 0 c).arrAt_in 3 rfl _),
    ((h c).1 4).trans ((dats m 0 c).arrAt_in 4 rfl _), ((h c).1 5).trans ((dats m 0 c).arrAt_in 5 rfl _)⟩) (run_main m ρ)

end Cert.Kernel30Ideal.Resid

namespace Cert.Reference30Ideal.Resid

open Cert.Reference30Ideal Cert.Reference30Ideal.Gen

/-- The plain formulas leave the same. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v2)
        = resid (m ((c.tc : Thread nD τ).loc main_arg0)) (m ((c.tc : Thread nD τ).loc main_arg1))
          (m ((c.tc : Thread nD τ).loc main_arg2))
      ∧ r.2.mem ((c.tc : Thread nD τ).loc main_v21)
        = modulated (resid (m ((c.tc : Thread nD τ).loc main_arg0)) (m ((c.tc : Thread nD τ).loc main_arg1))
          (m ((c.tc : Thread nD τ).loc main_arg2))) (m ((c.tc : Thread nD τ).loc main_arg3))
          (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  hlo_run
  all_goals
    funext i
    simp only [total, times, gated, toScale, toGain, toLossGain, modulatedBack, modulated, lossBack, missMean, miss, resid, back,
    normed, root, mean, row]
    pointwise

/-- They run and leave their operands alone. -/
theorem frame : Cert.quiescent_Reference30Ideal := fun m ρ _ =>
  (θ_run _ _ _).mono (fun _ h => ⟨fun c => (h c).2.2, sem_eq_zero_of_no_sems rfl _⟩) (run m ρ)

/-- The blocked results and the plain ones agree. -/
theorem agree : Cert.algebraic_Kernel30Ideal_Reference30Ideal := fun m ρ m' ρ' _ hag =>
  ⟨_, _, Cert.Kernel30Ideal.Resid.run m ρ, (θ_run _ _ _).mono
    (fun _ h c => by
      obtain ⟨e0, e1, e2, e3, e4, e5⟩ := hag c
      obtain ⟨r0, r1, k⟩ := h c
      exact ⟨r0.trans (by rw [e0, e1, e2]),
        r1.trans (by rw [e0, e1, e2, e3, e4, e5]), k⟩) (run m' ρ')⟩

end Cert.Reference30Ideal.Resid
-- ==== Proof.Adam.lean ====
module

public import Idealize.ShloMosaic.Lib.Pointwise
public import Idealize.ShloMosaic.Lib.IdealHost

@[expose] public section

noncomputable section

/-! The optimiser's tenth step on one entry, over the extended reals, with its constants as float32 patterns. -/

namespace Cert.Adam

open Idealize.ShloMosaic

/-- The first moment of the gradient `g`: nine tenths of the old and a tenth of the new. -/
def first (g m : EReal) : EReal := Ideal.ofBits .f32 0x3F666666#32 * m + Ideal.ofBits .f32 0x3DCCCCCD#32 * g

/-- The second moment: 0.999 of the old and a thousandth of the square. -/
def second (g v : EReal) : EReal := Ideal.ofBits .f32 0x3F7FBE77#32 * v + Ideal.ofBits .f32 0x3A83126F#32 * (g * g)

/-- What the step adds to the weight `w`: the moments, each divided by what its start at zero left out, and the decay, times minus
    a thousandth. -/
def step (w g m v : EReal) : EReal := Ideal.ofBits .f32 0xBA83126F#32
  * (Ideal.div (Ideal.div (first g m) (Ideal.ofBits .f32 0x3F26BD02#32))
      (Ideal.sqrt (Ideal.div (second g v) (Ideal.ofBits .f32 0x3C231ACC#32)) + Ideal.ofBits .f32 0x322BCC77#32)
    + Ideal.ofBits .f32 0x3C23D70A#32 * w)

end Cert.Adam
-- ==== Proof.AdamW.lean ====
module

public import proofs.«01_k».proof.Defs
public import proofs.«01_k».proof.Proof.Gen.Kernel31Ideal.Frame
public import proofs.«01_k».proof.Proof.Gen.Reference31Ideal
public import proofs.«01_k».proof.Proof.Adam
public import Idealize.ShloMosaic.Lib.Pipeline.ValueKit
public import Idealize.ShloMosaic.Lib.StableHlo.RunHlo
public import Idealize.ShloMosaic.Lib.Quiescent

@[expose] public section

set_option maxRecDepth 16384

noncomputable section

/-! The optimiser's step on one device's shard of a square weight (256 by 2048): 2 grid points, 128 rows each. -/

open Idealize.ShloMosaic Idealize.ShloMosaic.TcCoe Idealize.SL.Sem
open Idealize.ShloMosaic.Pipeline (Dat)
open Cert.Adam

namespace Cert.Kernel31Ideal.AdamW

open Cert.Kernel31Ideal Cert.Kernel31Ideal.Gen

variable (m : (ℓ : Loc nD τ sig) → Buf (Elt Ideal) ℓ) (ρ : Dev nD → PrngReg)

theorem at0 : ∀ t : Fin cfg0.N, win0_0.index t = ![t.val, 0] := by decide +kernel
theorem at1 : ∀ t : Fin cfg0.N, win0_1.index t = ![t.val, 0] := by decide +kernel
theorem at2 : ∀ t : Fin cfg0.N, win0_2.index t = ![t.val, 0] := by decide +kernel
theorem at3 : ∀ t : Fin cfg0.N, win0_3.index t = ![t.val, 0] := by decide +kernel
theorem at4 : ∀ t : Fin cfg0.N, win0_4.index t = ![t.val, 0] := by decide +kernel
theorem at5 : ∀ t : Fin cfg0.N, win0_5.index t = ![t.val, 0] := by decide +kernel
theorem at6 : ∀ t : Fin cfg0.N, win0_6.index t = ![t.val, 0] := by decide +kernel

/-- A grid point leaves the step of its rows. -/
theorem block4 (w g a v : Vec Ideal S128x2048 .f32) (j : S128x2048.Idx) :
    out0_4 w g a v j = step (w j) (g j) (a j) (v j) := by
  frame_out
  unfold_payloads
  simp only [step, first, second]
  pointwise

/-- A grid point leaves the first moment of its rows. -/
theorem block5 (w g a v : Vec Ideal S128x2048 .f32) (j : S128x2048.Idx) :
    out0_5 w g a v j = first (g j) (a j) := by
  frame_out
  unfold_payloads
  simp only [step, first, second]
  pointwise

/-- A grid point leaves the second moment of its rows. -/
theorem block6 (w g a v : Vec Ideal S128x2048 .f32) (j : S128x2048.Idx) :
    out0_6 w g a v j = second (g j) (v j) := by
  frame_out
  unfold_payloads
  simp only [step, first, second]
  pointwise

/-- Every block of that result holds the step of the same rows. -/
theorem final4 (c : Dev nD) : (dats m 0 c).arrAt 4 cfg0.N
    = fun i => step ((m ((c.tc : Thread nD τ).loc main_arg0)) i) ((m ((c.tc : Thread nD τ).loc main_arg1)) i) ((m ((c.tc :
        Thread nD τ).loc main_arg2)) i) ((m ((c.tc : Thread nD τ).loc main_arg3)) i) := by
  refine (dats m 0 c).arrAt_eq_of_covers 4 _ (by decide +kernel) fun t hf y => ?_
  blk_simp
  rw [after0_4]
  refine (block4 ..).trans ?_
  simp only [step, first, second]
  reads_congr <;> blk_ext [iblk, V, at0, at1, at2, at3, at4, at5, at6]

/-- Every block of that result holds the first moment of the same rows. -/
theorem final5 (c : Dev nD) : (dats m 0 c).arrAt 5 cfg0.N
    = fun i => first ((m ((c.tc : Thread nD τ).loc main_arg1)) i) ((m ((c.tc : Thread nD τ).loc main_arg2)) i) := by
  refine (dats m 0 c).arrAt_eq_of_covers 5 _ (by decide +kernel) fun t hf y => ?_
  blk_simp
  rw [after0_5]
  refine (block5 ..).trans ?_
  simp only [step, first, second]
  reads_congr <;> blk_ext [iblk, V, at0, at1, at2, at3, at4, at5, at6]

/-- Every block of that result holds the second moment of the same rows. -/
theorem final6 (c : Dev nD) : (dats m 0 c).arrAt 6 cfg0.N
    = fun i => second ((m ((c.tc : Thread nD τ).loc main_arg1)) i) ((m ((c.tc : Thread nD τ).loc main_arg3)) i) := by
  refine (dats m 0 c).arrAt_eq_of_covers 6 _ (by decide +kernel) fun t hf y => ?_
  blk_simp
  rw [after0_6]
  refine (block6 ..).trans ?_
  simp only [step, first, second]
  reads_congr <;> blk_ext [iblk, V, at0, at1, at2, at3, at4, at5, at6]

/-- The kernel's run leaves that in its results. -/
theorem run : θ_run defs (onTc (τ := τ) (main (F := Ideal))) ⟨m, fun _ => 0, ρ⟩ fun r => ∀ c : Dev nD,
      r.2.mem ((c.tc : Thread nD τ).loc main_v0_0)
        = (fun i => step ((m ((c.tc : Thread nD τ).loc main_arg0)) i) ((m ((c.tc : Thread nD τ).loc main_arg1)) i) ((m ((c.tc
          : Thread nD τ).loc main_arg2)) i) ((m ((c.tc : Thread nD τ).loc main_arg3)) i))
      ∧ r.2.mem ((c.tc : Thread nD τ).loc main_v0_1)
        = (fun i => first ((m ((c.tc : Thread nD τ).loc main_arg1)) i) ((m ((c.tc : Thread nD τ).loc main_arg2)) i))
      ∧ r.2.mem ((c.tc : Thread nD τ).loc main_v0_2)
        = (fun i => second ((m ((c.tc : Thread nD τ).loc main_arg1)) i) ((m ((c.tc : Thread nD τ).loc main_arg3)) i))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h c).1 4).trans (final4 m c), ((h c).1 5).trans (final5 m c),
    ((h c).1 6).trans (final6 m c), ((h c).1 0).trans ((dats m 0 c).arrAt_in 0 rfl _),
    ((h c).1 1).trans ((dats m 0 c).arrAt_in 1 rfl _), ((h c).1 2).trans ((dats m 0 c).arrAt_in 2 rfl _),
    ((h c).1 3).trans ((dats m 0 c).arrAt_in 3 rfl _)⟩) (run_main m ρ)

end Cert.Kernel31Ideal.AdamW

namespace Cert.Reference31Ideal.AdamW

open Cert.Reference31Ideal Cert.Reference31Ideal.Gen

/-- The plain formulas leave the same. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v23)
        = (fun i => step ((m ((c.tc : Thread nD τ).loc main_arg0)) i) ((m ((c.tc : Thread nD τ).loc main_arg1)) i) ((m ((c.tc
          : Thread nD τ).loc main_arg2)) i) ((m ((c.tc : Thread nD τ).loc main_arg3)) i))
      ∧ r.2.mem ((c.tc : Thread nD τ).loc main_v4)
        = (fun i => first ((m ((c.tc : Thread nD τ).loc main_arg1)) i) ((m ((c.tc : Thread nD τ).loc main_arg2)) i))
      ∧ r.2.mem ((c.tc : Thread nD τ).loc main_v10)
        = (fun i => second ((m ((c.tc : Thread nD τ).loc main_arg1)) i) ((m ((c.tc : Thread nD τ).loc main_arg3)) i))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  hlo_run
  all_goals
    funext i
    simp only [step, first, second]
    pointwise

/-- They run and leave their operands alone. -/
theorem frame : Cert.quiescent_Reference31Ideal := fun m ρ _ =>
  (θ_run _ _ _).mono (fun _ h => ⟨fun c => (h c).2.2.2, sem_eq_zero_of_no_sems rfl _⟩) (run m ρ)

/-- The blocked results and the plain ones agree. -/
theorem agree : Cert.algebraic_Kernel31Ideal_Reference31Ideal := fun m ρ m' ρ' _ hag =>
  ⟨_, _, _, Cert.Kernel31Ideal.AdamW.run m ρ, (θ_run _ _ _).mono
    (fun _ h c => by
      obtain ⟨e0, e1, e2, e3⟩ := hag c
      obtain ⟨r0, r1, r2, k⟩ := h c
      exact ⟨r0.trans (by rw [e0, e1, e2, e3]; rfl),
        r1.trans (by rw [e1, e2]; rfl),
        r2.trans (by rw [e1, e3]; rfl), k⟩) (run m' ρ')⟩

end Cert.Reference31Ideal.AdamW
-- ==== Proof.Branches.lean ====
module

public import proofs.«01_k».proof.Proof.Gates
public import proofs.«01_k».proof.Proof.Norms

@[expose] public section

noncomputable section

/-! The outputs of the mixer's two branches over the extended reals: the recurrence times the Gaussian unit of its gate's input, and
the state-space scans with their skip, gated and normed; and their derivatives. -/

namespace Cert.Branches

open Idealize.ShloMosaic Cert.Norms

/-- The tangent in the Gaussian unit. -/
def bend (y : EReal) : EReal :=
  Ideal.tanh (Ideal.ofBits .f32 0x3F4C422A#32 * (y + Ideal.ofBits .f32 0x3D372713#32 * y * y * y))

/-- The Gaussian unit. -/
def unit (y : EReal) : EReal := Ideal.ofBits .f32 0x3F000000#32 * y * (1 + bend y)

/-- Its derivative. -/
def unitSlope (y : EReal) : EReal := Ideal.ofBits .f32 0x3F000000#32 * (1 + bend y)
  + Ideal.ofBits .f32 0x3F000000#32 * y * (1 - bend y * bend y) * Ideal.ofBits .f32 0x3F4C422A#32
    * (1 + Ideal.ofBits .f32 0x3E095D4F#32 * y * y)

/-- The unit as the half distribution times the entry, -/
theorem unit_plain (y : EReal) : y * (Ideal.ofBits .f32 0x3F000000#32 * (1
    + Ideal.tanh (Ideal.ofBits .f32 0x3F4C422A#32 * (y + Ideal.ofBits .f32 0x3D372713#32 * (y * y * y))))) = unit y := by
  unfold unit bend
  ac_nf

/-- and its derivative by the product rule. -/
theorem unitSlope_plain (y : EReal) : Ideal.ofBits .f32 0x3F000000#32 * (1
      + Ideal.tanh (Ideal.ofBits .f32 0x3F4C422A#32 * (y + Ideal.ofBits .f32 0x3D372713#32 * (y * y * y))))
    + y * (Ideal.ofBits .f32 0x3F000000#32
        * (1 - Ideal.tanh (Ideal.ofBits .f32 0x3F4C422A#32 * (y + Ideal.ofBits .f32 0x3D372713#32 * (y * y * y)))
          * Ideal.tanh (Ideal.ofBits .f32 0x3F4C422A#32 * (y + Ideal.ofBits .f32 0x3D372713#32 * (y * y * y))))
        * (Ideal.ofBits .f32 0x3F4C422A#32 * (1 + Ideal.ofBits .f32 0x3E095D4F#32 * (y * y)))) = unitSlope y := by
  unfold unitSlope bend
  ac_nf

/-- An entry times the unit of its gate's input. -/
def unitTimes (h y : EReal) : EReal := h * unit y

/-- Backward to the gate's input, from the cotangent `e`. -/
def unitBack (e h y : EReal) : EReal := e * h * unitSlope y

variable {m n : Nat}

/-- The first 2048 entries of a row of 3072. -/
def lead (f : (⟨2, ![m, 3072]⟩ : Shape).Idx → EReal) (r : Fin m) (q : Fin 2048) : EReal := f (ix2 r ⟨q.val, by omega⟩)

/-- Both scans of a row and the skip. -/
def pre (a b x d : Fin n → EReal) (q : Fin n) : EReal := a q + b q + d q * x q

/-- The gate of an entry. -/
def swish (z : EReal) : EReal := z * Ideal.logistic z

/-- The gated row. -/
def branch (a b x z d : Fin n → EReal) (q : Fin n) : EReal := pre a b x d q * swish (z q)

/-- Backward from the branch's result, with cotangent `e`, to the gated row, -/
def toBranch (a b x z e d g : Fin n → EReal) (q : Fin n) : EReal := back (branch a b x z d) (fun l => e l * g l) q

/-- to the scans, -/
def toScan (a b x z e d g : Fin n → EReal) (q : Fin n) : EReal := toBranch a b x z e d g q * swish (z q)

/-- to the gate's input, -/
def toInput (a b x z e d g : Fin n → EReal) (q : Fin n) : EReal := toBranch a b x z e d g q * pre a b x d q
  * (Ideal.logistic (z q) + z q * Ideal.logistic (z q) * (1 - Ideal.logistic (z q)))

/-- through the skip to the row it takes, -/
def toSkipped (a b x z e d g : Fin n → EReal) (q : Fin n) : EReal := toScan a b x z e d g q * d q

/-- to the skip's factors, before the columns are summed, -/
def toSkip (a b x z e d g : Fin n → EReal) (q : Fin n) : EReal := toScan a b x z e d g q * x q

/-- and to the norm's gain, before the columns are summed. -/
def toNormGain (a b x z e d _g : Fin n → EReal) (q : Fin n) : EReal := e q * normed (branch a b x z d) q

/-- The branch's result. -/
def result (a b : (⟨2, ![m, 2048]⟩ : Shape).Idx → EReal) (x : (⟨2, ![m, 3072]⟩ : Shape).Idx → EReal)
    (z : (⟨2, ![m, 2048]⟩ : Shape).Idx → EReal) (d g : (⟨2, ![1, 2048]⟩ : Shape).Idx → EReal) (i : (⟨2, ![m, 2048]⟩ : Shape).Idx) :
    EReal := normed (branch (row a (i 0)) (row b (i 0)) (lead x (i 0)) (row z (i 0)) (row d 0)) (i 1) * row g 0 (i 1)

/-- One of these for every entry of the matrices. -/
def onRows (F : (Fin 2048 → EReal) → (Fin 2048 → EReal) → (Fin 2048 → EReal) → (Fin 2048 → EReal) → (Fin 2048 → EReal) →
      (Fin 2048 → EReal) → (Fin 2048 → EReal) → Fin 2048 → EReal)
    (a b : (⟨2, ![m, 2048]⟩ : Shape).Idx → EReal) (x : (⟨2, ![m, 3072]⟩ : Shape).Idx → EReal)
    (z e : (⟨2, ![m, 2048]⟩ : Shape).Idx → EReal) (d g : (⟨2, ![1, 2048]⟩ : Shape).Idx → EReal)
    (i : (⟨2, ![m, 2048]⟩ : Shape).Idx) : EReal :=
  F (row a (i 0)) (row b (i 0)) (lead x (i 0)) (row z (i 0)) (row e (i 0)) (row d 0) (row g 0) (i 1)

/-- It depends on one row of each. -/
theorem onRows_eq {m' : Nat} {F : (Fin 2048 → EReal) → (Fin 2048 → EReal) → (Fin 2048 → EReal) → (Fin 2048 → EReal) →
      (Fin 2048 → EReal) → (Fin 2048 → EReal) → (Fin 2048 → EReal) → Fin 2048 → EReal}
    {a b z e : (⟨2, ![m, 2048]⟩ : Shape).Idx → EReal} {x : (⟨2, ![m, 3072]⟩ : Shape).Idx → EReal}
    {a' b' z' e' : (⟨2, ![m', 2048]⟩ : Shape).Idx → EReal} {x' : (⟨2, ![m', 3072]⟩ : Shape).Idx → EReal}
    {d g d' g' : (⟨2, ![1, 2048]⟩ : Shape).Idx → EReal} {i : (⟨2, ![m, 2048]⟩ : Shape).Idx} {j : (⟨2, ![m', 2048]⟩ : Shape).Idx}
    (ha : row a (i 0) = row a' (j 0)) (hb : row b (i 0) = row b' (j 0)) (hx : lead x (i 0) = lead x' (j 0))
    (hz : row z (i 0) = row z' (j 0)) (he : row e (i 0) = row e' (j 0)) (hd : row d 0 = row d' 0) (hg : row g 0 = row g' 0)
    (hq : i 1 = j 1) : onRows F a b x z e d g i = onRows F a' b' x' z' e' d' g' j := by
  unfold onRows
  rw [ha, hb, hx, hz, he, hd, hg, hq]

end Cert.Branches
-- ==== Proof.LruOutBwd.lean ====
module

public import proofs.«01_k».proof.Defs
public import proofs.«01_k».proof.Proof.Gen.Kernel32Ideal.Frame
public import proofs.«01_k».proof.Proof.Gen.Reference32Ideal
public import proofs.«01_k».proof.Proof.Branches
public import Idealize.ShloMosaic.Lib.Pipeline.ValueKit
public import Idealize.ShloMosaic.Lib.StableHlo.RunHlo
public import Idealize.ShloMosaic.Lib.Quiescent

@[expose] public section

set_option maxRecDepth 16384

noncomputable section

/-! Backward through the recurrence's output times the Gaussian unit of its gate's input (8192 by 2048): to the recurrence and to the
gate's input: 32 grid points, 256 rows each. -/

open Idealize.ShloMosaic Idealize.ShloMosaic.TcCoe Idealize.SL.Sem
open Idealize.ShloMosaic.Pipeline (Dat)
open Cert.Branches

namespace Cert.Kernel32Ideal.LruOutBwd

open Cert.Kernel32Ideal Cert.Kernel32Ideal.Gen

variable (m : (ℓ : Loc nD τ sig) → Buf (Elt Ideal) ℓ) (ρ : Dev nD → PrngReg)

theorem at0 : ∀ t : Fin cfg0.N, win0_0.index t = ![t.val, 0] := by decide +kernel
theorem at1 : ∀ t : Fin cfg0.N, win0_1.index t = ![t.val, 0] := by decide +kernel
theorem at2 : ∀ t : Fin cfg0.N, win0_2.index t = ![t.val, 0] := by decide +kernel
theorem at3 : ∀ t : Fin cfg0.N, win0_3.index t = ![t.val, 0] := by decide +kernel
theorem at4 : ∀ t : Fin cfg0.N, win0_4.index t = ![t.val, 0] := by decide +kernel

/-- A grid point leaves the gradient to the recurrence of its rows. -/
theorem block3 (e : Vec Ideal S256x2048 .bf16) (h : Vec Ideal S256x2048 .f32) (y : Vec Ideal S256x2048 .bf16) (j : S256x2048.Idx) :
    out0_3 e h y j = unitTimes (e j) (y j) := by
  frame_out
  unfold_payloads
  simp only [unitTimes, unitBack, unit, unitSlope, bend]
  pointwise

/-- A grid point leaves the gradient to the gate's input of its rows. -/
theorem block4 (e : Vec Ideal S256x2048 .bf16) (h : Vec Ideal S256x2048 .f32) (y : Vec Ideal S256x2048 .bf16) (j : S256x2048.Idx) :
    out0_4 e h y j = unitBack (e j) (h j) (y j) := by
  frame_out
  unfold_payloads
  simp only [unitTimes, unitBack, unit, unitSlope, bend]
  pointwise

/-- Every block of that result holds the gradient to the recurrence of the same rows. -/
theorem final3 (c : Dev nD) : (dats m 0 c).arrAt 3 cfg0.N
    = fun i => unitTimes ((m ((c.tc : Thread nD τ).loc main_arg0)) i) ((m ((c.tc : Thread nD τ).loc main_arg2)) i) := by
  refine (dats m 0 c).arrAt_eq_of_covers 3 _ (by decide +kernel) fun t hf y => ?_
  blk_simp
  rw [after0_3]
  refine (block3 ..).trans ?_
  simp only [unitTimes, unitBack, unit, unitSlope, bend]
  reads_congr <;> blk_ext [iblk, V, at0, at1, at2, at3, at4]

/-- Every block of that result holds the gradient to the gate's input of the same rows. -/
theorem final4 (c : Dev nD) : (dats m 0 c).arrAt 4 cfg0.N
    = fun i => unitBack ((m ((c.tc : Thread nD τ).loc main_arg0)) i) ((m ((c.tc : Thread nD τ).loc main_arg1)) i)
        ((m ((c.tc : Thread nD τ).loc main_arg2)) i) := by
  refine (dats m 0 c).arrAt_eq_of_covers 4 _ (by decide +kernel) fun t hf y => ?_
  blk_simp
  rw [after0_4]
  refine (block4 ..).trans ?_
  simp only [unitTimes, unitBack, unit, unitSlope, bend]
  reads_congr <;> blk_ext [iblk, V, at0, at1, at2, at3, at4]

/-- The kernel's run leaves that in its results. -/
theorem run : θ_run defs (onTc (τ := τ) (main (F := Ideal))) ⟨m, fun _ => 0, ρ⟩ fun r => ∀ c : Dev nD,
      r.2.mem ((c.tc : Thread nD τ).loc main_v0_0)
        = (fun i => unitTimes ((m ((c.tc : Thread nD τ).loc main_arg0)) i) ((m ((c.tc : Thread nD τ).loc main_arg2)) i))
      ∧ r.2.mem ((c.tc : Thread nD τ).loc main_v0_1)
        = (fun i => unitBack ((m ((c.tc : Thread nD τ).loc main_arg0)) i) ((m ((c.tc : Thread nD τ).loc main_arg1)) i)
          ((m ((c.tc : Thread nD τ).loc main_arg2)) i))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h c).1 3).trans (final3 m c), ((h c).1 4).trans (final4 m c),
    ((h c).1 0).trans ((dats m 0 c).arrAt_in 0 rfl _), ((h c).1 1).trans ((dats m 0 c).arrAt_in 1 rfl _),
    ((h c).1 2).trans ((dats m 0 c).arrAt_in 2 rfl _)⟩) (run_main m ρ)

end Cert.Kernel32Ideal.LruOutBwd

namespace Cert.Reference32Ideal.LruOutBwd

open Cert.Reference32Ideal Cert.Reference32Ideal.Gen

/-- The plain formulas leave the same. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v34)
        = (fun i => unitTimes ((m ((c.tc : Thread nD τ).loc main_arg0)) i) ((m ((c.tc : Thread nD τ).loc main_arg2)) i))
      ∧ r.2.mem ((c.tc : Thread nD τ).loc main_v37)
        = (fun i => unitBack ((m ((c.tc : Thread nD τ).loc main_arg0)) i) ((m ((c.tc : Thread nD τ).loc main_arg1)) i)
          ((m ((c.tc : Thread nD τ).loc main_arg2)) i))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  hlo_run
  all_goals
    funext i
    simp only [unitTimes, unitBack]
    pointwise
  · exact congrArg (fun q : EReal => _ * q) (unit_plain _)
  · exact congrArg (fun q : EReal => _ * q) (unitSlope_plain _)

/-- They run and leave their operands alone. -/
theorem frame : Cert.quiescent_Reference32Ideal := fun m ρ _ =>
  (θ_run _ _ _).mono (fun _ h => ⟨fun c => (h c).2.2, sem_eq_zero_of_no_sems rfl _⟩) (run m ρ)

/-- The blocked results and the plain ones agree. -/
theorem agree : Cert.algebraic_Kernel32Ideal_Reference32Ideal := fun m ρ m' ρ' _ hag =>
  ⟨_, _, Cert.Kernel32Ideal.LruOutBwd.run m ρ, (θ_run _ _ _).mono
    (fun _ h c => by
      obtain ⟨e0, e1, e2⟩ := hag c
      obtain ⟨r0, r1, k⟩ := h c
      exact ⟨r0.trans (by rw [e0, e2]; rfl),
        r1.trans (by rw [e0, e1, e2]; rfl), k⟩) (run m' ρ')⟩

end Cert.Reference32Ideal.LruOutBwd
-- ==== Proof.LruOut.lean ====
module

public import proofs.«01_k».proof.Defs
public import proofs.«01_k».proof.Proof.Gen.Kernel33Ideal.Frame
public import proofs.«01_k».proof.Proof.Gen.Reference33Ideal
public import proofs.«01_k».proof.Proof.Branches
public import Idealize.ShloMosaic.Lib.Pipeline.ValueKit
public import Idealize.ShloMosaic.Lib.StableHlo.RunHlo
public import Idealize.ShloMosaic.Lib.Quiescent

@[expose] public section

set_option maxRecDepth 16384

noncomputable section

/-! The recurrence's output times the Gaussian unit of its gate's input (8192 by 2048): 16 grid points, 512 rows each. -/

open Idealize.ShloMosaic Idealize.ShloMosaic.TcCoe Idealize.SL.Sem
open Idealize.ShloMosaic.Pipeline (Dat)
open Cert.Branches

namespace Cert.Kernel33Ideal.LruOut

open Cert.Kernel33Ideal Cert.Kernel33Ideal.Gen

variable (m : (ℓ : Loc nD τ sig) → Buf (Elt Ideal) ℓ) (ρ : Dev nD → PrngReg)

theorem at0 : ∀ t : Fin cfg0.N, win0_0.index t = ![t.val, 0] := by decide +kernel
theorem at1 : ∀ t : Fin cfg0.N, win0_1.index t = ![t.val, 0] := by decide +kernel
theorem at2 : ∀ t : Fin cfg0.N, win0_2.index t = ![t.val, 0] := by decide +kernel

/-- A grid point leaves the product of its rows. -/
theorem block2 (h : Vec Ideal S512x2048 .f32) (y : Vec Ideal S512x2048 .bf16) (j : S512x2048.Idx) :
    out0_2 h y j = unitTimes (h j) (y j) := by
  frame_out
  unfold_payloads
  simp only [unitTimes, unitBack, unit, unitSlope, bend]
  pointwise

/-- Every block of that result holds the product of the same rows. -/
theorem final2 (c : Dev nD) : (dats m 0 c).arrAt 2 cfg0.N
    = fun i => unitTimes ((m ((c.tc : Thread nD τ).loc main_arg0)) i) ((m ((c.tc : Thread nD τ).loc main_arg1)) i) := by
  refine (dats m 0 c).arrAt_eq_of_covers 2 _ (by decide +kernel) fun t hf y => ?_
  blk_simp
  rw [after0_2]
  refine (block2 ..).trans ?_
  simp only [unitTimes, unitBack, unit, unitSlope, bend]
  reads_congr <;> blk_ext [iblk, V, at0, at1, at2]

/-- The kernel's run leaves that in its results. -/
theorem run : θ_run defs (onTc (τ := τ) (main (F := Ideal))) ⟨m, fun _ => 0, ρ⟩ fun r => ∀ c : Dev nD,
      r.2.mem ((c.tc : Thread nD τ).loc main_v0)
        = (fun i => unitTimes ((m ((c.tc : Thread nD τ).loc main_arg0)) i) ((m ((c.tc : Thread nD τ).loc main_arg1)) i))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).1 2).trans (final2 m c), ((h c).1 0).trans ((dats m 0 c).arrAt_in 0 rfl _),
    ((h c).1 1).trans ((dats m 0 c).arrAt_in 1 rfl _)⟩) (run_main m ρ)

end Cert.Kernel33Ideal.LruOut

namespace Cert.Reference33Ideal.LruOut

open Cert.Reference33Ideal Cert.Reference33Ideal.Gen

/-- The plain formulas leave the same. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v15)
        = (fun i => unitTimes ((m ((c.tc : Thread nD τ).loc main_arg0)) i) ((m ((c.tc : Thread nD τ).loc main_arg1)) i))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  hlo_run
  funext i
  unfold unitTimes
  pointwise
  exact congrArg (fun q : EReal => _ * q) (unit_plain _)

/-- They run and leave their operands alone. -/
theorem frame : Cert.quiescent_Reference33Ideal := fun m ρ _ =>
  (θ_run _ _ _).mono (fun _ h => ⟨fun c => (h c).2, sem_eq_zero_of_no_sems rfl _⟩) (run m ρ)

/-- The blocked results and the plain ones agree. -/
theorem agree : Cert.algebraic_Kernel33Ideal_Reference33Ideal := fun m ρ m' ρ' _ hag =>
  ⟨_, Cert.Kernel33Ideal.LruOut.run m ρ, (θ_run _ _ _).mono
    (fun _ h c => by
      obtain ⟨e0, e1⟩ := hag c
      obtain ⟨r0, k⟩ := h c
      exact ⟨r0.trans (by rw [e0, e1]; rfl), k⟩) (run m' ρ')⟩

end Cert.Reference33Ideal.LruOut
-- ==== Proof.SsdOutBwd.lean ====
module

public import proofs.«01_k».proof.Defs
public import proofs.«01_k».proof.Proof.Gen.Kernel34Ideal.Frame
public import proofs.«01_k».proof.Proof.Gen.Reference34Ideal
public import proofs.«01_k».proof.Proof.Branches
public import Idealize.ShloMosaic.Lib.Pipeline.ValueKit
public import Idealize.ShloMosaic.Lib.StableHlo.RunHlo
public import Idealize.ShloMosaic.Lib.Quiescent

@[expose] public section

set_option maxRecDepth 16384

noncomputable section

/-! Backward through the state-space branch's output (8192 by 2048): from its norm, its gate and its skip to the scans, to the gate's input
and through the skip, and, by sums over the columns, to the skip's factors and to the gain: 64 grid points, 128 rows each. -/

open Idealize.ShloMosaic Idealize.ShloMosaic.TcCoe Idealize.SL.Sem
open Idealize.ShloMosaic.Pipeline (Dat)
open Cert.Norms Cert.Branches

namespace Cert.Kernel34Ideal.SsdOutBwd

open Cert.Kernel34Ideal Cert.Kernel34Ideal.Gen

variable (m : (ℓ : Loc nD τ sig) → Buf (Elt Ideal) ℓ) (ρ : Dev nD → PrngReg)

theorem at0 : ∀ t : Fin cfg0.N, win0_0.index t = ![t.val, 0] := by decide +kernel
theorem at1 : ∀ t : Fin cfg0.N, win0_1.index t = ![t.val, 0] := by decide +kernel
theorem at2 : ∀ t : Fin cfg0.N, win0_2.index t = ![t.val, 0] := by decide +kernel
theorem at3 : ∀ t : Fin cfg0.N, win0_3.index t = ![t.val, 0] := by decide +kernel
theorem at4 : ∀ t : Fin cfg0.N, win0_4.index t = ![t.val, 0] := by decide +kernel
theorem at5 : ∀ t : Fin cfg0.N, win0_5.index t = ![0, 0] := by decide +kernel
theorem at6 : ∀ t : Fin cfg0.N, win0_6.index t = ![0, 0] := by decide +kernel
theorem at7 : ∀ t : Fin cfg0.N, win0_7.index t = ![t.val, 0] := by decide +kernel
theorem at8 : ∀ t : Fin cfg0.N, win0_8.index t = ![t.val, 0] := by decide +kernel
theorem at9 : ∀ t : Fin cfg0.N, win0_9.index t = ![t.val, 0] := by decide +kernel
theorem at10 : ∀ t : Fin cfg0.N, win0_10.index t = ![0, 0] := by decide +kernel
theorem at11 : ∀ t : Fin cfg0.N, win0_11.index t = ![0, 0] := by decide +kernel

section Points

variable (c : Dev nD) (i : grid0.Coords)
  (a1 : Memref sig .tc .vmem S128x2048 .f32) (h1 : a1.IsWhole) (a2 : Memref sig .tc .vmem S128x2048 .f32) (h2 : a2.IsWhole)
  (a3 : Memref sig .tc .vmem S128x3072 .f32) (h3 : a3.IsWhole) (a4 : Memref sig .tc .vmem S128x2048 .bf16) (h4 : a4.IsWhole)
  (a5 : Memref sig .tc .vmem S128x2048 .bf16) (h5 : a5.IsWhole) (a6 : Memref sig .tc .vmem S1x2048 .f32) (h6 : a6.IsWhole)
  (a7 : Memref sig .tc .vmem S1x2048 .f32) (h7 : a7.IsWhole) (a8 : Memref sig .tc .vmem S128x2048 .f32) (h8 : a8.IsWhole)
  (a9 : Memref sig .tc .vmem S128x2048 .bf16) (h9 : a9.IsWhole) (a10 : Memref sig .tc .vmem S128x2048 .f32) (h10 : a10.IsWhole)
  (a11 : Memref sig .tc .vmem S1x2048 .f32) (h11 : a11.IsWhole) (a12 : Memref sig .tc .vmem S1x2048 .f32) (h12 : a12.IsWhole)
  (a : Vec Ideal S128x2048 .f32) (b : Vec Ideal S128x2048 .f32) (x : Vec Ideal S128x3072 .f32) (z : Vec Ideal S128x2048
  .bf16) (e : Vec Ideal S128x2048 .bf16) (d : Vec Ideal S1x2048 .f32) (g : Vec Ideal S1x2048 .f32)
  (u3 u4 : Vec Ideal S1x2048 .f32) (j : S128x2048.Idx) (k : S1x2048.Idx)

/-- The first point leaves the gradient to the scans of its rows, -/
theorem blockA7 (hc0 : cond0_0 i) :
    out0_A_7 c i a1 h1 a2 h2 a3 h3 a4 h4 a5 h5 a6 h6 a7 h7 a8 h8 a9 h9 a10 h10 a11 h11 a12 h12
      hc0 a b x z e d g j = onRows toScan a b x z e d g j := by
  frame_out
  unfold_payloads
  simp only [total, onRows, result, toScan, toInput, toSkipped, toSkip, toNormGain, toBranch, branch, pre, swish, lead, back, normed,
    root, mean, row]
  pointwise
  simp only [Gates.tanh_gate, Gates.slope]

/-- and so does each later one. -/
theorem blockB7 (hc0 : ¬cond0_0 i) :
    out0_B_7 c i a1 h1 a2 h2 a3 h3 a4 h4 a5 h5 a6 h6 a7 h7 a8 h8 a9 h9 a10 h10 a11 h11 a12 h12
      hc0 a b x z e d g u3 u4 j = onRows toScan a b x z e d g j := by
  frame_out
  unfold_payloads
  simp only [total, onRows, result, toScan, toInput, toSkipped, toSkip, toNormGain, toBranch, branch, pre, swish, lead, back, normed,
    root, mean, row]
  pointwise
  simp only [Gates.tanh_gate, Gates.slope]

/-- The first point leaves the gradient to the gate's input of its rows, -/
theorem blockA8 (hc0 : cond0_0 i) :
    out0_A_8 c i a1 h1 a2 h2 a3 h3 a4 h4 a5 h5 a6 h6 a7 h7 a8 h8 a9 h9 a10 h10 a11 h11 a12 h12
      hc0 a b x z e d g j = onRows toInput a b x z e d g j := by
  frame_out
  unfold_payloads
  simp only [total, onRows, result, toScan, toInput, toSkipped, toSkip, toNormGain, toBranch, branch, pre, swish, lead, back, normed,
    root, mean, row]
  pointwise
  simp only [Gates.tanh_gate, Gates.slope]

/-- and so does each later one. -/
theorem blockB8 (hc0 : ¬cond0_0 i) :
    out0_B_8 c i a1 h1 a2 h2 a3 h3 a4 h4 a5 h5 a6 h6 a7 h7 a8 h8 a9 h9 a10 h10 a11 h11 a12 h12
      hc0 a b x z e d g u3 u4 j = onRows toInput a b x z e d g j := by
  frame_out
  unfold_payloads
  simp only [total, onRows, result, toScan, toInput, toSkipped, toSkip, toNormGain, toBranch, branch, pre, swish, lead, back, normed,
    root, mean, row]
  pointwise
  simp only [Gates.tanh_gate, Gates.slope]

/-- The first point leaves the gradient through the skip of its rows, -/
theorem blockA9 (hc0 : cond0_0 i) :
    out0_A_9 c i a1 h1 a2 h2 a3 h3 a4 h4 a5 h5 a6 h6 a7 h7 a8 h8 a9 h9 a10 h10 a11 h11 a12 h12
      hc0 a b x z e d g j = onRows toSkipped a b x z e d g j := by
  frame_out
  unfold_payloads
  simp only [total, onRows, result, toScan, toInput, toSkipped, toSkip, toNormGain, toBranch, branch, pre, swish, lead, back, normed,
    root, mean, row]
  pointwise
  simp only [Gates.tanh_gate, Gates.slope]

/-- and so does each later one. -/
theorem blockB9 (hc0 : ¬cond0_0 i) :
    out0_B_9 c i a1 h1 a2 h2 a3 h3 a4 h4 a5 h5 a6 h6 a7 h7 a8 h8 a9 h9 a10 h10 a11 h11 a12 h12
      hc0 a b x z e d g u3 u4 j = onRows toSkipped a b x z e d g j := by
  frame_out
  unfold_payloads
  simp only [total, onRows, result, toScan, toInput, toSkipped, toSkip, toNormGain, toBranch, branch, pre, swish, lead, back, normed,
    root, mean, row]
  pointwise
  simp only [Gates.tanh_gate, Gates.slope]

/-- The first point leaves the gradient to the skip's factors, summed over its rows, -/
theorem blockA10 (hc0 : cond0_0 i) :
    out0_A_10 c i a1 h1 a2 h2 a3 h3 a4 h4 a5 h5 a6 h6 a7 h7 a8 h8 a9 h9 a10 h10 a11 h11 a12 h12
      hc0 a b x z e d g k = total (onRows toSkip a b x z e d g) k := by
  frame_out
  unfold_payloads
  simp only [total, onRows, result, toScan, toInput, toSkipped, toSkip, toNormGain, toBranch, branch, pre, swish, lead, back, normed,
    root, mean, row]
  pointwise
  simp only [Gates.tanh_gate, Gates.slope]

/-- and each later one adds its own. -/
theorem blockB10 (hc0 : ¬cond0_0 i) :
    out0_B_10 c i a1 h1 a2 h2 a3 h3 a4 h4 a5 h5 a6 h6 a7 h7 a8 h8 a9 h9 a10 h10 a11 h11 a12 h12
      hc0 a b x z e d g u3 u4 k = u3 k + total (onRows toSkip a b x z e d g) k := by
  frame_out
  unfold_payloads
  simp only [total, onRows, result, toScan, toInput, toSkipped, toSkip, toNormGain, toBranch, branch, pre, swish, lead, back, normed,
    root, mean, row]
  pointwise
  simp only [Gates.tanh_gate, Gates.slope]

/-- The first point leaves the gradient to the gain, summed over its rows, -/
theorem blockA11 (hc0 : cond0_0 i) :
    out0_A_11 c i a1 h1 a2 h2 a3 h3 a4 h4 a5 h5 a6 h6 a7 h7 a8 h8 a9 h9 a10 h10 a11 h11 a12 h12
      hc0 a b x z e d g k = total (onRows toNormGain a b x z e d g) k := by
  frame_out
  unfold_payloads
  simp only [total, onRows, result, toScan, toInput, toSkipped, toSkip, toNormGain, toBranch, branch, pre, swish, lead, back, normed,
    root, mean, row]
  pointwise
  simp only [Gates.tanh_gate, Gates.slope]

/-- and each later one adds its own. -/
theorem blockB11 (hc0 : ¬cond0_0 i) :
    out0_B_11 c i a1 h1 a2 h2 a3 h3 a4 h4 a5 h5 a6 h6 a7 h7 a8 h8 a9 h9 a10 h10 a11 h11 a12 h12
      hc0 a b x z e d g u3 u4 k = u4 k + total (onRows toNormGain a b x z e d g) k := by
  frame_out
  unfold_payloads
  simp only [total, onRows, result, toScan, toInput, toSkipped, toSkip, toNormGain, toBranch, branch, pre, swish, lead, back, normed,
    root, mean, row]
  pointwise
  simp only [Gates.tanh_gate, Gates.slope]

end Points

/-- Every point leaves the gradient to the scans of its rows, -/
theorem rows7 (c : Dev nD) (t : Fin cfg0.N) (j : S128x2048.Idx) : (outsAt0 m c t.val t.isLt).1 j
    = onRows toScan (iblk m c 0 t : Vec Ideal S128x2048 .f32) (iblk m c 1 t : Vec Ideal S128x2048 .f32)
        (iblk m c 2 t : Vec Ideal S128x3072 .f32) (iblk m c 3 t : Vec Ideal S128x2048 .bf16)
        (iblk m c 4 t : Vec Ideal S128x2048 .bf16) (iblk m c 5 t : Vec Ideal S1x2048 .f32)
        (iblk m c 6 t : Vec Ideal S1x2048 .f32) j := by
  by_cases h : t.val % 64 = 0
  · rw [outsAt0_A m c t h]
    dsimp only
    exact blockA7 ..
  · rw [outsAt0_B m c t h]
    dsimp only
    exact blockB7 ..

/-- and so does every block of that result. -/
theorem final7 (c : Dev nD) : (dats m 0 c).arrAt 7 cfg0.N
    = onRows toScan (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5))
        (m ((c.tc : Thread nD τ).loc main_arg6)) := by
  refine (dats m 0 c).arrAt_eq_of_covers 7 _ (by decide +kernel) fun t hf y => ?_
  blk_simp
  rw [after0_7]
  refine (rows7 m c t y).trans ?_
  refine onRows_eq ?_ ?_ ?_ ?_ ?_ ?_ ?_ ?_
  all_goals
    first
    | (funext l; unfold row; blk_ext [iblk, V, at0, at1, at2, at3, at4, at5, at6, at7, at8, at9, at10, at11])
    | (funext l; unfold lead; blk_ext [iblk, V, at0, at1, at2, at3, at4, at5, at6, at7, at8, at9, at10, at11])
    | (apply Fin.ext; blk_simp [at7])

/-- Every point leaves the gradient to the gate's input of its rows, -/
theorem rows8 (c : Dev nD) (t : Fin cfg0.N) (j : S128x2048.Idx) : (outsAt0 m c t.val t.isLt).2.1 j
    = onRows toInput (iblk m c 0 t : Vec Ideal S128x2048 .f32) (iblk m c 1 t : Vec Ideal S128x2048 .f32)
        (iblk m c 2 t : Vec Ideal S128x3072 .f32) (iblk m c 3 t : Vec Ideal S128x2048 .bf16)
        (iblk m c 4 t : Vec Ideal S128x2048 .bf16) (iblk m c 5 t : Vec Ideal S1x2048 .f32)
        (iblk m c 6 t : Vec Ideal S1x2048 .f32) j := by
  by_cases h : t.val % 64 = 0
  · rw [outsAt0_A m c t h]
    dsimp only
    exact blockA8 ..
  · rw [outsAt0_B m c t h]
    dsimp only
    exact blockB8 ..

/-- and so does every block of that result. -/
theorem final8 (c : Dev nD) : (dats m 0 c).arrAt 8 cfg0.N
    = onRows toInput (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5))
        (m ((c.tc : Thread nD τ).loc main_arg6)) := by
  refine (dats m 0 c).arrAt_eq_of_covers 8 _ (by decide +kernel) fun t hf y => ?_
  blk_simp
  rw [after0_8]
  refine (rows8 m c t y).trans ?_
  refine onRows_eq ?_ ?_ ?_ ?_ ?_ ?_ ?_ ?_
  all_goals
    first
    | (funext l; unfold row; blk_ext [iblk, V, at0, at1, at2, at3, at4, at5, at6, at7, at8, at9, at10, at11])
    | (funext l; unfold lead; blk_ext [iblk, V, at0, at1, at2, at3, at4, at5, at6, at7, at8, at9, at10, at11])
    | (apply Fin.ext; blk_simp [at8])

/-- Every point leaves the gradient through the skip of its rows, -/
theorem rows9 (c : Dev nD) (t : Fin cfg0.N) (j : S128x2048.Idx) : (outsAt0 m c t.val t.isLt).2.2.1 j
    = onRows toSkipped (iblk m c 0 t : Vec Ideal S128x2048 .f32) (iblk m c 1 t : Vec Ideal S128x2048 .f32)
        (iblk m c 2 t : Vec Ideal S128x3072 .f32) (iblk m c 3 t : Vec Ideal S128x2048 .bf16)
        (iblk m c 4 t : Vec Ideal S128x2048 .bf16) (iblk m c 5 t : Vec Ideal S1x2048 .f32)
        (iblk m c 6 t : Vec Ideal S1x2048 .f32) j := by
  by_cases h : t.val % 64 = 0
  · rw [outsAt0_A m c t h]
    dsimp only
    exact blockA9 ..
  · rw [outsAt0_B m c t h]
    dsimp only
    exact blockB9 ..

/-- and so does every block of that result. -/
theorem final9 (c : Dev nD) : (dats m 0 c).arrAt 9 cfg0.N
    = onRows toSkipped (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5))
        (m ((c.tc : Thread nD τ).loc main_arg6)) := by
  refine (dats m 0 c).arrAt_eq_of_covers 9 _ (by decide +kernel) fun t hf y => ?_
  blk_simp
  rw [after0_9]
  refine (rows9 m c t y).trans ?_
  refine onRows_eq ?_ ?_ ?_ ?_ ?_ ?_ ?_ ?_
  all_goals
    first
    | (funext l; unfold row; blk_ext [iblk, V, at0, at1, at2, at3, at4, at5, at6, at7, at8, at9, at10, at11])
    | (funext l; unfold lead; blk_ext [iblk, V, at0, at1, at2, at3, at4, at5, at6, at7, at8, at9, at10, at11])
    | (apply Fin.ext; blk_simp [at9])

/-- The sums' one block holds the gradient to the skip's factors, summed over all the rows. -/
theorem final10 (c : Dev nD) : (dats m 0 c).arrAt 10 cfg0.N
    = total (onRows toSkip (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5))
        (m ((c.tc : Thread nD τ).loc main_arg6))) := by
  refine (dats m 0 c).arrAt_eq_of_covers 10 _ (by decide +kernel) fun t hf y => ?_
  have h := Pipeline.eq_sum_fin_of_reset_step_apply_of_flush (fun n h => (outsAt0 m c n h).2.2.2.1) 64 (fun _ => (0 : EReal)) _
    (fun t h j => by rw [outsAt0_A m c t h]; dsimp only; exact (blockA10 ..).trans (zero_add _).symm)
    (fun t h j => by rw [outsAt0_B m c t h]; dsimp only; exact blockB10 ..) t ((flush0_10 t).mp hf)
  blk_simp
  rw [after0_10]
  refine (h y).trans ?_
  rw [zero_add]
  refine Fin.sum_mul_add_congr fun s k hl => ?_
  have hN : cfg0.N = 64 := N_0
  have := t.isLt
  refine onRows_eq ?_ ?_ ?_ ?_ ?_ ?_ ?_ ?_
  all_goals
    first
    | (funext l; unfold row; blk_ext [iblk, V, at0, at1, at2, at3, at4, at5, at6, at7, at8, at9, at10, at11])
    | (funext l; unfold lead; blk_ext [iblk, V, at0, at1, at2, at3, at4, at5, at6, at7, at8, at9, at10, at11])
    | (apply Fin.ext; blk_simp [at10])

/-- The sums' one block holds the gradient to the gain, summed over all the rows. -/
theorem final11 (c : Dev nD) : (dats m 0 c).arrAt 11 cfg0.N
    = total (onRows toNormGain (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5))
        (m ((c.tc : Thread nD τ).loc main_arg6))) := by
  refine (dats m 0 c).arrAt_eq_of_covers 11 _ (by decide +kernel) fun t hf y => ?_
  have h := Pipeline.eq_sum_fin_of_reset_step_apply_of_flush (fun n h => (outsAt0 m c n h).2.2.2.2) 64 (fun _ => (0 : EReal)) _
    (fun t h j => by rw [outsAt0_A m c t h]; dsimp only; exact (blockA11 ..).trans (zero_add _).symm)
    (fun t h j => by rw [outsAt0_B m c t h]; dsimp only; exact blockB11 ..) t ((flush0_11 t).mp hf)
  blk_simp
  rw [after0_11]
  refine (h y).trans ?_
  rw [zero_add]
  refine Fin.sum_mul_add_congr fun s k hl => ?_
  have hN : cfg0.N = 64 := N_0
  have := t.isLt
  refine onRows_eq ?_ ?_ ?_ ?_ ?_ ?_ ?_ ?_
  all_goals
    first
    | (funext l; unfold row; blk_ext [iblk, V, at0, at1, at2, at3, at4, at5, at6, at7, at8, at9, at10, at11])
    | (funext l; unfold lead; blk_ext [iblk, V, at0, at1, at2, at3, at4, at5, at6, at7, at8, at9, at10, at11])
    | (apply Fin.ext; blk_simp [at11])

/-- The kernel's run leaves that in its results. -/
theorem run : θ_run defs (onTc (τ := τ) (main (F := Ideal))) ⟨m, fun _ => 0, ρ⟩ fun r => ∀ c : Dev nD,
      r.2.mem ((c.tc : Thread nD τ).loc main_v0_0)
        = onRows toScan (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6))
      ∧ r.2.mem ((c.tc : Thread nD τ).loc main_v0_1)
        = onRows toInput (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6))
      ∧ r.2.mem ((c.tc : Thread nD τ).loc main_v0_2)
        = onRows toSkipped (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6))
      ∧ r.2.mem ((c.tc : Thread nD τ).loc main_v0_3)
        = total (onRows toSkip (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)))
      ∧ r.2.mem ((c.tc : Thread nD τ).loc main_v0_4)
        = total (onRows toNormGain (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨((h c).1 7).trans (final7 m c), ((h c).1 8).trans (final8 m c),
    ((h c).1 9).trans (final9 m c), ((h c).1 10).trans (final10 m c),
    ((h c).1 11).trans (final11 m c), ((h c).1 0).trans ((dats m 0 c).arrAt_in 0 rfl _),
    ((h c).1 1).trans ((dats m 0 c).arrAt_in 1 rfl _), ((h c).1 2).trans ((dats m 0 c).arrAt_in 2 rfl _),
    ((h c).1 3).trans ((dats m 0 c).arrAt_in 3 rfl _), ((h c).1 4).trans ((dats m 0 c).arrAt_in 4 rfl _),
    ((h c).1 5).trans ((dats m 0 c).arrAt_in 5 rfl _), ((h c).1 6).trans ((dats m 0 c).arrAt_in 6 rfl _)⟩) (run_main m ρ)

end Cert.Kernel34Ideal.SsdOutBwd

namespace Cert.Reference34Ideal.SsdOutBwd

open Cert.Reference34Ideal Cert.Reference34Ideal.Gen

/-- The plain formulas leave the same. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v38)
        = onRows toScan (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6))
      ∧ r.2.mem ((c.tc : Thread nD τ).loc main_v46)
        = onRows toInput (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6))
      ∧ r.2.mem ((c.tc : Thread nD τ).loc main_v48)
        = onRows toSkipped (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6))
      ∧ r.2.mem ((c.tc : Thread nD τ).loc main_v51)
        = total (onRows toSkip (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)))
      ∧ r.2.mem ((c.tc : Thread nD τ).loc main_v54)
        = total (onRows toNormGain (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  hlo_run
  all_goals
    funext i
    simp only [total, onRows, result, toScan, toInput, toSkipped, toSkip, toNormGain, toBranch, branch, pre, swish, lead, back, normed,
      root, mean, row, Ideal.logistic]
    pointwise

/-- They run and leave their operands alone. -/
theorem frame : Cert.quiescent_Reference34Ideal := fun m ρ _ =>
  (θ_run _ _ _).mono (fun _ h => ⟨fun c => (h c).2.2.2.2.2, sem_eq_zero_of_no_sems rfl _⟩) (run m ρ)

/-- The blocked results and the plain ones agree. -/
theorem agree : Cert.algebraic_Kernel34Ideal_Reference34Ideal := fun m ρ m' ρ' _ hag =>
  ⟨_, _, _, _, _, Cert.Kernel34Ideal.SsdOutBwd.run m ρ, (θ_run _ _ _).mono
    (fun _ h c => by
      obtain ⟨e0, e1, e2, e3, e4, e5, e6⟩ := hag c
      obtain ⟨r0, r1, r2, r3, r4, k⟩ := h c
      exact ⟨r0.trans (by rw [e0, e1, e2, e3, e4, e5, e6]),
        r1.trans (by rw [e0, e1, e2, e3, e4, e5, e6]),
        r2.trans (by rw [e0, e1, e2, e3, e4, e5, e6]),
        r3.trans (by rw [e0, e1, e2, e3, e4, e5, e6]),
        r4.trans (by rw [e0, e1, e2, e3, e4, e5, e6]), k⟩) (run m' ρ')⟩

end Cert.Reference34Ideal.SsdOutBwd
-- ==== Proof.SsdOut.lean ====
module

public import proofs.«01_k».proof.Defs
public import proofs.«01_k».proof.Proof.Gen.Kernel35Ideal.Frame
public import proofs.«01_k».proof.Proof.Gen.Reference35Ideal
public import proofs.«01_k».proof.Proof.Branches
public import Idealize.ShloMosaic.Lib.Pipeline.ValueKit
public import Idealize.ShloMosaic.Lib.StableHlo.RunHlo
public import Idealize.ShloMosaic.Lib.Quiescent

@[expose] public section

set_option maxRecDepth 16384

noncomputable section

/-! The state-space branch's output (8192 by 2048): both scans and the skip, gated and normed: 32 grid points, 256 rows each. -/

open Idealize.ShloMosaic Idealize.ShloMosaic.TcCoe Idealize.SL.Sem
open Idealize.ShloMosaic.Pipeline (Dat)
open Cert.Norms Cert.Branches

namespace Cert.Kernel35Ideal.SsdOut

open Cert.Kernel35Ideal Cert.Kernel35Ideal.Gen

variable (m : (ℓ : Loc nD τ sig) → Buf (Elt Ideal) ℓ) (ρ : Dev nD → PrngReg)

theorem at0 : ∀ t : Fin cfg0.N, win0_0.index t = ![t.val, 0] := by decide +kernel
theorem at1 : ∀ t : Fin cfg0.N, win0_1.index t = ![t.val, 0] := by decide +kernel
theorem at2 : ∀ t : Fin cfg0.N, win0_2.index t = ![t.val, 0] := by decide +kernel
theorem at3 : ∀ t : Fin cfg0.N, win0_3.index t = ![t.val, 0] := by decide +kernel
theorem at4 : ∀ t : Fin cfg0.N, win0_4.index t = ![0, 0] := by decide +kernel
theorem at5 : ∀ t : Fin cfg0.N, win0_5.index t = ![0, 0] := by decide +kernel
theorem at6 : ∀ t : Fin cfg0.N, win0_6.index t = ![t.val, 0] := by decide +kernel

/-- A grid point leaves the result of its rows. -/
theorem block6 (a : Vec Ideal S256x2048 .f32) (b : Vec Ideal S256x2048 .f32) (x : Vec Ideal S256x3072 .f32) (z : Vec Ideal S256x2048 .bf16) (d : Vec Ideal S1x2048 .f32) (g : Vec Ideal S1x2048 .f32) (j : S256x2048.Idx) :
    out0_6 a b x z d g j = result a b x z d g j := by
  frame_out
  unfold_payloads
  simp only [total, onRows, result, toScan, toInput, toSkipped, toSkip, toNormGain, toBranch, branch, pre, swish, lead, back, normed,
    root, mean, row]
  pointwise
  simp only [Gates.tanh_gate, Gates.slope]

/-- Every block of that result holds the result of the same rows. -/
theorem final6 (c : Dev nD) : (dats m 0 c).arrAt 6 cfg0.N
    = result (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5)) := by
  refine (dats m 0 c).arrAt_eq_of_covers 6 _ (by decide +kernel) fun t hf y => ?_
  blk_simp
  rw [after0_6]
  refine (block6 ..).trans ?_
  simp only [total, onRows, result, toScan, toInput, toSkipped, toSkip, toNormGain, toBranch, branch, pre, swish, lead, back, normed,
    root, mean, row]
  reads_congr <;> blk_ext [iblk, V, at0, at1, at2, at3, at4, at5, at6]

/-- The kernel's run leaves that in its results. -/
theorem run : θ_run defs (onTc (τ := τ) (main (F := Ideal))) ⟨m, fun _ => 0, ρ⟩ fun r => ∀ c : Dev nD,
      r.2.mem ((c.tc : Thread nD τ).loc main_v0)
        = result (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨((h c).1 6).trans (final6 m c), ((h c).1 0).trans ((dats m 0 c).arrAt_in 0 rfl _),
    ((h c).1 1).trans ((dats m 0 c).arrAt_in 1 rfl _), ((h c).1 2).trans ((dats m 0 c).arrAt_in 2 rfl _),
    ((h c).1 3).trans ((dats m 0 c).arrAt_in 3 rfl _), ((h c).1 4).trans ((dats m 0 c).arrAt_in 4 rfl _),
    ((h c).1 5).trans ((dats m 0 c).arrAt_in 5 rfl _)⟩) (run_main m ρ)

end Cert.Kernel35Ideal.SsdOut

namespace Cert.Reference35Ideal.SsdOut

open Cert.Reference35Ideal Cert.Reference35Ideal.Gen

/-- The plain formulas leave the same. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v26)
        = result (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  hlo_run
  all_goals
    funext i
    simp only [total, onRows, result, toScan, toInput, toSkipped, toSkip, toNormGain, toBranch, branch, pre, swish, lead, back, normed,
      root, mean, row, Ideal.logistic]
    pointwise

/-- They run and leave their operands alone. -/
theorem frame : Cert.quiescent_Reference35Ideal := fun m ρ _ =>
  (θ_run _ _ _).mono (fun _ h => ⟨fun c => (h c).2, sem_eq_zero_of_no_sems rfl _⟩) (run m ρ)

/-- The blocked results and the plain ones agree. -/
theorem agree : Cert.algebraic_Kernel35Ideal_Reference35Ideal := fun m ρ m' ρ' _ hag =>
  ⟨_, Cert.Kernel35Ideal.SsdOut.run m ρ, (θ_run _ _ _).mono
    (fun _ h c => by
      obtain ⟨e0, e1, e2, e3, e4, e5⟩ := hag c
      obtain ⟨r0, k⟩ := h c
      exact ⟨r0.trans (by rw [e0, e1, e2, e3, e4, e5]), k⟩) (run m' ρ')⟩

end Cert.Reference35Ideal.SsdOut
-- ==== Proof.lean ====
module

public import proofs.«01_k».proof.Defs
public import proofs.«01_k».proof.Proof.Gen.Kernel
public import proofs.«01_k».proof.Proof.Gen.KernelIdeal
public import proofs.«01_k».proof.Proof.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.DownDw
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.DownDx
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.GateDw
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.UpDw
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Reference6Ideal
public import proofs.«01_k».proof.Proof.FfnDx0
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Reference7Ideal
public import proofs.«01_k».proof.Proof.FfnDx1
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Reference8Ideal
public import proofs.«01_k».proof.Proof.TokenDw
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Reference9Ideal
public import proofs.«01_k».proof.Proof.OutDx
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Reference10Ideal
public import proofs.«01_k».proof.Proof.ActBwd
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Reference11Ideal
public import proofs.«01_k».proof.Proof.PairDw
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Reference12Ideal
public import proofs.«01_k».proof.Proof.ProjDx
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Reference13Ideal
public import proofs.«01_k».proof.Proof.FfnUp
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Reference14Ideal
public import proofs.«01_k».proof.Proof.Proj
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Gen.Reference15Ideal
public import proofs.«01_k».proof.Proof.FfnDown
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Frame
public import proofs.«01_k».proof.Proof.Gen.Reference16Ideal
public import proofs.«01_k».proof.Proof.GsDw
public import proofs.«01_k».proof.Proof.Gen.Kernel17
public import proofs.«01_k».proof.Proof.Gen.Kernel17.Frame
public import proofs.«01_k».proof.Proof.Gen.Kernel17Ideal
public import proofs.«01_k».proof.Proof.Gen.Kernel17Ideal.Frame
public import proofs.«01_k».proof.Proof.Gen.Reference17Ideal
public import proofs.«01_k».proof.Proof.GrDw
public import proofs.«01_k».proof.Proof.Gen.Kernel18
public import proofs.«01_k».proof.Proof.Gen.Kernel18.Frame
public import proofs.«01_k».proof.Proof.Gen.Kernel18Ideal
public import proofs.«01_k».proof.Proof.Gen.Kernel18Ideal.Frame
public import proofs.«01_k».proof.Proof.Gen.Reference18Ideal
public import proofs.«01_k».proof.Proof.OutO
public import proofs.«01_k».proof.Proof.Gen.Kernel19
public import proofs.«01_k».proof.Proof.Gen.Kernel19.Frame
public import proofs.«01_k».proof.Proof.Gen.Kernel19Ideal
public import proofs.«01_k».proof.Proof.Gen.Kernel19Ideal.Frame
public import proofs.«01_k».proof.Proof.Gen.Reference19Ideal
public import proofs.«01_k».proof.Proof.ProjXbc
public import proofs.«01_k».proof.Proof.Gen.Kernel20
public import proofs.«01_k».proof.Proof.Gen.Kernel20.Frame
public import proofs.«01_k».proof.Proof.Gen.Kernel20Ideal
public import proofs.«01_k».proof.Proof.Gen.Kernel20Ideal.Frame
public import proofs.«01_k».proof.Proof.Gen.Reference20Ideal
public import proofs.«01_k».proof.Proof.XrDw
public import proofs.«01_k».proof.Proof.Gen.Kernel21
public import proofs.«01_k».proof.Proof.Gen.Kernel21.Frame
public import proofs.«01_k».proof.Proof.Gen.Kernel21Ideal
public import proofs.«01_k».proof.Proof.Gen.Kernel21Ideal.Frame
public import proofs.«01_k».proof.Proof.Gen.Reference21Ideal
public import proofs.«01_k».proof.Proof.ProjDx0
public import proofs.«01_k».proof.Proof.Gen.Kernel22
public import proofs.«01_k».proof.Proof.Gen.Kernel22.Frame
public import proofs.«01_k».proof.Proof.Gen.Kernel22Ideal
public import proofs.«01_k».proof.Proof.Gen.Kernel22Ideal.Frame
public import proofs.«01_k».proof.Proof.Gen.Reference22Ideal
public import proofs.«01_k».proof.Proof.ProjDx1
public import proofs.«01_k».proof.Proof.Gen.Kernel23
public import proofs.«01_k».proof.Proof.Gen.Kernel23.Frame
public import proofs.«01_k».proof.Proof.Gen.Kernel23Ideal
public import proofs.«01_k».proof.Proof.Gen.Kernel23Ideal.Frame
public import proofs.«01_k».proof.Proof.Gen.Reference23Ideal
public import proofs.«01_k».proof.Proof.FfnAct
public import proofs.«01_k».proof.Proof.Gen.Kernel24
public import proofs.«01_k».proof.Proof.Gen.Kernel24.Frame
public import proofs.«01_k».proof.Proof.Gen.Kernel24Ideal
public import proofs.«01_k».proof.Proof.Gen.Kernel24Ideal.Frame
public import proofs.«01_k».proof.Proof.Gen.Reference24Ideal
public import proofs.«01_k».proof.Proof.Merge
public import proofs.«01_k».proof.Proof.Gen.Kernel25
public import proofs.«01_k».proof.Proof.Gen.Kernel25.Frame
public import proofs.«01_k».proof.Proof.Gen.Kernel25Ideal
public import proofs.«01_k».proof.Proof.Gen.Kernel25Ideal.Frame
public import proofs.«01_k».proof.Proof.Gen.Reference25Ideal
public import proofs.«01_k».proof.Proof.MergeBwd
public import proofs.«01_k».proof.Proof.Gen.Kernel26
public import proofs.«01_k».proof.Proof.Gen.Kernel26.Frame
public import proofs.«01_k».proof.Proof.Gen.Kernel26Ideal
public import proofs.«01_k».proof.Proof.Gen.Kernel26Ideal.Frame
public import proofs.«01_k».proof.Proof.Gen.Reference26Ideal
public import proofs.«01_k».proof.Proof.NormBwd
public import proofs.«01_k».proof.Proof.Gen.Kernel27
public import proofs.«01_k».proof.Proof.Gen.Kernel27.Frame
public import proofs.«01_k».proof.Proof.Gen.Kernel27Ideal
public import proofs.«01_k».proof.Proof.Gen.Kernel27Ideal.Frame
public import proofs.«01_k».proof.Proof.Gen.Reference27Ideal
public import proofs.«01_k».proof.Proof.ResidBwd
public import proofs.«01_k».proof.Proof.Gen.Kernel28
public import proofs.«01_k».proof.Proof.Gen.Kernel28.Frame
public import proofs.«01_k».proof.Proof.Gen.Kernel28Ideal
public import proofs.«01_k».proof.Proof.Gen.Kernel28Ideal.Frame
public import proofs.«01_k».proof.Proof.Gen.Reference28Ideal
public import proofs.«01_k».proof.Proof.LossHead
public import proofs.«01_k».proof.Proof.Gen.Kernel29
public import proofs.«01_k».proof.Proof.Gen.Kernel29.Frame
public import proofs.«01_k».proof.Proof.Gen.Kernel29Ideal
public import proofs.«01_k».proof.Proof.Gen.Kernel29Ideal.Frame
public import proofs.«01_k».proof.Proof.Gen.Reference29Ideal
public import proofs.«01_k».proof.Proof.Norm
public import proofs.«01_k».proof.Proof.Gen.Kernel30
public import proofs.«01_k».proof.Proof.Gen.Kernel30.Frame
public import proofs.«01_k».proof.Proof.Gen.Kernel30Ideal
public import proofs.«01_k».proof.Proof.Gen.Kernel30Ideal.Frame
public import proofs.«01_k».proof.Proof.Gen.Reference30Ideal
public import proofs.«01_k».proof.Proof.Resid
public import proofs.«01_k».proof.Proof.Gen.Kernel31
public import proofs.«01_k».proof.Proof.Gen.Kernel31.Frame
public import proofs.«01_k».proof.Proof.Gen.Kernel31Ideal
public import proofs.«01_k».proof.Proof.Gen.Kernel31Ideal.Frame
public import proofs.«01_k».proof.Proof.Gen.Reference31Ideal
public import proofs.«01_k».proof.Proof.AdamW
public import proofs.«01_k».proof.Proof.Gen.Kernel32
public import proofs.«01_k».proof.Proof.Gen.Kernel32.Frame
public import proofs.«01_k».proof.Proof.Gen.Kernel32Ideal
public import proofs.«01_k».proof.Proof.Gen.Kernel32Ideal.Frame
public import proofs.«01_k».proof.Proof.Gen.Reference32Ideal
public import proofs.«01_k».proof.Proof.LruOutBwd
public import proofs.«01_k».proof.Proof.Gen.Kernel33
public import proofs.«01_k».proof.Proof.Gen.Kernel33.Frame
public import proofs.«01_k».proof.Proof.Gen.Kernel33Ideal
public import proofs.«01_k».proof.Proof.Gen.Kernel33Ideal.Frame
public import proofs.«01_k».proof.Proof.Gen.Reference33Ideal
public import proofs.«01_k».proof.Proof.LruOut
public import proofs.«01_k».proof.Proof.Gen.Kernel34
public import proofs.«01_k».proof.Proof.Gen.Kernel34.Frame
public import proofs.«01_k».proof.Proof.Gen.Kernel34Ideal
public import proofs.«01_k».proof.Proof.Gen.Kernel34Ideal.Frame
public import proofs.«01_k».proof.Proof.Gen.Reference34Ideal
public import proofs.«01_k».proof.Proof.SsdOutBwd
public import proofs.«01_k».proof.Proof.Gen.Kernel35
public import proofs.«01_k».proof.Proof.Gen.Kernel35.Frame
public import proofs.«01_k».proof.Proof.Gen.Kernel35Ideal
public import proofs.«01_k».proof.Proof.Gen.Kernel35Ideal.Frame
public import proofs.«01_k».proof.Proof.Gen.Reference35Ideal
public import proofs.«01_k».proof.Proof.SsdOut

@[expose] public section

set_option maxRecDepth 20000
set_option maxHeartbeats 4000000

noncomputable section

namespace Cert.Proof

open Idealize.ShloMosaic Idealize.SL.Sem

set_option smartUnfolding false in
/-- The two programs have one text, so one table of kernels. -/
theorem same_defs {F : FTy → Type} [FloatOps F] : Cert.Kernel.defs₀ (F := F) = Cert.KernelIdeal.defs₀ (F := F) := rfl

set_option smartUnfolding false in
/-- The kernels as written run to the end and leave their arguments as they were: the run at the machine's floats. -/
theorem frame_kernel : Cert.quiescent_Kernel (hKernel := Cert.Kernel.Gen.facts) := fun m ρ _ =>
  Cert.KernelIdeal.Run.frame_run (F := Bits) m ρ

/-- So do the idealized ones: the same run at the reals. -/
theorem frame_kernelideal : Cert.quiescent_KernelIdeal (hKernelIdeal := Cert.KernelIdeal.Gen.facts) := fun m ρ _ =>
  Cert.KernelIdeal.Run.frame_run (F := Ideal) m ρ

/-- The claims in the order in which they are stated: first the frames, the recurrence's two and then three of each call's,
    then what idealizing preserves and, call by call, the equation with the reference. -/
theorem claim : Cert.Claim :=
  ⟨Cert.Kernel.Gen.facts, Cert.KernelIdeal.Gen.facts, Cert.Kernel2.Gen.facts,
    Cert.Kernel2Ideal.Gen.facts, Cert.Reference2Ideal.Gen.facts, Cert.Kernel3.Gen.facts,
    Cert.Kernel3Ideal.Gen.facts, Cert.Reference3Ideal.Gen.facts, Cert.Kernel4.Gen.facts,
    Cert.Kernel4Ideal.Gen.facts, Cert.Reference4Ideal.Gen.facts, Cert.Kernel5.Gen.facts,
    Cert.Kernel5Ideal.Gen.facts, Cert.Reference5Ideal.Gen.facts, Cert.Kernel6.Gen.facts,
    Cert.Kernel6Ideal.Gen.facts, Cert.Reference6Ideal.Gen.facts, Cert.Kernel7.Gen.facts,
    Cert.Kernel7Ideal.Gen.facts, Cert.Reference7Ideal.Gen.facts, Cert.Kernel8.Gen.facts,
    Cert.Kernel8Ideal.Gen.facts, Cert.Reference8Ideal.Gen.facts, Cert.Kernel9.Gen.facts,
    Cert.Kernel9Ideal.Gen.facts, Cert.Reference9Ideal.Gen.facts, Cert.Kernel10.Gen.facts,
    Cert.Kernel10Ideal.Gen.facts, Cert.Reference10Ideal.Gen.facts, Cert.Kernel11.Gen.facts,
    Cert.Kernel11Ideal.Gen.facts, Cert.Reference11Ideal.Gen.facts, Cert.Kernel12.Gen.facts,
    Cert.Kernel12Ideal.Gen.facts, Cert.Reference12Ideal.Gen.facts, Cert.Kernel13.Gen.facts,
    Cert.Kernel13Ideal.Gen.facts, Cert.Reference13Ideal.Gen.facts, Cert.Kernel14.Gen.facts,
    Cert.Kernel14Ideal.Gen.facts, Cert.Reference14Ideal.Gen.facts, Cert.Kernel15.Gen.facts,
    Cert.Kernel15Ideal.Gen.facts, Cert.Reference15Ideal.Gen.facts, Cert.Kernel16.Gen.facts,
    Cert.Kernel16Ideal.Gen.facts, Cert.Reference16Ideal.Gen.facts, Cert.Kernel17.Gen.facts,
    Cert.Kernel17Ideal.Gen.facts, Cert.Reference17Ideal.Gen.facts, Cert.Kernel18.Gen.facts,
    Cert.Kernel18Ideal.Gen.facts, Cert.Reference18Ideal.Gen.facts, Cert.Kernel19.Gen.facts,
    Cert.Kernel19Ideal.Gen.facts, Cert.Reference19Ideal.Gen.facts, Cert.Kernel20.Gen.facts,
    Cert.Kernel20Ideal.Gen.facts, Cert.Reference20Ideal.Gen.facts, Cert.Kernel21.Gen.facts,
    Cert.Kernel21Ideal.Gen.facts, Cert.Reference21Ideal.Gen.facts, Cert.Kernel22.Gen.facts,
    Cert.Kernel22Ideal.Gen.facts, Cert.Reference22Ideal.Gen.facts, Cert.Kernel23.Gen.facts,
    Cert.Kernel23Ideal.Gen.facts, Cert.Reference23Ideal.Gen.facts, Cert.Kernel24.Gen.facts,
    Cert.Kernel24Ideal.Gen.facts, Cert.Reference24Ideal.Gen.facts, Cert.Kernel25.Gen.facts,
    Cert.Kernel25Ideal.Gen.facts, Cert.Reference25Ideal.Gen.facts, Cert.Kernel26.Gen.facts,
    Cert.Kernel26Ideal.Gen.facts, Cert.Reference26Ideal.Gen.facts, Cert.Kernel27.Gen.facts,
    Cert.Kernel27Ideal.Gen.facts, Cert.Reference27Ideal.Gen.facts, Cert.Kernel28.Gen.facts,
    Cert.Kernel28Ideal.Gen.facts, Cert.Reference28Ideal.Gen.facts, Cert.Kernel29.Gen.facts,
    Cert.Kernel29Ideal.Gen.facts, Cert.Reference29Ideal.Gen.facts, Cert.Kernel30.Gen.facts,
    Cert.Kernel30Ideal.Gen.facts, Cert.Reference30Ideal.Gen.facts, Cert.Kernel31.Gen.facts,
    Cert.Kernel31Ideal.Gen.facts, Cert.Reference31Ideal.Gen.facts, Cert.Kernel32.Gen.facts,
    Cert.Kernel32Ideal.Gen.facts, Cert.Reference32Ideal.Gen.facts, Cert.Kernel33.Gen.facts,
    Cert.Kernel33Ideal.Gen.facts, Cert.Reference33Ideal.Gen.facts, Cert.Kernel34.Gen.facts,
    Cert.Kernel34Ideal.Gen.facts, Cert.Reference34Ideal.Gen.facts, Cert.Kernel35.Gen.facts,
    Cert.Kernel35Ideal.Gen.facts, Cert.Reference35Ideal.Gen.facts,
    frame_kernel,
    frame_kernelideal,
    fun m ρ _ => Cert.Kernel2.Gen.frame m ρ,
    fun m ρ _ => Cert.Kernel2Ideal.Gen.frame m ρ,
    Cert.Reference2Ideal.DownDw.frame,
    fun m ρ _ => Cert.Kernel3.Gen.frame m ρ,
    fun m ρ _ => Cert.Kernel3Ideal.Gen.frame m ρ,
    Cert.Reference3Ideal.DownDx.frame,
    fun m ρ _ => Cert.Kernel4.Gen.frame m ρ,
    fun m ρ _ => Cert.Kernel4Ideal.Gen.frame m ρ,
    Cert.Reference4Ideal.GateDw.frame,
    fun m ρ _ => Cert.Kernel5.Gen.frame m ρ,
    fun m ρ _ => Cert.Kernel5Ideal.Gen.frame m ρ,
    Cert.Reference5Ideal.UpDw.frame,
    fun m ρ _ => Cert.Kernel6.Gen.frame m ρ,
    fun m ρ _ => Cert.Kernel6Ideal.Gen.frame m ρ,
    Cert.Reference6Ideal.FfnDx0.frame,
    fun m ρ _ => Cert.Kernel7.Gen.frame m ρ,
    fun m ρ _ => Cert.Kernel7Ideal.Gen.frame m ρ,
    Cert.Reference7Ideal.FfnDx1.frame,
    fun m ρ _ => Cert.Kernel8.Gen.frame m ρ,
    fun m ρ _ => Cert.Kernel8Ideal.Gen.frame m ρ,
    Cert.Reference8Ideal.TokenDw.frame,
    fun m ρ _ => Cert.Kernel9.Gen.frame m ρ,
    fun m ρ _ => Cert.Kernel9Ideal.Gen.frame m ρ,
    Cert.Reference9Ideal.OutDx.frame,
    fun m ρ _ => Cert.Kernel10.Gen.frame m ρ,
    fun m ρ _ => Cert.Kernel10Ideal.Gen.frame m ρ,
    Cert.Reference10Ideal.ActBwd.frame,
    fun m ρ _ => Cert.Kernel11.Gen.frame m ρ,
    fun m ρ _ => Cert.Kernel11Ideal.Gen.frame m ρ,
    Cert.Reference11Ideal.PairDw.frame,
    fun m ρ _ => Cert.Kernel12.Gen.frame m ρ,
    fun m ρ _ => Cert.Kernel12Ideal.Gen.frame m ρ,
    Cert.Reference12Ideal.ProjDx.frame,
    fun m ρ _ => Cert.Kernel13.Gen.frame m ρ,
    fun m ρ _ => Cert.Kernel13Ideal.Gen.frame m ρ,
    Cert.Reference13Ideal.FfnUp.frame,
    fun m ρ _ => Cert.Kernel14.Gen.frame m ρ,
    fun m ρ _ => Cert.Kernel14Ideal.Gen.frame m ρ,
    Cert.Reference14Ideal.Proj.frame,
    fun m ρ _ => Cert.Kernel15.Gen.frame m ρ,
    fun m ρ _ => Cert.Kernel15Ideal.Gen.frame m ρ,
    Cert.Reference15Ideal.FfnDown.frame,
    fun m ρ _ => Cert.Kernel16.Gen.frame m ρ,
    fun m ρ _ => Cert.Kernel16Ideal.Gen.frame m ρ,
    Cert.Reference16Ideal.GsDw.frame,
    fun m ρ _ => Cert.Kernel17.Gen.frame m ρ,
    fun m ρ _ => Cert.Kernel17Ideal.Gen.frame m ρ,
    Cert.Reference17Ideal.GrDw.frame,
    fun m ρ _ => Cert.Kernel18.Gen.frame m ρ,
    fun m ρ _ => Cert.Kernel18Ideal.Gen.frame m ρ,
    Cert.Reference18Ideal.OutO.frame,
    fun m ρ _ => Cert.Kernel19.Gen.frame m ρ,
    fun m ρ _ => Cert.Kernel19Ideal.Gen.frame m ρ,
    Cert.Reference19Ideal.ProjXbc.frame,
    fun m ρ _ => Cert.Kernel20.Gen.frame m ρ,
    fun m ρ _ => Cert.Kernel20Ideal.Gen.frame m ρ,
    Cert.Reference20Ideal.XrDw.frame,
    fun m ρ _ => Cert.Kernel21.Gen.frame m ρ,
    fun m ρ _ => Cert.Kernel21Ideal.Gen.frame m ρ,
    Cert.Reference21Ideal.ProjDx0.frame,
    fun m ρ _ => Cert.Kernel22.Gen.frame m ρ,
    fun m ρ _ => Cert.Kernel22Ideal.Gen.frame m ρ,
    Cert.Reference22Ideal.ProjDx1.frame,
    fun m ρ _ => Cert.Kernel23.Gen.frame m ρ,
    fun m ρ _ => Cert.Kernel23Ideal.Gen.frame m ρ,
    Cert.Reference23Ideal.FfnAct.frame,
    fun m ρ _ => Cert.Kernel24.Gen.frame m ρ,
    fun m ρ _ => Cert.Kernel24Ideal.Gen.frame m ρ,
    Cert.Reference24Ideal.Merge.frame,
    fun m ρ _ => Cert.Kernel25.Gen.frame m ρ,
    fun m ρ _ => Cert.Kernel25Ideal.Gen.frame m ρ,
    Cert.Reference25Ideal.MergeBwd.frame,
    fun m ρ _ => Cert.Kernel26.Gen.frame m ρ,
    fun m ρ _ => Cert.Kernel26Ideal.Gen.frame m ρ,
    Cert.Reference26Ideal.NormBwd.frame,
    fun m ρ _ => Cert.Kernel27.Gen.frame m ρ,
    fun m ρ _ => Cert.Kernel27Ideal.Gen.frame m ρ,
    Cert.Reference27Ideal.ResidBwd.frame,
    fun m ρ _ => Cert.Kernel28.Gen.frame m ρ,
    fun m ρ _ => Cert.Kernel28Ideal.Gen.frame m ρ,
    Cert.Reference28Ideal.LossHead.frame,
    fun m ρ _ => Cert.Kernel29.Gen.frame m ρ,
    fun m ρ _ => Cert.Kernel29Ideal.Gen.frame m ρ,
    Cert.Reference29Ideal.Norm.frame,
    fun m ρ _ => Cert.Kernel30.Gen.frame m ρ,
    fun m ρ _ => Cert.Kernel30Ideal.Gen.frame m ρ,
    Cert.Reference30Ideal.Resid.frame,
    fun m ρ _ => Cert.Kernel31.Gen.frame m ρ,
    fun m ρ _ => Cert.Kernel31Ideal.Gen.frame m ρ,
    Cert.Reference31Ideal.AdamW.frame,
    fun m ρ _ => Cert.Kernel32.Gen.frame m ρ,
    fun m ρ _ => Cert.Kernel32Ideal.Gen.frame m ρ,
    Cert.Reference32Ideal.LruOutBwd.frame,
    fun m ρ _ => Cert.Kernel33.Gen.frame m ρ,
    fun m ρ _ => Cert.Kernel33Ideal.Gen.frame m ρ,
    Cert.Reference33Ideal.LruOut.frame,
    fun m ρ _ => Cert.Kernel34.Gen.frame m ρ,
    fun m ρ _ => Cert.Kernel34Ideal.Gen.frame m ρ,
    Cert.Reference34Ideal.SsdOutBwd.frame,
    fun m ρ _ => Cert.Kernel35.Gen.frame m ρ,
    fun m ρ _ => Cert.Kernel35Ideal.Gen.frame m ρ,
    Cert.Reference35Ideal.SsdOut.frame,
    trivial,
    trivial, Cert.Reference2Ideal.DownDw.agree,
    trivial, Cert.Reference3Ideal.DownDx.agree,
    trivial, Cert.Reference4Ideal.GateDw.agree,
    trivial, Cert.Reference5Ideal.UpDw.agree,
    trivial, Cert.Reference6Ideal.FfnDx0.agree,
    trivial, Cert.Reference7Ideal.FfnDx1.agree,
    trivial, Cert.Reference8Ideal.TokenDw.agree,
    trivial, Cert.Reference9Ideal.OutDx.agree,
    trivial, Cert.Reference10Ideal.ActBwd.agree,
    trivial, Cert.Reference11Ideal.PairDw.agree,
    trivial, Cert.Reference12Ideal.ProjDx.agree,
    trivial, Cert.Reference13Ideal.FfnUp.agree,
    trivial, Cert.Reference14Ideal.Proj.agree,
    trivial, Cert.Reference15Ideal.FfnDown.agree,
    trivial, Cert.Reference16Ideal.GsDw.agree,
    trivial, Cert.Reference17Ideal.GrDw.agree,
    trivial, Cert.Reference18Ideal.OutO.agree,
    trivial, Cert.Reference19Ideal.ProjXbc.agree,
    trivial, Cert.Reference20Ideal.XrDw.agree,
    trivial, Cert.Reference21Ideal.ProjDx0.agree,
    trivial, Cert.Reference22Ideal.ProjDx1.agree,
    trivial, Cert.Reference23Ideal.FfnAct.agree,
    trivial, Cert.Reference24Ideal.Merge.agree,
    trivial, Cert.Reference25Ideal.MergeBwd.agree,
    trivial, Cert.Reference26Ideal.NormBwd.agree,
    trivial, Cert.Reference27Ideal.ResidBwd.agree,
    trivial, Cert.Reference28Ideal.LossHead.agree,
    trivial, Cert.Reference29Ideal.Norm.agree,
    trivial, Cert.Reference30Ideal.Resid.agree,
    trivial, Cert.Reference31Ideal.AdamW.agree,
    trivial, Cert.Reference32Ideal.LruOutBwd.agree,
    trivial, Cert.Reference33Ideal.LruOut.agree,
    trivial, Cert.Reference34Ideal.SsdOutBwd.agree,
    trivial, Cert.Reference35Ideal.SsdOut.agree⟩

end Cert.Proof

end
